-- ==== Defs.lean ====
def Pre_Kernel [hPre_idx_in_codebook : Cert.Pre_idx_in_codebook.Facts] (m : (ℓ : Loc Cert.Kernel.nD Cert.Kernel.τ Cert.Kernel.sig) → Buf (Elt Bits) ℓ) : Prop :=
  ∀ c : Dev Cert.Kernel.nD,
    (Cert.Pre_idx_in_codebook.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_idx_in_codebook : Cert.Pre_idx_in_codebook.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_codebook.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_codebook [hPre_idx_in_codebook : Cert.Pre_idx_in_codebook.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_codebook.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Encoder (m : (ℓ : Loc Cert.Encoder.nD Cert.Encoder.τ Cert.Encoder.sig) → Buf (Elt Bits) ℓ) : Prop :=
  True

def Pre_EncoderIdeal (m : (ℓ : Loc Cert.EncoderIdeal.nD Cert.EncoderIdeal.τ Cert.EncoderIdeal.sig) → Buf (Elt Ideal) ℓ) : Prop :=
  True

def Pre_EncoderIdeal_all_finite [hPre_all_finite : Cert.Pre_all_finite.Facts] (m : (ℓ : Loc Cert.EncoderIdeal.nD Cert.EncoderIdeal.τ Cert.EncoderIdeal.sig) → Buf (Elt Ideal) ℓ) : Prop :=
  ∀ c : Dev Cert.EncoderIdeal.nD,
    (Cert.Pre_all_finite.fn (F := Ideal) (m ((c.tc : Thread Cert.EncoderIdeal.nD Cert.EncoderIdeal.τ).loc Cert.EncoderIdeal.main_arg0)) (m ((c.tc : Thread Cert.EncoderIdeal.nD Cert.EncoderIdeal.τ).loc Cert.EncoderIdeal.main_arg1)) (m ((c.tc : Thread Cert.EncoderIdeal.nD Cert.EncoderIdeal.τ).loc Cert.EncoderIdeal.main_arg2)) (m ((c.tc : Thread Cert.EncoderIdeal.nD Cert.EncoderIdeal.τ).loc Cert.EncoderIdeal.main_arg3)) (m ((c.tc : Thread Cert.EncoderIdeal.nD Cert.EncoderIdeal.τ).loc Cert.EncoderIdeal.main_arg4)) (m ((c.tc : Thread Cert.EncoderIdeal.nD Cert.EncoderIdeal.τ).loc Cert.EncoderIdeal.main_arg5)) (m ((c.tc : Thread Cert.EncoderIdeal.nD Cert.EncoderIdeal.τ).loc Cert.EncoderIdeal.main_arg6)) (m ((c.tc : Thread Cert.EncoderIdeal.nD Cert.EncoderIdeal.τ).loc Cert.EncoderIdeal.main_arg7))) = (fun _ => 1#1)

def Pre_EncoderReferenceIdeal (m : (ℓ : Loc Cert.EncoderReferenceIdeal.nD Cert.EncoderReferenceIdeal.τ Cert.EncoderReferenceIdeal.sig) → Buf (Elt Ideal) ℓ) : Prop :=
  True

def Pre_EncoderReferenceIdeal_all_finite [hPre_all_finite : Cert.Pre_all_finite.Facts] (m : (ℓ : Loc Cert.EncoderReferenceIdeal.nD Cert.EncoderReferenceIdeal.τ Cert.EncoderReferenceIdeal.sig) → Buf (Elt Ideal) ℓ) : Prop :=
  ∀ c : Dev Cert.EncoderReferenceIdeal.nD,
    (Cert.Pre_all_finite.fn (F := Ideal) (m ((c.tc : Thread Cert.EncoderReferenceIdeal.nD Cert.EncoderReferenceIdeal.τ).loc Cert.EncoderReferenceIdeal.main_arg0)) (m ((c.tc : Thread Cert.EncoderReferenceIdeal.nD Cert.EncoderReferenceIdeal.τ).loc Cert.EncoderReferenceIdeal.main_arg1)) (m ((c.tc : Thread Cert.EncoderReferenceIdeal.nD Cert.EncoderReferenceIdeal.τ).loc Cert.EncoderReferenceIdeal.main_arg2)) (m ((c.tc : Thread Cert.EncoderReferenceIdeal.nD Cert.EncoderReferenceIdeal.τ).loc Cert.EncoderReferenceIdeal.main_arg3)) (m ((c.tc : Thread Cert.EncoderReferenceIdeal.nD Cert.EncoderReferenceIdeal.τ).loc Cert.EncoderReferenceIdeal.main_arg4)) (m ((c.tc : Thread Cert.EncoderReferenceIdeal.nD Cert.EncoderReferenceIdeal.τ).loc Cert.EncoderReferenceIdeal.main_arg5)) (m ((c.tc : Thread Cert.EncoderReferenceIdeal.nD Cert.EncoderReferenceIdeal.τ).loc Cert.EncoderReferenceIdeal.main_arg6)) (m ((c.tc : Thread Cert.EncoderReferenceIdeal.nD Cert.EncoderReferenceIdeal.τ).loc Cert.EncoderReferenceIdeal.main_arg7))) = (fun _ => 1#1)

def Pre_Decoder (m : (ℓ : Loc Cert.Decoder.nD Cert.Decoder.τ Cert.Decoder.sig) → Buf (Elt Bits) ℓ) : Prop :=
  True

def Pre_DecoderIdeal (m : (ℓ : Loc Cert.DecoderIdeal.nD Cert.DecoderIdeal.τ Cert.DecoderIdeal.sig) → Buf (Elt Ideal) ℓ) : Prop :=
  True

def Pre_DecoderReferenceIdeal (m : (ℓ : Loc Cert.DecoderReferenceIdeal.nD Cert.DecoderReferenceIdeal.τ Cert.DecoderReferenceIdeal.sig) → Buf (Elt Ideal) ℓ) : Prop :=
  True

def quiescent_Kernel [hKernel : Cert.Kernel.Facts] [hPre_idx_in_codebook : Cert.Pre_idx_in_codebook.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_idx_in_codebook : Cert.Pre_idx_in_codebook.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_idx_in_codebook [hReferenceIdeal : Cert.ReferenceIdeal.Facts] [hPre_idx_in_codebook : Cert.Pre_idx_in_codebook.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_codebook m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Encoder [hEncoder : Cert.Encoder.Facts] : Prop :=
  ∀ (m : (ℓ : Loc Cert.Encoder.nD Cert.Encoder.τ Cert.Encoder.sig) → Buf (Elt Bits) ℓ) (g : Dev Cert.Encoder.nD → PrngReg), Pre_Encoder m →
    θ_run (Cert.Encoder.defs (F := Bits)) (onTc (τ := Cert.Encoder.τ) (Cert.Encoder.main (F := Bits))) ⟨m, fun _ => 0, g⟩ (fun r => (∀ c : Dev Cert.Encoder.nD,
      r.2.mem ((c.tc : Thread Cert.Encoder.nD Cert.Encoder.τ).loc Cert.Encoder.main_arg0) = m ((c.tc : Thread Cert.Encoder.nD Cert.Encoder.τ).loc Cert.Encoder.main_arg0)
      ∧ r.2.mem ((c.tc : Thread Cert.Encoder.nD Cert.Encoder.τ).loc Cert.Encoder.main_arg1) = m ((c.tc : Thread Cert.Encoder.nD Cert.Encoder.τ).loc Cert.Encoder.main_arg1)
      ∧ r.2.mem ((c.tc : Thread Cert.Encoder.nD Cert.Encoder.τ).loc Cert.Encoder.main_arg2) = m ((c.tc : Thread Cert.Encoder.nD Cert.Encoder.τ).loc Cert.Encoder.main_arg2)
      ∧ r.2.mem ((c.tc : Thread Cert.Encoder.nD Cert.Encoder.τ).loc Cert.Encoder.main_arg3) = m ((c.tc : Thread Cert.Encoder.nD Cert.Encoder.τ).loc Cert.Encoder.main_arg3)
      ∧ r.2.mem ((c.tc : Thread Cert.Encoder.nD Cert.Encoder.τ).loc Cert.Encoder.main_arg4) = m ((c.tc : Thread Cert.Encoder.nD Cert.Encoder.τ).loc Cert.Encoder.main_arg4)
      ∧ r.2.mem ((c.tc : Thread Cert.Encoder.nD Cert.Encoder.τ).loc Cert.Encoder.main_arg5) = m ((c.tc : Thread Cert.Encoder.nD Cert.Encoder.τ).loc Cert.Encoder.main_arg5)
      ∧ r.2.mem ((c.tc : Thread Cert.Encoder.nD Cert.Encoder.τ).loc Cert.Encoder.main_arg6) = m ((c.tc : Thread Cert.Encoder.nD Cert.Encoder.τ).loc Cert.Encoder.main_arg6)
      ∧ r.2.mem ((c.tc : Thread Cert.Encoder.nD Cert.Encoder.τ).loc Cert.Encoder.main_arg7) = m ((c.tc : Thread Cert.Encoder.nD Cert.Encoder.τ).loc Cert.Encoder.main_arg7))
      ∧ r.2.sem = fun _ => 0)

def quiescent_EncoderIdeal [hEncoderIdeal : Cert.EncoderIdeal.Facts] : Prop :=
  ∀ (m : (ℓ : Loc Cert.EncoderIdeal.nD Cert.EncoderIdeal.τ Cert.EncoderIdeal.sig) → Buf (Elt Ideal) ℓ) (g : Dev Cert.EncoderIdeal.nD → PrngReg), Pre_EncoderIdeal m →
    θ_run (Cert.EncoderIdeal.defs (F := Ideal)) (onTc (τ := Cert.EncoderIdeal.τ) (Cert.EncoderIdeal.main (F := Ideal))) ⟨m, fun _ => 0, g⟩ (fun r => (∀ c : Dev Cert.EncoderIdeal.nD,
      r.2.mem ((c.tc : Thread Cert.EncoderIdeal.nD Cert.EncoderIdeal.τ).loc Cert.EncoderIdeal.main_arg0) = m ((c.tc : Thread Cert.EncoderIdeal.nD Cert.EncoderIdeal.τ).loc Cert.EncoderIdeal.main_arg0)
      ∧ r.2.mem ((c.tc : Thread Cert.EncoderIdeal.nD Cert.EncoderIdeal.τ).loc Cert.EncoderIdeal.main_arg1) = m ((c.tc : Thread Cert.EncoderIdeal.nD Cert.EncoderIdeal.τ).loc Cert.EncoderIdeal.main_arg1)
      ∧ r.2.mem ((c.tc : Thread Cert.EncoderIdeal.nD Cert.EncoderIdeal.τ).loc Cert.EncoderIdeal.main_arg2) = m ((c.tc : Thread Cert.EncoderIdeal.nD Cert.EncoderIdeal.τ).loc Cert.EncoderIdeal.main_arg2)
      ∧ r.2.mem ((c.tc : Thread Cert.EncoderIdeal.nD Cert.EncoderIdeal.τ).loc Cert.EncoderIdeal.main_arg3) = m ((c.tc : Thread Cert.EncoderIdeal.nD Cert.EncoderIdeal.τ).loc Cert.EncoderIdeal.main_arg3)
      ∧ r.2.mem ((c.tc : Thread Cert.EncoderIdeal.nD Cert.EncoderIdeal.τ).loc Cert.EncoderIdeal.main_arg4) = m ((c.tc : Thread Cert.EncoderIdeal.nD Cert.EncoderIdeal.τ).loc Cert.EncoderIdeal.main_arg4)
      ∧ r.2.mem ((c.tc : Thread Cert.EncoderIdeal.nD Cert.EncoderIdeal.τ).loc Cert.EncoderIdeal.main_arg5) = m ((c.tc : Thread Cert.EncoderIdeal.nD Cert.EncoderIdeal.τ).loc Cert.EncoderIdeal.main_arg5)
      ∧ r.2.mem ((c.tc : Thread Cert.EncoderIdeal.nD Cert.EncoderIdeal.τ).loc Cert.EncoderIdeal.main_arg6) = m ((c.tc : Thread Cert.EncoderIdeal.nD Cert.EncoderIdeal.τ).loc Cert.EncoderIdeal.main_arg6)
      ∧ r.2.mem ((c.tc : Thread Cert.EncoderIdeal.nD Cert.EncoderIdeal.τ).loc Cert.EncoderIdeal.main_arg7) = m ((c.tc : Thread Cert.EncoderIdeal.nD Cert.EncoderIdeal.τ).loc Cert.EncoderIdeal.main_arg7))
      ∧ r.2.sem = fun _ => 0)

def quiescent_EncoderIdeal_pre_all_finite [hEncoderIdeal : Cert.EncoderIdeal.Facts] [hPre_all_finite : Cert.Pre_all_finite.Facts] : Prop :=
  ∀ (m : (ℓ : Loc Cert.EncoderIdeal.nD Cert.EncoderIdeal.τ Cert.EncoderIdeal.sig) → Buf (Elt Ideal) ℓ) (g : Dev Cert.EncoderIdeal.nD → PrngReg), Pre_EncoderIdeal_all_finite m →
    θ_run (Cert.EncoderIdeal.defs (F := Ideal)) (onTc (τ := Cert.EncoderIdeal.τ) (Cert.EncoderIdeal.main (F := Ideal))) ⟨m, fun _ => 0, g⟩ (fun r => (∀ c : Dev Cert.EncoderIdeal.nD,
      r.2.mem ((c.tc : Thread Cert.EncoderIdeal.nD Cert.EncoderIdeal.τ).loc Cert.EncoderIdeal.main_arg0) = m ((c.tc : Thread Cert.EncoderIdeal.nD Cert.EncoderIdeal.τ).loc Cert.EncoderIdeal.main_arg0)
      ∧ r.2.mem ((c.tc : Thread Cert.EncoderIdeal.nD Cert.EncoderIdeal.τ).loc Cert.EncoderIdeal.main_arg1) = m ((c.tc : Thread Cert.EncoderIdeal.nD Cert.EncoderIdeal.τ).loc Cert.EncoderIdeal.main_arg1)
      ∧ r.2.mem ((c.tc : Thread Cert.EncoderIdeal.nD Cert.EncoderIdeal.τ).loc Cert.EncoderIdeal.main_arg2) = m ((c.tc : Thread Cert.EncoderIdeal.nD Cert.EncoderIdeal.τ).loc Cert.EncoderIdeal.main_arg2)
      ∧ r.2.mem ((c.tc : Thread Cert.EncoderIdeal.nD Cert.EncoderIdeal.τ).loc Cert.EncoderIdeal.main_arg3) = m ((c.tc : Thread Cert.EncoderIdeal.nD Cert.EncoderIdeal.τ).loc Cert.EncoderIdeal.main_arg3)
      ∧ r.2.mem ((c.tc : Thread Cert.EncoderIdeal.nD Cert.EncoderIdeal.τ).loc Cert.EncoderIdeal.main_arg4) = m ((c.tc : Thread Cert.EncoderIdeal.nD Cert.EncoderIdeal.τ).loc Cert.EncoderIdeal.main_arg4)
      ∧ r.2.mem ((c.tc : Thread Cert.EncoderIdeal.nD Cert.EncoderIdeal.τ).loc Cert.EncoderIdeal.main_arg5) = m ((c.tc : Thread Cert.EncoderIdeal.nD Cert.EncoderIdeal.τ).loc Cert.EncoderIdeal.main_arg5)
      ∧ r.2.mem ((c.tc : Thread Cert.EncoderIdeal.nD Cert.EncoderIdeal.τ).loc Cert.EncoderIdeal.main_arg6) = m ((c.tc : Thread Cert.EncoderIdeal.nD Cert.EncoderIdeal.τ).loc Cert.EncoderIdeal.main_arg6)
      ∧ r.2.mem ((c.tc : Thread Cert.EncoderIdeal.nD Cert.EncoderIdeal.τ).loc Cert.EncoderIdeal.main_arg7) = m ((c.tc : Thread Cert.EncoderIdeal.nD Cert.EncoderIdeal.τ).loc Cert.EncoderIdeal.main_arg7))
      ∧ r.2.sem = fun _ => 0)

def quiescent_EncoderReferenceIdeal [hEncoderReferenceIdeal : Cert.EncoderReferenceIdeal.Facts] : Prop :=
  ∀ (m : (ℓ : Loc Cert.EncoderReferenceIdeal.nD Cert.EncoderReferenceIdeal.τ Cert.EncoderReferenceIdeal.sig) → Buf (Elt Ideal) ℓ) (g : Dev Cert.EncoderReferenceIdeal.nD → PrngReg), Pre_EncoderReferenceIdeal m →
    θ_run (Cert.EncoderReferenceIdeal.defs (F := Ideal)) (onTc (τ := Cert.EncoderReferenceIdeal.τ) (Cert.EncoderReferenceIdeal.main (F := Ideal))) ⟨m, fun _ => 0, g⟩ (fun r => (∀ c : Dev Cert.EncoderReferenceIdeal.nD,
      r.2.mem ((c.tc : Thread Cert.EncoderReferenceIdeal.nD Cert.EncoderReferenceIdeal.τ).loc Cert.EncoderReferenceIdeal.main_arg0) = m ((c.tc : Thread Cert.EncoderReferenceIdeal.nD Cert.EncoderReferenceIdeal.τ).loc Cert.EncoderReferenceIdeal.main_arg0)
      ∧ r.2.mem ((c.tc : Thread Cert.EncoderReferenceIdeal.nD Cert.EncoderReferenceIdeal.τ).loc Cert.EncoderReferenceIdeal.main_arg1) = m ((c.tc : Thread Cert.EncoderReferenceIdeal.nD Cert.EncoderReferenceIdeal.τ).loc Cert.EncoderReferenceIdeal.main_arg1)
      ∧ r.2.mem ((c.tc : Thread Cert.EncoderReferenceIdeal.nD Cert.EncoderReferenceIdeal.τ).loc Cert.EncoderReferenceIdeal.main_arg2) = m ((c.tc : Thread Cert.EncoderReferenceIdeal.nD Cert.EncoderReferenceIdeal.τ).loc Cert.EncoderReferenceIdeal.main_arg2)
      ∧ r.2.mem ((c.tc : Thread Cert.EncoderReferenceIdeal.nD Cert.EncoderReferenceIdeal.τ).loc Cert.EncoderReferenceIdeal.main_arg3) = m ((c.tc : Thread Cert.EncoderReferenceIdeal.nD Cert.EncoderReferenceIdeal.τ).loc Cert.EncoderReferenceIdeal.main_arg3)
      ∧ r.2.mem ((c.tc : Thread Cert.EncoderReferenceIdeal.nD Cert.EncoderReferenceIdeal.τ).loc Cert.EncoderReferenceIdeal.main_arg4) = m ((c.tc : Thread Cert.EncoderReferenceIdeal.nD Cert.EncoderReferenceIdeal.τ).loc Cert.EncoderReferenceIdeal.main_arg4)
      ∧ r.2.mem ((c.tc : Thread Cert.EncoderReferenceIdeal.nD Cert.EncoderReferenceIdeal.τ).loc Cert.EncoderReferenceIdeal.main_arg5) = m ((c.tc : Thread Cert.EncoderReferenceIdeal.nD Cert.EncoderReferenceIdeal.τ).loc Cert.EncoderReferenceIdeal.main_arg5)
      ∧ r.2.mem ((c.tc : Thread Cert.EncoderReferenceIdeal.nD Cert.EncoderReferenceIdeal.τ).loc Cert.EncoderReferenceIdeal.main_arg6) = m ((c.tc : Thread Cert.EncoderReferenceIdeal.nD Cert.EncoderReferenceIdeal.τ).loc Cert.EncoderReferenceIdeal.main_arg6)
      ∧ r.2.mem ((c.tc : Thread Cert.EncoderReferenceIdeal.nD Cert.EncoderReferenceIdeal.τ).loc Cert.EncoderReferenceIdeal.main_arg7) = m ((c.tc : Thread Cert.EncoderReferenceIdeal.nD Cert.EncoderReferenceIdeal.τ).loc Cert.EncoderReferenceIdeal.main_arg7))
      ∧ r.2.sem = fun _ => 0)

def quiescent_EncoderReferenceIdeal_pre_all_finite [hEncoderReferenceIdeal : Cert.EncoderReferenceIdeal.Facts] [hPre_all_finite : Cert.Pre_all_finite.Facts] : Prop :=
  ∀ (m : (ℓ : Loc Cert.EncoderReferenceIdeal.nD Cert.EncoderReferenceIdeal.τ Cert.EncoderReferenceIdeal.sig) → Buf (Elt Ideal) ℓ) (g : Dev Cert.EncoderReferenceIdeal.nD → PrngReg), Pre_EncoderReferenceIdeal_all_finite m →
    θ_run (Cert.EncoderReferenceIdeal.defs (F := Ideal)) (onTc (τ := Cert.EncoderReferenceIdeal.τ) (Cert.EncoderReferenceIdeal.main (F := Ideal))) ⟨m, fun _ => 0, g⟩ (fun r => (∀ c : Dev Cert.EncoderReferenceIdeal.nD,
      r.2.mem ((c.tc : Thread Cert.EncoderReferenceIdeal.nD Cert.EncoderReferenceIdeal.τ).loc Cert.EncoderReferenceIdeal.main_arg0) = m ((c.tc : Thread Cert.EncoderReferenceIdeal.nD Cert.EncoderReferenceIdeal.τ).loc Cert.EncoderReferenceIdeal.main_arg0)
      ∧ r.2.mem ((c.tc : Thread Cert.EncoderReferenceIdeal.nD Cert.EncoderReferenceIdeal.τ).loc Cert.EncoderReferenceIdeal.main_arg1) = m ((c.tc : Thread Cert.EncoderReferenceIdeal.nD Cert.EncoderReferenceIdeal.τ).loc Cert.EncoderReferenceIdeal.main_arg1)
      ∧ r.2.mem ((c.tc : Thread Cert.EncoderReferenceIdeal.nD Cert.EncoderReferenceIdeal.τ).loc Cert.EncoderReferenceIdeal.main_arg2) = m ((c.tc : Thread Cert.EncoderReferenceIdeal.nD Cert.EncoderReferenceIdeal.τ).loc Cert.EncoderReferenceIdeal.main_arg2)
      ∧ r.2.mem ((c.tc : Thread Cert.EncoderReferenceIdeal.nD Cert.EncoderReferenceIdeal.τ).loc Cert.EncoderReferenceIdeal.main_arg3) = m ((c.tc : Thread Cert.EncoderReferenceIdeal.nD Cert.EncoderReferenceIdeal.τ).loc Cert.EncoderReferenceIdeal.main_arg3)
      ∧ r.2.mem ((c.tc : Thread Cert.EncoderReferenceIdeal.nD Cert.EncoderReferenceIdeal.τ).loc Cert.EncoderReferenceIdeal.main_arg4) = m ((c.tc : Thread Cert.EncoderReferenceIdeal.nD Cert.EncoderReferenceIdeal.τ).loc Cert.EncoderReferenceIdeal.main_arg4)
      ∧ r.2.mem ((c.tc : Thread Cert.EncoderReferenceIdeal.nD Cert.EncoderReferenceIdeal.τ).loc Cert.EncoderReferenceIdeal.main_arg5) = m ((c.tc : Thread Cert.EncoderReferenceIdeal.nD Cert.EncoderReferenceIdeal.τ).loc Cert.EncoderReferenceIdeal.main_arg5)
      ∧ r.2.mem ((c.tc : Thread Cert.EncoderReferenceIdeal.nD Cert.EncoderReferenceIdeal.τ).loc Cert.EncoderReferenceIdeal.main_arg6) = m ((c.tc : Thread Cert.EncoderReferenceIdeal.nD Cert.EncoderReferenceIdeal.τ).loc Cert.EncoderReferenceIdeal.main_arg6)
      ∧ r.2.mem ((c.tc : Thread Cert.EncoderReferenceIdeal.nD Cert.EncoderReferenceIdeal.τ).loc Cert.EncoderReferenceIdeal.main_arg7) = m ((c.tc : Thread Cert.EncoderReferenceIdeal.nD Cert.EncoderReferenceIdeal.τ).loc Cert.EncoderReferenceIdeal.main_arg7))
      ∧ r.2.sem = fun _ => 0)

def quiescent_Decoder [hDecoder : Cert.Decoder.Facts] : Prop :=
  ∀ (m : (ℓ : Loc Cert.Decoder.nD Cert.Decoder.τ Cert.Decoder.sig) → Buf (Elt Bits) ℓ) (g : Dev Cert.Decoder.nD → PrngReg), Pre_Decoder m →
    θ_run (Cert.Decoder.defs (F := Bits)) (onTc (τ := Cert.Decoder.τ) (Cert.Decoder.main (F := Bits))) ⟨m, fun _ => 0, g⟩ (fun r => (∀ c : Dev Cert.Decoder.nD,
      r.2.mem ((c.tc : Thread Cert.Decoder.nD Cert.Decoder.τ).loc Cert.Decoder.main_arg0) = m ((c.tc : Thread Cert.Decoder.nD Cert.Decoder.τ).loc Cert.Decoder.main_arg0)
      ∧ r.2.mem ((c.tc : Thread Cert.Decoder.nD Cert.Decoder.τ).loc Cert.Decoder.main_arg1) = m ((c.tc : Thread Cert.Decoder.nD Cert.Decoder.τ).loc Cert.Decoder.main_arg1)
      ∧ r.2.mem ((c.tc : Thread Cert.Decoder.nD Cert.Decoder.τ).loc Cert.Decoder.main_arg2) = m ((c.tc : Thread Cert.Decoder.nD Cert.Decoder.τ).loc Cert.Decoder.main_arg2)
      ∧ r.2.mem ((c.tc : Thread Cert.Decoder.nD Cert.Decoder.τ).loc Cert.Decoder.main_arg3) = m ((c.tc : Thread Cert.Decoder.nD Cert.Decoder.τ).loc Cert.Decoder.main_arg3)
      ∧ r.2.mem ((c.tc : Thread Cert.Decoder.nD Cert.Decoder.τ).loc Cert.Decoder.main_arg4) = m ((c.tc : Thread Cert.Decoder.nD Cert.Decoder.τ).loc Cert.Decoder.main_arg4)
      ∧ r.2.mem ((c.tc : Thread Cert.Decoder.nD Cert.Decoder.τ).loc Cert.Decoder.main_arg5) = m ((c.tc : Thread Cert.Decoder.nD Cert.Decoder.τ).loc Cert.Decoder.main_arg5)
      ∧ r.2.mem ((c.tc : Thread Cert.Decoder.nD Cert.Decoder.τ).loc Cert.Decoder.main_arg6) = m ((c.tc : Thread Cert.Decoder.nD Cert.Decoder.τ).loc Cert.Decoder.main_arg6))
      ∧ r.2.sem = fun _ => 0)

def quiescent_DecoderIdeal [hDecoderIdeal : Cert.DecoderIdeal.Facts] : Prop :=
  ∀ (m : (ℓ : Loc Cert.DecoderIdeal.nD Cert.DecoderIdeal.τ Cert.DecoderIdeal.sig) → Buf (Elt Ideal) ℓ) (g : Dev Cert.DecoderIdeal.nD → PrngReg), Pre_DecoderIdeal m →
    θ_run (Cert.DecoderIdeal.defs (F := Ideal)) (onTc (τ := Cert.DecoderIdeal.τ) (Cert.DecoderIdeal.main (F := Ideal))) ⟨m, fun _ => 0, g⟩ (fun r => (∀ c : Dev Cert.DecoderIdeal.nD,
      r.2.mem ((c.tc : Thread Cert.DecoderIdeal.nD Cert.DecoderIdeal.τ).loc Cert.DecoderIdeal.main_arg0) = m ((c.tc : Thread Cert.DecoderIdeal.nD Cert.DecoderIdeal.τ).loc Cert.DecoderIdeal.main_arg0)
      ∧ r.2.mem ((c.tc : Thread Cert.DecoderIdeal.nD Cert.DecoderIdeal.τ).loc Cert.DecoderIdeal.main_arg1) = m ((c.tc : Thread Cert.DecoderIdeal.nD Cert.DecoderIdeal.τ).loc Cert.DecoderIdeal.main_arg1)
      ∧ r.2.mem ((c.tc : Thread Cert.DecoderIdeal.nD Cert.DecoderIdeal.τ).loc Cert.DecoderIdeal.main_arg2) = m ((c.tc : Thread Cert.DecoderIdeal.nD Cert.DecoderIdeal.τ).loc Cert.DecoderIdeal.main_arg2)
      ∧ r.2.mem ((c.tc : Thread Cert.DecoderIdeal.nD Cert.DecoderIdeal.τ).loc Cert.DecoderIdeal.main_arg3) = m ((c.tc : Thread Cert.DecoderIdeal.nD Cert.DecoderIdeal.τ).loc Cert.DecoderIdeal.main_arg3)
      ∧ r.2.mem ((c.tc : Thread Cert.DecoderIdeal.nD Cert.DecoderIdeal.τ).loc Cert.DecoderIdeal.main_arg4) = m ((c.tc : Thread Cert.DecoderIdeal.nD Cert.DecoderIdeal.τ).loc Cert.DecoderIdeal.main_arg4)
      ∧ r.2.mem ((c.tc : Thread Cert.DecoderIdeal.nD Cert.DecoderIdeal.τ).loc Cert.DecoderIdeal.main_arg5) = m ((c.tc : Thread Cert.DecoderIdeal.nD Cert.DecoderIdeal.τ).loc Cert.DecoderIdeal.main_arg5)
      ∧ r.2.mem ((c.tc : Thread Cert.DecoderIdeal.nD Cert.DecoderIdeal.τ).loc Cert.DecoderIdeal.main_arg6) = m ((c.tc : Thread Cert.DecoderIdeal.nD Cert.DecoderIdeal.τ).loc Cert.DecoderIdeal.main_arg6))
      ∧ r.2.sem = fun _ => 0)

def quiescent_DecoderReferenceIdeal [hDecoderReferenceIdeal : Cert.DecoderReferenceIdeal.Facts] : Prop :=
  ∀ (m : (ℓ : Loc Cert.DecoderReferenceIdeal.nD Cert.DecoderReferenceIdeal.τ Cert.DecoderReferenceIdeal.sig) → Buf (Elt Ideal) ℓ) (g : Dev Cert.DecoderReferenceIdeal.nD → PrngReg), Pre_DecoderReferenceIdeal m →
    θ_run (Cert.DecoderReferenceIdeal.defs (F := Ideal)) (onTc (τ := Cert.DecoderReferenceIdeal.τ) (Cert.DecoderReferenceIdeal.main (F := Ideal))) ⟨m, fun _ => 0, g⟩ (fun r => (∀ c : Dev Cert.DecoderReferenceIdeal.nD,
      r.2.mem ((c.tc : Thread Cert.DecoderReferenceIdeal.nD Cert.DecoderReferenceIdeal.τ).loc Cert.DecoderReferenceIdeal.main_arg0) = m ((c.tc : Thread Cert.DecoderReferenceIdeal.nD Cert.DecoderReferenceIdeal.τ).loc Cert.DecoderReferenceIdeal.main_arg0)
      ∧ r.2.mem ((c.tc : Thread Cert.DecoderReferenceIdeal.nD Cert.DecoderReferenceIdeal.τ).loc Cert.DecoderReferenceIdeal.main_arg1) = m ((c.tc : Thread Cert.DecoderReferenceIdeal.nD Cert.DecoderReferenceIdeal.τ).loc Cert.DecoderReferenceIdeal.main_arg1)
      ∧ r.2.mem ((c.tc : Thread Cert.DecoderReferenceIdeal.nD Cert.DecoderReferenceIdeal.τ).loc Cert.DecoderReferenceIdeal.main_arg2) = m ((c.tc : Thread Cert.DecoderReferenceIdeal.nD Cert.DecoderReferenceIdeal.τ).loc Cert.DecoderReferenceIdeal.main_arg2)
      ∧ r.2.mem ((c.tc : Thread Cert.DecoderReferenceIdeal.nD Cert.DecoderReferenceIdeal.τ).loc Cert.DecoderReferenceIdeal.main_arg3) = m ((c.tc : Thread Cert.DecoderReferenceIdeal.nD Cert.DecoderReferenceIdeal.τ).loc Cert.DecoderReferenceIdeal.main_arg3)
      ∧ r.2.mem ((c.tc : Thread Cert.DecoderReferenceIdeal.nD Cert.DecoderReferenceIdeal.τ).loc Cert.DecoderReferenceIdeal.main_arg4) = m ((c.tc : Thread Cert.DecoderReferenceIdeal.nD Cert.DecoderReferenceIdeal.τ).loc Cert.DecoderReferenceIdeal.main_arg4)
      ∧ r.2.mem ((c.tc : Thread Cert.DecoderReferenceIdeal.nD Cert.DecoderReferenceIdeal.τ).loc Cert.DecoderReferenceIdeal.main_arg5) = m ((c.tc : Thread Cert.DecoderReferenceIdeal.nD Cert.DecoderReferenceIdeal.τ).loc Cert.DecoderReferenceIdeal.main_arg5)
      ∧ r.2.mem ((c.tc : Thread Cert.DecoderReferenceIdeal.nD Cert.DecoderReferenceIdeal.τ).loc Cert.DecoderReferenceIdeal.main_arg6) = m ((c.tc : Thread Cert.DecoderReferenceIdeal.nD Cert.DecoderReferenceIdeal.τ).loc Cert.DecoderReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_codebook : Cert.Pre_idx_in_codebook.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Encoder_EncoderIdeal : Prop :=
  IdealRules.named_const.Statement Cert.EncoderIdeal.κ "loss_scale" .f32 0x3550FAC7#32 ((5 / 6422528 : ℝ) : EReal)

def algebraic_EncoderIdeal_EncoderReferenceIdeal_pre_all_finite [hEncoderIdeal : Cert.EncoderIdeal.Facts] [hEncoderReferenceIdeal : Cert.EncoderReferenceIdeal.Facts] [hPre_all_finite : Cert.Pre_all_finite.Facts] : Prop :=
  ∀ (m : (ℓ : Loc Cert.EncoderIdeal.nD Cert.EncoderIdeal.τ Cert.EncoderIdeal.sig) → Buf (Elt Ideal) ℓ) (g : Dev Cert.EncoderIdeal.nD → PrngReg)
    (m' : (ℓ : Loc Cert.EncoderReferenceIdeal.nD Cert.EncoderReferenceIdeal.τ Cert.EncoderReferenceIdeal.sig) → Buf (Elt Ideal) ℓ) (g' : Dev Cert.EncoderReferenceIdeal.nD → PrngReg), Pre_EncoderIdeal_all_finite m →
    (∀ c : Dev Cert.EncoderIdeal.nD,
      m' ((c.tc : Thread Cert.EncoderReferenceIdeal.nD Cert.EncoderReferenceIdeal.τ).loc Cert.EncoderReferenceIdeal.main_arg0) = m ((c.tc : Thread Cert.EncoderIdeal.nD Cert.EncoderIdeal.τ).loc Cert.EncoderIdeal.main_arg0)
      ∧ m' ((c.tc : Thread Cert.EncoderReferenceIdeal.nD Cert.EncoderReferenceIdeal.τ).loc Cert.EncoderReferenceIdeal.main_arg1) = m ((c.tc : Thread Cert.EncoderIdeal.nD Cert.EncoderIdeal.τ).loc Cert.EncoderIdeal.main_arg1)
      ∧ m' ((c.tc : Thread Cert.EncoderReferenceIdeal.nD Cert.EncoderReferenceIdeal.τ).loc Cert.EncoderReferenceIdeal.main_arg2) = m ((c.tc : Thread Cert.EncoderIdeal.nD Cert.EncoderIdeal.τ).loc Cert.EncoderIdeal.main_arg2)
      ∧ m' ((c.tc : Thread Cert.EncoderReferenceIdeal.nD Cert.EncoderReferenceIdeal.τ).loc Cert.EncoderReferenceIdeal.main_arg3) = m ((c.tc : Thread Cert.EncoderIdeal.nD Cert.EncoderIdeal.τ).loc Cert.EncoderIdeal.main_arg3)
      ∧ m' ((c.tc : Thread Cert.EncoderReferenceIdeal.nD Cert.EncoderReferenceIdeal.τ).loc Cert.EncoderReferenceIdeal.main_arg4) = m ((c.tc : Thread Cert.EncoderIdeal.nD Cert.EncoderIdeal.τ).loc Cert.EncoderIdeal.main_arg4)
      ∧ m' ((c.tc : Thread Cert.EncoderReferenceIdeal.nD Cert.EncoderReferenceIdeal.τ).loc Cert.EncoderReferenceIdeal.main_arg5) = m ((c.tc : Thread Cert.EncoderIdeal.nD Cert.EncoderIdeal.τ).loc Cert.EncoderIdeal.main_arg5)
      ∧ m' ((c.tc : Thread Cert.EncoderReferenceIdeal.nD Cert.EncoderReferenceIdeal.τ).loc Cert.EncoderReferenceIdeal.main_arg6) = m ((c.tc : Thread Cert.EncoderIdeal.nD Cert.EncoderIdeal.τ).loc Cert.EncoderIdeal.main_arg6)
      ∧ m' ((c.tc : Thread Cert.EncoderReferenceIdeal.nD Cert.EncoderReferenceIdeal.τ).loc Cert.EncoderReferenceIdeal.main_arg7) = m ((c.tc : Thread Cert.EncoderIdeal.nD Cert.EncoderIdeal.τ).loc Cert.EncoderIdeal.main_arg7)) →
    ∃ (v0 : (c : Dev Cert.EncoderIdeal.nD) → Buf (Elt Ideal) ((c.tc : Thread Cert.EncoderIdeal.nD Cert.EncoderIdeal.τ).loc Cert.EncoderIdeal.main_v492)) (v1 : (c : Dev Cert.EncoderIdeal.nD) → Buf (Elt Ideal) ((c.tc : Thread Cert.EncoderIdeal.nD Cert.EncoderIdeal.τ).loc Cert.EncoderIdeal.main_v493)),
      θ_run (Cert.EncoderIdeal.defs (F := Ideal)) (onTc (τ := Cert.EncoderIdeal.τ) (Cert.EncoderIdeal.main (F := Ideal))) ⟨m, fun _ => 0, g⟩ (fun r => ∀ c : Dev Cert.EncoderIdeal.nD,
          r.2.mem ((c.tc : Thread Cert.EncoderIdeal.nD Cert.EncoderIdeal.τ).loc Cert.EncoderIdeal.main_v492) = v0 c
          ∧ r.2.mem ((c.tc : Thread Cert.EncoderIdeal.nD Cert.EncoderIdeal.τ).loc Cert.EncoderIdeal.main_v493) = v1 c
          ∧ r.2.mem ((c.tc : Thread Cert.EncoderIdeal.nD Cert.EncoderIdeal.τ).loc Cert.EncoderIdeal.main_arg0) = m ((c.tc : Thread Cert.EncoderIdeal.nD Cert.EncoderIdeal.τ).loc Cert.EncoderIdeal.main_arg0)
          ∧ r.2.mem ((c.tc : Thread Cert.EncoderIdeal.nD Cert.EncoderIdeal.τ).loc Cert.EncoderIdeal.main_arg1) = m ((c.tc : Thread Cert.EncoderIdeal.nD Cert.EncoderIdeal.τ).loc Cert.EncoderIdeal.main_arg1)
          ∧ r.2.mem ((c.tc : Thread Cert.EncoderIdeal.nD Cert.EncoderIdeal.τ).loc Cert.EncoderIdeal.main_arg2) = m ((c.tc : Thread Cert.EncoderIdeal.nD Cert.EncoderIdeal.τ).loc Cert.EncoderIdeal.main_arg2)
          ∧ r.2.mem ((c.tc : Thread Cert.EncoderIdeal.nD Cert.EncoderIdeal.τ).loc Cert.EncoderIdeal.main_arg3) = m ((c.tc : Thread Cert.EncoderIdeal.nD Cert.EncoderIdeal.τ).loc Cert.EncoderIdeal.main_arg3)
          ∧ r.2.mem ((c.tc : Thread Cert.EncoderIdeal.nD Cert.EncoderIdeal.τ).loc Cert.EncoderIdeal.main_arg4) = m ((c.tc : Thread Cert.EncoderIdeal.nD Cert.EncoderIdeal.τ).loc Cert.EncoderIdeal.main_arg4)
          ∧ r.2.mem ((c.tc : Thread Cert.EncoderIdeal.nD Cert.EncoderIdeal.τ).loc Cert.EncoderIdeal.main_arg5) = m ((c.tc : Thread Cert.EncoderIdeal.nD Cert.EncoderIdeal.τ).loc Cert.EncoderIdeal.main_arg5)
          ∧ r.2.mem ((c.tc : Thread Cert.EncoderIdeal.nD Cert.EncoderIdeal.τ).loc Cert.EncoderIdeal.main_arg6) = m ((c.tc : Thread Cert.EncoderIdeal.nD Cert.EncoderIdeal.τ).loc Cert.EncoderIdeal.main_arg6)
          ∧ r.2.mem ((c.tc : Thread Cert.EncoderIdeal.nD Cert.EncoderIdeal.τ).loc Cert.EncoderIdeal.main_arg7) = m ((c.tc : Thread Cert.EncoderIdeal.nD Cert.EncoderIdeal.τ).loc Cert.EncoderIdeal.main_arg7))
      ∧ θ_run (Cert.EncoderReferenceIdeal.defs (F := Ideal)) (onTc (τ := Cert.EncoderReferenceIdeal.τ) (Cert.EncoderReferenceIdeal.main (F := Ideal))) ⟨m', fun _ => 0, g'⟩ (fun r => ∀ c : Dev Cert.EncoderReferenceIdeal.nD,
          r.2.mem ((c.tc : Thread Cert.EncoderReferenceIdeal.nD Cert.EncoderReferenceIdeal.τ).loc Cert.EncoderReferenceIdeal.main_v94) = v0 c
          ∧ r.2.mem ((c.tc : Thread Cert.EncoderReferenceIdeal.nD Cert.EncoderReferenceIdeal.τ).loc Cert.EncoderReferenceIdeal.main_v101) = v1 c
          ∧ r.2.mem ((c.tc : Thread Cert.EncoderReferenceIdeal.nD Cert.EncoderReferenceIdeal.τ).loc Cert.EncoderReferenceIdeal.main_arg0) = m' ((c.tc : Thread Cert.EncoderReferenceIdeal.nD Cert.EncoderReferenceIdeal.τ).loc Cert.EncoderReferenceIdeal.main_arg0)
          ∧ r.2.mem ((c.tc : Thread Cert.EncoderReferenceIdeal.nD Cert.EncoderReferenceIdeal.τ).loc Cert.EncoderReferenceIdeal.main_arg1) = m' ((c.tc : Thread Cert.EncoderReferenceIdeal.nD Cert.EncoderReferenceIdeal.τ).loc Cert.EncoderReferenceIdeal.main_arg1)
          ∧ r.2.mem ((c.tc : Thread Cert.EncoderReferenceIdeal.nD Cert.EncoderReferenceIdeal.τ).loc Cert.EncoderReferenceIdeal.main_arg2) = m' ((c.tc : Thread Cert.EncoderReferenceIdeal.nD Cert.EncoderReferenceIdeal.τ).loc Cert.EncoderReferenceIdeal.main_arg2)
          ∧ r.2.mem ((c.tc : Thread Cert.EncoderReferenceIdeal.nD Cert.EncoderReferenceIdeal.τ).loc Cert.EncoderReferenceIdeal.main_arg3) = m' ((c.tc : Thread Cert.EncoderReferenceIdeal.nD Cert.EncoderReferenceIdeal.τ).loc Cert.EncoderReferenceIdeal.main_arg3)
          ∧ r.2.mem ((c.tc : Thread Cert.EncoderReferenceIdeal.nD Cert.EncoderReferenceIdeal.τ).loc Cert.EncoderReferenceIdeal.main_arg4) = m' ((c.tc : Thread Cert.EncoderReferenceIdeal.nD Cert.EncoderReferenceIdeal.τ).loc Cert.EncoderReferenceIdeal.main_arg4)
          ∧ r.2.mem ((c.tc : Thread Cert.EncoderReferenceIdeal.nD Cert.EncoderReferenceIdeal.τ).loc Cert.EncoderReferenceIdeal.main_arg5) = m' ((c.tc : Thread Cert.EncoderReferenceIdeal.nD Cert.EncoderReferenceIdeal.τ).loc Cert.EncoderReferenceIdeal.main_arg5)
          ∧ r.2.mem ((c.tc : Thread Cert.EncoderReferenceIdeal.nD Cert.EncoderReferenceIdeal.τ).loc Cert.EncoderReferenceIdeal.main_arg6) = m' ((c.tc : Thread Cert.EncoderReferenceIdeal.nD Cert.EncoderReferenceIdeal.τ).loc Cert.EncoderReferenceIdeal.main_arg6)
          ∧ r.2.mem ((c.tc : Thread Cert.EncoderReferenceIdeal.nD Cert.EncoderReferenceIdeal.τ).loc Cert.EncoderReferenceIdeal.main_arg7) = m' ((c.tc : Thread Cert.EncoderReferenceIdeal.nD Cert.EncoderReferenceIdeal.τ).loc Cert.EncoderReferenceIdeal.main_arg7))

def preserves_Decoder_DecoderIdeal : Prop :=
  True

def algebraic_DecoderIdeal_DecoderReferenceIdeal [hDecoderIdeal : Cert.DecoderIdeal.Facts] [hDecoderReferenceIdeal : Cert.DecoderReferenceIdeal.Facts] : Prop :=
  ∀ (m : (ℓ : Loc Cert.DecoderIdeal.nD Cert.DecoderIdeal.τ Cert.DecoderIdeal.sig) → Buf (Elt Ideal) ℓ) (g : Dev Cert.DecoderIdeal.nD → PrngReg)
    (m' : (ℓ : Loc Cert.DecoderReferenceIdeal.nD Cert.DecoderReferenceIdeal.τ Cert.DecoderReferenceIdeal.sig) → Buf (Elt Ideal) ℓ) (g' : Dev Cert.DecoderReferenceIdeal.nD → PrngReg), Pre_DecoderIdeal m →
    (∀ c : Dev Cert.DecoderIdeal.nD,
      m' ((c.tc : Thread Cert.DecoderReferenceIdeal.nD Cert.DecoderReferenceIdeal.τ).loc Cert.DecoderReferenceIdeal.main_arg0) = m ((c.tc : Thread Cert.DecoderIdeal.nD Cert.DecoderIdeal.τ).loc Cert.DecoderIdeal.main_arg0)
      ∧ m' ((c.tc : Thread Cert.DecoderReferenceIdeal.nD Cert.DecoderReferenceIdeal.τ).loc Cert.DecoderReferenceIdeal.main_arg1) = m ((c.tc : Thread Cert.DecoderIdeal.nD Cert.DecoderIdeal.τ).loc Cert.DecoderIdeal.main_arg1)
      ∧ m' ((c.tc : Thread Cert.DecoderReferenceIdeal.nD Cert.DecoderReferenceIdeal.τ).loc Cert.DecoderReferenceIdeal.main_arg2) = m ((c.tc : Thread Cert.DecoderIdeal.nD Cert.DecoderIdeal.τ).loc Cert.DecoderIdeal.main_arg2)
      ∧ m' ((c.tc : Thread Cert.DecoderReferenceIdeal.nD Cert.DecoderReferenceIdeal.τ).loc Cert.DecoderReferenceIdeal.main_arg3) = m ((c.tc : Thread Cert.DecoderIdeal.nD Cert.DecoderIdeal.τ).loc Cert.DecoderIdeal.main_arg3)
      ∧ m' ((c.tc : Thread Cert.DecoderReferenceIdeal.nD Cert.DecoderReferenceIdeal.τ).loc Cert.DecoderReferenceIdeal.main_arg4) = m ((c.tc : Thread Cert.DecoderIdeal.nD Cert.DecoderIdeal.τ).loc Cert.DecoderIdeal.main_arg4)
      ∧ m' ((c.tc : Thread Cert.DecoderReferenceIdeal.nD Cert.DecoderReferenceIdeal.τ).loc Cert.DecoderReferenceIdeal.main_arg5) = m ((c.tc : Thread Cert.DecoderIdeal.nD Cert.DecoderIdeal.τ).loc Cert.DecoderIdeal.main_arg5)
      ∧ m' ((c.tc : Thread Cert.DecoderReferenceIdeal.nD Cert.DecoderReferenceIdeal.τ).loc Cert.DecoderReferenceIdeal.main_arg6) = m ((c.tc : Thread Cert.DecoderIdeal.nD Cert.DecoderIdeal.τ).loc Cert.DecoderIdeal.main_arg6)) →
    ∃ (v0 : (c : Dev Cert.DecoderIdeal.nD) → Buf (Elt Ideal) ((c.tc : Thread Cert.DecoderIdeal.nD Cert.DecoderIdeal.τ).loc Cert.DecoderIdeal.main_v222)),
      θ_run (Cert.DecoderIdeal.defs (F := Ideal)) (onTc (τ := Cert.DecoderIdeal.τ) (Cert.DecoderIdeal.main (F := Ideal))) ⟨m, fun _ => 0, g⟩ (fun r => ∀ c : Dev Cert.DecoderIdeal.nD,
          r.2.mem ((c.tc : Thread Cert.DecoderIdeal.nD Cert.DecoderIdeal.τ).loc Cert.DecoderIdeal.main_v222) = v0 c
          ∧ r.2.mem ((c.tc : Thread Cert.DecoderIdeal.nD Cert.DecoderIdeal.τ).loc Cert.DecoderIdeal.main_arg0) = m ((c.tc : Thread Cert.DecoderIdeal.nD Cert.DecoderIdeal.τ).loc Cert.DecoderIdeal.main_arg0)
          ∧ r.2.mem ((c.tc : Thread Cert.DecoderIdeal.nD Cert.DecoderIdeal.τ).loc Cert.DecoderIdeal.main_arg1) = m ((c.tc : Thread Cert.DecoderIdeal.nD Cert.DecoderIdeal.τ).loc Cert.DecoderIdeal.main_arg1)
          ∧ r.2.mem ((c.tc : Thread Cert.DecoderIdeal.nD Cert.DecoderIdeal.τ).loc Cert.DecoderIdeal.main_arg2) = m ((c.tc : Thread Cert.DecoderIdeal.nD Cert.DecoderIdeal.τ).loc Cert.DecoderIdeal.main_arg2)
          ∧ r.2.mem ((c.tc : Thread Cert.DecoderIdeal.nD Cert.DecoderIdeal.τ).loc Cert.DecoderIdeal.main_arg3) = m ((c.tc : Thread Cert.DecoderIdeal.nD Cert.DecoderIdeal.τ).loc Cert.DecoderIdeal.main_arg3)
          ∧ r.2.mem ((c.tc : Thread Cert.DecoderIdeal.nD Cert.DecoderIdeal.τ).loc Cert.DecoderIdeal.main_arg4) = m ((c.tc : Thread Cert.DecoderIdeal.nD Cert.DecoderIdeal.τ).loc Cert.DecoderIdeal.main_arg4)
          ∧ r.2.mem ((c.tc : Thread Cert.DecoderIdeal.nD Cert.DecoderIdeal.τ).loc Cert.DecoderIdeal.main_arg5) = m ((c.tc : Thread Cert.DecoderIdeal.nD Cert.DecoderIdeal.τ).loc Cert.DecoderIdeal.main_arg5)
          ∧ r.2.mem ((c.tc : Thread Cert.DecoderIdeal.nD Cert.DecoderIdeal.τ).loc Cert.DecoderIdeal.main_arg6) = m ((c.tc : Thread Cert.DecoderIdeal.nD Cert.DecoderIdeal.τ).loc Cert.DecoderIdeal.main_arg6))
      ∧ θ_run (Cert.DecoderReferenceIdeal.defs (F := Ideal)) (onTc (τ := Cert.DecoderReferenceIdeal.τ) (Cert.DecoderReferenceIdeal.main (F := Ideal))) ⟨m', fun _ => 0, g'⟩ (fun r => ∀ c : Dev Cert.DecoderReferenceIdeal.nD,
          r.2.mem ((c.tc : Thread Cert.DecoderReferenceIdeal.nD Cert.DecoderReferenceIdeal.τ).loc Cert.DecoderReferenceIdeal.main_v78) = v0 c
          ∧ r.2.mem ((c.tc : Thread Cert.DecoderReferenceIdeal.nD Cert.DecoderReferenceIdeal.τ).loc Cert.DecoderReferenceIdeal.main_arg0) = m' ((c.tc : Thread Cert.DecoderReferenceIdeal.nD Cert.DecoderReferenceIdeal.τ).loc Cert.DecoderReferenceIdeal.main_arg0)
          ∧ r.2.mem ((c.tc : Thread Cert.DecoderReferenceIdeal.nD Cert.DecoderReferenceIdeal.τ).loc Cert.DecoderReferenceIdeal.main_arg1) = m' ((c.tc : Thread Cert.DecoderReferenceIdeal.nD Cert.DecoderReferenceIdeal.τ).loc Cert.DecoderReferenceIdeal.main_arg1)
          ∧ r.2.mem ((c.tc : Thread Cert.DecoderReferenceIdeal.nD Cert.DecoderReferenceIdeal.τ).loc Cert.DecoderReferenceIdeal.main_arg2) = m' ((c.tc : Thread Cert.DecoderReferenceIdeal.nD Cert.DecoderReferenceIdeal.τ).loc Cert.DecoderReferenceIdeal.main_arg2)
          ∧ r.2.mem ((c.tc : Thread Cert.DecoderReferenceIdeal.nD Cert.DecoderReferenceIdeal.τ).loc Cert.DecoderReferenceIdeal.main_arg3) = m' ((c.tc : Thread Cert.DecoderReferenceIdeal.nD Cert.DecoderReferenceIdeal.τ).loc Cert.DecoderReferenceIdeal.main_arg3)
          ∧ r.2.mem ((c.tc : Thread Cert.DecoderReferenceIdeal.nD Cert.DecoderReferenceIdeal.τ).loc Cert.DecoderReferenceIdeal.main_arg4) = m' ((c.tc : Thread Cert.DecoderReferenceIdeal.nD Cert.DecoderReferenceIdeal.τ).loc Cert.DecoderReferenceIdeal.main_arg4)
          ∧ r.2.mem ((c.tc : Thread Cert.DecoderReferenceIdeal.nD Cert.DecoderReferenceIdeal.τ).loc Cert.DecoderReferenceIdeal.main_arg5) = m' ((c.tc : Thread Cert.DecoderReferenceIdeal.nD Cert.DecoderReferenceIdeal.τ).loc Cert.DecoderReferenceIdeal.main_arg5)
          ∧ r.2.mem ((c.tc : Thread Cert.DecoderReferenceIdeal.nD Cert.DecoderReferenceIdeal.τ).loc Cert.DecoderReferenceIdeal.main_arg6) = m' ((c.tc : Thread Cert.DecoderReferenceIdeal.nD Cert.DecoderReferenceIdeal.τ).loc Cert.DecoderReferenceIdeal.main_arg6))

def Claim : Prop :=
  ∃ (hKernel : Cert.Kernel.Facts) (hKernelIdeal : Cert.KernelIdeal.Facts) (hReferenceIdeal : Cert.ReferenceIdeal.Facts) (hEncoder : Cert.Encoder.Facts) (hEncoderIdeal : Cert.EncoderIdeal.Facts) (hEncoderReferenceIdeal : Cert.EncoderReferenceIdeal.Facts) (hDecoder : Cert.Decoder.Facts) (hDecoderIdeal : Cert.DecoderIdeal.Facts) (hDecoderReferenceIdeal : Cert.DecoderReferenceIdeal.Facts) (hPre_idx_in_codebook : Cert.Pre_idx_in_codebook.Facts) (hPre_all_finite : Cert.Pre_all_finite.Facts),
    quiescent_Kernel (hKernel := hKernel) (hPre_idx_in_codebook := hPre_idx_in_codebook)
    ∧ quiescent_KernelIdeal (hKernelIdeal := hKernelIdeal) (hPre_idx_in_codebook := hPre_idx_in_codebook)
    ∧ quiescent_ReferenceIdeal (hReferenceIdeal := hReferenceIdeal)
    ∧ quiescent_ReferenceIdeal_pre_idx_in_codebook (hReferenceIdeal := hReferenceIdeal) (hPre_idx_in_codebook := hPre_idx_in_codebook)
    ∧ quiescent_Encoder (hEncoder := hEncoder)
    ∧ quiescent_EncoderIdeal (hEncoderIdeal := hEncoderIdeal)
    ∧ quiescent_EncoderIdeal_pre_all_finite (hEncoderIdeal := hEncoderIdeal) (hPre_all_finite := hPre_all_finite)
    ∧ quiescent_EncoderReferenceIdeal (hEncoderReferenceIdeal := hEncoderReferenceIdeal)
    ∧ quiescent_EncoderReferenceIdeal_pre_all_finite (hEncoderReferenceIdeal := hEncoderReferenceIdeal) (hPre_all_finite := hPre_all_finite)
    ∧ quiescent_Decoder (hDecoder := hDecoder)
    ∧ quiescent_DecoderIdeal (hDecoderIdeal := hDecoderIdeal)
    ∧ quiescent_DecoderReferenceIdeal (hDecoderReferenceIdeal := hDecoderReferenceIdeal)
    ∧ preserves_Kernel_KernelIdeal
    ∧ algebraic_KernelIdeal_ReferenceIdeal (hKernelIdeal := hKernelIdeal) (hReferenceIdeal := hReferenceIdeal) (hPre_idx_in_codebook := hPre_idx_in_codebook)
    ∧ preserves_Encoder_EncoderIdeal
    ∧ algebraic_EncoderIdeal_EncoderReferenceIdeal_pre_all_finite (hEncoderIdeal := hEncoderIdeal) (hEncoderReferenceIdeal := hEncoderReferenceIdeal) (hPre_all_finite := hPre_all_finite)
    ∧ preserves_Decoder_DecoderIdeal
    ∧ algebraic_DecoderIdeal_DecoderReferenceIdeal (hDecoderIdeal := hDecoderIdeal) (hDecoderReferenceIdeal := hDecoderReferenceIdeal)
-- ==== Pre_all_finite.lean ====
abbrev S16x3x224x224 : Shape := ⟨4, ![16, 3, 224, 224]⟩
abbrev S128x3x4x4 : Shape := ⟨4, ![128, 3, 4, 4]⟩
abbrev S128 : Shape := ⟨1, ![128]⟩
abbrev S128x128x4x4 : Shape := ⟨4, ![128, 128, 4, 4]⟩
abbrev S32x128x3x3 : Shape := ⟨4, ![32, 128, 3, 3]⟩
abbrev S32 : Shape := ⟨1, ![32]⟩
abbrev S1024x32 : Shape := ⟨2, ![1024, 32]⟩
abbrev S_ : Shape := ⟨0, ![]⟩

class Facts : Prop where
  bcast_S_S16x3x224x224 : S_.BroadcastsInDim S16x3x224x224 (![] : Fin 0 → Fin S16x3x224x224.rank)
  reducesTo_S16x3x224x224_S_d0_1_2_3 : S16x3x224x224.ReducesTo [0, 1, 2, 3] S_
  h_S_ : 0 < S_.numel
  bcast_S_S128x3x4x4 : S_.BroadcastsInDim S128x3x4x4 (![] : Fin 0 → Fin S128x3x4x4.rank)
  reducesTo_S128x3x4x4_S_d0_1_2_3 : S128x3x4x4.ReducesTo [0, 1, 2, 3] S_
  bcast_S_S128 : S_.BroadcastsInDim S128 (![] : Fin 0 → Fin S128.rank)
  reducesTo_S128_S_d0 : S128.ReducesTo [0] S_
  bcast_S_S128x128x4x4 : S_.BroadcastsInDim S128x128x4x4 (![] : Fin 0 → Fin S128x128x4x4.rank)
  reducesTo_S128x128x4x4_S_d0_1_2_3 : S128x128x4x4.ReducesTo [0, 1, 2, 3] S_
  bcast_S_S32x128x3x3 : S_.BroadcastsInDim S32x128x3x3 (![] : Fin 0 → Fin S32x128x3x3.rank)
  reducesTo_S32x128x3x3_S_d0_1_2_3 : S32x128x3x3.ReducesTo [0, 1, 2, 3] S_
  bcast_S_S32 : S_.BroadcastsInDim S32 (![] : Fin 0 → Fin S32.rank)
  reducesTo_S32_S_d0 : S32.ReducesTo [0] S_
  bcast_S_S1024x32 : S_.BroadcastsInDim S1024x32 (![] : Fin 0 → Fin S1024x32.rank)
  reducesTo_S1024x32_S_d0_1 : S1024x32.ReducesTo [0, 1] S_

variable [Facts]

def fn_part2 {F : FTy → Type} [FloatOps F] (main_arg7 : FVec F S1024x32 .f32) (main_v33 : IVec S_ 1) : IVec S_ 1 :=
  let main_v34 : FVec F S1024x32 .f32 := Host.absf main_arg7
  let main_cst_12 : FVec F S_ .f32 := constant S_ .f32 0x7F800000#32
  let main_v35 : FVec F S1024x32 .f32 := broadcastInDim S1024x32 ![] bcast_S_S1024x32 main_cst_12
  let main_v36 : IVec S1024x32 1 := cmpf .olt main_v34 main_v35
  let main_c_13 : IVec S_ 1 := constantI S_ 1 1#1
  let main_v37 : IVec S_ 1 := (fun x v => Host.reduce IntOp.andi x v reducesTo_S1024x32_S_d0_1 h_S_) main_v36 main_c_13
  let main_v38 : IVec S_ 1 := andi main_v33 main_v37
  main_v38

def fn_part1 {F : FTy → Type} [FloatOps F] (main_arg4 : FVec F S128 .f32) (main_arg5 : FVec F S32x128x3x3 .f32) (main_arg6 : FVec F S32 .f32) (main_arg7 : FVec F S1024x32 .f32) (main_v13 : IVec S_ 1) (main_v16 : IVec S128x128x4x4 1) : IVec S_ 1 :=
  let main_c_5 : IVec S_ 1 := constantI S_ 1 1#1
  let main_v17 : IVec S_ 1 := (fun x v => Host.reduce IntOp.andi x v reducesTo_S128x128x4x4_S_d0_1_2_3 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S32x128x3x3 .f32 := Host.absf main_arg5
  let main_cst_8 : FVec F S_ .f32 := constant S_ .f32 0x7F800000#32
  let main_v25 : FVec F S32x128x3x3 .f32 := broadcastInDim S32x128x3x3 ![] bcast_S_S32x128x3x3 main_cst_8
  let main_v26 : IVec S32x128x3x3 1 := cmpf .olt main_v24 main_v25
  let main_c_9 : IVec S_ 1 := constantI S_ 1 1#1
  let main_v27 : IVec S_ 1 := (fun x v => Host.reduce IntOp.andi x v reducesTo_S32x128x3x3_S_d0_1_2_3 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_v33

def fn {F : FTy → Type} [FloatOps F] (main_arg0 : FVec F S16x3x224x224 .f32) (main_arg1 : FVec F S128x3x4x4 .f32) (main_arg2 : FVec F S128 .f32) (main_arg3 : FVec F S128x128x4x4 .f32) (main_arg4 : FVec F S128 .f32) (main_arg5 : FVec F S32x128x3x3 .f32) (main_arg6 : FVec F S32 .f32) (main_arg7 : FVec F S1024x32 .f32) : IVec S_ 1 :=
  let main_v0 : FVec F S16x3x224x224 .f32 := Host.absf main_arg0
  let main_cst : FVec F S_ .f32 := constant S_ .f32 0x7F800000#32
  let main_v1 : FVec F S16x3x224x224 .f32 := broadcastInDim S16x3x224x224 ![] bcast_S_S16x3x224x224 main_cst
  let main_v2 : IVec S16x3x224x224 1 := cmpf .olt main_v0 main_v1
  let main_c : IVec S_ 1 := constantI S_ 1 1#1
  let main_v3 : IVec S_ 1 := (fun x v => Host.reduce IntOp.andi x v reducesTo_S16x3x224x224_S_d0_1_2_3 h_S_) main_v2 main_c
  let main_v4 : FVec F S128x3x4x4 .f32 := Host.absf main_arg1
  let main_cst_0 : FVec F S_ .f32 := constant S_ .f32 0x7F800000#32
  let main_v5 : FVec F S128x3x4x4 .f32 := broadcastInDim S128x3x4x4 ![] bcast_S_S128x3x4x4 main_cst_0
  let main_v6 : IVec S128x3x4x4 1 := cmpf .olt main_v4 main_v5
  let main_c_1 : IVec S_ 1 := constantI S_ 1 1#1
  let main_v7 : IVec S_ 1 := (fun x v => Host.reduce IntOp.andi x v reducesTo_S128x3x4x4_S_d0_1_2_3 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128x4x4 .f32 := Host.absf main_arg3
  let main_cst_4 : FVec F S_ .f32 := constant S_ .f32 0x7F800000#32
  let main_v15 : FVec F S128x128x4x4 .f32 := broadcastInDim S128x128x4x4 ![] bcast_S_S128x128x4x4 main_cst_4
  let main_v16 : IVec S128x128x4x4 1 := cmpf .olt main_v14 main_v15
  fn_part1 (F := F) main_arg4 main_arg5 main_arg6 main_arg7 main_v13 main_v16
-- ==== Pre_idx_in_codebook.lean ====
abbrev S1024x32 : Shape := ⟨2, ![1024, 32]⟩
abbrev S50176 : Shape := ⟨1, ![50176]⟩
abbrev S_ : Shape := ⟨0, ![]⟩

class Facts : Prop where
  bcast_S_S50176 : S_.BroadcastsInDim S50176 (![] : Fin 0 → Fin S50176.rank)
  reducesTo_S50176_S_d0 : S50176.ReducesTo [0] S_
  h_S_ : 0 < S_.numel

variable [Facts]

def fn {F : FTy → Type} [FloatOps F] (main_arg0 : FVec F S1024x32 .f32) (main_arg1 : IVec S50176 32) : IVec S_ 1 :=
  let main_c : IVec S_ 32 := constantI S_ 32 0#32
  let main_v0 : IVec S50176 32 := broadcastInDim S50176 ![] bcast_S_S50176 main_c
  let main_v1 : IVec S50176 1 := cmpi .sge main_arg1 main_v0
  let main_c_0 : IVec S_ 32 := constantI S_ 32 1024#32
  let main_v2 : IVec S50176 32 := broadcastInDim S50176 ![] bcast_S_S50176 main_c_0
  let main_v3 : IVec S50176 1 := cmpi .slt main_arg1 main_v2
  let main_v4 : IVec S50176 1 := andi main_v1 main_v3
  let main_c_1 : IVec S_ 1 := constantI S_ 1 1#1
  let main_v5 : IVec S_ 1 := (fun x v => Host.reduce IntOp.andi x v reducesTo_S50176_S_d0 h_S_) main_v4 main_c_1
  main_v5
-- ==== Kernel.lean ====
abbrev S1024x32 : Shape := ⟨2, ![1024, 32]⟩
abbrev S50176 : Shape := ⟨1, ![50176]⟩
abbrev S_ : Shape := ⟨0, ![]⟩
abbrev S1024x128 : Shape := ⟨2, ![1024, 128]⟩
abbrev S50176x128 : Shape := ⟨2, ![50176, 128]⟩
abbrev S784 : Shape := ⟨1, ![784]⟩
abbrev S784x128 : Shape := ⟨2, ![784, 128]⟩

abbrev nBuf : Table → Nat
  | .hbm => 6
  | .local .scVector .vmem => 2
  | _ => 0

abbrev bufTy : (tb : Table) → Fin (nBuf tb) → BufTy
  | .hbm, ⟨0, _⟩ => ⟨S1024x32, .f32⟩
  | .hbm, ⟨1, _⟩ => ⟨S50176, .i32⟩
  | .hbm, ⟨2, _⟩ => ⟨S_, .i32⟩
  | .hbm, ⟨3, _⟩ => ⟨S_, .f32⟩
  | .hbm, ⟨4, _⟩ => ⟨S1024x128, .f32⟩
  | .hbm, ⟨5, _⟩ => ⟨S50176x128, .f32⟩
  | .local .scVector .vmem, ⟨0, _⟩ => ⟨S784, .i32⟩
  | .local .scVector .vmem, ⟨1, _⟩ => ⟨S784x128, .f32⟩
  | _, _ => ⟨S1024x32, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v0_scv : Ref sig .scVector := ⟨.hbm, 4, rfl⟩
abbrev main_arg1_scv : Ref sig .scVector := ⟨.hbm, 1, rfl⟩
abbrev main_v1_scv : Ref sig .scVector := ⟨.hbm, 5, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi v2 c0_i32
  let c784_i32 : BitVec 32 := 784#32
  let v4 : BitVec 32 := Scalar.muli v3 c784_i32
  ![v4.toNat]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi v2 c0_i32
  let c784_i32 : BitVec 32 := 784#32
  let v4 : BitVec 32 := Scalar.muli v3 c784_i32
  let c0_i32_11_r1 : BitVec 32 := 0#32
  ![v4.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x32 : Shape := ⟨2, ![1024, 32]⟩
abbrev S50176 : Shape := ⟨1, ![50176]⟩
abbrev S_ : Shape := ⟨0, ![]⟩
abbrev S50176x1 : Shape := ⟨2, ![50176, 1]⟩
abbrev S1 : Shape := ⟨1, ![1]⟩
abbrev S1x1 : Shape := ⟨2, ![1, 1]⟩
abbrev S50176x32 : Shape := ⟨2, ![50176, 32]⟩
abbrev S50176x128 : Shape := ⟨2, ![50176, 128]⟩

abbrev nBuf : Space → Nat
  | .hbm => 28
  | .vmem => 0
  | .smem => 0
  | _ => 0

abbrev bufTy : (tb : Table) → Fin (tcTables nBuf tb) → BufTy
  | .hbm, ⟨0, _⟩ => ⟨S1024x32, .f32⟩
  | .hbm, ⟨1, _⟩ => ⟨S50176, .i32⟩
  | .hbm, ⟨2, _⟩ => ⟨S_, .i32⟩
  | .hbm, ⟨3, _⟩ => ⟨S50176, .i32⟩
  | .hbm, ⟨4, _⟩ => ⟨S50176, .i1⟩
  | .hbm, ⟨5, _⟩ => ⟨S_, .i32⟩
  | .hbm, ⟨6, _⟩ => ⟨S50176, .i32⟩
  | .hbm, ⟨7, _⟩ => ⟨S50176, .i32⟩
  | .hbm, ⟨8, _⟩ => ⟨S50176, .i32⟩
  | .hbm, ⟨9, _⟩ => ⟨S50176x1, .i32⟩
  | .hbm, ⟨10, _⟩ => ⟨S1, .i32⟩
  | .hbm, ⟨11, _⟩ => ⟨S_, .i32⟩
  | .hbm, ⟨12, _⟩ => ⟨S50176x1, .i32⟩
  | .hbm, ⟨13, _⟩ => ⟨S50176x1, .i1⟩
  | .hbm, ⟨14, _⟩ => ⟨S1x1, .i32⟩
  | .hbm, ⟨15, _⟩ => ⟨S50176x1, .i32⟩
  | .hbm, ⟨16, _⟩ => ⟨S50176x1, .i1⟩
  | .hbm, ⟨17, _⟩ => ⟨S50176x1, .i1⟩
  | .hbm, ⟨18, _⟩ => ⟨S_, .i1⟩
  | .hbm, ⟨19, _⟩ => ⟨S50176, .i1⟩
  | .hbm, ⟨20, _⟩ => ⟨S50176x32, .f32⟩
  | .hbm, ⟨21, _⟩ => ⟨S50176x32, .i1⟩
  | .hbm, ⟨22, _⟩ => ⟨S_, .f32⟩
  | .hbm, ⟨23, _⟩ => ⟨S50176x32, .f32⟩
  | .hbm, ⟨24, _⟩ => ⟨S50176x32, .f32⟩
  | .hbm, ⟨25, _⟩ => ⟨S_, .i32⟩
  | .hbm, ⟨26, _⟩ => ⟨S_, .f32⟩
  | .hbm, ⟨27, _⟩ => ⟨S50176x128, .f32⟩
  | _, _ => ⟨S1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_c : Ref sig .tc := ⟨.hbm, 25, rfl⟩
abbrev main_call1_v0 : Ref sig .tc := ⟨.hbm, 26, rfl⟩
abbrev main_v1 : Ref sig .tc := ⟨.hbm, 27, rfl⟩

abbrev nD : Nat := 1
abbrev τ : Topo := Topo.v7x

variable {F : FTy → Type} [FloatOps F]
-- ==== Encoder.lean ====
abbrev S16x3x224x224 : Shape := ⟨4, ![16, 3, 224, 224]⟩
abbrev S128x3x4x4 : Shape := ⟨4, ![128, 3, 4, 4]⟩
abbrev S128 : Shape := ⟨1, ![128]⟩
abbrev S128x128x4x4 : Shape := ⟨4, ![128, 128, 4, 4]⟩
abbrev S32x128x3x3 : Shape := ⟨4, ![32, 128, 3, 3]⟩
abbrev S32 : Shape := ⟨1, ![32]⟩
abbrev S1024x32 : Shape := ⟨2, ![1024, 32]⟩
abbrev S4x4x3x128 : Shape := ⟨4, ![4, 4, 3, 128]⟩
abbrev S_ : Shape := ⟨0, ![]⟩
abbrev S1x1x3x128 : Shape := ⟨4, ![1, 1, 3, 128]⟩
abbrev S3x128 : Shape := ⟨2, ![3, 128]⟩
abbrev S1 : Shape := ⟨1, ![1]⟩
abbrev S2 : Shape := ⟨1, ![2]⟩
abbrev S48x128 : Shape := ⟨2, ![48, 128]⟩
abbrev S48x512 : Shape := ⟨2, ![48, 512]⟩
abbrev S1x48x512 : Shape := ⟨3, ![1, 48, 512]⟩
abbrev S4x48x512 : Shape := ⟨3, ![4, 48, 512]⟩
abbrev S4x4x128x128 : Shape := ⟨4, ![4, 4, 128, 128]⟩
abbrev S1x1x128x128 : Shape := ⟨4, ![1, 1, 128, 128]⟩
abbrev S128x128 : Shape := ⟨2, ![128, 128]⟩
abbrev S1x128x128 : Shape := ⟨3, ![1, 128, 128]⟩
abbrev S16x128x128 : Shape := ⟨3, ![16, 128, 128]⟩
abbrev S3x3x128x32 : Shape := ⟨4, ![3, 3, 128, 32]⟩
abbrev S9x128x32 : Shape := ⟨3, ![9, 128, 32]⟩
abbrev S1x128 : Shape := ⟨2, ![1, 128]⟩
abbrev S4x128 : Shape := ⟨2, ![4, 128]⟩
abbrev S512 : Shape := ⟨1, ![512]⟩
abbrev S1x512 : Shape := ⟨2, ![1, 512]⟩
abbrev S1x32 : Shape := ⟨2, ![1, 32]⟩
abbrev S16x224x224x3 : Shape := ⟨4, ![16, 224, 224, 3]⟩
abbrev S16x228x228x3 : Shape := ⟨4, ![16, 228, 228, 3]⟩
abbrev S16x57x4x57x4x3 : Shape := ⟨6, ![16, 57, 4, 57, 4, 3]⟩
abbrev S16x57x57x4x4x3 : Shape := ⟨6, ![16, 57, 57, 4, 4, 3]⟩
abbrev S16x57x57x48 : Shape := ⟨4, ![16, 57, 57, 48]⟩
abbrev S16x57x64x48 : Shape := ⟨4, ![16, 57, 64, 48]⟩
abbrev S32x1024 : Shape := ⟨2, ![32, 1024]⟩
abbrev S16x3136x1 : Shape := ⟨3, ![16, 3136, 1]⟩
abbrev S1x1 : Shape := ⟨2, ![1, 1]⟩
abbrev S1x57x64x48 : Shape := ⟨4, ![1, 57, 64, 48]⟩
abbrev S1x3136x1 : Shape := ⟨3, ![1, 3136, 1]⟩
abbrev S2x2x58x64x128 : Shape := ⟨5, ![2, 2, 58, 64, 128]⟩
abbrev S58x64x128 : Shape := ⟨3, ![58, 64, 128]⟩
abbrev S3136x512 : Shape := ⟨2, ![3136, 512]⟩
abbrev S1x56x56x48 : Shape := ⟨4, ![1, 56, 56, 48]⟩
abbrev S56x56x48 : Shape := ⟨3, ![56, 56, 48]⟩
abbrev S3136x48 : Shape := ⟨2, ![3136, 48]⟩
abbrev S3136x128 : Shape := ⟨2, ![3136, 128]⟩
abbrev S56x56x128 : Shape := ⟨3, ![56, 56, 128]⟩
abbrev S1x1x56x56x128 : Shape := ⟨5, ![1, 1, 56, 56, 128]⟩
abbrev S3136x32 : Shape := ⟨2, ![3136, 32]⟩
abbrev S1x128x32 : Shape := ⟨3, ![1, 128, 32]⟩
abbrev S128x32 : Shape := ⟨2, ![128, 32]⟩
abbrev S1024 : Shape := ⟨1, ![1024]⟩
abbrev S1x1024 : Shape := ⟨2, ![1, 1024]⟩
abbrev S1x3136x32 : Shape := ⟨3, ![1, 3136, 32]⟩
abbrev S1x1x1 : Shape := ⟨3, ![1, 1, 1]⟩
abbrev S784x32 : Shape := ⟨2, ![784, 32]⟩
abbrev S784x1024 : Shape := ⟨2, ![784, 1024]⟩
abbrev S784 : Shape := ⟨1, ![784]⟩
abbrev S784x1 : Shape := ⟨2, ![784, 1]⟩
abbrev S1x784x1 : Shape := ⟨3, ![1, 784, 1]⟩
abbrev S50176 : Shape := ⟨1, ![50176]⟩

abbrev nBuf : Space → Nat
  | .hbm => 651
  | .vmem => 14
  | .smem => 0
  | _ => 0

abbrev hbmTy0_0 (i : Nat) : BufTy := match i % 128 with
  | 0 => ⟨S16x3x224x224, .f32⟩
  | 1 => ⟨S128x3x4x4, .f32⟩
  | 2 => ⟨S128, .f32⟩
  | 3 => ⟨S128x128x4x4, .f32⟩
  | 4 => ⟨S128, .f32⟩
  | 5 => ⟨S32x128x3x3, .f32⟩
  | 6 => ⟨S32, .f32⟩
  | 7 => ⟨S1024x32, .f32⟩
  | 8 => ⟨S4x4x3x128, .f32⟩
  | 9 => ⟨S_, .f32⟩
  | 10 => ⟨S4x4x3x128, .f32⟩
  | 11 => ⟨S1x1x3x128, .f32⟩
  | 12 => ⟨S3x128, .f32⟩
  | 13 => ⟨S_, .i32⟩
  | 14 => ⟨S1, .i32⟩
  | 15 => ⟨S_, .i32⟩
  | 16 => ⟨S1, .i32⟩
  | 17 => ⟨S2, .i32⟩
  | 18 => ⟨S4x4x3x128, .f32⟩
  | 19 => ⟨S1x1x3x128, .f32⟩
  | 20 => ⟨S3x128, .f32⟩
  | 21 => ⟨S_, .i32⟩
  | 22 => ⟨S1, .i32⟩
  | 23 => ⟨S_, .i32⟩
  | 24 => ⟨S1, .i32⟩
  | 25 => ⟨S2, .i32⟩
  | 26 => ⟨S4x4x3x128, .f32⟩
  | 27 => ⟨S1x1x3x128, .f32⟩
  | 28 => ⟨S3x128, .f32⟩
  | 29 => ⟨S_, .i32⟩
  | 30 => ⟨S1, .i32⟩
  | 31 => ⟨S_, .i32⟩
  | 32 => ⟨S1, .i32⟩
  | 33 => ⟨S2, .i32⟩
  | 34 => ⟨S4x4x3x128, .f32⟩
  | 35 => ⟨S1x1x3x128, .f32⟩
  | 36 => ⟨S3x128, .f32⟩
  | 37 => ⟨S_, .i32⟩
  | 38 => ⟨S1, .i32⟩
  | 39 => ⟨S_, .i32⟩
  | 40 => ⟨S1, .i32⟩
  | 41 => ⟨S2, .i32⟩
  | 42 => ⟨S4x4x3x128, .f32⟩
  | 43 => ⟨S1x1x3x128, .f32⟩
  | 44 => ⟨S3x128, .f32⟩
  | 45 => ⟨S_, .i32⟩
  | 46 => ⟨S1, .i32⟩
  | 47 => ⟨S_, .i32⟩
  | 48 => ⟨S1, .i32⟩
  | 49 => ⟨S2, .i32⟩
  | 50 => ⟨S4x4x3x128, .f32⟩
  | 51 => ⟨S1x1x3x128, .f32⟩
  | 52 => ⟨S3x128, .f32⟩
  | 53 => ⟨S_, .i32⟩
  | 54 => ⟨S1, .i32⟩
  | 55 => ⟨S_, .i32⟩
  | 56 => ⟨S1, .i32⟩
  | 57 => ⟨S2, .i32⟩
  | 58 => ⟨S4x4x3x128, .f32⟩
  | 59 => ⟨S1x1x3x128, .f32⟩
  | 60 => ⟨S3x128, .f32⟩
  | 61 => ⟨S_, .i32⟩
  | 62 => ⟨S1, .i32⟩
  | 63 => ⟨S_, .i32⟩
  | 64 => ⟨S1, .i32⟩
  | 65 => ⟨S2, .i32⟩
  | 66 => ⟨S4x4x3x128, .f32⟩
  | 67 => ⟨S1x1x3x128, .f32⟩
  | 68 => ⟨S3x128, .f32⟩
  | 69 => ⟨S_, .i32⟩
  | 70 => ⟨S1, .i32⟩
  | 71 => ⟨S_, .i32⟩
  | 72 => ⟨S1, .i32⟩
  | 73 => ⟨S2, .i32⟩
  | 74 => ⟨S4x4x3x128, .f32⟩
  | 75 => ⟨S1x1x3x128, .f32⟩
  | 76 => ⟨S3x128, .f32⟩
  | 77 => ⟨S_, .i32⟩
  | 78 => ⟨S1, .i32⟩
  | 79 => ⟨S_, .i32⟩
  | 80 => ⟨S1, .i32⟩
  | 81 => ⟨S2, .i32⟩
  | 82 => ⟨S4x4x3x128, .f32⟩
  | 83 => ⟨S1x1x3x128, .f32⟩
  | 84 => ⟨S3x128, .f32⟩
  | 85 => ⟨S_, .i32⟩
  | 86 => ⟨S1, .i32⟩
  | 87 => ⟨S_, .i32⟩
  | 88 => ⟨S1, .i32⟩
  | 89 => ⟨S2, .i32⟩
  | 90 => ⟨S4x4x3x128, .f32⟩
  | 91 => ⟨S1x1x3x128, .f32⟩
  | 92 => ⟨S3x128, .f32⟩
  | 93 => ⟨S_, .i32⟩
  | 94 => ⟨S1, .i32⟩
  | 95 => ⟨S_, .i32⟩
  | 96 => ⟨S1, .i32⟩
  | 97 => ⟨S2, .i32⟩
  | 98 => ⟨S4x4x3x128, .f32⟩
  | 99 => ⟨S1x1x3x128, .f32⟩
  | 100 => ⟨S3x128, .f32⟩
  | 101 => ⟨S_, .i32⟩
  | 102 => ⟨S1, .i32⟩
  | 103 => ⟨S_, .i32⟩
  | 104 => ⟨S1, .i32⟩
  | 105 => ⟨S2, .i32⟩
  | 106 => ⟨S4x4x3x128, .f32⟩
  | 107 => ⟨S1x1x3x128, .f32⟩
  | 108 => ⟨S3x128, .f32⟩
  | 109 => ⟨S_, .i32⟩
  | 110 => ⟨S1, .i32⟩
  | 111 => ⟨S_, .i32⟩
  | 112 => ⟨S1, .i32⟩
  | 113 => ⟨S2, .i32⟩
  | 114 => ⟨S4x4x3x128, .f32⟩
  | 115 => ⟨S1x1x3x128, .f32⟩
  | 116 => ⟨S3x128, .f32⟩
  | 117 => ⟨S_, .i32⟩
  | 118 => ⟨S1, .i32⟩
  | 119 => ⟨S_, .i32⟩
  | 120 => ⟨S1, .i32⟩
  | 121 => ⟨S2, .i32⟩
  | 122 => ⟨S4x4x3x128, .f32⟩
  | 123 => ⟨S1x1x3x128, .f32⟩
  | 124 => ⟨S3x128, .f32⟩
  | 125 => ⟨S_, .i32⟩
  | 126 => ⟨S1, .i32⟩
  | 127 => ⟨S_, .i32⟩
  | _ => ⟨S16x3x224x224, .f32⟩

abbrev hbmTy0_1 (i : Nat) : BufTy := match i % 128 with
  | 0 => ⟨S1, .i32⟩
  | 1 => ⟨S2, .i32⟩
  | 2 => ⟨S4x4x3x128, .f32⟩
  | 3 => ⟨S1x1x3x128, .f32⟩
  | 4 => ⟨S3x128, .f32⟩
  | 5 => ⟨S_, .i32⟩
  | 6 => ⟨S1, .i32⟩
  | 7 => ⟨S_, .i32⟩
  | 8 => ⟨S1, .i32⟩
  | 9 => ⟨S2, .i32⟩
  | 10 => ⟨S4x4x3x128, .f32⟩
  | 11 => ⟨S48x128, .f32⟩
  | 12 => ⟨S_, .f32⟩
  | 13 => ⟨S4x4x3x128, .f32⟩
  | 14 => ⟨S1x1x3x128, .f32⟩
  | 15 => ⟨S3x128, .f32⟩
  | 16 => ⟨S_, .i32⟩
  | 17 => ⟨S1, .i32⟩
  | 18 => ⟨S_, .i32⟩
  | 19 => ⟨S1, .i32⟩
  | 20 => ⟨S2, .i32⟩
  | 21 => ⟨S4x4x3x128, .f32⟩
  | 22 => ⟨S1x1x3x128, .f32⟩
  | 23 => ⟨S3x128, .f32⟩
  | 24 => ⟨S_, .i32⟩
  | 25 => ⟨S1, .i32⟩
  | 26 => ⟨S_, .i32⟩
  | 27 => ⟨S1, .i32⟩
  | 28 => ⟨S2, .i32⟩
  | 29 => ⟨S4x4x3x128, .f32⟩
  | 30 => ⟨S1x1x3x128, .f32⟩
  | 31 => ⟨S3x128, .f32⟩
  | 32 => ⟨S_, .i32⟩
  | 33 => ⟨S1, .i32⟩
  | 34 => ⟨S_, .i32⟩
  | 35 => ⟨S1, .i32⟩
  | 36 => ⟨S2, .i32⟩
  | 37 => ⟨S4x4x3x128, .f32⟩
  | 38 => ⟨S1x1x3x128, .f32⟩
  | 39 => ⟨S3x128, .f32⟩
  | 40 => ⟨S_, .i32⟩
  | 41 => ⟨S1, .i32⟩
  | 42 => ⟨S_, .i32⟩
  | 43 => ⟨S1, .i32⟩
  | 44 => ⟨S2, .i32⟩
  | 45 => ⟨S4x4x3x128, .f32⟩
  | 46 => ⟨S1x1x3x128, .f32⟩
  | 47 => ⟨S3x128, .f32⟩
  | 48 => ⟨S_, .i32⟩
  | 49 => ⟨S1, .i32⟩
  | 50 => ⟨S_, .i32⟩
  | 51 => ⟨S1, .i32⟩
  | 52 => ⟨S2, .i32⟩
  | 53 => ⟨S4x4x3x128, .f32⟩
  | 54 => ⟨S1x1x3x128, .f32⟩
  | 55 => ⟨S3x128, .f32⟩
  | 56 => ⟨S_, .i32⟩
  | 57 => ⟨S1, .i32⟩
  | 58 => ⟨S_, .i32⟩
  | 59 => ⟨S1, .i32⟩
  | 60 => ⟨S2, .i32⟩
  | 61 => ⟨S4x4x3x128, .f32⟩
  | 62 => ⟨S1x1x3x128, .f32⟩
  | 63 => ⟨S3x128, .f32⟩
  | 64 => ⟨S_, .i32⟩
  | 65 => ⟨S1, .i32⟩
  | 66 => ⟨S_, .i32⟩
  | 67 => ⟨S1, .i32⟩
  | 68 => ⟨S2, .i32⟩
  | 69 => ⟨S4x4x3x128, .f32⟩
  | 70 => ⟨S1x1x3x128, .f32⟩
  | 71 => ⟨S3x128, .f32⟩
  | 72 => ⟨S_, .i32⟩
  | 73 => ⟨S1, .i32⟩
  | 74 => ⟨S_, .i32⟩
  | 75 => ⟨S1, .i32⟩
  | 76 => ⟨S2, .i32⟩
  | 77 => ⟨S4x4x3x128, .f32⟩
  | 78 => ⟨S48x128, .f32⟩
  | 79 => ⟨S_, .f32⟩
  | 80 => ⟨S4x4x3x128, .f32⟩
  | 81 => ⟨S1x1x3x128, .f32⟩
  | 82 => ⟨S3x128, .f32⟩
  | 83 => ⟨S_, .i32⟩
  | 84 => ⟨S1, .i32⟩
  | 85 => ⟨S_, .i32⟩
  | 86 => ⟨S1, .i32⟩
  | 87 => ⟨S2, .i32⟩
  | 88 => ⟨S4x4x3x128, .f32⟩
  | 89 => ⟨S1x1x3x128, .f32⟩
  | 90 => ⟨S3x128, .f32⟩
  | 91 => ⟨S_, .i32⟩
  | 92 => ⟨S1, .i32⟩
  | 93 => ⟨S_, .i32⟩
  | 94 => ⟨S1, .i32⟩
  | 95 => ⟨S2, .i32⟩
  | 96 => ⟨S4x4x3x128, .f32⟩
  | 97 => ⟨S1x1x3x128, .f32⟩
  | 98 => ⟨S3x128, .f32⟩
  | 99 => ⟨S_, .i32⟩
  | 100 => ⟨S1, .i32⟩
  | 101 => ⟨S_, .i32⟩
  | 102 => ⟨S1, .i32⟩
  | 103 => ⟨S2, .i32⟩
  | 104 => ⟨S4x4x3x128, .f32⟩
  | 105 => ⟨S1x1x3x128, .f32⟩
  | 106 => ⟨S3x128, .f32⟩
  | 107 => ⟨S_, .i32⟩
  | 108 => ⟨S1, .i32⟩
  | 109 => ⟨S_, .i32⟩
  | 110 => ⟨S1, .i32⟩
  | 111 => ⟨S2, .i32⟩
  | 112 => ⟨S4x4x3x128, .f32⟩
  | 113 => ⟨S1x1x3x128, .f32⟩
  | 114 => ⟨S3x128, .f32⟩
  | 115 => ⟨S_, .i32⟩
  | 116 => ⟨S1, .i32⟩
  | 117 => ⟨S_, .i32⟩
  | 118 => ⟨S1, .i32⟩
  | 119 => ⟨S2, .i32⟩
  | 120 => ⟨S4x4x3x128, .f32⟩
  | 121 => ⟨S1x1x3x128, .f32⟩
  | 122 => ⟨S3x128, .f32⟩
  | 123 => ⟨S_, .i32⟩
  | 124 => ⟨S1, .i32⟩
  | 125 => ⟨S_, .i32⟩
  | 126 => ⟨S1, .i32⟩
  | 127 => ⟨S2, .i32⟩
  | _ => ⟨S16x3x224x224, .f32⟩

abbrev hbmTy0_2 (i : Nat) : BufTy := match i % 128 with
  | 0 => ⟨S4x4x3x128, .f32⟩
  | 1 => ⟨S1x1x3x128, .f32⟩
  | 2 => ⟨S3x128, .f32⟩
  | 3 => ⟨S_, .i32⟩
  | 4 => ⟨S1, .i32⟩
  | 5 => ⟨S_, .i32⟩
  | 6 => ⟨S1, .i32⟩
  | 7 => ⟨S2, .i32⟩
  | 8 => ⟨S4x4x3x128, .f32⟩
  | 9 => ⟨S1x1x3x128, .f32⟩
  | 10 => ⟨S3x128, .f32⟩
  | 11 => ⟨S_, .i32⟩
  | 12 => ⟨S1, .i32⟩
  | 13 => ⟨S_, .i32⟩
  | 14 => ⟨S1, .i32⟩
  | 15 => ⟨S2, .i32⟩
  | 16 => ⟨S4x4x3x128, .f32⟩
  | 17 => ⟨S48x128, .f32⟩
  | 18 => ⟨S_, .f32⟩
  | 19 => ⟨S4x4x3x128, .f32⟩
  | 20 => ⟨S1x1x3x128, .f32⟩
  | 21 => ⟨S3x128, .f32⟩
  | 22 => ⟨S_, .i32⟩
  | 23 => ⟨S1, .i32⟩
  | 24 => ⟨S_, .i32⟩
  | 25 => ⟨S1, .i32⟩
  | 26 => ⟨S2, .i32⟩
  | 27 => ⟨S4x4x3x128, .f32⟩
  | 28 => ⟨S1x1x3x128, .f32⟩
  | 29 => ⟨S3x128, .f32⟩
  | 30 => ⟨S_, .i32⟩
  | 31 => ⟨S1, .i32⟩
  | 32 => ⟨S_, .i32⟩
  | 33 => ⟨S1, .i32⟩
  | 34 => ⟨S2, .i32⟩
  | 35 => ⟨S4x4x3x128, .f32⟩
  | 36 => ⟨S1x1x3x128, .f32⟩
  | 37 => ⟨S3x128, .f32⟩
  | 38 => ⟨S_, .i32⟩
  | 39 => ⟨S1, .i32⟩
  | 40 => ⟨S_, .i32⟩
  | 41 => ⟨S1, .i32⟩
  | 42 => ⟨S2, .i32⟩
  | 43 => ⟨S4x4x3x128, .f32⟩
  | 44 => ⟨S1x1x3x128, .f32⟩
  | 45 => ⟨S3x128, .f32⟩
  | 46 => ⟨S_, .i32⟩
  | 47 => ⟨S1, .i32⟩
  | 48 => ⟨S_, .i32⟩
  | 49 => ⟨S1, .i32⟩
  | 50 => ⟨S2, .i32⟩
  | 51 => ⟨S4x4x3x128, .f32⟩
  | 52 => ⟨S48x128, .f32⟩
  | 53 => ⟨S48x512, .f32⟩
  | 54 => ⟨S_, .f32⟩
  | 55 => ⟨S4x4x3x128, .f32⟩
  | 56 => ⟨S48x128, .f32⟩
  | 57 => ⟨S_, .f32⟩
  | 58 => ⟨S4x4x3x128, .f32⟩
  | 59 => ⟨S1x1x3x128, .f32⟩
  | 60 => ⟨S3x128, .f32⟩
  | 61 => ⟨S_, .i32⟩
  | 62 => ⟨S1, .i32⟩
  | 63 => ⟨S_, .i32⟩
  | 64 => ⟨S1, .i32⟩
  | 65 => ⟨S2, .i32⟩
  | 66 => ⟨S4x4x3x128, .f32⟩
  | 67 => ⟨S1x1x3x128, .f32⟩
  | 68 => ⟨S3x128, .f32⟩
  | 69 => ⟨S_, .i32⟩
  | 70 => ⟨S1, .i32⟩
  | 71 => ⟨S_, .i32⟩
  | 72 => ⟨S1, .i32⟩
  | 73 => ⟨S2, .i32⟩
  | 74 => ⟨S4x4x3x128, .f32⟩
  | 75 => ⟨S1x1x3x128, .f32⟩
  | 76 => ⟨S3x128, .f32⟩
  | 77 => ⟨S_, .i32⟩
  | 78 => ⟨S1, .i32⟩
  | 79 => ⟨S_, .i32⟩
  | 80 => ⟨S1, .i32⟩
  | 81 => ⟨S2, .i32⟩
  | 82 => ⟨S4x4x3x128, .f32⟩
  | 83 => ⟨S1x1x3x128, .f32⟩
  | 84 => ⟨S3x128, .f32⟩
  | 85 => ⟨S_, .i32⟩
  | 86 => ⟨S1, .i32⟩
  | 87 => ⟨S_, .i32⟩
  | 88 => ⟨S1, .i32⟩
  | 89 => ⟨S2, .i32⟩
  | 90 => ⟨S4x4x3x128, .f32⟩
  | 91 => ⟨S1x1x3x128, .f32⟩
  | 92 => ⟨S3x128, .f32⟩
  | 93 => ⟨S_, .i32⟩
  | 94 => ⟨S1, .i32⟩
  | 95 => ⟨S_, .i32⟩
  | 96 => ⟨S1, .i32⟩
  | 97 => ⟨S2, .i32⟩
  | 98 => ⟨S4x4x3x128, .f32⟩
  | 99 => ⟨S1x1x3x128, .f32⟩
  | 100 => ⟨S3x128, .f32⟩
  | 101 => ⟨S_, .i32⟩
  | 102 => ⟨S1, .i32⟩
  | 103 => ⟨S_, .i32⟩
  | 104 => ⟨S1, .i32⟩
  | 105 => ⟨S2, .i32⟩
  | 106 => ⟨S4x4x3x128, .f32⟩
  | 107 => ⟨S1x1x3x128, .f32⟩
  | 108 => ⟨S3x128, .f32⟩
  | 109 => ⟨S_, .i32⟩
  | 110 => ⟨S1, .i32⟩
  | 111 => ⟨S_, .i32⟩
  | 112 => ⟨S1, .i32⟩
  | 113 => ⟨S2, .i32⟩
  | 114 => ⟨S4x4x3x128, .f32⟩
  | 115 => ⟨S1x1x3x128, .f32⟩
  | 116 => ⟨S3x128, .f32⟩
  | 117 => ⟨S_, .i32⟩
  | 118 => ⟨S1, .i32⟩
  | 119 => ⟨S_, .i32⟩
  | 120 => ⟨S1, .i32⟩
  | 121 => ⟨S2, .i32⟩
  | 122 => ⟨S4x4x3x128, .f32⟩
  | 123 => ⟨S48x128, .f32⟩
  | 124 => ⟨S_, .f32⟩
  | 125 => ⟨S4x4x3x128, .f32⟩
  | 126 => ⟨S48x128, .f32⟩
  | 127 => ⟨S_, .f32⟩
  | _ => ⟨S16x3x224x224, .f32⟩

abbrev hbmTy0_3 (i : Nat) : BufTy := match i % 128 with
  | 0 => ⟨S4x4x3x128, .f32⟩
  | 1 => ⟨S1x1x3x128, .f32⟩
  | 2 => ⟨S3x128, .f32⟩
  | 3 => ⟨S_, .i32⟩
  | 4 => ⟨S1, .i32⟩
  | 5 => ⟨S_, .i32⟩
  | 6 => ⟨S1, .i32⟩
  | 7 => ⟨S2, .i32⟩
  | 8 => ⟨S4x4x3x128, .f32⟩
  | 9 => ⟨S1x1x3x128, .f32⟩
  | 10 => ⟨S3x128, .f32⟩
  | 11 => ⟨S_, .i32⟩
  | 12 => ⟨S1, .i32⟩
  | 13 => ⟨S_, .i32⟩
  | 14 => ⟨S1, .i32⟩
  | 15 => ⟨S2, .i32⟩
  | 16 => ⟨S4x4x3x128, .f32⟩
  | 17 => ⟨S1x1x3x128, .f32⟩
  | 18 => ⟨S3x128, .f32⟩
  | 19 => ⟨S_, .i32⟩
  | 20 => ⟨S1, .i32⟩
  | 21 => ⟨S_, .i32⟩
  | 22 => ⟨S1, .i32⟩
  | 23 => ⟨S2, .i32⟩
  | 24 => ⟨S4x4x3x128, .f32⟩
  | 25 => ⟨S1x1x3x128, .f32⟩
  | 26 => ⟨S3x128, .f32⟩
  | 27 => ⟨S_, .i32⟩
  | 28 => ⟨S1, .i32⟩
  | 29 => ⟨S_, .i32⟩
  | 30 => ⟨S1, .i32⟩
  | 31 => ⟨S2, .i32⟩
  | 32 => ⟨S4x4x3x128, .f32⟩
  | 33 => ⟨S48x128, .f32⟩
  | 34 => ⟨S48x512, .f32⟩
  | 35 => ⟨S_, .f32⟩
  | 36 => ⟨S4x4x3x128, .f32⟩
  | 37 => ⟨S48x128, .f32⟩
  | 38 => ⟨S_, .f32⟩
  | 39 => ⟨S4x4x3x128, .f32⟩
  | 40 => ⟨S48x128, .f32⟩
  | 41 => ⟨S_, .f32⟩
  | 42 => ⟨S4x4x3x128, .f32⟩
  | 43 => ⟨S1x1x3x128, .f32⟩
  | 44 => ⟨S3x128, .f32⟩
  | 45 => ⟨S_, .i32⟩
  | 46 => ⟨S1, .i32⟩
  | 47 => ⟨S_, .i32⟩
  | 48 => ⟨S1, .i32⟩
  | 49 => ⟨S2, .i32⟩
  | 50 => ⟨S4x4x3x128, .f32⟩
  | 51 => ⟨S1x1x3x128, .f32⟩
  | 52 => ⟨S3x128, .f32⟩
  | 53 => ⟨S_, .i32⟩
  | 54 => ⟨S1, .i32⟩
  | 55 => ⟨S_, .i32⟩
  | 56 => ⟨S1, .i32⟩
  | 57 => ⟨S2, .i32⟩
  | 58 => ⟨S4x4x3x128, .f32⟩
  | 59 => ⟨S1x1x3x128, .f32⟩
  | 60 => ⟨S3x128, .f32⟩
  | 61 => ⟨S_, .i32⟩
  | 62 => ⟨S1, .i32⟩
  | 63 => ⟨S_, .i32⟩
  | 64 => ⟨S1, .i32⟩
  | 65 => ⟨S2, .i32⟩
  | 66 => ⟨S4x4x3x128, .f32⟩
  | 67 => ⟨S1x1x3x128, .f32⟩
  | 68 => ⟨S3x128, .f32⟩
  | 69 => ⟨S_, .i32⟩
  | 70 => ⟨S1, .i32⟩
  | 71 => ⟨S_, .i32⟩
  | 72 => ⟨S1, .i32⟩
  | 73 => ⟨S2, .i32⟩
  | 74 => ⟨S4x4x3x128, .f32⟩
  | 75 => ⟨S1x1x3x128, .f32⟩
  | 76 => ⟨S3x128, .f32⟩
  | 77 => ⟨S_, .i32⟩
  | 78 => ⟨S1, .i32⟩
  | 79 => ⟨S_, .i32⟩
  | 80 => ⟨S1, .i32⟩
  | 81 => ⟨S2, .i32⟩
  | 82 => ⟨S4x4x3x128, .f32⟩
  | 83 => ⟨S1x1x3x128, .f32⟩
  | 84 => ⟨S3x128, .f32⟩
  | 85 => ⟨S_, .i32⟩
  | 86 => ⟨S1, .i32⟩
  | 87 => ⟨S_, .i32⟩
  | 88 => ⟨S1, .i32⟩
  | 89 => ⟨S2, .i32⟩
  | 90 => ⟨S4x4x3x128, .f32⟩
  | 91 => ⟨S1x1x3x128, .f32⟩
  | 92 => ⟨S3x128, .f32⟩
  | 93 => ⟨S_, .i32⟩
  | 94 => ⟨S1, .i32⟩
  | 95 => ⟨S_, .i32⟩
  | 96 => ⟨S1, .i32⟩
  | 97 => ⟨S2, .i32⟩
  | 98 => ⟨S4x4x3x128, .f32⟩
  | 99 => ⟨S1x1x3x128, .f32⟩
  | 100 => ⟨S3x128, .f32⟩
  | 101 => ⟨S_, .i32⟩
  | 102 => ⟨S1, .i32⟩
  | 103 => ⟨S_, .i32⟩
  | 104 => ⟨S1, .i32⟩
  | 105 => ⟨S2, .i32⟩
  | 106 => ⟨S4x4x3x128, .f32⟩
  | 107 => ⟨S48x128, .f32⟩
  | 108 => ⟨S_, .f32⟩
  | 109 => ⟨S4x4x3x128, .f32⟩
  | 110 => ⟨S1x1x3x128, .f32⟩
  | 111 => ⟨S3x128, .f32⟩
  | 112 => ⟨S_, .i32⟩
  | 113 => ⟨S1, .i32⟩
  | 114 => ⟨S_, .i32⟩
  | 115 => ⟨S1, .i32⟩
  | 116 => ⟨S2, .i32⟩
  | 117 => ⟨S4x4x3x128, .f32⟩
  | 118 => ⟨S1x1x3x128, .f32⟩
  | 119 => ⟨S3x128, .f32⟩
  | 120 => ⟨S_, .i32⟩
  | 121 => ⟨S1, .i32⟩
  | 122 => ⟨S_, .i32⟩
  | 123 => ⟨S1, .i32⟩
  | 124 => ⟨S2, .i32⟩
  | 125 => ⟨S4x4x3x128, .f32⟩
  | 126 => ⟨S1x1x3x128, .f32⟩
  | 127 => ⟨S3x128, .f32⟩
  | _ => ⟨S16x3x224x224, .f32⟩

abbrev hbmTy0_4 (i : Nat) : BufTy := match i % 128 with
  | 0 => ⟨S_, .i32⟩
  | 1 => ⟨S1, .i32⟩
  | 2 => ⟨S_, .i32⟩
  | 3 => ⟨S1, .i32⟩
  | 4 => ⟨S2, .i32⟩
  | 5 => ⟨S4x4x3x128, .f32⟩
  | 6 => ⟨S1x1x3x128, .f32⟩
  | 7 => ⟨S3x128, .f32⟩
  | 8 => ⟨S_, .i32⟩
  | 9 => ⟨S1, .i32⟩
  | 10 => ⟨S_, .i32⟩
  | 11 => ⟨S1, .i32⟩
  | 12 => ⟨S2, .i32⟩
  | 13 => ⟨S4x4x3x128, .f32⟩
  | 14 => ⟨S48x128, .f32⟩
  | 15 => ⟨S48x512, .f32⟩
  | 16 => ⟨S_, .f32⟩
  | 17 => ⟨S4x4x3x128, .f32⟩
  | 18 => ⟨S48x128, .f32⟩
  | 19 => ⟨S_, .f32⟩
  | 20 => ⟨S4x4x3x128, .f32⟩
  | 21 => ⟨S48x128, .f32⟩
  | 22 => ⟨S_, .f32⟩
  | 23 => ⟨S4x4x3x128, .f32⟩
  | 24 => ⟨S48x128, .f32⟩
  | 25 => ⟨S_, .f32⟩
  | 26 => ⟨S4x4x3x128, .f32⟩
  | 27 => ⟨S1x1x3x128, .f32⟩
  | 28 => ⟨S3x128, .f32⟩
  | 29 => ⟨S_, .i32⟩
  | 30 => ⟨S1, .i32⟩
  | 31 => ⟨S_, .i32⟩
  | 32 => ⟨S1, .i32⟩
  | 33 => ⟨S2, .i32⟩
  | 34 => ⟨S4x4x3x128, .f32⟩
  | 35 => ⟨S1x1x3x128, .f32⟩
  | 36 => ⟨S3x128, .f32⟩
  | 37 => ⟨S_, .i32⟩
  | 38 => ⟨S1, .i32⟩
  | 39 => ⟨S_, .i32⟩
  | 40 => ⟨S1, .i32⟩
  | 41 => ⟨S2, .i32⟩
  | 42 => ⟨S4x4x3x128, .f32⟩
  | 43 => ⟨S1x1x3x128, .f32⟩
  | 44 => ⟨S3x128, .f32⟩
  | 45 => ⟨S_, .i32⟩
  | 46 => ⟨S1, .i32⟩
  | 47 => ⟨S_, .i32⟩
  | 48 => ⟨S1, .i32⟩
  | 49 => ⟨S2, .i32⟩
  | 50 => ⟨S4x4x3x128, .f32⟩
  | 51 => ⟨S1x1x3x128, .f32⟩
  | 52 => ⟨S3x128, .f32⟩
  | 53 => ⟨S_, .i32⟩
  | 54 => ⟨S1, .i32⟩
  | 55 => ⟨S_, .i32⟩
  | 56 => ⟨S1, .i32⟩
  | 57 => ⟨S2, .i32⟩
  | 58 => ⟨S4x4x3x128, .f32⟩
  | 59 => ⟨S48x128, .f32⟩
  | 60 => ⟨S48x512, .f32⟩
  | 61 => ⟨S1x48x512, .f32⟩
  | 62 => ⟨S1x48x512, .f32⟩
  | 63 => ⟨S1x48x512, .f32⟩
  | 64 => ⟨S1x48x512, .f32⟩
  | 65 => ⟨S4x48x512, .f32⟩
  | 66 => ⟨S4x4x128x128, .f32⟩
  | 67 => ⟨S1x1x128x128, .f32⟩
  | 68 => ⟨S128x128, .f32⟩
  | 69 => ⟨S1x1x128x128, .f32⟩
  | 70 => ⟨S128x128, .f32⟩
  | 71 => ⟨S1x1x128x128, .f32⟩
  | 72 => ⟨S128x128, .f32⟩
  | 73 => ⟨S1x1x128x128, .f32⟩
  | 74 => ⟨S128x128, .f32⟩
  | 75 => ⟨S1x1x128x128, .f32⟩
  | 76 => ⟨S128x128, .f32⟩
  | 77 => ⟨S1x1x128x128, .f32⟩
  | 78 => ⟨S128x128, .f32⟩
  | 79 => ⟨S1x1x128x128, .f32⟩
  | 80 => ⟨S128x128, .f32⟩
  | 81 => ⟨S1x1x128x128, .f32⟩
  | 82 => ⟨S128x128, .f32⟩
  | 83 => ⟨S1x1x128x128, .f32⟩
  | 84 => ⟨S128x128, .f32⟩
  | 85 => ⟨S1x1x128x128, .f32⟩
  | 86 => ⟨S128x128, .f32⟩
  | 87 => ⟨S1x1x128x128, .f32⟩
  | 88 => ⟨S128x128, .f32⟩
  | 89 => ⟨S1x1x128x128, .f32⟩
  | 90 => ⟨S128x128, .f32⟩
  | 91 => ⟨S1x1x128x128, .f32⟩
  | 92 => ⟨S128x128, .f32⟩
  | 93 => ⟨S1x1x128x128, .f32⟩
  | 94 => ⟨S128x128, .f32⟩
  | 95 => ⟨S1x1x128x128, .f32⟩
  | 96 => ⟨S128x128, .f32⟩
  | 97 => ⟨S1x1x128x128, .f32⟩
  | 98 => ⟨S128x128, .f32⟩
  | 99 => ⟨S1x128x128, .f32⟩
  | 100 => ⟨S1x128x128, .f32⟩
  | 101 => ⟨S1x128x128, .f32⟩
  | 102 => ⟨S1x128x128, .f32⟩
  | 103 => ⟨S1x128x128, .f32⟩
  | 104 => ⟨S1x128x128, .f32⟩
  | 105 => ⟨S1x128x128, .f32⟩
  | 106 => ⟨S1x128x128, .f32⟩
  | 107 => ⟨S1x128x128, .f32⟩
  | 108 => ⟨S1x128x128, .f32⟩
  | 109 => ⟨S1x128x128, .f32⟩
  | 110 => ⟨S1x128x128, .f32⟩
  | 111 => ⟨S1x128x128, .f32⟩
  | 112 => ⟨S1x128x128, .f32⟩
  | 113 => ⟨S1x128x128, .f32⟩
  | 114 => ⟨S1x128x128, .f32⟩
  | 115 => ⟨S16x128x128, .f32⟩
  | 116 => ⟨S3x3x128x32, .f32⟩
  | 117 => ⟨S9x128x32, .f32⟩
  | 118 => ⟨S1x128, .f32⟩
  | 119 => ⟨S4x128, .f32⟩
  | 120 => ⟨S512, .f32⟩
  | 121 => ⟨S1x512, .f32⟩
  | 122 => ⟨S1x128, .f32⟩
  | 123 => ⟨S1x32, .f32⟩
  | 124 => ⟨S16x224x224x3, .f32⟩
  | 125 => ⟨S_, .i32⟩
  | 126 => ⟨S_, .f32⟩
  | 127 => ⟨S16x228x228x3, .f32⟩
  | _ => ⟨S16x3x224x224, .f32⟩

abbrev hbmTy0_5 (i : Nat) : BufTy := match i % 128 with
  | 0 => ⟨S16x57x4x57x4x3, .f32⟩
  | 1 => ⟨S16x57x57x4x4x3, .f32⟩
  | 2 => ⟨S16x57x57x48, .f32⟩
  | 3 => ⟨S_, .i32⟩
  | 4 => ⟨S_, .f32⟩
  | 5 => ⟨S16x57x64x48, .f32⟩
  | 6 => ⟨S32x1024, .f32⟩
  | 7 => ⟨S16x3136x1, .i32⟩
  | 8 => ⟨S1x1, .f32⟩
  | 9 => ⟨S50176, .i32⟩
  | 10 => ⟨S_, .f32⟩
  | _ => ⟨S16x3x224x224, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S16x3x224x224, .f32⟩

abbrev bufTy : (tb : Table) → Fin (tcTables nBuf tb) → BufTy
  | .hbm, ⟨i, _⟩ => hbmTy i
  | .local _ .vmem, ⟨0, _⟩ => ⟨S1x57x64x48, .f32⟩
  | .local _ .vmem, ⟨1, _⟩ => ⟨S1x57x64x48, .f32⟩
  | .local _ .vmem, ⟨2, _⟩ => ⟨S4x48x512, .f32⟩
  | .local _ .vmem, ⟨3, _⟩ => ⟨S1x512, .f32⟩
  | .local _ .vmem, ⟨4, _⟩ => ⟨S16x128x128, .f32⟩
  | .local _ .vmem, ⟨5, _⟩ => ⟨S1x128, .f32⟩
  | .local _ .vmem, ⟨6, _⟩ => ⟨S9x128x32, .f32⟩
  | .local _ .vmem, ⟨7, _⟩ => ⟨S1x32, .f32⟩
  | .local _ .vmem, ⟨8, _⟩ => ⟨S32x1024, .f32⟩
  | .local _ .vmem, ⟨9, _⟩ => ⟨S1x3136x1, .i32⟩
  | .local _ .vmem, ⟨10, _⟩ => ⟨S1x3136x1, .i32⟩
  | .local _ .vmem, ⟨11, _⟩ => ⟨S1x1, .f32⟩
  | .local _ .vmem, ⟨12, _⟩ => ⟨S2x2x58x64x128, .f32⟩
  | .local _ .vmem, ⟨13, _⟩ => ⟨S58x64x128, .f32⟩
  | _, _ => ⟨S16x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_c_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_7 : Ref sig .tc := ⟨.hbm, 45, rfl⟩
abbrev main_v28 : Ref sig .tc := ⟨.hbm, 46, rfl⟩
abbrev main_c_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_9 : Ref sig .tc := ⟨.hbm, 53, rfl⟩
abbrev main_v34 : Ref sig .tc := ⟨.hbm, 54, rfl⟩
abbrev main_c_10 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_11 : Ref sig .tc := ⟨.hbm, 61, rfl⟩
abbrev main_v40 : Ref sig .tc := ⟨.hbm, 62, rfl⟩
abbrev main_c_12 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_13 : Ref sig .tc := ⟨.hbm, 69, rfl⟩
abbrev main_v46 : Ref sig .tc := ⟨.hbm, 70, rfl⟩
abbrev main_c_14 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_15 : Ref sig .tc := ⟨.hbm, 77, rfl⟩
abbrev main_v52 : Ref sig .tc := ⟨.hbm, 78, rfl⟩
abbrev main_c_16 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_c_17 : Ref sig .tc := ⟨.hbm, 85, rfl⟩
abbrev main_v58 : Ref sig .tc := ⟨.hbm, 86, rfl⟩
abbrev main_c_18 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_19 : Ref sig .tc := ⟨.hbm, 93, rfl⟩
abbrev main_v64 : Ref sig .tc := ⟨.hbm, 94, rfl⟩
abbrev main_c_20 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_21 : Ref sig .tc := ⟨.hbm, 101, rfl⟩
abbrev main_v70 : Ref sig .tc := ⟨.hbm, 102, rfl⟩
abbrev main_c_22 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_23 : Ref sig .tc := ⟨.hbm, 109, rfl⟩
abbrev main_v76 : Ref sig .tc := ⟨.hbm, 110, rfl⟩
abbrev main_c_24 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_c_25 : Ref sig .tc := ⟨.hbm, 117, rfl⟩
abbrev main_v82 : Ref sig .tc := ⟨.hbm, 118, rfl⟩
abbrev main_c_26 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_c_27 : Ref sig .tc := ⟨.hbm, 125, rfl⟩
abbrev main_v88 : Ref sig .tc := ⟨.hbm, 126, rfl⟩
abbrev main_c_28 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_c_29 : Ref sig .tc := ⟨.hbm, 133, rfl⟩
abbrev main_v94 : Ref sig .tc := ⟨.hbm, 134, rfl⟩
abbrev main_c_30 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_31 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_c_32 : Ref sig .tc := ⟨.hbm, 144, rfl⟩
abbrev main_v102 : Ref sig .tc := ⟨.hbm, 145, rfl⟩
abbrev main_c_33 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_c_34 : Ref sig .tc := ⟨.hbm, 152, rfl⟩
abbrev main_v108 : Ref sig .tc := ⟨.hbm, 153, rfl⟩
abbrev main_c_35 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_c_36 : Ref sig .tc := ⟨.hbm, 160, rfl⟩
abbrev main_v114 : Ref sig .tc := ⟨.hbm, 161, rfl⟩
abbrev main_c_37 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_c_38 : Ref sig .tc := ⟨.hbm, 168, rfl⟩
abbrev main_v120 : Ref sig .tc := ⟨.hbm, 169, rfl⟩
abbrev main_c_39 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_c_40 : Ref sig .tc := ⟨.hbm, 176, rfl⟩
abbrev main_v126 : Ref sig .tc := ⟨.hbm, 177, rfl⟩
abbrev main_c_41 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_c_42 : Ref sig .tc := ⟨.hbm, 184, rfl⟩
abbrev main_v132 : Ref sig .tc := ⟨.hbm, 185, rfl⟩
abbrev main_c_43 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_c_44 : Ref sig .tc := ⟨.hbm, 192, rfl⟩
abbrev main_v138 : Ref sig .tc := ⟨.hbm, 193, rfl⟩
abbrev main_c_45 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_c_46 : Ref sig .tc := ⟨.hbm, 200, rfl⟩
abbrev main_v144 : Ref sig .tc := ⟨.hbm, 201, rfl⟩
abbrev main_c_47 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_cst_48 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_c_49 : Ref sig .tc := ⟨.hbm, 211, rfl⟩
abbrev main_v152 : Ref sig .tc := ⟨.hbm, 212, rfl⟩
abbrev main_c_50 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_c_51 : Ref sig .tc := ⟨.hbm, 219, rfl⟩
abbrev main_v158 : Ref sig .tc := ⟨.hbm, 220, rfl⟩
abbrev main_c_52 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_c_53 : Ref sig .tc := ⟨.hbm, 227, rfl⟩
abbrev main_v164 : Ref sig .tc := ⟨.hbm, 228, rfl⟩
abbrev main_c_54 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_c_55 : Ref sig .tc := ⟨.hbm, 235, rfl⟩
abbrev main_v170 : Ref sig .tc := ⟨.hbm, 236, rfl⟩
abbrev main_c_56 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_c_57 : Ref sig .tc := ⟨.hbm, 243, rfl⟩
abbrev main_v176 : Ref sig .tc := ⟨.hbm, 244, rfl⟩
abbrev main_c_58 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_v181 : Ref sig .tc := ⟨.hbm, 250, rfl⟩
abbrev main_c_59 : Ref sig .tc := ⟨.hbm, 251, rfl⟩
abbrev main_v182 : Ref sig .tc := ⟨.hbm, 252, rfl⟩
abbrev main_c_60 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_v187 : Ref sig .tc := ⟨.hbm, 258, rfl⟩
abbrev main_c_61 : Ref sig .tc := ⟨.hbm, 259, rfl⟩
abbrev main_v188 : Ref sig .tc := ⟨.hbm, 260, rfl⟩
abbrev main_c_62 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_c_63 : Ref sig .tc := ⟨.hbm, 267, rfl⟩
abbrev main_v194 : Ref sig .tc := ⟨.hbm, 268, rfl⟩
abbrev main_c_64 : Ref sig .tc := ⟨.hbm, 269, rfl⟩
abbrev main_v195 : Ref sig .tc := ⟨.hbm, 270, rfl⟩
abbrev main_v196 : Ref sig .tc := ⟨.hbm, 271, rfl⟩
abbrev main_v197 : Ref sig .tc := ⟨.hbm, 272, rfl⟩
abbrev main_v198 : Ref sig .tc := ⟨.hbm, 273, rfl⟩
abbrev main_cst_65 : Ref sig .tc := ⟨.hbm, 274, rfl⟩
abbrev main_v199 : Ref sig .tc := ⟨.hbm, 275, rfl⟩
abbrev main_v200 : Ref sig .tc := ⟨.hbm, 276, rfl⟩
abbrev main_v201 : Ref sig .tc := ⟨.hbm, 277, rfl⟩
abbrev main_c_66 : Ref sig .tc := ⟨.hbm, 278, rfl⟩
abbrev main_v202 : Ref sig .tc := ⟨.hbm, 279, rfl⟩
abbrev main_c_67 : Ref sig .tc := ⟨.hbm, 280, rfl⟩
abbrev main_v203 : Ref sig .tc := ⟨.hbm, 281, rfl⟩
abbrev main_v204 : Ref sig .tc := ⟨.hbm, 282, rfl⟩
abbrev main_v205 : Ref sig .tc := ⟨.hbm, 283, rfl⟩
abbrev main_v206 : Ref sig .tc := ⟨.hbm, 284, rfl⟩
abbrev main_v207 : Ref sig .tc := ⟨.hbm, 285, rfl⟩
abbrev main_c_68 : Ref sig .tc := ⟨.hbm, 286, rfl⟩
abbrev main_v208 : Ref sig .tc := ⟨.hbm, 287, rfl⟩
abbrev main_c_69 : Ref sig .tc := ⟨.hbm, 288, rfl⟩
abbrev main_v209 : Ref sig .tc := ⟨.hbm, 289, rfl⟩
abbrev main_v210 : Ref sig .tc := ⟨.hbm, 290, rfl⟩
abbrev main_v211 : Ref sig .tc := ⟨.hbm, 291, rfl⟩
abbrev main_v212 : Ref sig .tc := ⟨.hbm, 292, rfl⟩
abbrev main_v213 : Ref sig .tc := ⟨.hbm, 293, rfl⟩
abbrev main_c_70 : Ref sig .tc := ⟨.hbm, 294, rfl⟩
abbrev main_v214 : Ref sig .tc := ⟨.hbm, 295, rfl⟩
abbrev main_c_71 : Ref sig .tc := ⟨.hbm, 296, rfl⟩
abbrev main_v215 : Ref sig .tc := ⟨.hbm, 297, rfl⟩
abbrev main_v216 : Ref sig .tc := ⟨.hbm, 298, rfl⟩
abbrev main_v217 : Ref sig .tc := ⟨.hbm, 299, rfl⟩
abbrev main_v218 : Ref sig .tc := ⟨.hbm, 300, rfl⟩
abbrev main_v219 : Ref sig .tc := ⟨.hbm, 301, rfl⟩
abbrev main_c_72 : Ref sig .tc := ⟨.hbm, 302, rfl⟩
abbrev main_v220 : Ref sig .tc := ⟨.hbm, 303, rfl⟩
abbrev main_c_73 : Ref sig .tc := ⟨.hbm, 304, rfl⟩
abbrev main_v221 : Ref sig .tc := ⟨.hbm, 305, rfl⟩
abbrev main_v222 : Ref sig .tc := ⟨.hbm, 306, rfl⟩
abbrev main_v223 : Ref sig .tc := ⟨.hbm, 307, rfl⟩
abbrev main_v224 : Ref sig .tc := ⟨.hbm, 308, rfl⟩
abbrev main_v225 : Ref sig .tc := ⟨.hbm, 309, rfl⟩
abbrev main_cst_74 : Ref sig .tc := ⟨.hbm, 310, rfl⟩
abbrev main_v226 : Ref sig .tc := ⟨.hbm, 311, rfl⟩
abbrev main_v227 : Ref sig .tc := ⟨.hbm, 312, rfl⟩
abbrev main_cst_75 : Ref sig .tc := ⟨.hbm, 313, rfl⟩
abbrev main_v228 : Ref sig .tc := ⟨.hbm, 314, rfl⟩
abbrev main_v229 : Ref sig .tc := ⟨.hbm, 315, rfl⟩
abbrev main_v230 : Ref sig .tc := ⟨.hbm, 316, rfl⟩
abbrev main_c_76 : Ref sig .tc := ⟨.hbm, 317, rfl⟩
abbrev main_v231 : Ref sig .tc := ⟨.hbm, 318, rfl⟩
abbrev main_c_77 : Ref sig .tc := ⟨.hbm, 319, rfl⟩
abbrev main_v232 : Ref sig .tc := ⟨.hbm, 320, rfl⟩
abbrev main_v233 : Ref sig .tc := ⟨.hbm, 321, rfl⟩
abbrev main_v234 : Ref sig .tc := ⟨.hbm, 322, rfl⟩
abbrev main_v235 : Ref sig .tc := ⟨.hbm, 323, rfl⟩
abbrev main_v236 : Ref sig .tc := ⟨.hbm, 324, rfl⟩
abbrev main_c_78 : Ref sig .tc := ⟨.hbm, 325, rfl⟩
abbrev main_v237 : Ref sig .tc := ⟨.hbm, 326, rfl⟩
abbrev main_c_79 : Ref sig .tc := ⟨.hbm, 327, rfl⟩
abbrev main_v238 : Ref sig .tc := ⟨.hbm, 328, rfl⟩
abbrev main_v239 : Ref sig .tc := ⟨.hbm, 329, rfl⟩
abbrev main_v240 : Ref sig .tc := ⟨.hbm, 330, rfl⟩
abbrev main_v241 : Ref sig .tc := ⟨.hbm, 331, rfl⟩
abbrev main_v242 : Ref sig .tc := ⟨.hbm, 332, rfl⟩
abbrev main_c_80 : Ref sig .tc := ⟨.hbm, 333, rfl⟩
abbrev main_v243 : Ref sig .tc := ⟨.hbm, 334, rfl⟩
abbrev main_c_81 : Ref sig .tc := ⟨.hbm, 335, rfl⟩
abbrev main_v244 : Ref sig .tc := ⟨.hbm, 336, rfl⟩
abbrev main_v245 : Ref sig .tc := ⟨.hbm, 337, rfl⟩
abbrev main_v246 : Ref sig .tc := ⟨.hbm, 338, rfl⟩
abbrev main_v247 : Ref sig .tc := ⟨.hbm, 339, rfl⟩
abbrev main_v248 : Ref sig .tc := ⟨.hbm, 340, rfl⟩
abbrev main_c_82 : Ref sig .tc := ⟨.hbm, 341, rfl⟩
abbrev main_v249 : Ref sig .tc := ⟨.hbm, 342, rfl⟩
abbrev main_c_83 : Ref sig .tc := ⟨.hbm, 343, rfl⟩
abbrev main_v250 : Ref sig .tc := ⟨.hbm, 344, rfl⟩
abbrev main_v251 : Ref sig .tc := ⟨.hbm, 345, rfl⟩
abbrev main_v252 : Ref sig .tc := ⟨.hbm, 346, rfl⟩
abbrev main_v253 : Ref sig .tc := ⟨.hbm, 347, rfl⟩
abbrev main_v254 : Ref sig .tc := ⟨.hbm, 348, rfl⟩
abbrev main_c_84 : Ref sig .tc := ⟨.hbm, 349, rfl⟩
abbrev main_v255 : Ref sig .tc := ⟨.hbm, 350, rfl⟩
abbrev main_c_85 : Ref sig .tc := ⟨.hbm, 351, rfl⟩
abbrev main_v256 : Ref sig .tc := ⟨.hbm, 352, rfl⟩
abbrev main_v257 : Ref sig .tc := ⟨.hbm, 353, rfl⟩
abbrev main_v258 : Ref sig .tc := ⟨.hbm, 354, rfl⟩
abbrev main_v259 : Ref sig .tc := ⟨.hbm, 355, rfl⟩
abbrev main_v260 : Ref sig .tc := ⟨.hbm, 356, rfl⟩
abbrev main_c_86 : Ref sig .tc := ⟨.hbm, 357, rfl⟩
abbrev main_v261 : Ref sig .tc := ⟨.hbm, 358, rfl⟩
abbrev main_c_87 : Ref sig .tc := ⟨.hbm, 359, rfl⟩
abbrev main_v262 : Ref sig .tc := ⟨.hbm, 360, rfl⟩
abbrev main_v263 : Ref sig .tc := ⟨.hbm, 361, rfl⟩
abbrev main_v264 : Ref sig .tc := ⟨.hbm, 362, rfl⟩
abbrev main_v265 : Ref sig .tc := ⟨.hbm, 363, rfl⟩
abbrev main_v266 : Ref sig .tc := ⟨.hbm, 364, rfl⟩
abbrev main_c_88 : Ref sig .tc := ⟨.hbm, 365, rfl⟩
abbrev main_v267 : Ref sig .tc := ⟨.hbm, 366, rfl⟩
abbrev main_c_89 : Ref sig .tc := ⟨.hbm, 367, rfl⟩
abbrev main_v268 : Ref sig .tc := ⟨.hbm, 368, rfl⟩
abbrev main_v269 : Ref sig .tc := ⟨.hbm, 369, rfl⟩
abbrev main_v270 : Ref sig .tc := ⟨.hbm, 370, rfl⟩
abbrev main_v271 : Ref sig .tc := ⟨.hbm, 371, rfl⟩
abbrev main_v272 : Ref sig .tc := ⟨.hbm, 372, rfl⟩
abbrev main_c_90 : Ref sig .tc := ⟨.hbm, 373, rfl⟩
abbrev main_v273 : Ref sig .tc := ⟨.hbm, 374, rfl⟩
abbrev main_c_91 : Ref sig .tc := ⟨.hbm, 375, rfl⟩
abbrev main_v274 : Ref sig .tc := ⟨.hbm, 376, rfl⟩
abbrev main_v275 : Ref sig .tc := ⟨.hbm, 377, rfl⟩
abbrev main_v276 : Ref sig .tc := ⟨.hbm, 378, rfl⟩
abbrev main_v277 : Ref sig .tc := ⟨.hbm, 379, rfl⟩
abbrev main_cst_92 : Ref sig .tc := ⟨.hbm, 380, rfl⟩
abbrev main_v278 : Ref sig .tc := ⟨.hbm, 381, rfl⟩
abbrev main_v279 : Ref sig .tc := ⟨.hbm, 382, rfl⟩
abbrev main_cst_93 : Ref sig .tc := ⟨.hbm, 383, rfl⟩
abbrev main_v280 : Ref sig .tc := ⟨.hbm, 384, rfl⟩
abbrev main_v281 : Ref sig .tc := ⟨.hbm, 385, rfl⟩
abbrev main_v282 : Ref sig .tc := ⟨.hbm, 386, rfl⟩
abbrev main_c_94 : Ref sig .tc := ⟨.hbm, 387, rfl⟩
abbrev main_v283 : Ref sig .tc := ⟨.hbm, 388, rfl⟩
abbrev main_c_95 : Ref sig .tc := ⟨.hbm, 389, rfl⟩
abbrev main_v284 : Ref sig .tc := ⟨.hbm, 390, rfl⟩
abbrev main_v285 : Ref sig .tc := ⟨.hbm, 391, rfl⟩
abbrev main_v286 : Ref sig .tc := ⟨.hbm, 392, rfl⟩
abbrev main_v287 : Ref sig .tc := ⟨.hbm, 393, rfl⟩
abbrev main_v288 : Ref sig .tc := ⟨.hbm, 394, rfl⟩
abbrev main_c_96 : Ref sig .tc := ⟨.hbm, 395, rfl⟩
abbrev main_v289 : Ref sig .tc := ⟨.hbm, 396, rfl⟩
abbrev main_c_97 : Ref sig .tc := ⟨.hbm, 397, rfl⟩
abbrev main_v290 : Ref sig .tc := ⟨.hbm, 398, rfl⟩
abbrev main_v291 : Ref sig .tc := ⟨.hbm, 399, rfl⟩
abbrev main_v292 : Ref sig .tc := ⟨.hbm, 400, rfl⟩
abbrev main_v293 : Ref sig .tc := ⟨.hbm, 401, rfl⟩
abbrev main_v294 : Ref sig .tc := ⟨.hbm, 402, rfl⟩
abbrev main_c_98 : Ref sig .tc := ⟨.hbm, 403, rfl⟩
abbrev main_v295 : Ref sig .tc := ⟨.hbm, 404, rfl⟩
abbrev main_c_99 : Ref sig .tc := ⟨.hbm, 405, rfl⟩
abbrev main_v296 : Ref sig .tc := ⟨.hbm, 406, rfl⟩
abbrev main_v297 : Ref sig .tc := ⟨.hbm, 407, rfl⟩
abbrev main_v298 : Ref sig .tc := ⟨.hbm, 408, rfl⟩
abbrev main_v299 : Ref sig .tc := ⟨.hbm, 409, rfl⟩
abbrev main_v300 : Ref sig .tc := ⟨.hbm, 410, rfl⟩
abbrev main_c_100 : Ref sig .tc := ⟨.hbm, 411, rfl⟩
abbrev main_v301 : Ref sig .tc := ⟨.hbm, 412, rfl⟩
abbrev main_c_101 : Ref sig .tc := ⟨.hbm, 413, rfl⟩
abbrev main_v302 : Ref sig .tc := ⟨.hbm, 414, rfl⟩
abbrev main_v303 : Ref sig .tc := ⟨.hbm, 415, rfl⟩
abbrev main_v304 : Ref sig .tc := ⟨.hbm, 416, rfl⟩
abbrev main_v305 : Ref sig .tc := ⟨.hbm, 417, rfl⟩
abbrev main_v306 : Ref sig .tc := ⟨.hbm, 418, rfl⟩
abbrev main_cst_102 : Ref sig .tc := ⟨.hbm, 419, rfl⟩
abbrev main_v307 : Ref sig .tc := ⟨.hbm, 420, rfl⟩
abbrev main_v308 : Ref sig .tc := ⟨.hbm, 421, rfl⟩
abbrev main_cst_103 : Ref sig .tc := ⟨.hbm, 422, rfl⟩
abbrev main_v309 : Ref sig .tc := ⟨.hbm, 423, rfl⟩
abbrev main_v310 : Ref sig .tc := ⟨.hbm, 424, rfl⟩
abbrev main_cst_104 : Ref sig .tc := ⟨.hbm, 425, rfl⟩
abbrev main_v311 : Ref sig .tc := ⟨.hbm, 426, rfl⟩
abbrev main_v312 : Ref sig .tc := ⟨.hbm, 427, rfl⟩
abbrev main_v313 : Ref sig .tc := ⟨.hbm, 428, rfl⟩
abbrev main_c_105 : Ref sig .tc := ⟨.hbm, 429, rfl⟩
abbrev main_v314 : Ref sig .tc := ⟨.hbm, 430, rfl⟩
abbrev main_c_106 : Ref sig .tc := ⟨.hbm, 431, rfl⟩
abbrev main_v315 : Ref sig .tc := ⟨.hbm, 432, rfl⟩
abbrev main_v316 : Ref sig .tc := ⟨.hbm, 433, rfl⟩
abbrev main_v317 : Ref sig .tc := ⟨.hbm, 434, rfl⟩
abbrev main_v318 : Ref sig .tc := ⟨.hbm, 435, rfl⟩
abbrev main_v319 : Ref sig .tc := ⟨.hbm, 436, rfl⟩
abbrev main_c_107 : Ref sig .tc := ⟨.hbm, 437, rfl⟩
abbrev main_v320 : Ref sig .tc := ⟨.hbm, 438, rfl⟩
abbrev main_c_108 : Ref sig .tc := ⟨.hbm, 439, rfl⟩
abbrev main_v321 : Ref sig .tc := ⟨.hbm, 440, rfl⟩
abbrev main_v322 : Ref sig .tc := ⟨.hbm, 441, rfl⟩
abbrev main_v323 : Ref sig .tc := ⟨.hbm, 442, rfl⟩
abbrev main_v324 : Ref sig .tc := ⟨.hbm, 443, rfl⟩
abbrev main_v325 : Ref sig .tc := ⟨.hbm, 444, rfl⟩
abbrev main_c_109 : Ref sig .tc := ⟨.hbm, 445, rfl⟩
abbrev main_v326 : Ref sig .tc := ⟨.hbm, 446, rfl⟩
abbrev main_c_110 : Ref sig .tc := ⟨.hbm, 447, rfl⟩
abbrev main_v327 : Ref sig .tc := ⟨.hbm, 448, rfl⟩
abbrev main_v328 : Ref sig .tc := ⟨.hbm, 449, rfl⟩
abbrev main_v329 : Ref sig .tc := ⟨.hbm, 450, rfl⟩
abbrev main_v330 : Ref sig .tc := ⟨.hbm, 451, rfl⟩
abbrev main_v331 : Ref sig .tc := ⟨.hbm, 452, rfl⟩
abbrev main_c_111 : Ref sig .tc := ⟨.hbm, 453, rfl⟩
abbrev main_v332 : Ref sig .tc := ⟨.hbm, 454, rfl⟩
abbrev main_c_112 : Ref sig .tc := ⟨.hbm, 455, rfl⟩
abbrev main_v333 : Ref sig .tc := ⟨.hbm, 456, rfl⟩
abbrev main_v334 : Ref sig .tc := ⟨.hbm, 457, rfl⟩
abbrev main_v335 : Ref sig .tc := ⟨.hbm, 458, rfl⟩
abbrev main_v336 : Ref sig .tc := ⟨.hbm, 459, rfl⟩
abbrev main_v337 : Ref sig .tc := ⟨.hbm, 460, rfl⟩
abbrev main_c_113 : Ref sig .tc := ⟨.hbm, 461, rfl⟩
abbrev main_v338 : Ref sig .tc := ⟨.hbm, 462, rfl⟩
abbrev main_c_114 : Ref sig .tc := ⟨.hbm, 463, rfl⟩
abbrev main_v339 : Ref sig .tc := ⟨.hbm, 464, rfl⟩
abbrev main_v340 : Ref sig .tc := ⟨.hbm, 465, rfl⟩
abbrev main_v341 : Ref sig .tc := ⟨.hbm, 466, rfl⟩
abbrev main_v342 : Ref sig .tc := ⟨.hbm, 467, rfl⟩
abbrev main_v343 : Ref sig .tc := ⟨.hbm, 468, rfl⟩
abbrev main_c_115 : Ref sig .tc := ⟨.hbm, 469, rfl⟩
abbrev main_v344 : Ref sig .tc := ⟨.hbm, 470, rfl⟩
abbrev main_c_116 : Ref sig .tc := ⟨.hbm, 471, rfl⟩
abbrev main_v345 : Ref sig .tc := ⟨.hbm, 472, rfl⟩
abbrev main_v346 : Ref sig .tc := ⟨.hbm, 473, rfl⟩
abbrev main_v347 : Ref sig .tc := ⟨.hbm, 474, rfl⟩
abbrev main_v348 : Ref sig .tc := ⟨.hbm, 475, rfl⟩
abbrev main_v349 : Ref sig .tc := ⟨.hbm, 476, rfl⟩
abbrev main_c_117 : Ref sig .tc := ⟨.hbm, 477, rfl⟩
abbrev main_v350 : Ref sig .tc := ⟨.hbm, 478, rfl⟩
abbrev main_c_118 : Ref sig .tc := ⟨.hbm, 479, rfl⟩
abbrev main_v351 : Ref sig .tc := ⟨.hbm, 480, rfl⟩
abbrev main_v352 : Ref sig .tc := ⟨.hbm, 481, rfl⟩
abbrev main_v353 : Ref sig .tc := ⟨.hbm, 482, rfl⟩
abbrev main_v354 : Ref sig .tc := ⟨.hbm, 483, rfl⟩
abbrev main_v355 : Ref sig .tc := ⟨.hbm, 484, rfl⟩
abbrev main_c_119 : Ref sig .tc := ⟨.hbm, 485, rfl⟩
abbrev main_v356 : Ref sig .tc := ⟨.hbm, 486, rfl⟩
abbrev main_c_120 : Ref sig .tc := ⟨.hbm, 487, rfl⟩
abbrev main_v357 : Ref sig .tc := ⟨.hbm, 488, rfl⟩
abbrev main_v358 : Ref sig .tc := ⟨.hbm, 489, rfl⟩
abbrev main_v359 : Ref sig .tc := ⟨.hbm, 490, rfl⟩
abbrev main_v360 : Ref sig .tc := ⟨.hbm, 491, rfl⟩
abbrev main_cst_121 : Ref sig .tc := ⟨.hbm, 492, rfl⟩
abbrev main_v361 : Ref sig .tc := ⟨.hbm, 493, rfl⟩
abbrev main_v362 : Ref sig .tc := ⟨.hbm, 494, rfl⟩
abbrev main_v363 : Ref sig .tc := ⟨.hbm, 495, rfl⟩
abbrev main_c_122 : Ref sig .tc := ⟨.hbm, 496, rfl⟩
abbrev main_v364 : Ref sig .tc := ⟨.hbm, 497, rfl⟩
abbrev main_c_123 : Ref sig .tc := ⟨.hbm, 498, rfl⟩
abbrev main_v365 : Ref sig .tc := ⟨.hbm, 499, rfl⟩
abbrev main_v366 : Ref sig .tc := ⟨.hbm, 500, rfl⟩
abbrev main_v367 : Ref sig .tc := ⟨.hbm, 501, rfl⟩
abbrev main_v368 : Ref sig .tc := ⟨.hbm, 502, rfl⟩
abbrev main_v369 : Ref sig .tc := ⟨.hbm, 503, rfl⟩
abbrev main_c_124 : Ref sig .tc := ⟨.hbm, 504, rfl⟩
abbrev main_v370 : Ref sig .tc := ⟨.hbm, 505, rfl⟩
abbrev main_c_125 : Ref sig .tc := ⟨.hbm, 506, rfl⟩
abbrev main_v371 : Ref sig .tc := ⟨.hbm, 507, rfl⟩
abbrev main_v372 : Ref sig .tc := ⟨.hbm, 508, rfl⟩
abbrev main_v373 : Ref sig .tc := ⟨.hbm, 509, rfl⟩
abbrev main_v374 : Ref sig .tc := ⟨.hbm, 510, rfl⟩
abbrev main_v375 : Ref sig .tc := ⟨.hbm, 511, rfl⟩
abbrev main_c_126 : Ref sig .tc := ⟨.hbm, 512, rfl⟩
abbrev main_v376 : Ref sig .tc := ⟨.hbm, 513, rfl⟩
abbrev main_c_127 : Ref sig .tc := ⟨.hbm, 514, rfl⟩
abbrev main_v377 : Ref sig .tc := ⟨.hbm, 515, rfl⟩
abbrev main_v378 : Ref sig .tc := ⟨.hbm, 516, rfl⟩
abbrev main_v379 : Ref sig .tc := ⟨.hbm, 517, rfl⟩
abbrev main_v380 : Ref sig .tc := ⟨.hbm, 518, rfl⟩
abbrev main_v381 : Ref sig .tc := ⟨.hbm, 519, rfl⟩
abbrev main_c_128 : Ref sig .tc := ⟨.hbm, 520, rfl⟩
abbrev main_v382 : Ref sig .tc := ⟨.hbm, 521, rfl⟩
abbrev main_c_129 : Ref sig .tc := ⟨.hbm, 522, rfl⟩
abbrev main_v383 : Ref sig .tc := ⟨.hbm, 523, rfl⟩
abbrev main_v384 : Ref sig .tc := ⟨.hbm, 524, rfl⟩
abbrev main_v385 : Ref sig .tc := ⟨.hbm, 525, rfl⟩
abbrev main_v386 : Ref sig .tc := ⟨.hbm, 526, rfl⟩
abbrev main_v387 : Ref sig .tc := ⟨.hbm, 527, rfl⟩
abbrev main_cst_130 : Ref sig .tc := ⟨.hbm, 528, rfl⟩
abbrev main_v388 : Ref sig .tc := ⟨.hbm, 529, rfl⟩
abbrev main_v389 : Ref sig .tc := ⟨.hbm, 530, rfl⟩
abbrev main_cst_131 : Ref sig .tc := ⟨.hbm, 531, rfl⟩
abbrev main_v390 : Ref sig .tc := ⟨.hbm, 532, rfl⟩
abbrev main_v391 : Ref sig .tc := ⟨.hbm, 533, rfl⟩
abbrev main_cst_132 : Ref sig .tc := ⟨.hbm, 534, rfl⟩
abbrev main_v392 : Ref sig .tc := ⟨.hbm, 535, rfl⟩
abbrev main_v393 : Ref sig .tc := ⟨.hbm, 536, rfl⟩
abbrev main_cst_133 : Ref sig .tc := ⟨.hbm, 537, rfl⟩
abbrev main_v394 : Ref sig .tc := ⟨.hbm, 538, rfl⟩
abbrev main_v395 : Ref sig .tc := ⟨.hbm, 539, rfl⟩
abbrev main_v396 : Ref sig .tc := ⟨.hbm, 540, rfl⟩
abbrev main_c_134 : Ref sig .tc := ⟨.hbm, 541, rfl⟩
abbrev main_v397 : Ref sig .tc := ⟨.hbm, 542, rfl⟩
abbrev main_c_135 : Ref sig .tc := ⟨.hbm, 543, rfl⟩
abbrev main_v398 : Ref sig .tc := ⟨.hbm, 544, rfl⟩
abbrev main_v399 : Ref sig .tc := ⟨.hbm, 545, rfl⟩
abbrev main_v400 : Ref sig .tc := ⟨.hbm, 546, rfl⟩
abbrev main_v401 : Ref sig .tc := ⟨.hbm, 547, rfl⟩
abbrev main_v402 : Ref sig .tc := ⟨.hbm, 548, rfl⟩
abbrev main_c_136 : Ref sig .tc := ⟨.hbm, 549, rfl⟩
abbrev main_v403 : Ref sig .tc := ⟨.hbm, 550, rfl⟩
abbrev main_c_137 : Ref sig .tc := ⟨.hbm, 551, rfl⟩
abbrev main_v404 : Ref sig .tc := ⟨.hbm, 552, rfl⟩
abbrev main_v405 : Ref sig .tc := ⟨.hbm, 553, rfl⟩
abbrev main_v406 : Ref sig .tc := ⟨.hbm, 554, rfl⟩
abbrev main_v407 : Ref sig .tc := ⟨.hbm, 555, rfl⟩
abbrev main_v408 : Ref sig .tc := ⟨.hbm, 556, rfl⟩
abbrev main_c_138 : Ref sig .tc := ⟨.hbm, 557, rfl⟩
abbrev main_v409 : Ref sig .tc := ⟨.hbm, 558, rfl⟩
abbrev main_c_139 : Ref sig .tc := ⟨.hbm, 559, rfl⟩
abbrev main_v410 : Ref sig .tc := ⟨.hbm, 560, rfl⟩
abbrev main_v411 : Ref sig .tc := ⟨.hbm, 561, rfl⟩
abbrev main_v412 : Ref sig .tc := ⟨.hbm, 562, rfl⟩
abbrev main_v413 : Ref sig .tc := ⟨.hbm, 563, rfl⟩
abbrev main_v414 : Ref sig .tc := ⟨.hbm, 564, rfl⟩
abbrev main_c_140 : Ref sig .tc := ⟨.hbm, 565, rfl⟩
abbrev main_v415 : Ref sig .tc := ⟨.hbm, 566, rfl⟩
abbrev main_c_141 : Ref sig .tc := ⟨.hbm, 567, rfl⟩
abbrev main_v416 : Ref sig .tc := ⟨.hbm, 568, rfl⟩
abbrev main_v417 : Ref sig .tc := ⟨.hbm, 569, rfl⟩
abbrev main_v418 : Ref sig .tc := ⟨.hbm, 570, rfl⟩
abbrev main_v419 : Ref sig .tc := ⟨.hbm, 571, rfl⟩
abbrev main_v420 : Ref sig .tc := ⟨.hbm, 572, rfl⟩
abbrev main_v421 : Ref sig .tc := ⟨.hbm, 573, rfl⟩
abbrev main_v422 : Ref sig .tc := ⟨.hbm, 574, rfl⟩
abbrev main_v423 : Ref sig .tc := ⟨.hbm, 575, rfl⟩
abbrev main_v424 : Ref sig .tc := ⟨.hbm, 576, rfl⟩
abbrev main_v425 : Ref sig .tc := ⟨.hbm, 577, rfl⟩
abbrev main_v426 : Ref sig .tc := ⟨.hbm, 578, rfl⟩
abbrev main_v427 : Ref sig .tc := ⟨.hbm, 579, rfl⟩
abbrev main_v428 : Ref sig .tc := ⟨.hbm, 580, rfl⟩
abbrev main_v429 : Ref sig .tc := ⟨.hbm, 581, rfl⟩
abbrev main_v430 : Ref sig .tc := ⟨.hbm, 582, rfl⟩
abbrev main_v431 : Ref sig .tc := ⟨.hbm, 583, rfl⟩
abbrev main_v432 : Ref sig .tc := ⟨.hbm, 584, rfl⟩
abbrev main_v433 : Ref sig .tc := ⟨.hbm, 585, rfl⟩
abbrev main_v434 : Ref sig .tc := ⟨.hbm, 586, rfl⟩
abbrev main_v435 : Ref sig .tc := ⟨.hbm, 587, rfl⟩
abbrev main_v436 : Ref sig .tc := ⟨.hbm, 588, rfl⟩
abbrev main_v437 : Ref sig .tc := ⟨.hbm, 589, rfl⟩
abbrev main_v438 : Ref sig .tc := ⟨.hbm, 590, rfl⟩
abbrev main_v439 : Ref sig .tc := ⟨.hbm, 591, rfl⟩
abbrev main_v440 : Ref sig .tc := ⟨.hbm, 592, rfl⟩
abbrev main_v441 : Ref sig .tc := ⟨.hbm, 593, rfl⟩
abbrev main_v442 : Ref sig .tc := ⟨.hbm, 594, rfl⟩
abbrev main_v443 : Ref sig .tc := ⟨.hbm, 595, rfl⟩
abbrev main_v444 : Ref sig .tc := ⟨.hbm, 596, rfl⟩
abbrev main_v445 : Ref sig .tc := ⟨.hbm, 597, rfl⟩
abbrev main_v446 : Ref sig .tc := ⟨.hbm, 598, rfl⟩
abbrev main_v447 : Ref sig .tc := ⟨.hbm, 599, rfl⟩
abbrev main_v448 : Ref sig .tc := ⟨.hbm, 600, rfl⟩
abbrev main_v449 : Ref sig .tc := ⟨.hbm, 601, rfl⟩
abbrev main_v450 : Ref sig .tc := ⟨.hbm, 602, rfl⟩
abbrev main_v451 : Ref sig .tc := ⟨.hbm, 603, rfl⟩
abbrev main_v452 : Ref sig .tc := ⟨.hbm, 604, rfl⟩
abbrev main_v453 : Ref sig .tc := ⟨.hbm, 605, rfl⟩
abbrev main_v454 : Ref sig .tc := ⟨.hbm, 606, rfl⟩
abbrev main_v455 : Ref sig .tc := ⟨.hbm, 607, rfl⟩
abbrev main_v456 : Ref sig .tc := ⟨.hbm, 608, rfl⟩
abbrev main_v457 : Ref sig .tc := ⟨.hbm, 609, rfl⟩
abbrev main_v458 : Ref sig .tc := ⟨.hbm, 610, rfl⟩
abbrev main_v459 : Ref sig .tc := ⟨.hbm, 611, rfl⟩
abbrev main_v460 : Ref sig .tc := ⟨.hbm, 612, rfl⟩
abbrev main_v461 : Ref sig .tc := ⟨.hbm, 613, rfl⟩
abbrev main_v462 : Ref sig .tc := ⟨.hbm, 614, rfl⟩
abbrev main_v463 : Ref sig .tc := ⟨.hbm, 615, rfl⟩
abbrev main_v464 : Ref sig .tc := ⟨.hbm, 616, rfl⟩
abbrev main_v465 : Ref sig .tc := ⟨.hbm, 617, rfl⟩
abbrev main_v466 : Ref sig .tc := ⟨.hbm, 618, rfl⟩
abbrev main_v467 : Ref sig .tc := ⟨.hbm, 619, rfl⟩
abbrev main_v468 : Ref sig .tc := ⟨.hbm, 620, rfl⟩
abbrev main_v469 : Ref sig .tc := ⟨.hbm, 621, rfl⟩
abbrev main_v470 : Ref sig .tc := ⟨.hbm, 622, rfl⟩
abbrev main_v471 : Ref sig .tc := ⟨.hbm, 623, rfl⟩
abbrev main_v472 : Ref sig .tc := ⟨.hbm, 624, rfl⟩
abbrev main_v473 : Ref sig .tc := ⟨.hbm, 625, rfl⟩
abbrev main_v474 : Ref sig .tc := ⟨.hbm, 626, rfl⟩
abbrev main_v475 : Ref sig .tc := ⟨.hbm, 627, rfl⟩
abbrev main_v476 : Ref sig .tc := ⟨.hbm, 628, rfl⟩
abbrev main_v477 : Ref sig .tc := ⟨.hbm, 629, rfl⟩
abbrev main_v478 : Ref sig .tc := ⟨.hbm, 630, rfl⟩
abbrev main_v479 : Ref sig .tc := ⟨.hbm, 631, rfl⟩
abbrev main_v480 : Ref sig .tc := ⟨.hbm, 632, rfl⟩
abbrev main_v481 : Ref sig .tc := ⟨.hbm, 633, rfl⟩
abbrev main_v482 : Ref sig .tc := ⟨.hbm, 634, rfl⟩
abbrev main_v483 : Ref sig .tc := ⟨.hbm, 635, rfl⟩
abbrev main_v484 : Ref sig .tc := ⟨.hbm, 636, rfl⟩
abbrev main_c_142 : Ref sig .tc := ⟨.hbm, 637, rfl⟩
abbrev main_call0_v0 : Ref sig .tc := ⟨.hbm, 638, rfl⟩
abbrev main_v485 : Ref sig .tc := ⟨.hbm, 639, rfl⟩
abbrev main_v486 : Ref sig .tc := ⟨.hbm, 640, rfl⟩
abbrev main_v487 : Ref sig .tc := ⟨.hbm, 641, rfl⟩
abbrev main_v488 : Ref sig .tc := ⟨.hbm, 642, rfl⟩
abbrev main_c_143 : Ref sig .tc := ⟨.hbm, 643, rfl⟩
abbrev main_call1_v0 : Ref sig .tc := ⟨.hbm, 644, rfl⟩
abbrev main_v489 : Ref sig .tc := ⟨.hbm, 645, rfl⟩
abbrev main_v490 : Ref sig .tc := ⟨.hbm, 646, rfl⟩
abbrev main_v491_0 : Ref sig .tc := ⟨.hbm, 647, rfl⟩
abbrev main_v491_1 : Ref sig .tc := ⟨.hbm, 648, rfl⟩
abbrev main_v492 : Ref sig .tc := ⟨.hbm, 649, rfl⟩
abbrev main_v493 : Ref sig .tc := ⟨.hbm, 650, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x57x64x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x48x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S9x128x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x3136x1 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== EncoderIdeal.lean ====
variable {F : FTy → Type} [FloatOps F] [Named F]
def κ : String → Option EReal := fun
  | "loss_scale" => some ((5 / 6422528 : ℝ) : EReal)
  | _ => none
-- ==== EncoderReferenceIdeal.lean ====
abbrev S16x3x224x224 : Shape := ⟨4, ![16, 3, 224, 224]⟩
abbrev S128x3x4x4 : Shape := ⟨4, ![128, 3, 4, 4]⟩
abbrev S128 : Shape := ⟨1, ![128]⟩
abbrev S128x128x4x4 : Shape := ⟨4, ![128, 128, 4, 4]⟩
abbrev S32x128x3x3 : Shape := ⟨4, ![32, 128, 3, 3]⟩
abbrev S32 : Shape := ⟨1, ![32]⟩
abbrev S1024x32 : Shape := ⟨2, ![1024, 32]⟩
abbrev S_ : Shape := ⟨0, ![]⟩
abbrev S16x3x226x226 : Shape := ⟨4, ![16, 3, 226, 226]⟩
abbrev S128x4x4x3 : Shape := ⟨4, ![128, 4, 4, 3]⟩
abbrev S128x48 : Shape := ⟨2, ![128, 48]⟩
abbrev S16x3x112x112 : Shape := ⟨4, ![16, 3, 112, 112]⟩
abbrev S16x48x112x112 : Shape := ⟨4, ![16, 48, 112, 112]⟩
abbrev S128x16x112x112 : Shape := ⟨4, ![128, 16, 112, 112]⟩
abbrev S16x128x112x112 : Shape := ⟨4, ![16, 128, 112, 112]⟩
abbrev S1x128x1x1 : Shape := ⟨4, ![1, 128, 1, 1]⟩
abbrev S16x128x114x114 : Shape := ⟨4, ![16, 128, 114, 114]⟩
abbrev S128x4x4x128 : Shape := ⟨4, ![128, 4, 4, 128]⟩
abbrev S128x2048 : Shape := ⟨2, ![128, 2048]⟩
abbrev S16x128x56x56 : Shape := ⟨4, ![16, 128, 56, 56]⟩
abbrev S16x2048x56x56 : Shape := ⟨4, ![16, 2048, 56, 56]⟩
abbrev S128x16x56x56 : Shape := ⟨4, ![128, 16, 56, 56]⟩
abbrev S16x128x58x58 : Shape := ⟨4, ![16, 128, 58, 58]⟩
abbrev S32x3x3x128 : Shape := ⟨4, ![32, 3, 3, 128]⟩
abbrev S32x1152 : Shape := ⟨2, ![32, 1152]⟩
abbrev S16x1152x56x56 : Shape := ⟨4, ![16, 1152, 56, 56]⟩
abbrev S32x16x56x56 : Shape := ⟨4, ![32, 16, 56, 56]⟩
abbrev S16x32x56x56 : Shape := ⟨4, ![16, 32, 56, 56]⟩
abbrev S1x32x1x1 : Shape := ⟨4, ![1, 32, 1, 1]⟩
abbrev S16x56x56x32 : Shape := ⟨4, ![16, 56, 56, 32]⟩
abbrev S50176x32 : Shape := ⟨2, ![50176, 32]⟩
abbrev S50176 : Shape := ⟨1, ![50176]⟩
abbrev S50176x1 : Shape := ⟨2, ![50176, 1]⟩
abbrev S1024 : Shape := ⟨1, ![1024]⟩
abbrev S1x1024 : Shape := ⟨2, ![1, 1024]⟩
abbrev S50176x1024 : Shape := ⟨2, ![50176, 1024]⟩
abbrev S32x1024 : Shape := ⟨2, ![32, 1024]⟩
abbrev S1 : Shape := ⟨1, ![1]⟩
abbrev S1x1 : Shape := ⟨2, ![1, 1]⟩

abbrev nBuf : Space → Nat
  | .hbm => 152
  | .vmem => 0
  | .smem => 0
  | _ => 0

abbrev hbmTy0_0 (i : Nat) : BufTy := match i % 128 with
  | 0 => ⟨S16x3x224x224, .f32⟩
  | 1 => ⟨S128x3x4x4, .f32⟩
  | 2 => ⟨S128, .f32⟩
  | 3 => ⟨S128x128x4x4, .f32⟩
  | 4 => ⟨S128, .f32⟩
  | 5 => ⟨S32x128x3x3, .f32⟩
  | 6 => ⟨S32, .f32⟩
  | 7 => ⟨S1024x32, .f32⟩
  | 8 => ⟨S_, .i32⟩
  | 9 => ⟨S_, .f32⟩
  | 10 => ⟨S16x3x226x226, .f32⟩
  | 11 => ⟨S128x4x4x3, .f32⟩
  | 12 => ⟨S128x48, .f32⟩
  | 13 => ⟨S16x3x112x112, .f32⟩
  | 14 => ⟨S16x3x112x112, .f32⟩
  | 15 => ⟨S16x3x112x112, .f32⟩
  | 16 => ⟨S16x3x112x112, .f32⟩
  | 17 => ⟨S16x3x112x112, .f32⟩
  | 18 => ⟨S16x3x112x112, .f32⟩
  | 19 => ⟨S16x3x112x112, .f32⟩
  | 20 => ⟨S16x3x112x112, .f32⟩
  | 21 => ⟨S16x3x112x112, .f32⟩
  | 22 => ⟨S16x3x112x112, .f32⟩
  | 23 => ⟨S16x3x112x112, .f32⟩
  | 24 => ⟨S16x3x112x112, .f32⟩
  | 25 => ⟨S16x3x112x112, .f32⟩
  | 26 => ⟨S16x3x112x112, .f32⟩
  | 27 => ⟨S16x3x112x112, .f32⟩
  | 28 => ⟨S16x3x112x112, .f32⟩
  | 29 => ⟨S16x48x112x112, .f32⟩
  | 30 => ⟨S128x16x112x112, .f32⟩
  | 31 => ⟨S16x128x112x112, .f32⟩
  | 32 => ⟨S1x128x1x1, .f32⟩
  | 33 => ⟨S16x128x112x112, .f32⟩
  | 34 => ⟨S16x128x112x112, .f32⟩
  | 35 => ⟨S_, .f32⟩
  | 36 => ⟨S16x128x112x112, .f32⟩
  | 37 => ⟨S16x128x112x112, .f32⟩
  | 38 => ⟨S_, .i32⟩
  | 39 => ⟨S_, .f32⟩
  | 40 => ⟨S16x128x114x114, .f32⟩
  | 41 => ⟨S128x4x4x128, .f32⟩
  | 42 => ⟨S128x2048, .f32⟩
  | 43 => ⟨S16x128x56x56, .f32⟩
  | 44 => ⟨S16x128x56x56, .f32⟩
  | 45 => ⟨S16x128x56x56, .f32⟩
  | 46 => ⟨S16x128x56x56, .f32⟩
  | 47 => ⟨S16x128x56x56, .f32⟩
  | 48 => ⟨S16x128x56x56, .f32⟩
  | 49 => ⟨S16x128x56x56, .f32⟩
  | 50 => ⟨S16x128x56x56, .f32⟩
  | 51 => ⟨S16x128x56x56, .f32⟩
  | 52 => ⟨S16x128x56x56, .f32⟩
  | 53 => ⟨S16x128x56x56, .f32⟩
  | 54 => ⟨S16x128x56x56, .f32⟩
  | 55 => ⟨S16x128x56x56, .f32⟩
  | 56 => ⟨S16x128x56x56, .f32⟩
  | 57 => ⟨S16x128x56x56, .f32⟩
  | 58 => ⟨S16x128x56x56, .f32⟩
  | 59 => ⟨S16x2048x56x56, .f32⟩
  | 60 => ⟨S128x16x56x56, .f32⟩
  | 61 => ⟨S16x128x56x56, .f32⟩
  | 62 => ⟨S1x128x1x1, .f32⟩
  | 63 => ⟨S16x128x56x56, .f32⟩
  | 64 => ⟨S16x128x56x56, .f32⟩
  | 65 => ⟨S_, .f32⟩
  | 66 => ⟨S16x128x56x56, .f32⟩
  | 67 => ⟨S16x128x56x56, .f32⟩
  | 68 => ⟨S_, .i32⟩
  | 69 => ⟨S_, .f32⟩
  | 70 => ⟨S16x128x58x58, .f32⟩
  | 71 => ⟨S32x3x3x128, .f32⟩
  | 72 => ⟨S32x1152, .f32⟩
  | 73 => ⟨S16x128x56x56, .f32⟩
  | 74 => ⟨S16x128x56x56, .f32⟩
  | 75 => ⟨S16x128x56x56, .f32⟩
  | 76 => ⟨S16x128x56x56, .f32⟩
  | 77 => ⟨S16x128x56x56, .f32⟩
  | 78 => ⟨S16x128x56x56, .f32⟩
  | 79 => ⟨S16x128x56x56, .f32⟩
  | 80 => ⟨S16x128x56x56, .f32⟩
  | 81 => ⟨S16x128x56x56, .f32⟩
  | 82 => ⟨S16x1152x56x56, .f32⟩
  | 83 => ⟨S32x16x56x56, .f32⟩
  | 84 => ⟨S16x32x56x56, .f32⟩
  | 85 => ⟨S1x32x1x1, .f32⟩
  | 86 => ⟨S16x32x56x56, .f32⟩
  | 87 => ⟨S16x32x56x56, .f32⟩
  | 88 => ⟨S16x56x56x32, .f32⟩
  | 89 => ⟨S50176x32, .f32⟩
  | 90 => ⟨S50176x32, .f32⟩
  | 91 => ⟨S_, .f32⟩
  | 92 => ⟨S50176, .f32⟩
  | 93 => ⟨S50176x1, .f32⟩
  | 94 => ⟨S1024x32, .f32⟩
  | 95 => ⟨S_, .f32⟩
  | 96 => ⟨S1024, .f32⟩
  | 97 => ⟨S1x1024, .f32⟩
  | 98 => ⟨S50176x1024, .f32⟩
  | 99 => ⟨S50176x1024, .f32⟩
  | 100 => ⟨S50176x1024, .f32⟩
  | 101 => ⟨S_, .f32⟩
  | 102 => ⟨S50176x32, .f32⟩
  | 103 => ⟨S50176x32, .f32⟩
  | 104 => ⟨S32x1024, .f32⟩
  | 105 => ⟨S50176x1024, .f32⟩
  | 106 => ⟨S50176x1024, .f32⟩
  | 107 => ⟨S_, .f32⟩
  | 108 => ⟨S50176, .f32⟩
  | 109 => ⟨S50176x1, .f32⟩
  | 110 => ⟨S50176x1024, .f32⟩
  | 111 => ⟨S50176x1024, .i1⟩
  | 112 => ⟨S1024, .i32⟩
  | 113 => ⟨S_, .i32⟩
  | 114 => ⟨S_, .i32⟩
  | 115 => ⟨S50176x1024, .i32⟩
  | 116 => ⟨S50176x1024, .i32⟩
  | 117 => ⟨S50176x1024, .i32⟩
  | 118 => ⟨S_, .i32⟩
  | 119 => ⟨S50176, .i32⟩
  | 120 => ⟨S_, .i32⟩
  | 121 => ⟨S50176, .i32⟩
  | 122 => ⟨S50176, .i1⟩
  | 123 => ⟨S_, .i32⟩
  | 124 => ⟨S50176, .i32⟩
  | 125 => ⟨S50176, .i32⟩
  | 126 => ⟨S50176, .i32⟩
  | 127 => ⟨S50176x1, .i32⟩
  | _ => ⟨S16x3x224x224, .f32⟩

abbrev hbmTy0_1 (i : Nat) : BufTy := match i % 128 with
  | 0 => ⟨S1, .i32⟩
  | 1 => ⟨S_, .i32⟩
  | 2 => ⟨S50176x1, .i32⟩
  | 3 => ⟨S50176x1, .i1⟩
  | 4 => ⟨S1x1, .i32⟩
  | 5 => ⟨S50176x1, .i32⟩
  | 6 => ⟨S50176x1, .i1⟩
  | 7 => ⟨S50176x1, .i1⟩
  | 8 => ⟨S_, .i1⟩
  | 9 => ⟨S50176, .i1⟩
  | 10 => ⟨S50176x32, .f32⟩
  | 11 => ⟨S50176x32, .i1⟩
  | 12 => ⟨S_, .f32⟩
  | 13 => ⟨S50176x32, .f32⟩
  | 14 => ⟨S50176x32, .f32⟩
  | 15 => ⟨S50176x32, .f32⟩
  | 16 => ⟨S50176x32, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | _ => ⟨S16x3x224x224, .f32⟩

abbrev hbmTy (i : Nat) : BufTy := match i / 128 with
  | 0 => hbmTy0_0 i
  | 1 => hbmTy0_1 i
  | _ => ⟨S16x3x224x224, .f32⟩

abbrev bufTy : (tb : Table) → Fin (tcTables nBuf tb) → BufTy
  | .hbm, ⟨i, _⟩ => hbmTy i
  | _, _ => ⟨S16x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst : Ref sig .tc := ⟨.hbm, 35, rfl⟩
abbrev main_v25 : Ref sig .tc := ⟨.hbm, 36, rfl⟩
abbrev main_v26 : Ref sig .tc := ⟨.hbm, 37, rfl⟩
abbrev main_c_0 : Ref sig .tc := ⟨.hbm, 38, rfl⟩
abbrev main_call1_v0 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_1 : Ref sig .tc := ⟨.hbm, 65, rfl⟩
abbrev main_v52 : Ref sig .tc := ⟨.hbm, 66, rfl⟩
abbrev main_v53 : Ref sig .tc := ⟨.hbm, 67, rfl⟩
abbrev main_c_2 : Ref sig .tc := ⟨.hbm, 68, rfl⟩
abbrev main_call2_v0 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_cst_3 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_cst_4 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_cst_5 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_cst_6 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_c_7 : Ref sig .tc := ⟨.hbm, 113, rfl⟩
abbrev main_call3_v0 : Ref sig .tc := ⟨.hbm, 114, rfl⟩
abbrev main_call3_v1 : Ref sig .tc := ⟨.hbm, 115, rfl⟩
abbrev main_call3_v2 : Ref sig .tc := ⟨.hbm, 116, rfl⟩
abbrev main_v93 : Ref sig .tc := ⟨.hbm, 117, rfl⟩
abbrev main_c_8 : Ref sig .tc := ⟨.hbm, 118, rfl⟩
abbrev main_v94 : Ref sig .tc := ⟨.hbm, 119, rfl⟩
abbrev main_call4_c : Ref sig .tc := ⟨.hbm, 120, rfl⟩
abbrev main_call4_v0 : Ref sig .tc := ⟨.hbm, 121, rfl⟩
abbrev main_call4_v1 : Ref sig .tc := ⟨.hbm, 122, rfl⟩
abbrev main_call4_c_0 : Ref sig .tc := ⟨.hbm, 123, rfl⟩
abbrev main_call4_v2 : Ref sig .tc := ⟨.hbm, 124, rfl⟩
abbrev main_call4_v3 : Ref sig .tc := ⟨.hbm, 125, rfl⟩
abbrev main_call4_v4 : Ref sig .tc := ⟨.hbm, 126, rfl⟩
abbrev main_call4_v5 : Ref sig .tc := ⟨.hbm, 127, rfl⟩
abbrev main_call4_c_1 : Ref sig .tc := ⟨.hbm, 128, rfl⟩
abbrev main_call4_c_2 : Ref sig .tc := ⟨.hbm, 129, rfl⟩
abbrev main_call4_v6 : Ref sig .tc := ⟨.hbm, 130, rfl⟩
abbrev main_call4_v7 : Ref sig .tc := ⟨.hbm, 131, rfl⟩
abbrev main_call4_v8 : Ref sig .tc := ⟨.hbm, 132, rfl⟩
abbrev main_call4_v9 : Ref sig .tc := ⟨.hbm, 133, rfl⟩
abbrev main_call4_v10 : Ref sig .tc := ⟨.hbm, 134, rfl⟩
abbrev main_call4_v11 : Ref sig .tc := ⟨.hbm, 135, rfl⟩
abbrev main_call4_c_3 : Ref sig .tc := ⟨.hbm, 136, rfl⟩
abbrev main_call4_v12 : Ref sig .tc := ⟨.hbm, 137, rfl⟩
abbrev main_call4_v13 : Ref sig .tc := ⟨.hbm, 138, rfl⟩
abbrev main_call4_v14 : Ref sig .tc := ⟨.hbm, 139, rfl⟩
abbrev main_call4_cst : Ref sig .tc := ⟨.hbm, 140, rfl⟩
abbrev main_call4_v15 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_cst_9 : Ref sig .tc := ⟨.hbm, 145, rfl⟩
abbrev main_v98 : Ref sig .tc := ⟨.hbm, 146, rfl⟩
abbrev main_cst_10 : Ref sig .tc := ⟨.hbm, 147, rfl⟩
abbrev main_v99 : Ref sig .tc := ⟨.hbm, 148, rfl⟩
abbrev main_cst_11 : Ref sig .tc := ⟨.hbm, 149, rfl⟩
abbrev main_v100 : Ref sig .tc := ⟨.hbm, 150, rfl⟩
abbrev main_v101 : Ref sig .tc := ⟨.hbm, 151, rfl⟩

abbrev nD : Nat := 1
abbrev τ : Topo := Topo.v7x

variable {F : FTy → Type} [FloatOps F]
-- ==== Decoder.lean ====
abbrev S50176x128 : Shape := ⟨2, ![50176, 128]⟩
abbrev S128x32x3x3 : Shape := ⟨4, ![128, 32, 3, 3]⟩
abbrev S128 : Shape := ⟨1, ![128]⟩
abbrev S128x128x4x4 : Shape := ⟨4, ![128, 128, 4, 4]⟩
abbrev S128x3x4x4 : Shape := ⟨4, ![128, 3, 4, 4]⟩
abbrev S3 : Shape := ⟨1, ![3]⟩
abbrev S3x3x32x128 : Shape := ⟨4, ![3, 3, 32, 128]⟩
abbrev S9x32x128 : Shape := ⟨3, ![9, 32, 128]⟩
abbrev S128x128x1x1 : Shape := ⟨4, ![128, 128, 1, 1]⟩
abbrev S128x128 : Shape := ⟨2, ![128, 128]⟩
abbrev S128x256 : Shape := ⟨2, ![128, 256]⟩
abbrev S128x512 : Shape := ⟨2, ![128, 512]⟩
abbrev S1x128x128 : Shape := ⟨3, ![1, 128, 128]⟩
abbrev S4x128x128 : Shape := ⟨3, ![4, 128, 128]⟩
abbrev S1x128x256 : Shape := ⟨3, ![1, 128, 256]⟩
abbrev S4x128x256 : Shape := ⟨3, ![4, 128, 256]⟩
abbrev S_ : Shape := ⟨0, ![]⟩
abbrev S128x3 : Shape := ⟨2, ![128, 3]⟩
abbrev S128x3x1x1 : Shape := ⟨4, ![128, 3, 1, 1]⟩
abbrev S128x48 : Shape := ⟨2, ![128, 48]⟩
abbrev S1x128x48 : Shape := ⟨3, ![1, 128, 48]⟩
abbrev S16x128x48 : Shape := ⟨3, ![16, 128, 48]⟩
abbrev S1x128 : Shape := ⟨2, ![1, 128]⟩
abbrev S1x3 : Shape := ⟨2, ![1, 3]⟩
abbrev S16x3 : Shape := ⟨2, ![16, 3]⟩
abbrev S48 : Shape := ⟨1, ![48]⟩
abbrev S1x48 : Shape := ⟨2, ![1, 48]⟩
abbrev S16x56x56x128 : Shape := ⟨4, ![16, 56, 56, 128]⟩
abbrev S16x56x56x48 : Shape := ⟨4, ![16, 56, 56, 48]⟩
abbrev S1x56x56x128 : Shape := ⟨4, ![1, 56, 56, 128]⟩
abbrev S1x56x56x48 : Shape := ⟨4, ![1, 56, 56, 48]⟩
abbrev S58x64x32 : Shape := ⟨3, ![58, 64, 32]⟩
abbrev S58x64x128 : Shape := ⟨3, ![58, 64, 128]⟩
abbrev S2x2x58x64x128 : Shape := ⟨5, ![2, 2, 58, 64, 128]⟩
abbrev S1x56x56x32 : Shape := ⟨4, ![1, 56, 56, 32]⟩
abbrev S56x56x32 : Shape := ⟨3, ![56, 56, 32]⟩
abbrev S3136x128 : Shape := ⟨2, ![3136, 128]⟩
abbrev S3136x32 : Shape := ⟨2, ![3136, 32]⟩
abbrev S1x32x128 : Shape := ⟨3, ![1, 32, 128]⟩
abbrev S32x128 : Shape := ⟨2, ![32, 128]⟩
abbrev S56x56x128 : Shape := ⟨3, ![56, 56, 128]⟩
abbrev S3136x256 : Shape := ⟨2, ![3136, 256]⟩
abbrev S3136x512 : Shape := ⟨2, ![3136, 512]⟩
abbrev S1x1x56x56x128 : Shape := ⟨5, ![1, 1, 56, 56, 128]⟩
abbrev S3136x48 : Shape := ⟨2, ![3136, 48]⟩
abbrev S56x56x48 : Shape := ⟨3, ![56, 56, 48]⟩
abbrev S16x56x56x2x2x2x2x3 : Shape := ⟨8, ![16, 56, 56, 2, 2, 2, 2, 3]⟩
abbrev S16x56x2x2x56x2x2x3 : Shape := ⟨8, ![16, 56, 2, 2, 56, 2, 2, 3]⟩
abbrev S16x224x224x3 : Shape := ⟨4, ![16, 224, 224, 3]⟩
abbrev S16x3x224x224 : Shape := ⟨4, ![16, 3, 224, 224]⟩

abbrev nBuf : Space → Nat
  | .hbm => 231
  | .vmem => 15
  | .smem => 0
  | _ => 0

abbrev hbmTy0_0 (i : Nat) : BufTy := match i % 128 with
  | 0 => ⟨S50176x128, .f32⟩
  | 1 => ⟨S128x32x3x3, .f32⟩
  | 2 => ⟨S128, .f32⟩
  | 3 => ⟨S128x128x4x4, .f32⟩
  | 4 => ⟨S128, .f32⟩
  | 5 => ⟨S128x3x4x4, .f32⟩
  | 6 => ⟨S3, .f32⟩
  | 7 => ⟨S3x3x32x128, .f32⟩
  | 8 => ⟨S9x32x128, .f32⟩
  | 9 => ⟨S128x128x1x1, .f32⟩
  | 10 => ⟨S128x128, .f32⟩
  | 11 => ⟨S128x128x1x1, .f32⟩
  | 12 => ⟨S128x128, .f32⟩
  | 13 => ⟨S128x128x1x1, .f32⟩
  | 14 => ⟨S128x128, .f32⟩
  | 15 => ⟨S128x256, .f32⟩
  | 16 => ⟨S128x128x1x1, .f32⟩
  | 17 => ⟨S128x128, .f32⟩
  | 18 => ⟨S128x128x1x1, .f32⟩
  | 19 => ⟨S128x128, .f32⟩
  | 20 => ⟨S128x128x1x1, .f32⟩
  | 21 => ⟨S128x128, .f32⟩
  | 22 => ⟨S128x256, .f32⟩
  | 23 => ⟨S128x128x1x1, .f32⟩
  | 24 => ⟨S128x128, .f32⟩
  | 25 => ⟨S128x128x1x1, .f32⟩
  | 26 => ⟨S128x128, .f32⟩
  | 27 => ⟨S128x128x1x1, .f32⟩
  | 28 => ⟨S128x128, .f32⟩
  | 29 => ⟨S128x128x1x1, .f32⟩
  | 30 => ⟨S128x128, .f32⟩
  | 31 => ⟨S128x512, .f32⟩
  | 32 => ⟨S128x128x1x1, .f32⟩
  | 33 => ⟨S128x128, .f32⟩
  | 34 => ⟨S128x128x1x1, .f32⟩
  | 35 => ⟨S128x128, .f32⟩
  | 36 => ⟨S128x256, .f32⟩
  | 37 => ⟨S128x128x1x1, .f32⟩
  | 38 => ⟨S128x128, .f32⟩
  | 39 => ⟨S128x128x1x1, .f32⟩
  | 40 => ⟨S128x128, .f32⟩
  | 41 => ⟨S128x128x1x1, .f32⟩
  | 42 => ⟨S128x128, .f32⟩
  | 43 => ⟨S128x256, .f32⟩
  | 44 => ⟨S128x128x1x1, .f32⟩
  | 45 => ⟨S128x128, .f32⟩
  | 46 => ⟨S1x128x128, .f32⟩
  | 47 => ⟨S1x128x128, .f32⟩
  | 48 => ⟨S1x128x128, .f32⟩
  | 49 => ⟨S1x128x128, .f32⟩
  | 50 => ⟨S4x128x128, .f32⟩
  | 51 => ⟨S1x128x256, .f32⟩
  | 52 => ⟨S1x128x256, .f32⟩
  | 53 => ⟨S1x128x256, .f32⟩
  | 54 => ⟨S1x128x256, .f32⟩
  | 55 => ⟨S4x128x256, .f32⟩
  | 56 => ⟨S_, .f32⟩
  | 57 => ⟨S128x3, .f32⟩
  | 58 => ⟨S128x3x1x1, .f32⟩
  | 59 => ⟨S128x3, .f32⟩
  | 60 => ⟨S128x48, .f32⟩
  | 61 => ⟨S128x3x1x1, .f32⟩
  | 62 => ⟨S128x3, .f32⟩
  | 63 => ⟨S128x3x1x1, .f32⟩
  | 64 => ⟨S128x3, .f32⟩
  | 65 => ⟨S128x3x1x1, .f32⟩
  | 66 => ⟨S128x3, .f32⟩
  | 67 => ⟨S128x48, .f32⟩
  | 68 => ⟨S128x3x1x1, .f32⟩
  | 69 => ⟨S128x3, .f32⟩
  | 70 => ⟨S128x3x1x1, .f32⟩
  | 71 => ⟨S128x3, .f32⟩
  | 72 => ⟨S128x3x1x1, .f32⟩
  | 73 => ⟨S128x3, .f32⟩
  | 74 => ⟨S128x48, .f32⟩
  | 75 => ⟨S128x3x1x1, .f32⟩
  | 76 => ⟨S128x3, .f32⟩
  | 77 => ⟨S128x48, .f32⟩
  | 78 => ⟨S128x3x1x1, .f32⟩
  | 79 => ⟨S128x3, .f32⟩
  | 80 => ⟨S128x3x1x1, .f32⟩
  | 81 => ⟨S128x3, .f32⟩
  | 82 => ⟨S128x3x1x1, .f32⟩
  | 83 => ⟨S128x3, .f32⟩
  | 84 => ⟨S128x48, .f32⟩
  | 85 => ⟨S128x3x1x1, .f32⟩
  | 86 => ⟨S128x3, .f32⟩
  | 87 => ⟨S128x3x1x1, .f32⟩
  | 88 => ⟨S128x3, .f32⟩
  | 89 => ⟨S128x3x1x1, .f32⟩
  | 90 => ⟨S128x3, .f32⟩
  | 91 => ⟨S128x3x1x1, .f32⟩
  | 92 => ⟨S128x3, .f32⟩
  | 93 => ⟨S128x3x1x1, .f32⟩
  | 94 => ⟨S128x3, .f32⟩
  | 95 => ⟨S128x3x1x1, .f32⟩
  | 96 => ⟨S128x3, .f32⟩
  | 97 => ⟨S128x3x1x1, .f32⟩
  | 98 => ⟨S128x3, .f32⟩
  | 99 => ⟨S128x3x1x1, .f32⟩
  | 100 => ⟨S128x3, .f32⟩
  | 101 => ⟨S128x3x1x1, .f32⟩
  | 102 => ⟨S128x3, .f32⟩
  | 103 => ⟨S128x48, .f32⟩
  | 104 => ⟨S128x3x1x1, .f32⟩
  | 105 => ⟨S128x3, .f32⟩
  | 106 => ⟨S128x3x1x1, .f32⟩
  | 107 => ⟨S128x3, .f32⟩
  | 108 => ⟨S128x3x1x1, .f32⟩
  | 109 => ⟨S128x3, .f32⟩
  | 110 => ⟨S128x3x1x1, .f32⟩
  | 111 => ⟨S128x3, .f32⟩
  | 112 => ⟨S128x3x1x1, .f32⟩
  | 113 => ⟨S128x3, .f32⟩
  | 114 => ⟨S128x3x1x1, .f32⟩
  | 115 => ⟨S128x3, .f32⟩
  | 116 => ⟨S128x3x1x1, .f32⟩
  | 117 => ⟨S128x3, .f32⟩
  | 118 => ⟨S128x3x1x1, .f32⟩
  | 119 => ⟨S128x3, .f32⟩
  | 120 => ⟨S128x3x1x1, .f32⟩
  | 121 => ⟨S128x3, .f32⟩
  | 122 => ⟨S128x48, .f32⟩
  | 123 => ⟨S128x3x1x1, .f32⟩
  | 124 => ⟨S128x3, .f32⟩
  | 125 => ⟨S128x3x1x1, .f32⟩
  | 126 => ⟨S128x3, .f32⟩
  | 127 => ⟨S128x3x1x1, .f32⟩
  | _ => ⟨S50176x128, .f32⟩

abbrev hbmTy0_1 (i : Nat) : BufTy := match i % 128 with
  | 0 => ⟨S128x3, .f32⟩
  | 1 => ⟨S128x48, .f32⟩
  | 2 => ⟨S128x3x1x1, .f32⟩
  | 3 => ⟨S128x3, .f32⟩
  | 4 => ⟨S128x3x1x1, .f32⟩
  | 5 => ⟨S128x3, .f32⟩
  | 6 => ⟨S128x3x1x1, .f32⟩
  | 7 => ⟨S128x3, .f32⟩
  | 8 => ⟨S128x48, .f32⟩
  | 9 => ⟨S128x3x1x1, .f32⟩
  | 10 => ⟨S128x3, .f32⟩
  | 11 => ⟨S128x3x1x1, .f32⟩
  | 12 => ⟨S128x3, .f32⟩
  | 13 => ⟨S128x3x1x1, .f32⟩
  | 14 => ⟨S128x3, .f32⟩
  | 15 => ⟨S128x3x1x1, .f32⟩
  | 16 => ⟨S128x3, .f32⟩
  | 17 => ⟨S128x3x1x1, .f32⟩
  | 18 => ⟨S128x3, .f32⟩
  | 19 => ⟨S128x3x1x1, .f32⟩
  | 20 => ⟨S128x3, .f32⟩
  | 21 => ⟨S128x3x1x1, .f32⟩
  | 22 => ⟨S128x3, .f32⟩
  | 23 => ⟨S128x3x1x1, .f32⟩
  | 24 => ⟨S128x3, .f32⟩
  | 25 => ⟨S128x3x1x1, .f32⟩
  | 26 => ⟨S128x3, .f32⟩
  | 27 => ⟨S128x48, .f32⟩
  | 28 => ⟨S128x3x1x1, .f32⟩
  | 29 => ⟨S128x3, .f32⟩
  | 30 => ⟨S128x3x1x1, .f32⟩
  | 31 => ⟨S128x3, .f32⟩
  | 32 => ⟨S128x3x1x1, .f32⟩
  | 33 => ⟨S128x3, .f32⟩
  | 34 => ⟨S128x3x1x1, .f32⟩
  | 35 => ⟨S128x3, .f32⟩
  | 36 => ⟨S128x3x1x1, .f32⟩
  | 37 => ⟨S128x3, .f32⟩
  | 38 => ⟨S128x3x1x1, .f32⟩
  | 39 => ⟨S128x3, .f32⟩
  | 40 => ⟨S128x3x1x1, .f32⟩
  | 41 => ⟨S128x3, .f32⟩
  | 42 => ⟨S128x3x1x1, .f32⟩
  | 43 => ⟨S128x3, .f32⟩
  | 44 => ⟨S128x3x1x1, .f32⟩
  | 45 => ⟨S128x3, .f32⟩
  | 46 => ⟨S128x48, .f32⟩
  | 47 => ⟨S128x3x1x1, .f32⟩
  | 48 => ⟨S128x3, .f32⟩
  | 49 => ⟨S128x3x1x1, .f32⟩
  | 50 => ⟨S128x3, .f32⟩
  | 51 => ⟨S128x3x1x1, .f32⟩
  | 52 => ⟨S128x3, .f32⟩
  | 53 => ⟨S128x48, .f32⟩
  | 54 => ⟨S128x3x1x1, .f32⟩
  | 55 => ⟨S128x3, .f32⟩
  | 56 => ⟨S128x48, .f32⟩
  | 57 => ⟨S128x3x1x1, .f32⟩
  | 58 => ⟨S128x3, .f32⟩
  | 59 => ⟨S128x3x1x1, .f32⟩
  | 60 => ⟨S128x3, .f32⟩
  | 61 => ⟨S128x3x1x1, .f32⟩
  | 62 => ⟨S128x3, .f32⟩
  | 63 => ⟨S128x48, .f32⟩
  | 64 => ⟨S128x3x1x1, .f32⟩
  | 65 => ⟨S128x3, .f32⟩
  | 66 => ⟨S128x3x1x1, .f32⟩
  | 67 => ⟨S128x3, .f32⟩
  | 68 => ⟨S128x3x1x1, .f32⟩
  | 69 => ⟨S128x3, .f32⟩
  | 70 => ⟨S128x48, .f32⟩
  | 71 => ⟨S128x3x1x1, .f32⟩
  | 72 => ⟨S128x3, .f32⟩
  | 73 => ⟨S128x48, .f32⟩
  | 74 => ⟨S1x128x48, .f32⟩
  | 75 => ⟨S1x128x48, .f32⟩
  | 76 => ⟨S1x128x48, .f32⟩
  | 77 => ⟨S1x128x48, .f32⟩
  | 78 => ⟨S1x128x48, .f32⟩
  | 79 => ⟨S1x128x48, .f32⟩
  | 80 => ⟨S1x128x48, .f32⟩
  | 81 => ⟨S1x128x48, .f32⟩
  | 82 => ⟨S1x128x48, .f32⟩
  | 83 => ⟨S1x128x48, .f32⟩
  | 84 => ⟨S1x128x48, .f32⟩
  | 85 => ⟨S1x128x48, .f32⟩
  | 86 => ⟨S1x128x48, .f32⟩
  | 87 => ⟨S1x128x48, .f32⟩
  | 88 => ⟨S1x128x48, .f32⟩
  | 89 => ⟨S1x128x48, .f32⟩
  | 90 => ⟨S16x128x48, .f32⟩
  | 91 => ⟨S1x128, .f32⟩
  | 92 => ⟨S1x128, .f32⟩
  | 93 => ⟨S1x3, .f32⟩
  | 94 => ⟨S16x3, .f32⟩
  | 95 => ⟨S48, .f32⟩
  | 96 => ⟨S1x48, .f32⟩
  | 97 => ⟨S16x56x56x128, .f32⟩
  | 98 => ⟨S16x56x56x48, .f32⟩
  | 99 => ⟨S16x56x56x2x2x2x2x3, .f32⟩
  | 100 => ⟨S16x56x2x2x56x2x2x3, .f32⟩
  | 101 => ⟨S16x224x224x3, .f32⟩
  | 102 => ⟨S16x3x224x224, .f32⟩
  | _ => ⟨S50176x128, .f32⟩

abbrev hbmTy (i : Nat) : BufTy := match i / 128 with
  | 0 => hbmTy0_0 i
  | 1 => hbmTy0_1 i
  | _ => ⟨S50176x128, .f32⟩

abbrev bufTy : (tb : Table) → Fin (tcTables nBuf tb) → BufTy
  | .hbm, ⟨i, _⟩ => hbmTy i
  | .local _ .vmem, ⟨0, _⟩ => ⟨S1x56x56x128, .f32⟩
  | .local _ .vmem, ⟨1, _⟩ => ⟨S1x56x56x128, .f32⟩
  | .local _ .vmem, ⟨2, _⟩ => ⟨S9x32x128, .f32⟩
  | .local _ .vmem, ⟨3, _⟩ => ⟨S1x128, .f32⟩
  | .local _ .vmem, ⟨4, _⟩ => ⟨S4x128x128, .f32⟩
  | .local _ .vmem, ⟨5, _⟩ => ⟨S4x128x256, .f32⟩
  | .local _ .vmem, ⟨6, _⟩ => ⟨S128x512, .f32⟩
  | .local _ .vmem, ⟨7, _⟩ => ⟨S1x128, .f32⟩
  | .local _ .vmem, ⟨8, _⟩ => ⟨S16x128x48, .f32⟩
  | .local _ .vmem, ⟨9, _⟩ => ⟨S1x48, .f32⟩
  | .local _ .vmem, ⟨10, _⟩ => ⟨S1x56x56x48, .f32⟩
  | .local _ .vmem, ⟨11, _⟩ => ⟨S1x56x56x48, .f32⟩
  | .local _ .vmem, ⟨12, _⟩ => ⟨S58x64x32, .f32⟩
  | .local _ .vmem, ⟨13, _⟩ => ⟨S58x64x128, .f32⟩
  | .local _ .vmem, ⟨14, _⟩ => ⟨S2x2x58x64x128, .f32⟩
  | _, _ => ⟨S50176x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_cst : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x56x56x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x128x48 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x48 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x56x56x48 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== DecoderReferenceIdeal.lean ====
abbrev S50176x128 : Shape := ⟨2, ![50176, 128]⟩
abbrev S128x32x3x3 : Shape := ⟨4, ![128, 32, 3, 3]⟩
abbrev S128 : Shape := ⟨1, ![128]⟩
abbrev S128x128x4x4 : Shape := ⟨4, ![128, 128, 4, 4]⟩
abbrev S128x3x4x4 : Shape := ⟨4, ![128, 3, 4, 4]⟩
abbrev S3 : Shape := ⟨1, ![3]⟩
abbrev S50176x32 : Shape := ⟨2, ![50176, 32]⟩
abbrev S16x56x56x32 : Shape := ⟨4, ![16, 56, 56, 32]⟩
abbrev S16x32x56x56 : Shape := ⟨4, ![16, 32, 56, 56]⟩
abbrev S_ : Shape := ⟨0, ![]⟩
abbrev S16x32x58x58 : Shape := ⟨4, ![16, 32, 58, 58]⟩
abbrev S128x3x3x32 : Shape := ⟨4, ![128, 3, 3, 32]⟩
abbrev S128x288 : Shape := ⟨2, ![128, 288]⟩
abbrev S16x288x56x56 : Shape := ⟨4, ![16, 288, 56, 56]⟩
abbrev S128x16x56x56 : Shape := ⟨4, ![128, 16, 56, 56]⟩
abbrev S16x128x56x56 : Shape := ⟨4, ![16, 128, 56, 56]⟩
abbrev S1x128x1x1 : Shape := ⟨4, ![1, 128, 1, 1]⟩
abbrev S16x128x115x115 : Shape := ⟨4, ![16, 128, 115, 115]⟩
abbrev S128x4x4x128 : Shape := ⟨4, ![128, 4, 4, 128]⟩
abbrev S128x2048 : Shape := ⟨2, ![128, 2048]⟩
abbrev S16x128x112x112 : Shape := ⟨4, ![16, 128, 112, 112]⟩
abbrev S16x2048x112x112 : Shape := ⟨4, ![16, 2048, 112, 112]⟩
abbrev S128x16x112x112 : Shape := ⟨4, ![128, 16, 112, 112]⟩
abbrev S16x128x227x227 : Shape := ⟨4, ![16, 128, 227, 227]⟩
abbrev S3x128x4x4 : Shape := ⟨4, ![3, 128, 4, 4]⟩
abbrev S3x4x4x128 : Shape := ⟨4, ![3, 4, 4, 128]⟩
abbrev S3x2048 : Shape := ⟨2, ![3, 2048]⟩
abbrev S16x128x224x224 : Shape := ⟨4, ![16, 128, 224, 224]⟩
abbrev S16x2048x224x224 : Shape := ⟨4, ![16, 2048, 224, 224]⟩
abbrev S3x16x224x224 : Shape := ⟨4, ![3, 16, 224, 224]⟩
abbrev S16x3x224x224 : Shape := ⟨4, ![16, 3, 224, 224]⟩
abbrev S1x3x1x1 : Shape := ⟨4, ![1, 3, 1, 1]⟩

abbrev nBuf : Space → Nat
  | .hbm => 92
  | .vmem => 0
  | .smem => 0
  | _ => 0

abbrev bufTy : (tb : Table) → Fin (tcTables nBuf tb) → BufTy
  | .hbm, ⟨0, _⟩ => ⟨S50176x128, .f32⟩
  | .hbm, ⟨1, _⟩ => ⟨S128x32x3x3, .f32⟩
  | .hbm, ⟨2, _⟩ => ⟨S128, .f32⟩
  | .hbm, ⟨3, _⟩ => ⟨S128x128x4x4, .f32⟩
  | .hbm, ⟨4, _⟩ => ⟨S128, .f32⟩
  | .hbm, ⟨5, _⟩ => ⟨S128x3x4x4, .f32⟩
  | .hbm, ⟨6, _⟩ => ⟨S3, .f32⟩
  | .hbm, ⟨7, _⟩ => ⟨S50176x32, .f32⟩
  | .hbm, ⟨8, _⟩ => ⟨S16x56x56x32, .f32⟩
  | .hbm, ⟨9, _⟩ => ⟨S16x32x56x56, .f32⟩
  | .hbm, ⟨10, _⟩ => ⟨S_, .i32⟩
  | .hbm, ⟨11, _⟩ => ⟨S_, .f32⟩
  | .hbm, ⟨12, _⟩ => ⟨S16x32x58x58, .f32⟩
  | .hbm, ⟨13, _⟩ => ⟨S128x3x3x32, .f32⟩
  | .hbm, ⟨14, _⟩ => ⟨S128x288, .f32⟩
  | .hbm, ⟨15, _⟩ => ⟨S16x32x56x56, .f32⟩
  | .hbm, ⟨16, _⟩ => ⟨S16x32x56x56, .f32⟩
  | .hbm, ⟨17, _⟩ => ⟨S16x32x56x56, .f32⟩
  | .hbm, ⟨18, _⟩ => ⟨S16x32x56x56, .f32⟩
  | .hbm, ⟨19, _⟩ => ⟨S16x32x56x56, .f32⟩
  | .hbm, ⟨20, _⟩ => ⟨S16x32x56x56, .f32⟩
  | .hbm, ⟨21, _⟩ => ⟨S16x32x56x56, .f32⟩
  | .hbm, ⟨22, _⟩ => ⟨S16x32x56x56, .f32⟩
  | .hbm, ⟨23, _⟩ => ⟨S16x32x56x56, .f32⟩
  | .hbm, ⟨24, _⟩ => ⟨S16x288x56x56, .f32⟩
  | .hbm, ⟨25, _⟩ => ⟨S128x16x56x56, .f32⟩
  | .hbm, ⟨26, _⟩ => ⟨S16x128x56x56, .f32⟩
  | .hbm, ⟨27, _⟩ => ⟨S1x128x1x1, .f32⟩
  | .hbm, ⟨28, _⟩ => ⟨S16x128x56x56, .f32⟩
  | .hbm, ⟨29, _⟩ => ⟨S16x128x56x56, .f32⟩
  | .hbm, ⟨30, _⟩ => ⟨S_, .f32⟩
  | .hbm, ⟨31, _⟩ => ⟨S16x128x56x56, .f32⟩
  | .hbm, ⟨32, _⟩ => ⟨S16x128x56x56, .f32⟩
  | .hbm, ⟨33, _⟩ => ⟨S_, .f32⟩
  | .hbm, ⟨34, _⟩ => ⟨S16x128x115x115, .f32⟩
  | .hbm, ⟨35, _⟩ => ⟨S128x128x4x4, .f32⟩
  | .hbm, ⟨36, _⟩ => ⟨S128x128x4x4, .f32⟩
  | .hbm, ⟨37, _⟩ => ⟨S128x4x4x128, .f32⟩
  | .hbm, ⟨38, _⟩ => ⟨S128x2048, .f32⟩
  | .hbm, ⟨39, _⟩ => ⟨S16x128x112x112, .f32⟩
  | .hbm, ⟨40, _⟩ => ⟨S16x128x112x112, .f32⟩
  | .hbm, ⟨41, _⟩ => ⟨S16x128x112x112, .f32⟩
  | .hbm, ⟨42, _⟩ => ⟨S16x128x112x112, .f32⟩
  | .hbm, ⟨43, _⟩ => ⟨S16x128x112x112, .f32⟩
  | .hbm, ⟨44, _⟩ => ⟨S16x128x112x112, .f32⟩
  | .hbm, ⟨45, _⟩ => ⟨S16x128x112x112, .f32⟩
  | .hbm, ⟨46, _⟩ => ⟨S16x128x112x112, .f32⟩
  | .hbm, ⟨47, _⟩ => ⟨S16x128x112x112, .f32⟩
  | .hbm, ⟨48, _⟩ => ⟨S16x128x112x112, .f32⟩
  | .hbm, ⟨49, _⟩ => ⟨S16x128x112x112, .f32⟩
  | .hbm, ⟨50, _⟩ => ⟨S16x128x112x112, .f32⟩
  | .hbm, ⟨51, _⟩ => ⟨S16x128x112x112, .f32⟩
  | .hbm, ⟨52, _⟩ => ⟨S16x128x112x112, .f32⟩
  | .hbm, ⟨53, _⟩ => ⟨S16x128x112x112, .f32⟩
  | .hbm, ⟨54, _⟩ => ⟨S16x128x112x112, .f32⟩
  | .hbm, ⟨55, _⟩ => ⟨S16x2048x112x112, .f32⟩
  | .hbm, ⟨56, _⟩ => ⟨S128x16x112x112, .f32⟩
  | .hbm, ⟨57, _⟩ => ⟨S16x128x112x112, .f32⟩
  | .hbm, ⟨58, _⟩ => ⟨S1x128x1x1, .f32⟩
  | .hbm, ⟨59, _⟩ => ⟨S16x128x112x112, .f32⟩
  | .hbm, ⟨60, _⟩ => ⟨S16x128x112x112, .f32⟩
  | .hbm, ⟨61, _⟩ => ⟨S_, .f32⟩
  | .hbm, ⟨62, _⟩ => ⟨S16x128x112x112, .f32⟩
  | .hbm, ⟨63, _⟩ => ⟨S16x128x112x112, .f32⟩
  | .hbm, ⟨64, _⟩ => ⟨S_, .f32⟩
  | .hbm, ⟨65, _⟩ => ⟨S16x128x227x227, .f32⟩
  | .hbm, ⟨66, _⟩ => ⟨S128x3x4x4, .f32⟩
  | .hbm, ⟨67, _⟩ => ⟨S3x128x4x4, .f32⟩
  | .hbm, ⟨68, _⟩ => ⟨S3x4x4x128, .f32⟩
  | .hbm, ⟨69, _⟩ => ⟨S3x2048, .f32⟩
  | .hbm, ⟨70, _⟩ => ⟨S16x128x224x224, .f32⟩
  | .hbm, ⟨71, _⟩ => ⟨S16x128x224x224, .f32⟩
  | .hbm, ⟨72, _⟩ => ⟨S16x128x224x224, .f32⟩
  | .hbm, ⟨73, _⟩ => ⟨S16x128x224x224, .f32⟩
  | .hbm, ⟨74, _⟩ => ⟨S16x128x224x224, .f32⟩
  | .hbm, ⟨75, _⟩ => ⟨S16x128x224x224, .f32⟩
  | .hbm, ⟨76, _⟩ => ⟨S16x128x224x224, .f32⟩
  | .hbm, ⟨77, _⟩ => ⟨S16x128x224x224, .f32⟩
  | .hbm, ⟨78, _⟩ => ⟨S16x128x224x224, .f32⟩
  | .hbm, ⟨79, _⟩ => ⟨S16x128x224x224, .f32⟩
  | .hbm, ⟨80, _⟩ => ⟨S16x128x224x224, .f32⟩
  | .hbm, ⟨81, _⟩ => ⟨S16x128x224x224, .f32⟩
  | .hbm, ⟨82, _⟩ => ⟨S16x128x224x224, .f32⟩
  | .hbm, ⟨83, _⟩ => ⟨S16x128x224x224, .f32⟩
  | .hbm, ⟨84, _⟩ => ⟨S16x128x224x224, .f32⟩
  | .hbm, ⟨85, _⟩ => ⟨S16x128x224x224, .f32⟩
  | .hbm, ⟨86, _⟩ => ⟨S16x2048x224x224, .f32⟩
  | .hbm, ⟨87, _⟩ => ⟨S3x16x224x224, .f32⟩
  | .hbm, ⟨88, _⟩ => ⟨S16x3x224x224, .f32⟩
  | .hbm, ⟨89, _⟩ => ⟨S1x3x1x1, .f32⟩
  | .hbm, ⟨90, _⟩ => ⟨S16x3x224x224, .f32⟩
  | .hbm, ⟨91, _⟩ => ⟨S16x3x224x224, .f32⟩
  | _, _ => ⟨S50176x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_1 : Ref sig .tc := ⟨.hbm, 61, rfl⟩
abbrev main_v50 : Ref sig .tc := ⟨.hbm, 62, rfl⟩
abbrev main_v51 : Ref sig .tc := ⟨.hbm, 63, rfl⟩
abbrev main_cst_2 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩

abbrev nD : Nat := 1
abbrev τ : Topo := Topo.v7x

variable {F : FTy → Type} [FloatOps F]
-- ==== Proof.GatherIdeal.lean ====
/-
  The SparseCore gather, over any float instance: every weakly fair execution of the program from a launch memory
  whose row numbers are below 1024 ends with the result's row `j` at row `idx[j]` of the lane-padded table, the
  operands unchanged and every semaphore at zero. Thirty-two vector subcores each take two runs of 784 rows: fetch
  the run's row numbers, stream those rows of the table into the row scratch, copy the scratch out. All of them read
  the table and the row numbers at once, each from a share of the array; each owns its 1568 rows of the result. All
  tiles leave the result at ONE function (`gout`), so the pieces join at it.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.GatherIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type}

/-! ## The launch's set-up -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the buffers, the rows of each tile -/

variable (m : (ℓ : Loc nD τ sig) → Buf (Elt F) ℓ) (ρ : Dev nD → PrngReg)

abbrev cLoc (d : Dev nD) : Loc nD τ sig := (SparseCore.T d).loc main_arg0
abbrev iLoc (d : Dev nD) : Loc nD τ sig := (SparseCore.T d).loc main_arg1
abbrev tLoc (d : Dev nD) : Loc nD τ sig := (SparseCore.T d).loc main_v0
abbrev oLoc (d : Dev nD) : Loc nD τ sig := (SparseCore.T d).loc main_v1

local notation "tV" => (Memref.whole Cert.KernelIdeal.main_v0_scv : Memref Cert.KernelIdeal.sig Kind.scVector Space.hbm Cert.KernelIdeal.S1024x128 EltTy.f32)
local notation "iV" => (Memref.whole Cert.KernelIdeal.main_arg1_scv : Memref Cert.KernelIdeal.sig Kind.scVector Space.hbm Cert.KernelIdeal.S50176 EltTy.i32)
local notation "oV" => (Memref.whole Cert.KernelIdeal.main_v1_scv : Memref Cert.KernelIdeal.sig Kind.scVector Space.hbm Cert.KernelIdeal.S50176x128 EltTy.f32)
local notation "sV" => (Memref.whole Cert.KernelIdeal.cc0_scratch0 : Memref Cert.KernelIdeal.sig Kind.scVector Space.vmem Cert.KernelIdeal.S784 EltTy.i32)
local notation "rV" => (Memref.whole Cert.KernelIdeal.cc0_scratch1 : Memref Cert.KernelIdeal.sig Kind.scVector Space.vmem Cert.KernelIdeal.S784x128 EltTy.f32)

/-- Run `r` of tile `(c, i)`: 784 rows of the result. -/
def oRun (c i r : ℕ) : Finset S50176x128.Idx := Finset.univ.filter fun j => (j 0).val / 784 = 4 * i + 2 * c + r
/-- The rows of tile `(c, i)`, and of core `c`. -/
def oTile (c i : ℕ) : Finset S50176x128.Idx := Finset.univ.filter fun j => (j 0).val / 1568 = 2 * i + c
def oCore (c : ℕ) : Finset S50176x128.Idx := Finset.univ.filter fun j => (j 0).val / 1568 % 2 = c

theorem row_lt (j : S50176x128.Idx) : (j 0).val < 50176 := (j 0).isLt

theorem oTile_runs (c i : ℕ) : (Finset.univ : Finset (Fin 2)).biUnion (fun r => oRun c i r.val) = oTile c i := by
  ext j
  simp only [Finset.mem_biUnion, oRun, oTile, Finset.mem_filter, Finset.mem_univ, true_and]
  constructor
  · rintro ⟨r, h⟩; have := r.isLt; omega
  · intro h; exact ⟨⟨(j 0).val / 784 % 2, by omega⟩, by simp only; omega⟩
theorem oCore_tiles (c : Fin 2) : (Finset.univ : Finset (Fin 16)).biUnion (fun i => oTile c.val i.val) = oCore c.val := by
  ext j
  have := row_lt j
  simp only [Finset.mem_biUnion, oCore, oTile, Finset.mem_filter, Finset.mem_univ, true_and]
  constructor
  · rintro ⟨i, h⟩; have := c.isLt; omega
  · intro h; exact ⟨⟨(j 0).val / 1568 / 2, by omega⟩, by simp only; omega⟩
theorem univ_cores : (Finset.univ : Finset (Fin 2)).biUnion (fun c => oCore c.val) = Finset.univ := by
  ext j
  simp only [Finset.mem_biUnion, oCore, Finset.mem_filter, Finset.mem_univ, true_and, iff_true]
  exact ⟨⟨(j 0).val / 1568 % 2, by omega⟩, rfl⟩

theorem disj_filter {n : ℕ} (f : Fin n → ℕ) (hf : ∀ a b, f a = f b → a = b) (g : S50176x128.Idx → ℕ) :
    ∀ a ∈ (Finset.univ : Finset (Fin n)), ∀ b ∈ (Finset.univ : Finset (Fin n)), a ≠ b →
      Disjoint (Finset.univ.filter fun j => g j = f a) (Finset.univ.filter fun j => g j = f b) := by
  intro a _ b _ hab
  rw [Finset.disjoint_left]
  intro j ha hb
  simp only [Finset.mem_filter, Finset.mem_univ, true_and] at ha hb
  exact hab (hf a b (ha.symm.trans hb))

/-- A tile's share of an array every tile reads. -/
abbrev sh (c : Fin 2) (i : Fin 16) : PosShare TreeShare :=
  pieceOf (pieceOf fullShare 2 (by decide) c) 16 (by decide) i

theorem pts_shares {ℓ : Loc nD τ sig} (I : Finset (Idx ℓ)) (f : Buf (Elt F) ℓ) :
    (ℓ ↦[I]{fullShare} f : sProp 𝕄) = bigSep Finset.univ fun c : Fin 2 => bigSep Finset.univ fun i : Fin 16 => ℓ ↦[I]{sh c i} f := by
  rw [pointsTo_piecesOf I f (show 0 < 2 by decide) fullShare]
  exact bigSep_congr fun c _ => pointsTo_piecesOf I f (show 0 < 16 by decide) _

theorem pts_tiles (d : Dev nD) (f : Buf (Elt F) (oLoc d)) :
    (oLoc d ↦{fullShare} f : sProp 𝕄)
      = bigSep Finset.univ fun c : Fin 2 => bigSep Finset.univ fun i : Fin 16 => oLoc d ↦[oTile c.val i.val]{fullShare} f := by
  have h := pointsTo_biUnion (Ix := HIx 1) (Val := Elt F) (Name := ℕ) (U := UU) (Lvl := ℕ) (ℓ := oLoc d) (q := fullShare) (f := f)
    (Finset.univ : Finset (Fin 2)) (fun c => oCore c.val)
    (disj_filter (fun c : Fin 2 => c.val) (fun a b h => Fin.ext h) fun j => (j 0).val / 1568 % 2)
  rw [univ_cores] at h
  refine h.trans (bigSep_congr fun c _ => ?_)
  have h' := pointsTo_biUnion (Ix := HIx 1) (Val := Elt F) (Name := ℕ) (U := UU) (Lvl := ℕ) (ℓ := oLoc d) (q := fullShare) (f := f)
    (Finset.univ : Finset (Fin 16)) (fun i => oTile c.val i.val)
    (disj_filter (fun i : Fin 16 => 2 * i.val + c.val) (fun a b h => Fin.ext (by omega)) fun j => (j 0).val / 1568)
  rw [oCore_tiles] at h'
  exact h'

theorem pts_runs (d : Dev nD) (c i : ℕ) (f : Buf (Elt F) (oLoc d)) :
    (oLoc d ↦[oTile c i]{fullShare} f : sProp 𝕄)
      = iprop((oLoc d ↦[oRun c i 0]{fullShare} f) ∗ oLoc d ↦[oRun c i 1]{fullShare} f) := by
  have h := pointsTo_biUnion (Ix := HIx 1) (Val := Elt F) (Name := ℕ) (U := UU) (Lvl := ℕ) (ℓ := oLoc d) (q := fullShare) (f := f)
    (Finset.univ : Finset (Fin 2)) (fun r => oRun c i r.val)
    (disj_filter (fun r : Fin 2 => 4 * i + 2 * c + r.val) (fun a b h => Fin.ext (by omega)) fun j => (j 0).val / 784)
  rw [oTile_runs, BI.bigSep_fin_two] at h
  exact h

variable [FloatOps F]

/-! ## The values -/

/-- The table the gather reads: the codebook behind 96 lanes of zero. -/
def tab (d : Dev nD) : Buf (Elt F) (tLoc d) :=
  pad S1024x128 ![0, 0] ![0, 96] ![0, 0] (m (cLoc d)) (sitofp .f32 (constantI S_ 32 0#32)) pads_S1024x32_S1024x128_000_0960 h_S_

/-- Position `j` of the result in the row numbers. -/
def ixOf (j : S50176x128.Idx) : S50176.Idx := fun | 0 => ⟨(j 0).val, row_lt j⟩
/-- Row `n` of the table, lane `l`. -/
def tabIx (n : ℕ) (hn : n < 1024) (l : Fin 128) : S1024x128.Idx := fun | 0 => ⟨n, hn⟩ | 1 => l

/-- The result: row `j` is row `idx[j]` of the table. -/
def gout (d : Dev nD) : Buf (Elt F) (oLoc d) := fun j =>
  tab m d (tabIx ((m (iLoc d) (ixOf j)).toNat % 1024) (Nat.mod_lt _ (by decide)) (j 1))

/-- What the launch memory has to satisfy: every row number is a row of the table. -/
def PreOK : Prop := ∀ (d : Dev nD) (j : S50176.Idx), (m (iLoc d) j).toNat < 1024

/-! ## What the handshakes carry -/

abbrev iSh (d : Dev nD) (c : Fin 2) (i : Fin 16) : sProp 𝕄 := iLoc d ↦{sh c i} m (iLoc d)
abbrev tSh (d : Dev nD) (c : Fin 2) (i : Fin 16) : sProp 𝕄 := tLoc d ↦{sh c i} tab m d
abbrev oPts (d : Dev nD) (c : Fin 2) (i : Fin 16) (f : Buf (Elt F) (oLoc d)) : sProp 𝕄 := oLoc d ↦[oTile c.val i.val]{fullShare} f

/-- A task's operands: its share of the row numbers and of the table, its rows of the result at `f`. -/
abbrev task (d : Dev nD) (f : Buf (Elt F) (oLoc d)) (c : Fin 2) (i : Fin 16) : sProp 𝕄 := iprop(iSh m d c i ∗ tSh m d c i ∗ oPts d c i f)

def P : (K (F := F)).Pay (nD := nD) (Val := Elt F) (Name := ℕ) (U := UU) where
  st := fun q d c => match q with
    | 0 => bigSep Finset.univ fun i : Fin ((K (F := F)).nSub 0) => task m d (m (oLoc d)) (Fin.cast nCore_zero c) (Fin.cast nSub_zero i)
  dn := fun q d c => match q with
    | 0 => bigSep Finset.univ fun i : Fin ((K (F := F)).nSub 0) => task m d (gout m d) (Fin.cast nCore_zero c) (Fin.cast nSub_zero i)
  go := fun q d c i => match q with | 0 => task m d (m (oLoc d)) (Fin.cast nCore_zero c) (Fin.cast nSub_zero i)
  td := fun q d c i => match q with | 0 => task m d (gout m d) (Fin.cast nCore_zero c) (Fin.cast nSub_zero i)
  x := fun _ _ => iprop(emp)

instance task_storable (d : Dev nD) (f : Buf (Elt F) (oLoc d)) (c : Fin 2) (i : Fin 16) :
    BI.Storable (upEmb : UEmb _ 𝕄) (task m d f c i) :=
  (inferInstance : BI.Storable (upEmb : UEmb _ 𝕄) iprop(iSh m d c i ∗ tSh m d c i ∗ oPts d c i f))

instance P_storable : (P (F := F) m).IsStorable where
  st q d c := match q with
    | 0 => (inferInstance : BI.Storable (upEmb : UEmb _ 𝕄)
      (bigSep Finset.univ fun i : Fin ((K (F := F)).nSub 0) => task m d (m (oLoc d)) (Fin.cast nCore_zero c) (Fin.cast nSub_zero i)))
  dn q d c := match q with
    | 0 => (inferInstance : BI.Storable (upEmb : UEmb _ 𝕄)
      (bigSep Finset.univ fun i : Fin ((K (F := F)).nSub 0) => task m d (gout m d) (Fin.cast nCore_zero c) (Fin.cast nSub_zero i)))
  go q d c i := match q with | 0 => task_storable m d (m (oLoc d)) (Fin.cast nCore_zero c) (Fin.cast nSub_zero i)
  td q d c i := match q with | 0 => task_storable m d (gout m d) (Fin.cast nCore_zero c) (Fin.cast nSub_zero i)

theorem vecSplit : (K (F := F)).VecSplit' (P m) 0 := by
  intro d c
  show (bigSep Finset.univ fun i : Fin ((K (F := F)).nSub 0) => task m d (m (oLoc d)) (Fin.cast nCore_zero c) (Fin.cast nSub_zero i))
    ⊢ |={Set.univ}=> iprop(
      (bigSep Finset.univ fun i : Fin ((K (F := F)).nSub 0) => task m d (m (oLoc d)) (Fin.cast nCore_zero c) (Fin.cast nSub_zero i))
      ∗ ((bigSep Finset.univ fun i : Fin ((K (F := F)).nSub 0) => task m d (gout m d) (Fin.cast nCore_zero c) (Fin.cast nSub_zero i))
          -∗ (bigSep Finset.univ fun i : Fin ((K (F := F)).nSub 0) => task m d (gout m d) (Fin.cast nCore_zero c) (Fin.cast nSub_zero i))))
  iintro H; imodintro
  isplitl [H]; · iexact H
  iintro H; iexact H

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev iL (L : grid0.Coords) : Fin 16 := Fin.cast bound_one (L 1)

/-- A run's row numbers, its rows of the result, all of the table, as the task addresses them. -/
abbrev iK (L : grid0.Coords) (w : BitVec 32) (h : ∀ a, (k0_off1 L w) a + S784.size a ≤ S50176.size a) : Memref sig .scVector .hbm S784 .i32 :=
  (iV).slice (Rect.unit (s := S50176) (k0_off1 L w) S784.size h) (fun _ => rfl)
abbrev oK (L : grid0.Coords) (w : BitVec 32) (h : ∀ a, (k0_off2 L w) a + S784x128.size a ≤ S50176x128.size a) : Memref sig .scVector .hbm S784x128 .f32 :=
  (oV).slice (Rect.unit (s := S50176x128) (k0_off2 L w) S784x128.size h) (fun _ => rfl)
abbrev tK : Memref sig .scVector .hbm S1024x128 .f32 :=
  (tV).slice (Rect.unit (s := S1024x128) ![0, 0] S1024x128.size inb_S1024x128_S1024x128_0_0) (fun _ => rfl)

omit [FloatOps F] in
theorem set_oK (r : Fin 2) (h) : (oK L (BitVec.ofNat 32 r.val) h).view.set = oRun (cL L).val (iL L).val r.val := by
  show ((View.whole (main_v1_scv : Ref sig .scVector)).slice (Rect.unit (s := S50176x128) (k0_off2 L (BitVec.ofNat 32 r.val)) S784x128.size h)).set = _
  rw [View.set_slice]
  refine Finset.map_refl.trans ?_
  ext j
  rw [Rect.mem_set_unit, k0_off2_eq L r]
  refine Fin.forall_fin_two.trans ?_
  have h0 := row_lt j
  have h1 : (j 1).val < 128 := (j 1).isLt
  simp only [oRun, Finset.mem_filter, Finset.mem_univ, true_and]
  show ((3136 * (L 1).val + 1568 * (L 0).val + 784 * r.val ≤ (j 0).val ∧ (j 0).val < 3136 * (L 1).val + 1568 * (L 0).val + 784 * r.val + 784)
    ∧ (0 ≤ (j 1).val ∧ (j 1).val < 0 + 128)) ↔ (j 0).val / 784 = 4 * (L 1).val + 2 * (L 0).val + r.val
  omega

omit [FloatOps F] in
theorem pts_oK (r : Fin 2) (h) (f : Buf (Elt F) (oLoc d)) :
    ((oK L (BitVec.ofNat 32 r.val) h).view.loc (V d (cV L) (jV L)) ↦[(oK L (BitVec.ofNat 32 r.val) h).view.set]{fullShare} f : sProp 𝕄)
      = oLoc d ↦[oRun (cL L).val (iL L).val r.val]{fullShare} f := by
  rw [set_oK]
omit [FloatOps F] in
theorem pts_oK0 (f : Buf (Elt F) (oLoc d)) :
    ((oK L 0#32 (k0_off2_inb L 0)).view.loc (V d (cV L) (jV L)) ↦[(oK L 0#32 (k0_off2_inb L 0)).view.set]{fullShare} f : sProp 𝕄)
      = oLoc d ↦[oRun (cL L).val (iL L).val 0]{fullShare} f := pts_oK d L 0 _ f
omit [FloatOps F] in
theorem pts_oK1 (f : Buf (Elt F) (oLoc d)) :
    ((oK L 1#32 (k0_off2_inb L 1)).view.loc (V d (cV L) (jV L)) ↦[(oK L 1#32 (k0_off2_inb L 1)).view.set]{fullShare} f : sProp 𝕄)
      = oLoc d ↦[oRun (cL L).val (iL L).val 1]{fullShare} f := pts_oK d L 1 _ f
omit [FloatOps F] in
theorem pts_iV (q : PosShare TreeShare) (f : Buf (Elt F) (iLoc d)) :
    ((iV).view.loc (V d (cV L) (jV L)) ↦{q} f : sProp 𝕄) = iLoc d ↦{q} f := rfl
omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The five transfer cells of a task, by their semaphores. -/
abbrev cell (d : Dev nD) (c : Fin τ.nSC) (i : Fin τ.nSub) (s : DmaSem sig) : GSem nD τ sig := (V d c i, .dma s)

omit [FloatOps F] in
theorem cell_ne {c : Fin τ.nSC} {i : Fin τ.nSub} {s t : DmaSem sig} (h : s ≠ t) : cell d c i s ≠ cell d c i t := fun e => by
  have := congrArg Prod.snd e
  exact h (by simpa [cell] using this)
omit [FloatOps F] in
theorem cell_own {c : Fin τ.nSC} {i : Fin τ.nSub} (s : DmaSem sig) (h : (SemLoc.dma s : SemLoc sig).isScoped .scVector = true) :
    cell d c i s ∈ ownCells (V d c i) := mem_ownCells.mpr ⟨rfl, h⟩

omit [FloatOps F] in
theorem ownSems0_V :
    ∃ R : Finset (GSem nD τ sig), (ownSems0 (V d (cV L) (jV L)) : sProp 𝕄)
      = iprop(semVal (cell d (cV L) (jV L) cc0_scratch2.sem) 0 ∗ semVal (cell d (cV L) (jV L) cc0_scoped0.sem) 0
          ∗ semVal (cell d (cV L) (jV L) cc0_scoped1.sem) 0 ∗ semVal (cell d (cV L) (jV L) cc0_scoped2.sem) 0
          ∗ semVal (cell d (cV L) (jV L) cc0_scoped3.sem) 0 ∗ bigSep R fun g => semVal g 0) := by
  refine ⟨(((((ownCells (V d (cV L) (jV L))).erase (cell d (cV L) (jV L) cc0_scratch2.sem)).erase (cell d (cV L) (jV L) cc0_scoped0.sem)).erase
    (cell d (cV L) (jV L) cc0_scoped1.sem)).erase (cell d (cV L) (jV L) cc0_scoped2.sem)).erase (cell d (cV L) (jV L) cc0_scoped3.sem), ?_⟩
  unfold SparseCore.Cfg.ownSems0
  have ne {s t : DmaSem sig} (h : s ≠ t) := cell_ne d (c := cV L) (i := jV L) h
  rw [SparseCore.bigSep_erase' (cell_own d cc0_scratch2.sem (by decide)),
    SparseCore.bigSep_erase' (Finset.mem_erase.mpr ⟨ne (by decide), cell_own d cc0_scoped0.sem (by decide)⟩),
    SparseCore.bigSep_erase' (Finset.mem_erase.mpr ⟨ne (by decide), Finset.mem_erase.mpr ⟨ne (by decide), cell_own d cc0_scoped1.sem (by decide)⟩⟩),
    SparseCore.bigSep_erase' (Finset.mem_erase.mpr ⟨ne (by decide), Finset.mem_erase.mpr ⟨ne (by decide), Finset.mem_erase.mpr ⟨ne (by decide),
      cell_own d cc0_scoped2.sem (by decide)⟩⟩⟩),
    SparseCore.bigSep_erase' (Finset.mem_erase.mpr ⟨ne (by decide), Finset.mem_erase.mpr ⟨ne (by decide), Finset.mem_erase.mpr ⟨ne (by decide),
      Finset.mem_erase.mpr ⟨ne (by decide), cell_own d cc0_scoped3.sem (by decide)⟩⟩⟩⟩)]

omit [FloatOps F] in
theorem ownBufs_V :
    ∃ R : Finset (DevRef τ sig), (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep R fun b => iprop(∃ f, ((d, b) : Loc nD τ sig) ↦{fullShare} f)) := by
  refine ⟨((ownRefs (τ := τ) (.scVector (cV L) (jV L))).erase ((Proc.scVector (cV L) (jV L)).devRef cc0_scratch0)).erase
              ((Proc.scVector (cV L) (jV L)).devRef cc0_scratch1), ?_⟩
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The words a fetch landed are in range. -/
theorem inb_of_pre (hpre : PreOK m) (w : BitVec 32) (h) (fs : Buf (Elt F) ((V d (cV L) (jV L)).loc cc0_scratch0)) (pay : S784.Idx → Elt F .i32)
    (hpay : pay = (iK L w h).view.read (Elt F) (m (iLoc d))) :
    ∀ x, ((sV).view.read (Elt F) (View.write (Elt F) (sV).view fs pay Finset.univ) x).toNat < S1024x128.size gathers_S1024x128_S784x128.axis := by
  subst hpay; intro x
  rw [View.write_whole_univ]
  simp only [Memref.view_whole, View.read_whole]
  rw [show ∀ j, (iK L w h).view.read (Elt F) (m (iLoc d)) j = m (iLoc d) ((iK L w h).view.emb j) from fun j => (View.read_apply _ _).trans (cast_eq _ _)]
  exact hpre d _

omit [FloatOps F] in
/-- The rows' credits add up to the scratch's. -/
theorem rows_credit (h : S1024x128.Gathers 0 S784x128) :
    ∑ j, ((rV).slice (S784x128.rowRect h.axis' j) (S784x128.stride_rowRect h.axis' j)).view.dmaCredit = (rV).view.dmaCredit := by
  exact SparseCore.sum_rowCredit_eq_dmaCredit _ _ (fun _ => rfl)

theorem numel_pos : 0 < S784x128.numel := by
  rw [show S784x128.numel = ∏ a : Fin 2, (![784, 128] : Fin 2 → ℕ) a from rfl]; simp [Fin.prod_univ_two]

theorem tK_emb (x : S1024x128.Idx) : (tK).view.emb x = x := by
  funext a
  apply Fin.ext
  show (![0, 0] : Fin 2 → ℕ) a + 1 * (x a).val = (x a).val
  match a with
  | 0 => simp
  | 1 => simp

omit [FloatOps F] in
/-- What a fetch lands, word by word. -/
theorem list_read (w : BitVec 32) (h) (fs : Buf (Elt F) ((V d (cV L) (jV L)).loc cc0_scratch0)) (pay : S784.Idx → Elt F .i32)
    (hpay : pay = (iK L w h).view.read (Elt F) (m (iLoc d))) (x : S784.Idx) :
    (sV).view.read (Elt F) (View.write (Elt F) (sV).view fs pay Finset.univ) x = m (iLoc d) ((iK L w h).view.emb x) := by
  subst hpay
  rw [View.write_whole_univ]
  exact (View.read_apply _ _).trans (cast_eq _ _)

/-- A copied-out run holds the rows the result asks for. -/
theorem run_value (hpre : PreOK m) (r : Fin 2) (h1 h2) (fr : Buf (Elt F) ((V d (cV L) (jV L)).loc cc0_scratch1)) (f : Buf (Elt F) (oLoc d))
    (g : S784.Idx → Elt F .i32) (hn : S784.numel = S784x128.size gathers_S1024x128_S784x128.axis')
    (hin : ∀ x, (g x).toNat < S1024x128.size gathers_S1024x128_S784x128.axis) (w : S784x128.Idx → Elt F .f32)
    (hw : w = (rV).view.read (Elt F) (View.write (Elt F) (rV).view fr (SparseCore.gatherPayload gathers_S1024x128_S784x128
      ((tK).view.read (Elt F) (tab m d)) (SparseCore.rows g hn hin)) Finset.univ))
    (hg : ∀ x, g x = m (iLoc d) ((iK L (BitVec.ofNat 32 r.val) h1).view.emb x)) :
    ∀ j ∈ (oK L (BitVec.ofNat 32 r.val) h2).view.set,
      (oK L (BitVec.ofNat 32 r.val) h2).view.writes (Elt F) f [⟨Rect.whole S784x128, w⟩] j = gout m d j := by
  have hw' : w = SparseCore.gatherPayload gathers_S1024x128_S784x128 ((tK).view.read (Elt F) (tab m d)) (SparseCore.rows g hn hin) :=
    hw.trans (View.write_whole_univ _ _ _)
  intro j hj
  obtain ⟨y, -, rfl⟩ := Finset.mem_map.mp hj
  refine (show _ = (oK L (BitVec.ofNat 32 r.val) h2).view.read (Elt F) _ y from ((View.read_apply _ _).trans (cast_eq _ _)).symm).trans ?_
  rw [View.read_writes_whole, hw']
  unfold SparseCore.gatherPayload gout
  rw [show ∀ x, (tK).view.read (Elt F) (tab m d) x = tab m d ((tK).view.emb x) from fun x => (View.read_apply _ _).trans (cast_eq _ _), tK_emb]
  congr 1
  have hrow : (SparseCore.rows g hn hin (y 0)).val = (m (iLoc d) (ixOf ((oK L (BitVec.ofNat 32 r.val) h2).view.emb y))).toNat := by
    show (g (S784.rowMajor.symm (Fin.cast hn.symm (y 0)))).toNat = _
    rw [hg]
    congr 2
    funext a
    match a with
    | 0 =>
      apply Fin.ext
      have e1 := Shape.rowMajor_val_one (S784.rowMajor.symm (Fin.cast hn.symm (y 0)))
      have e2 : (S784.rowMajor (S784.rowMajor.symm (Fin.cast hn.symm (y 0)))).val = (y 0).val := by rw [Equiv.apply_symm_apply]; rfl
      show (k0_off1 L (BitVec.ofNat 32 r.val)) 0 + 1 * ((S784.rowMajor.symm (Fin.cast hn.symm (y 0))) 0).val
        = (k0_off2 L (BitVec.ofNat 32 r.val)) 0 + 1 * (y 0).val
      rw [k0_off1_eq L r, k0_off2_eq L r]
      show 3136 * (L 1).val + 1568 * (L 0).val + 784 * r.val + 1 * _ = 3136 * (L 1).val + 1568 * (L 0).val + 784 * r.val + 1 * _
      have e3 := e1.symm.trans e2
      omega
  funext a
  match a with
  | 0 =>
    apply Fin.ext
    refine (congrArg Fin.val (Shape.Gathers.idx_axis gathers_S1024x128_S784x128 (SparseCore.rows g hn hin) y)).trans (hrow.trans ?_)
    exact (Nat.mod_eq_of_lt (hpre d _)).symm
  | 1 =>
    apply Fin.ext
    refine (Shape.Gathers.idx_of_ne gathers_S1024x128_S784x128 (SparseCore.rows g hn hin) y 1 (by decide)).trans ?_
    show (y 1).val = (k0_off2 L (BitVec.ofNat 32 r.val)) 1 + 1 * (y 1).val
    rw [k0_off2_eq L r]
    show (y 1).val = 0 + 1 * (y 1).val
    omega

set_option maxHeartbeats 4000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ task m d (m (oLoc d)) (cL L) (iL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L tV (Memref.isWhole_whole _) iV (Memref.isWhole_whole _) oV (Memref.isWhole_whole _)
            sV (Memref.isWhole_whole _) rV (Memref.isWhole_whole _) cc0_scratch2 cc0_scoped0 cc0_scoped1 cc0_scoped2 cc0_scoped3)
          fun _ => iprop(task m d (gout m d) (cL L) (iL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  simp only [k0_part1_eq_skeleton]; unfold k0_part1_skel
  simp only [bind_assoc, pure_bind]
  obtain ⟨Rs, hRs⟩ := ownSems0_V (F := F) d L
  obtain ⟨Rb, hRb⟩ := ownBufs_V (F := F) d L
  rw [(K (F := F)).scopedBufs_V hF d (cV L) (jV L), SparseCore.Cfg.scopedSems0_V (Val := Elt F) d (cV L) (jV L), hRs, hRb]
  unfold task oPts
  rw [pts_runs, pts_runs]
  iintro ⟨#Hlv, -, ⟨Hi, Ht, Ho0, Ho1⟩, ⟨⟨%fs, Hs⟩, ⟨%fr, Hr⟩, Hbufs⟩, ⟨HsemG, Hsem0, Hsem1, Hsem2, Hsem3, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iV (F := F) d L _ _).symm) $$ Hi
  ihave Ho0' := (Entails.of_eq (pts_oK0 (F := F) d L _).symm) $$ Ho0
  ihave Ho1' := (Entails.of_eq (pts_oK1 (F := F) d L _).symm) $$ Ho1
  ihave Ht' := (Entails.of_eq (pts_tV (F := F) d L _ _).symm) $$ Ht
  ihave Hs' := (Entails.of_eq (pts_sV (F := F) d L _).symm) $$ Hs
  ihave Hr' := (Entails.of_eq (pts_rV (F := F) d L _).symm) $$ Hr
  have hrs : (rV).view.set = Finset.univ := View.set_whole _
  have hss : (sV).view.set = Finset.univ := View.set_whole _
  have hr (f : Buf (Elt F) ((V d (cV L) (jV L)).loc cc0_scratch1)) : ((rV).view.loc (V d (cV L) (jV L)) ↦{fullShare} f : sProp 𝕄)
      = (rV).view.loc (V d (cV L) (jV L)) ↦[(rV).view.set]{fullShare} f := by rw [hrs]
  have hs (f : Buf (Elt F) ((V d (cV L) (jV L)).loc cc0_scratch0)) : ((sV).view.loc (V d (cV L) (jV L)) ↦{fullShare} f : sProp 𝕄)
      = (sV).view.loc (V d (cV L) (jV L)) ↦[(sV).view.set]{fullShare} f := by rw [hss]
  have ht := pointsTo_split_subset (Ix := HIx 1) (Val := Elt F) (Name := ℕ) (U := UU) (Lvl := ℕ) (ℓ := tLoc d) (q := sh (cL L) (iL L)) (f := tab m d)
    (S := Finset.univ) (Finset.subset_univ (tK).view.set)
  sl_exec
  -- the first run's stream, from the share of the table, the row scratch, the fetched list and the cell at zero
  ihave Hts := ht.1 $$ Ht'
  icases Hts with ⟨Hts, Htr⟩
  ihave Hr'' := (Entails.of_eq (hr _)) $$ Hr'
  ihave Hs'' := (Entails.of_eq (hs _)) $$ Hs'
  iapply (SparseCore.wp_indirectGatherLocal countersEmb 𝒱₀ (V d (cV L) (jV L)) none (hg := gathers_S1024x128_S784x128) (default : HIx 1)
      (rV).view.dmaCredit (rows_credit _) numel_pos (inb_of_pre m d L hpre 0#32 (k0_off1_inb L 0) fs _ rfl)) $$ [Hts Hr'' Hs'' HsemG]
  · isplitl [Hts]; · iexact Hts
    isplitl [Hr'']; · iexact Hr''
    isplitl [Hs'']; · iexact Hs''
    iexact HsemG
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hts, Hs'⟩, HsemG, HO⟩
  ihave Ht' := ht.2 $$ [Hts Htr]; · isplitl [Hts] <;> iassumption
  ihave Hr3 := (Entails.of_eq (hr _).symm) $$ Hr'
  ihave Hs3 := (Entails.of_eq (hs _).symm) $$ Hs'
  sl_exec
  -- the second run's
  ihave Hts := ht.1 $$ Ht'
  icases Hts with ⟨Hts, Htr⟩
  ihave Hr'' := (Entails.of_eq (hr _)) $$ Hr3
  ihave Hs'' := (Entails.of_eq (hs _)) $$ Hs3
  iapply (SparseCore.wp_indirectGatherLocal countersEmb 𝒱₀ (V d (cV L) (jV L)) none (hg := gathers_S1024x128_S784x128) (default : HIx 1)
      (rV).view.dmaCredit (rows_credit _) numel_pos (inb_of_pre m d L hpre 1#32 (k0_off1_inb L 1) _ _ rfl)) $$ [Hts Hr'' Hs'' HsemG]
  · isplitl [Hts]; · iexact Hts
    isplitl [Hr'']; · iexact Hr''
    isplitl [Hs'']; · iexact Hs''
    iexact HsemG
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hts, Hs'⟩, HsemG, HO⟩
  ihave Ht' := ht.2 $$ [Hts Htr]; · isplitl [Hts] <;> iassumption
  ihave Hr3 := (Entails.of_eq (hr _).symm) $$ Hr'
  ihave Hs3 := (Entails.of_eq (hs _).symm) $$ Hs'
  sl_exec
  sl_step
  isplitl [Hi' Ht' Ho0' Ho1']
  · isplitl [Hi']; · iapply (Entails.of_eq (pts_iV (F := F) d L _ _)); iexact Hi'
    isplitl [Ht']; · iexact Ht'
    isplitl [Ho0']
    · ihave H := (Entails.of_eq (pointsTo_congr (run_value m d L hpre 0 (k0_off1_inb L 0) (k0_off2_inb L 0) fr (m (oLoc d)) _ _ _ _ rfl
        (list_read m d L 0#32 (k0_off1_inb L 0) fs _ rfl)))) $$ Ho0'
      iapply (Entails.of_eq (pts_oK0 (F := F) d L _)); iexact H
    · ihave H := (Entails.of_eq (pointsTo_congr (run_value m d L hpre 1 (k0_off1_inb L 1) (k0_off2_inb L 1) _ (m (oLoc d)) _ _ _ _ rfl
        (list_read m d L 1#32 (k0_off1_inb L 1) _ _ rfl)))) $$ Ho1'
      iapply (Entails.of_eq (pts_oK1 (F := F) d L _)); iexact H
  isplitl [Hs3 Hr3 Hbufs]
  · isplitl [Hs3]; · iexists _; iexact Hs3
    isplitl [Hr3]; · iexists _; iexact Hr3
    iexact Hbufs
  isplitl [HsemG Hsem0 Hsem1 Hsem2 Hsem3 Hsems]
  · isplitl [HsemG]; · iexact HsemG
    isplitl [Hsem0]; · iexact Hsem0
    isplitl [Hsem1]; · iexact Hsem1
    isplitl [Hsem2]; · iexact Hsem2
    isplitl [Hsem3]; · iexact Hsem3
    iexact Hsems
  iexists _; isplitr
  swap; · iexact HO
  ipureintro; intro p hp
  simp only [Finset.mem_insert] at hp
  rcases hp with hp | hp | hp | hp | hp | hp | hp
  all_goals first | exact .inr (hp ▸ rfl) | exact .inl hp

/-! ## The launch's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          tV (Memref.isWhole_whole _) iV (Memref.isWhole_whole _) oV (Memref.isWhole_whole _)
          sV (Memref.isWhole_whole _) rV (Memref.isWhole_whole _) cc0_scratch2 cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Tile

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The call's operands, dealt to the tiles and back -/

omit [FloatOps F] in
theorem tasks_cast (Φ : Fin 2 → Fin 16 → sProp 𝕄) :
    (bigSep Finset.univ fun c : Fin ((K (F := F)).nCore 0) => bigSep Finset.univ fun i : Fin ((K (F := F)).nSub 0) =>
        Φ (Fin.cast nCore_zero c) (Fin.cast nSub_zero i))
      = bigSep Finset.univ fun c : Fin 2 => bigSep Finset.univ fun i : Fin 16 => Φ c i := rfl

theorem tasks_eq (d : Dev nD) (f : Buf (Elt F) (oLoc d)) :
    (bigSep Finset.univ fun c : Fin 2 => bigSep Finset.univ fun i : Fin 16 => task m d f c i)
      = iprop((iLoc d ↦{fullShare} m (iLoc d)) ∗ (tLoc d ↦{fullShare} tab m d) ∗ oLoc d ↦{fullShare} f) := by
  rw [pts_shares Finset.univ (m (iLoc d)), pts_shares Finset.univ (tab m d), pts_tiles d f]
  unfold task
  simp only [bigSep_sep']

theorem st0_eq (d : Dev nD) : (bigSep Finset.univ fun c : Fin ((K (F := F)).nCore 0) => (P m).st 0 d c)
    = iprop((iLoc d ↦{fullShare} m (iLoc d)) ∗ (tLoc d ↦{fullShare} tab m d) ∗ oLoc d ↦{fullShare} m (oLoc d)) :=
  (tasks_cast (task m d (m (oLoc d)))).trans (tasks_eq m d _)
theorem dn0_eq (d : Dev nD) : (bigSep Finset.univ fun c : Fin ((K (F := F)).nCore 0) => (P m).dn 0 d c)
    = iprop((iLoc d ↦{fullShare} m (iLoc d)) ∗ (tLoc d ↦{fullShare} tab m d) ∗ oLoc d ↦{fullShare} gout m d) :=
  (tasks_cast (task m d (gout m d))).trans (tasks_eq m d _)

/-! ## The host operations before the call -/

abbrev cB : DevRef τ sig := Proc.devRef .tc (main_arg0 : Ref sig .tc)
abbrev iB : DevRef τ sig := Proc.devRef .tc (main_arg1 : Ref sig .tc)
abbrev zB : DevRef τ sig := Proc.devRef .tc (main_c : Ref sig .tc)
abbrev pB : DevRef τ sig := Proc.devRef .tc (main_call0_v0 : Ref sig .tc)
abbrev tB : DevRef τ sig := Proc.devRef .tc (main_v0 : Ref sig .tc)
abbrev oB : DevRef τ sig := Proc.devRef .tc (main_v1 : Ref sig .tc)
abbrev opZ : HloOp τ sig (Elt F) := StableHlo.nullary main_c (constantI S_ 32 0#32)
abbrev opP : HloOp τ sig (Elt F) := StableHlo.TRef.unary (.of main_c : StableHlo.TRef sig ⟨S_, .i32⟩) main_call0.v0 (sitofp .f32)
abbrev opT : HloOp τ sig (Elt F) := StableHlo.TRef.binary (.of main_arg0 : StableHlo.TRef sig ⟨S1024x32, .f32⟩) main_call0.v0 main_call0.v1
  (fun x v => pad S1024x128 ![0, 0] ![0, 96] ![0, 0] x v pads_S1024x32_S1024x128_000_0960 h_S_)

abbrev S6 : Finset (DevRef τ sig) := {cB, iB, zB, pB, tB, oB}

omit [FloatOps F] in
theorem held_S6 (d : Dev nD) (W : Valuation τ sig (Elt F)) :
    (held (T d) S6 W : sProp 𝕄)
      = iprop((cLoc d ↦{fullShare} W cB) ∗ (iLoc d ↦{fullShare} W iB) ∗ ((SparseCore.T d).loc main_c ↦{fullShare} W zB)
          ∗ ((SparseCore.T d).loc main_call0_v0 ↦{fullShare} W pB) ∗ (tLoc d ↦{fullShare} W tB) ∗ oLoc d ↦{fullShare} W oB) := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((cLoc d ↦{fullShare} W main_arg0) ∗ (iLoc d ↦{fullShare} W main_arg1) ∗ ((SparseCore.T d).loc main_c ↦{fullShare} W main_c)
          ∗ ((SparseCore.T d).loc main_call0_v0 ↦{fullShare} W main_call0_v0) ∗ (tLoc d ↦{fullShare} W main_v0) ∗ oLoc d ↦{fullShare} W main_v1) := by
  unfold unscopedBufs
  rw [show (Finset.univ.filter fun b : Ref sig .tc => ¬ b.isScoped) = {main_arg0, main_arg1, main_c, main_call0_v0, main_v0, main_v1} by decide,
    SparseCore.bigSep_insert' (by decide), SparseCore.bigSep_insert' (by decide), SparseCore.bigSep_insert' (by decide),
    SparseCore.bigSep_insert' (by decide), SparseCore.bigSep_insert' (by decide), bigSep_singleton]

/-- The valuation at launch, and before the call. -/
def V0 (d : Dev nD) : Valuation τ sig (Elt F) := fun b => m (d, b)
def V3 (d : Dev nD) : Valuation τ sig (Elt F) := (opT (F := F)).result ((opP (F := F)).result ((opZ (F := F)).result (V0 m d)))

theorem unscoped_held (d : Dev nD) : (unscopedBufs d (fun b => m ((SparseCore.T d).loc b)) : sProp 𝕄) = held (T d) S6 (V0 m d) := by
  rw [unscopedBufs_eq, held_S6]; rfl

theorem V3_keep (d : Dev nD) (b : DevRef τ sig) (ht : b ∉ ({tB} : Finset (DevRef τ sig))) (hp : b ∉ ({pB} : Finset (DevRef τ sig)))
    (hz : b ∉ ({zB} : Finset (DevRef τ sig))) : V3 m d b = m (d, b) := by
  unfold V3
  exact ((opT (F := F)).result_of_not_mem _ ht).trans (((opP (F := F)).result_of_not_mem _ hp).trans ((opZ (F := F)).result_of_not_mem _ hz))

theorem V3_tab (d : Dev nD) : V3 m d tB = tab m d := by
  refine (StableHlo.binary_result _ _ _ _ _ _ _ _).trans ?_
  show pad S1024x128 ![0, 0] ![0, 96] ![0, 0] ((opP (F := F)).result ((opZ (F := F)).result (V0 m d)) cB)
    ((opP (F := F)).result ((opZ (F := F)).result (V0 m d)) pB) pads_S1024x32_S1024x128_000_0960 h_S_ = tab m d
  have h1 : (opP (F := F)).result ((opZ (F := F)).result (V0 m d)) cB = m (d, cB) :=
    ((opP (F := F)).result_of_not_mem _ (show cB ∉ ({pB} : Finset (DevRef τ sig)) by decide)).trans
      ((opZ (F := F)).result_of_not_mem _ (show cB ∉ ({zB} : Finset (DevRef τ sig)) by decide))
  have h2 : (opP (F := F)).result ((opZ (F := F)).result (V0 m d)) pB = sitofp .f32 (constantI S_ 32 0#32) := by
    refine (StableHlo.unary_result _ _ _ _ _ _).trans ?_
    show sitofp .f32 ((opZ (F := F)).result (V0 m d) zB) = _
    rw [show (opZ (F := F)).result (V0 m d) zB = constantI S_ 32 0#32 from StableHlo.nullary_result _ _ _ _]
  rw [h1, h2]
  rfl

theorem hZ : (opZ (F := F)).bufs ⊆ S6 := show ({zB} : Finset (DevRef τ sig)) ⊆ S6 by decide
theorem hP : (opP (F := F)).bufs ⊆ S6 := show ({zB, pB} : Finset (DevRef τ sig)) ⊆ S6 by decide
theorem hT : (opT (F := F)).bufs ⊆ S6 := show ({cB, pB, tB} : Finset (DevRef τ sig)) ⊆ S6 by decide

/-- The arrays before the call. -/
theorem held_V3 (d : Dev nD) :
    (held (T d) S6 ((opT (F := F)).result ((opP (F := F)).result ((opZ (F := F)).result (V0 m d)))) : sProp 𝕄)
      = iprop((cLoc d ↦{fullShare} m (cLoc d)) ∗ (iLoc d ↦{fullShare} m (iLoc d)) ∗ ((SparseCore.T d).loc main_c ↦{fullShare} V3 m d zB)
          ∗ ((SparseCore.T d).loc main_call0_v0 ↦{fullShare} V3 m d pB) ∗ (tLoc d ↦{fullShare} tab m d) ∗ oLoc d ↦{fullShare} m (oLoc d)) := by
  show held (SparseCore.T d) S6 (V3 m d) = _
  rw [held_S6, V3_tab, V3_keep m d cB (by decide) (by decide) (by decide), V3_keep m d iB (by decide) (by decide) (by decide),
    V3_keep m d oB (by decide) (by decide) (by decide)]

/-- What the host thread leaves: the operands as launched, the result. -/
abbrev FIN (d : Dev nD) : sProp 𝕄 :=
  iprop((cLoc d ↦{fullShare} m (cLoc d)) ∗ (iLoc d ↦{fullShare} m (iLoc d)) ∗ oLoc d ↦{fullShare} gout m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, fn_pad.body, wp_bind, wp_pure]
  iintro ⟨#Hctx, Hst, ⟨Hb, Hheld, Hts, -⟩, -⟩
  iapply (wp_hlo_within 𝒱 (SparseCore.T d) none Set.univ (op := opZ) (S := S6) hZ (V := V0 m d)) $$ [Hb Hheld]
  · isplitl [Hb] <;> iassumption
  iintro ⟨Hb, Hheld⟩
  rw [wp_ret]; imodintro
  iapply (wp_hlo_within 𝒱 (SparseCore.T d) none Set.univ (op := opP) (S := S6) hP (V := (opZ (F := F)).result (V0 m d))) $$ [Hb Hheld]
  · isplitl [Hb] <;> iassumption
  iintro ⟨Hb, Hheld⟩
  rw [wp_ret]; imodintro
  iapply (wp_hlo_within 𝒱 (SparseCore.T d) none Set.univ (op := opT) (S := S6) hT (V := (opP (F := F)).result ((opZ (F := F)).result (V0 m d)))) $$ [Hb Hheld]
  · isplitl [Hb] <;> iassumption
  iintro ⟨Hb, Hheld⟩
  rw [wp_ret]; imodintro; imodintro
  ihave Hh := (Entails.of_eq (held_V3 (F := F) m d)) $$ Hheld
  icases Hh with ⟨Hc, Hi, Hz, Hp, Ht, Ho⟩
  iapply ((K (F := F)).wp_run (D (F := F)) 𝒱 (EH := EH) (P := P m) κ d 0) $$ [Hst Hi Ht Ho Hb Hts Hc]
  isplitr; · iexact Hctx
  isplitl [Hst]; · iexact Hst
  isplitl [Hi Ht Ho]
  · rw [st0_eq]
    isplitl [Hi]; · iexact Hi
    isplitl [Ht]; · iexact Ht
    iexact Ho
  iintro ⟨Hst, Hdn⟩
  ihave Hdn' := (Entails.of_eq (dn0_eq m d)) $$ Hdn
  icases Hdn' with ⟨Hi, -, Ho⟩
  imodintro
  isplitl [Hst]; · iexact Hst
  isplitr [Hb Hts]
  · isplitl [Hc]; · iexact Hc
    isplitl [Hi]; · iexact Hi
    iexact Ho
  isplitl [Hb] <;> iassumption

def fq (d : Dev nD) (s' : Phys nD τ sig (Elt F)) : Prop :=
  s'.mem.mem (cLoc d) = m (cLoc d) ∧ s'.mem.mem (iLoc d) = m (iLoc d) ∧ s'.mem.mem (oLoc d) = gout m d

set_option maxRecDepth 16384 in
theorem hfin (d : Dev nD) (s' : Phys nD τ sig (Elt F)) : iprop(FIN m d ∗ SI s') ⊢ (⌜fq m d s'⌝ : sProp 𝕄) := by
  iintro ⟨⟨Hc, Hi, Ho⟩, HSI⟩
  ihave H := (persistent_entails_right (SI_pointsTo_agree (st := s') (ℓ := cLoc d) (I := Finset.univ) (q := fullShare) (f := m (cLoc d)))) $$ [HSI Hc]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := oLoc d) (I := Finset.univ) (q := fullShare) (f := gout m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

def QC : PUnit × MemSt nD τ sig (Elt F) → Prop := fun r =>
  (∀ c : Dev nD, r.2.mem (cLoc c) = m (cLoc c) ∧ r.2.mem (iLoc c) = m (iLoc c) ∧ r.2.mem (oLoc c) = gout m c) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.GatherIdeal

end
-- ==== Proof.Rows.lean ====
/-
  The SparseCore gather's plain reference read at an index, and its precondition read as a bound on the row numbers:
  taking rows with the numbers in range is the table's row at that number, padded with zero lanes.
-/
module

public import proofs.«01_k».proof.Defs
public import proofs.«01_k».proof.Proof.Gen.ReferenceIdeal
public import proofs.«01_k».proof.Proof.Gen.ReferenceIdeal.Run
public import proofs.«01_k».proof.Proof.Gen.Pre_idx_in_codebook
public import Idealize.ShloMosaic.Lib.ReduceAll
public import Idealize.ShloMosaic.Lib.Pointwise
public import Idealize.ShloMosaic.Lib.ValueIdxCore
public import Idealize.ShloMosaic.Lib.Routing.Ops

@[expose] public section

noncomputable section

namespace Cert.Proof.Rows

open Cert.ReferenceIdeal Cert.ReferenceIdeal.Gen Idealize.ShloMosaic Idealize.SL.Sem

variable {F : FTy → Type} [FloatOps F]

/-- The precondition bounds every row number. -/
theorem bound_of_pre (cb : FVec F S1024x32 .f32) (ix : IVec S50176 32)
    (h : Cert.Pre_idx_in_codebook.fn (F := F) cb ix = fun _ => 1#1) (j : S50176.Idx) : (ix j).toNat < 1024 := by
  have h0 := congrFun h ValueIdx.ix0
  unfold Cert.Pre_idx_in_codebook.fn at h0
  have h1 := Host.reduce_andi_all _ _ _ _ _ h0 j
  have h2 := IntOp.andi_eq_one.1 h1
  have a := IntOp.cmpi_sge.1 h2.1
  have b := IntOp.cmpi_slt.1 h2.2
  have a' : 0 ≤ (ix j).toInt := a
  have b' : (ix j).toInt < 1024 := b
  rw [BitVec.toInt_eq_toNat_cond] at a' b'
  split at a' <;> omega

/-- The row numbers as a column, a negative one counted from the table's end. -/
def cols (ix : IVec S50176 32) : IVec S50176x1 32 :=
  broadcastInDim S50176x1 ![0] bcast_S50176_S50176x1_0 (select (cmpi .slt ix (broadcastInDim S50176 ![] bcast_S_S50176 (constantI S_ 32 0#32))) (addi ix (broadcastInDim S50176 ![] bcast_S_S50176 (constantI S_ 32 1024#32))) ix)

/-- Which rows have a number in range. -/
def inRange (ix : IVec S50176 32) : IVec S50176 1 :=
  Host.reduce IntOp.andi (andi (cmpi .sge (cols ix) (broadcastInDim S50176x1 ![] bcast_S_S50176x1 (constantI S_ 32 0#32))) (cmpi .sle (cols ix) (broadcastInDim S50176x1 ![0, 1] bcast_S1x1_S50176x1_0_1 (broadcastInDim S1x1 ![1] bcast_S1_S1x1_1 (constantI S1 32 1023#32))))) (constantI S_ 1 1#1) reducesTo_S50176x1_S50176_d1 h_S_

/-- What the reference's result holds. -/
def taken (cb : FVec F S1024x32 .f32) (ix : IVec S50176 32) : FVec F S50176x128 .f32 :=
  pad S50176x128 ![0, 0] ![0, 96] ![0, 0] (select (broadcastInDim S50176x32 ![0] bcast_S50176_S50176x32_0 (inRange ix)) (Host.gather gather_S1024x32_S50176x1_S50176x32_1_0_n_n_0_1_132 cb (cols ix)) (broadcastInDim S50176x32 ![] bcast_S_S50176x32 (constant S_ .f32 0x7FC00000#32))) (sitofp .f32 (constantI S_ 32 0#32)) pads_S50176x32_S50176x128_000_0960 h_S_

theorem toInt_small {w : BitVec 32} (h : w.toNat < 1024) : w.toInt = w.toNat := by
  rw [BitVec.toInt_eq_toNat_cond, if_pos (by omega)]

theorem cols_apply (ix : IVec S50176 32) (h : ∀ j, (ix j).toNat < 1024) (i : S50176x1.Idx) : cols ix i = ix (ix1 (i 0)) := by
  unfold cols
  pointwise
  have hj := h (ix1 (i 0))
  have hs : IntOp.cmpi .slt (ix (ix1 (i 0))) 0#32 = 0#1 := (BitVec.eq_zero_or_eq_one _).resolve_right fun e => by
    have e' : (ix (ix1 (i 0))).toInt < 0 := IntOp.cmpi_slt.1 e
    rw [toInt_small hj] at e'
    omega
  rw [hs]
  rfl

theorem inRange_apply (ix : IVec S50176 32) (h : ∀ j, (ix j).toNat < 1024) (j : S50176.Idx) : inRange ix j = 1#1 := by
  unfold inRange
  refine Host.reduce_andi_one _ _ _ _ _ rfl fun i => ?_
  have hj := h (ix1 (i 0))
  pointwise
  rw [cols_apply ix h]
  refine IntOp.andi_eq_one.2 ⟨IntOp.cmpi_sge.2 ?_, IntOp.cmpi_sle.2 ?_⟩
  · show (0 : ℤ) ≤ _
    rw [toInt_small hj]; omega
  · show _ ≤ (1023 : ℤ)
    rw [toInt_small hj]; omega

/-- Taking, then padding, is the padded table's row at the number. -/
theorem taken_apply (cb : FVec F S1024x32 .f32) (ix : IVec S50176 32) (h : ∀ j, (ix j).toNat < 1024)
    (hp : S1024x32.Pads ![0, 0] ![0, 96] ![0, 0] ⟨2, ![1024, 128]⟩) (r : Fin 50176) (l : Fin 128) :
    taken cb ix (ix2 r l) = pad ⟨2, ![1024, 128]⟩ ![0, 0] ![0, 96] ![0, 0] cb (sitofp .f32 (constantI S_ 32 0#32)) hp h_S_
      (ix2 ⟨(ix (ix1 r)).toNat, h _⟩ l) := by
  unfold taken
  pointwise
  simp only [inRange_apply ix h]
  have hr := h (ix1 r)
  by_cases hl : l.val < 32
  · rw [dif_pos hl, dif_pos ⟨hr, hl⟩]
    have hg : ∀ y : S50176x32.Idx, y = ValueIdx.ix2 r ⟨l.val, hl⟩ →
        Host.gather gather_S1024x32_S50176x1_S50176x32_1_0_n_n_0_1_132 cb (cols ix) y
          = cb (ValueIdx.ix2 ⟨(ix (ix1 r)).toNat, hr⟩ ⟨l.val, hl⟩) := by
      rintro _ rfl
      refine Routing.gather_row gather_S1024x32_S50176x1_S50176x32_1_0_n_n_0_1_132 rfl rfl rfl rfl rfl
        cb (cols ix) r ⟨l.val, hl⟩ ⟨(ix (ix1 r)).toNat, hr⟩ ?_ (by decide)
      rw [cols_apply ix h]
      exact ((BitVec.ofNat_toNat 32 _).trans (BitVec.setWidth_eq _)).symm
    exact (hg _ (ix2_eq_valueIdx _ _)).trans (congrArg cb (ix2_eq_valueIdx _ _).symm)
  · rw [dif_neg hl, dif_neg fun e => hl e.2]

end Cert.Proof.Rows

end
-- ==== Proof.GatherClaims.lean ====
/-
  The claims about the SparseCore gather: its frames from its run, the reference's from its generated run, and that
  the two results are one function of the table and the row numbers.
-/
module

public import proofs.«01_k».proof.Defs
public import proofs.«01_k».proof.Proof.Gather
public import proofs.«01_k».proof.Proof.GatherIdeal
public import proofs.«01_k».proof.Proof.Rows
public import Idealize.ShloMosaic.Lib.Quiescent

@[expose] public section

noncomputable section

namespace Cert.Proof.GatherClaims

open Idealize.ShloMosaic Idealize.ShloMosaic.TcCoe Idealize.SL.Sem

theorem ok_bits (m : (ℓ : Loc Cert.Kernel.nD Cert.Kernel.τ Cert.Kernel.sig) → Buf (Elt Bits) ℓ) (h : Cert.Pre_Kernel m) : Gather.PreOK m :=
  fun d j => Rows.bound_of_pre (F := Bits) _ _ (h d) j
theorem ok_ideal (m : (ℓ : Loc Cert.KernelIdeal.nD Cert.KernelIdeal.τ Cert.KernelIdeal.sig) → Buf (Elt Ideal) ℓ) (h : Cert.Pre_KernelIdeal m) : GatherIdeal.PreOK m :=
  fun d j => Rows.bound_of_pre (F := Ideal) _ _ (h d) j

theorem frame_p : Cert.quiescent_Kernel := fun m ρ h =>
  (θ_run _ _ _).mono (fun _ hr => ⟨fun c => ⟨(hr.1 c).1, (hr.1 c).2.1⟩, hr.2⟩) (Gather.run_main (F := Bits) m ρ (ok_bits m h))
theorem frame_pi : Cert.quiescent_KernelIdeal := fun m ρ h =>
  (θ_run _ _ _).mono (fun _ hr => ⟨fun c => ⟨(hr.1 c).1, (hr.1 c).2.1⟩, hr.2⟩) (GatherIdeal.run_main (F := Ideal) m ρ (ok_ideal m h))
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_ri_pre : Cert.quiescent_ReferenceIdeal_pre_idx_in_codebook := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The gathered rows are the taken rows. -/
theorem gout_eq (m : (ℓ : Loc Cert.KernelIdeal.nD Cert.KernelIdeal.τ Cert.KernelIdeal.sig) → Buf (Elt Ideal) ℓ) (h : GatherIdeal.PreOK m)
    (d : Dev Cert.KernelIdeal.nD) :
    (Rows.taken (F := Ideal) (m (GatherIdeal.cLoc d)) (m (GatherIdeal.iLoc d))) = GatherIdeal.gout m d := by
  funext j
  obtain ⟨r, l, rfl⟩ : ∃ (r : Fin 50176) (l : Fin 128), j = ix2 r l := ⟨j 0, j 1, eq_ix2 j⟩
  refine (Rows.taken_apply (F := Ideal) _ _ (h d) Cert.KernelIdeal.Gen.pads_S1024x32_S1024x128_000_0960 r l).trans ?_
  unfold GatherIdeal.gout GatherIdeal.tab
  congr 1
  funext a
  match a with
  | 0 =>
    apply Fin.ext
    refine Eq.trans ?_ (Nat.mod_eq_of_lt (h d (GatherIdeal.ixOf (ix2 r l)))).symm
    show (m (GatherIdeal.iLoc d) (ix1 r)).toNat = _
    congr 2
    funext b
    match b with
    | 0 => rfl
  | 1 => rfl

theorem algebraic : Cert.algebraic_KernelIdeal_ReferenceIdeal := by
  intro m ρ m' ρ' hpre hagree
  refine ⟨GatherIdeal.gout m, (θ_run _ _ _).mono (fun _ hr c => ⟨(hr.1 c).2.2, (hr.1 c).1, (hr.1 c).2.1⟩)
    (GatherIdeal.run_main (F := Ideal) m ρ (ok_ideal m hpre)), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact gout_eq m (ok_ideal m hpre) c

end Cert.Proof.GatherClaims

end
-- ==== Proof.Frames.lean ====
/- Arrays inside a frame of zeros. A buffer of 58 by 64 places that is zero outside its inside (rows 1 to 56, columns 1 to
   56), and whose inside is stored anew, reads as the stored block inside a frame of zeros; so does a buffer of four such
   planes. Any view, any number of lanes. -/
module
public import Idealize.ShloMosaic.Lib.Pipeline.ValueKit
public import Idealize.ShloMosaic.Lib.Pipeline.ReadBack
public import Idealize.ShloMosaic.Lib.WritesUnit
public import Idealize.ShloMosaic.Lib.Pointwise
@[expose] public section
set_option maxRecDepth 16384
noncomputable section
open Idealize.ShloMosaic Idealize.ShloMosaic.TcCoe Idealize.SL.Sem
namespace Cert.Proof.Frames

/-- The row `r` and the column `s` lie inside the frame. -/
abbrev Inside (r s : ℕ) : Prop := (1 ≤ r ∧ r ≤ 56) ∧ (1 ≤ s ∧ s ≤ 56)

variable {D : ℕ}

/-- A block of 56 by 56 places. -/
abbrev Blk (D : ℕ) : Shape := ⟨3, ![56, 56, D]⟩
/-- Its frame. -/
abbrev Frm (D : ℕ) : Shape := ⟨3, ![58, 64, D]⟩
/-- A block under two unit axes. -/
abbrev Blk5 (D : ℕ) : Shape := ⟨5, ![1, 1, 56, 56, D]⟩
/-- Four frames. -/
abbrev Frm5 (D : ℕ) : Shape := ⟨5, ![2, 2, 58, 64, D]⟩

/-- The block in a frame of zeros. -/
def pad (w : FVec Ideal (Blk D) .f32) : FVec Ideal (Frm D) .f32 := fun y =>
  if h : Inside (y 0).val (y 1).val then w (ix3 ⟨(y 0).val - 1, by omega⟩ ⟨(y 1).val - 1, by omega⟩ (y 2)) else (0 : EReal)

/-- Four blocks, each in a frame of zeros. -/
def pad5 (w00 w01 w10 w11 : FVec Ideal (Blk5 D) .f32) : FVec Ideal (Frm5 D) .f32 := fun y =>
  if h : Inside (y 2).val (y 3).val then
    (if (y 0).val = 0 then (if (y 1).val = 0 then w00 else w01) else (if (y 1).val = 0 then w10 else w11))
      (ix5 (0 : Fin 1) (0 : Fin 1) ⟨(y 2).val - 1, by omega⟩ ⟨(y 3).val - 1, by omega⟩ (y 4))
  else (0 : EReal)

/-- Zero off the inside. -/
def Framed (X : FVec Ideal (Frm D) .f32) : Prop := ∀ y : (Frm D).Idx, ¬Inside (y 0).val (y 1).val → X y = (0 : EReal)
/-- Zero off the four insides. -/
def Framed5 (X : FVec Ideal (Frm5 D) .f32) : Prop := ∀ y : (Frm5 D).Idx, ¬Inside (y 2).val (y 3).val → X y = (0 : EReal)

theorem framed_pad (w : FVec Ideal (Blk D) .f32) : Framed (pad w) := fun y h => dif_neg h
theorem framed_pad5 (w00 w01 w10 w11 : FVec Ideal (Blk5 D) .f32) : Framed5 (pad5 w00 w01 w10 w11) := fun y h => dif_neg h

variable {sig : RefSig} {κ : Kind} {sp : Space}

/-- The rectangle of the inside. -/
theorem read_store (v : View sig κ sp (Frm D) .f32) (inb) (w : FVec Ideal (Blk D) .f32) (f : v.ty.Contents (Elt Ideal)) (L)
    (hL : Framed (v.read (Elt Ideal) (v.writes (Elt Ideal) f L))) :
    v.read (Elt Ideal) (v.writes (Elt Ideal) f (⟨Rect.unit (s := Frm D) ![1, 1, 0] ![56, 56, D] inb, w⟩ :: L)) = pad w := by
  funext y
  unfold pad
  split
  · next h =>
    refine View.read_writes_cons_unit_of_mem _ f inb w L y _ rfl fun a => ?_
    have := h.1.1; have := h.2.1
    fin_cases a
    · show (y 0).val = 1 + ((y 0).val - 1); omega
    · show (y 1).val = 1 + ((y 1).val - 1); omega
    · show (y 2).val = 0 + (y 2).val; omega
  · next h =>
    rw [← hL y h]
    by_cases h0 : 1 ≤ (y 0).val ∧ (y 0).val ≤ 56
    · refine View.read_writes_cons_unit_of_not_mem _ f inb w L y rfl 1 ?_
      show (y 1).val < 1 ∨ 1 + 56 ≤ (y 1).val
      have : ¬(1 ≤ (y 1).val ∧ (y 1).val ≤ 56) := fun h1 => h ⟨h0, h1⟩
      omega
    · refine View.read_writes_cons_unit_of_not_mem _ f inb w L y rfl 0 ?_
      show (y 0).val < 1 ∨ 1 + 56 ≤ (y 0).val
      omega

/-- A store of plane `p`, `q`'s inside, at a place in that inside. -/
theorem read_plane_of_mem (v : View sig κ sp (Frm5 D) .f32) (p q : ℕ) (inb) (w : FVec Ideal (Blk5 D) .f32)
    (f : v.ty.Contents (Elt Ideal)) (L) (y : (Frm5 D).Idx) (hp : (y 0).val = p) (hq : (y 1).val = q) (h : Inside (y 2).val (y 3).val) :
    v.read (Elt Ideal) (v.writes (Elt Ideal) f (⟨Rect.unit (s := Frm5 D) ![p, q, 1, 1, 0] ![1, 1, 56, 56, D] inb, w⟩ :: L)) y
      = w (ix5 (0 : Fin 1) (0 : Fin 1) ⟨(y 2).val - 1, by omega⟩ ⟨(y 3).val - 1, by omega⟩ (y 4)) := by
  refine View.read_writes_cons_unit_of_mem _ f inb w L y _ rfl fun a => ?_
  have := h.1.1; have := h.2.1
  fin_cases a
  · show (y 0).val = p + 0; omega
  · show (y 1).val = q + 0; omega
  · show (y 2).val = 1 + ((y 2).val - 1); omega
  · show (y 3).val = 1 + ((y 3).val - 1); omega
  · show (y 4).val = 0 + (y 4).val; omega

/-- A store of plane `p`, `q`'s inside, at a place elsewhere. -/
theorem read_plane_of_not_mem (v : View sig κ sp (Frm5 D) .f32) (p q : ℕ) (inb) (w : FVec Ideal (Blk5 D) .f32)
    (f : v.ty.Contents (Elt Ideal)) (L) (y : (Frm5 D).Idx) (h : (y 0).val = p → (y 1).val = q → ¬Inside (y 2).val (y 3).val) :
    v.read (Elt Ideal) (v.writes (Elt Ideal) f (⟨Rect.unit (s := Frm5 D) ![p, q, 1, 1, 0] ![1, 1, 56, 56, D] inb, w⟩ :: L)) y
      = v.read (Elt Ideal) (v.writes (Elt Ideal) f L) y := by
  by_cases hp : (y 0).val = p
  · by_cases hq : (y 1).val = q
    · by_cases h0 : 1 ≤ (y 2).val ∧ (y 2).val ≤ 56
      · refine View.read_writes_cons_unit_of_not_mem _ f inb w L y rfl 3 ?_
        show (y 3).val < 1 ∨ 1 + 56 ≤ (y 3).val
        have : ¬(1 ≤ (y 3).val ∧ (y 3).val ≤ 56) := fun h1 => h hp hq ⟨h0, h1⟩
        omega
      · refine View.read_writes_cons_unit_of_not_mem _ f inb w L y rfl 2 ?_
        show (y 2).val < 1 ∨ 1 + 56 ≤ (y 2).val
        omega
    · refine View.read_writes_cons_unit_of_not_mem _ f inb w L y rfl 1 ?_
      show (y 1).val < q ∨ q + 1 ≤ (y 1).val
      omega
  · refine View.read_writes_cons_unit_of_not_mem _ f inb w L y rfl 0 ?_
    show (y 0).val < p ∨ p + 1 ≤ (y 0).val
    omega

/-- The four planes' stores, one after another, at a place. -/
theorem read_store5_at (v : View sig κ sp (Frm5 D) .f32) (i00 i01 i10 i11) (w00 w01 w10 w11 : FVec Ideal (Blk5 D) .f32)
    (f : v.ty.Contents (Elt Ideal)) (L) (y : (Frm5 D).Idx)
    (hL : ¬Inside (y 2).val (y 3).val → v.read (Elt Ideal) (v.writes (Elt Ideal) f L) y = (0 : EReal)) :
    v.read (Elt Ideal) (v.writes (Elt Ideal) f
      (⟨Rect.unit (s := Frm5 D) ![1, 1, 1, 1, 0] ![1, 1, 56, 56, D] i11, w11⟩ ::
       ⟨Rect.unit (s := Frm5 D) ![1, 0, 1, 1, 0] ![1, 1, 56, 56, D] i10, w10⟩ ::
       ⟨Rect.unit (s := Frm5 D) ![0, 1, 1, 1, 0] ![1, 1, 56, 56, D] i01, w01⟩ ::
       ⟨Rect.unit (s := Frm5 D) ![0, 0, 1, 1, 0] ![1, 1, 56, 56, D] i00, w00⟩ :: L)) y = pad5 w00 w01 w10 w11 y := by
  have b0 : (y 0).val < 2 := (y 0).isLt
  have b1 : (y 1).val < 2 := (y 1).isLt
  unfold pad5
  split
  · next h =>
    by_cases c0 : (y 0).val = 0 <;> by_cases c1 : (y 1).val = 0
    · rw [read_plane_of_not_mem _ _ _ _ _ _ _ y (by omega), read_plane_of_not_mem _ _ _ _ _ _ _ y (by omega),
        read_plane_of_not_mem _ _ _ _ _ _ _ y (by omega), read_plane_of_mem _ _ _ _ _ _ _ y c0 c1 h, if_pos c0, if_pos c1]
    · rw [read_plane_of_not_mem _ _ _ _ _ _ _ y (by omega), read_plane_of_not_mem _ _ _ _ _ _ _ y (by omega),
        read_plane_of_mem _ _ _ _ _ _ _ y c0 (by omega) h, if_pos c0, if_neg c1]
    · rw [read_plane_of_not_mem _ _ _ _ _ _ _ y (by omega), read_plane_of_mem _ _ _ _ _ _ _ y (by omega) c1 h, if_neg c0, if_pos c1]
    · rw [read_plane_of_mem _ _ _ _ _ _ _ y (by omega) (by omega) h, if_neg c0, if_neg c1]
  · next h =>
    rw [read_plane_of_not_mem _ _ _ _ _ _ _ y fun _ _ => h, read_plane_of_not_mem _ _ _ _ _ _ _ y fun _ _ => h,
      read_plane_of_not_mem _ _ _ _ _ _ _ y fun _ _ => h, read_plane_of_not_mem _ _ _ _ _ _ _ y fun _ _ => h]
    exact hL h

/-- The four planes' stores, one after another. -/
theorem read_store5 (v : View sig κ sp (Frm5 D) .f32) (i00 i01 i10 i11) (w00 w01 w10 w11 : FVec Ideal (Blk5 D) .f32)
    (f : v.ty.Contents (Elt Ideal)) (L) (hL : Framed5 (v.read (Elt Ideal) (v.writes (Elt Ideal) f L))) :
    v.read (Elt Ideal) (v.writes (Elt Ideal) f
      (⟨Rect.unit (s := Frm5 D) ![1, 1, 1, 1, 0] ![1, 1, 56, 56, D] i11, w11⟩ ::
       ⟨Rect.unit (s := Frm5 D) ![1, 0, 1, 1, 0] ![1, 1, 56, 56, D] i10, w10⟩ ::
       ⟨Rect.unit (s := Frm5 D) ![0, 1, 1, 1, 0] ![1, 1, 56, 56, D] i01, w01⟩ ::
       ⟨Rect.unit (s := Frm5 D) ![0, 0, 1, 1, 0] ![1, 1, 56, 56, D] i00, w00⟩ :: L)) = pad5 w00 w01 w10 w11 :=
  funext fun y => read_store5_at v i00 i01 i10 i11 w00 w01 w10 w11 f L y (hL y)

/-- A covered load, as a load of the canon. -/
theorem readCov_ld {s : Shape} (v : View sig κ sp s .f32) (L : List (View.Piece (Elt Ideal) s .f32)) (r : Rect s) :
    v.readCov L r.toLoadRect = View.ld (View.canon L) r := View.readCov_eq_canon' v L r.toLoadRect

/-- Two arrays that agree at a rectangle's places load alike there. -/
theorem ld_congr {s : Shape} (X Y : s.Idx → Elt Ideal .f32) (r : Rect s) (h : ∀ j : r.shape.Idx, X (r.idx j) = Y (r.idx j)) :
    View.ld (Val := Elt Ideal) (e' := .f32) X r = View.ld (Val := Elt Ideal) (e' := .f32) Y r := funext h

/-- The load of one plane's inside, all four just stored. -/
theorem readCov_inside5 (v : View sig κ sp (Frm5 D) .f32) (i00 i01 i10 i11) (w00 w01 w10 w11 : FVec Ideal (Blk5 D) .f32)
    (L) (p q : ℕ) (inb) :
    v.readCov (Val := Elt Ideal)
      (⟨Rect.unit (s := Frm5 D) ![1, 1, 1, 1, 0] ![1, 1, 56, 56, D] i11, w11⟩ ::
       ⟨Rect.unit (s := Frm5 D) ![1, 0, 1, 1, 0] ![1, 1, 56, 56, D] i10, w10⟩ ::
       ⟨Rect.unit (s := Frm5 D) ![0, 1, 1, 1, 0] ![1, 1, 56, 56, D] i01, w01⟩ ::
       ⟨Rect.unit (s := Frm5 D) ![0, 0, 1, 1, 0] ![1, 1, 56, 56, D] i00, w00⟩ :: L)
      (Rect.unit (s := Frm5 D) ![p, q, 1, 1, 0] ![1, 1, 56, 56, D] inb).toLoadRect
      = View.ld (Val := Elt Ideal) (e' := .f32) (pad5 w00 w01 w10 w11) (Rect.unit (s := Frm5 D) ![p, q, 1, 1, 0] ![1, 1, 56, 56, D] inb) := by
  rw [readCov_ld]
  have key : ∀ y : (Frm5 D).Idx, Inside (y 2).val (y 3).val → View.canon (Val := Elt Ideal)
      (⟨Rect.unit (s := Frm5 D) ![1, 1, 1, 1, 0] ![1, 1, 56, 56, D] i11, w11⟩ ::
       ⟨Rect.unit (s := Frm5 D) ![1, 0, 1, 1, 0] ![1, 1, 56, 56, D] i10, w10⟩ ::
       ⟨Rect.unit (s := Frm5 D) ![0, 1, 1, 1, 0] ![1, 1, 56, 56, D] i01, w01⟩ ::
       ⟨Rect.unit (s := Frm5 D) ![0, 0, 1, 1, 0] ![1, 1, 56, 56, D] i00, w00⟩ :: L) y = pad5 w00 w01 w10 w11 y := by
    intro y hy
    rw [← View.read_writes_junk_apply_eq_canon v]
    exact read_store5_at v i00 i01 i10 i11 w00 w01 w10 w11 _ L y fun h => absurd hy h
  refine ld_congr _ _ _ fun j => key _ ?_
  have b2 : (j 2).val < 56 := (j 2).isLt
  have b3 : (j 3).val < 56 := (j 3).isLt
  constructor
  · show 1 ≤ 1 + 1 * (j 2).val ∧ 1 + 1 * (j 2).val ≤ 56; omega
  · show 1 ≤ 1 + 1 * (j 3).val ∧ 1 + 1 * (j 3).val ≤ 56; omega

/-- A store of the whole buffer leaves the stored array. -/
theorem read_whole {s : Shape} (v : View sig κ sp s .f32) {off : Fin s.rank → ℕ} (hoff : off = fun _ => 0) (inb) (w : FVec Ideal s .f32)
    (f : v.ty.Contents (Elt Ideal)) (L) :
    v.read (Elt Ideal) (v.writes (Elt Ideal) f (⟨Rect.unit (s := s) off s.size inb, w⟩ :: L)) = w := by
  funext y
  refine View.read_writes_cons_unit_of_mem v f inb w L y y hoff fun a => ?_
  show (y a).val = 0 + (y a).val
  omega

/-- Of a zero fill and the inside's store, the first point's contents. -/
theorem canon_store (v : View sig κ sp (Frm D) .f32) (inb inb') (w : FVec Ideal (Blk D) .f32) (z : FVec Ideal (Frm D) .f32) (hz : Framed z) :
    View.canon (Val := Elt Ideal) (e := .f32) [⟨Rect.unit (s := Frm D) ![1, 1, 0] ![56, 56, D] inb, w⟩, ⟨Rect.unit (s := Frm D) ![0, 0, 0] ![58, 64, D] inb', z⟩]
      = pad w := by
  rw [← View.read_writes_junk_eq_canon v]
  refine read_store v inb w _ _ ?_
  rw [read_whole (s := Frm D) v (off := ![0, 0, 0]) (by funext a; fin_cases a <;> rfl) inb' z]
  exact hz

/-- Of a zero fill and the four insides' stores, the first point's contents. -/
theorem canon_store5 (v : View sig κ sp (Frm5 D) .f32) (i00 i01 i10 i11 inb') (w00 w01 w10 w11 : FVec Ideal (Blk5 D) .f32)
    (z : FVec Ideal (Frm5 D) .f32) (hz : Framed5 z) :
    View.canon (Val := Elt Ideal) (e := .f32) [⟨Rect.unit (s := Frm5 D) ![1, 1, 1, 1, 0] ![1, 1, 56, 56, D] i11, w11⟩,
       ⟨Rect.unit (s := Frm5 D) ![1, 0, 1, 1, 0] ![1, 1, 56, 56, D] i10, w10⟩,
       ⟨Rect.unit (s := Frm5 D) ![0, 1, 1, 1, 0] ![1, 1, 56, 56, D] i01, w01⟩,
       ⟨Rect.unit (s := Frm5 D) ![0, 0, 1, 1, 0] ![1, 1, 56, 56, D] i00, w00⟩,
       ⟨Rect.unit (s := Frm5 D) ![0, 0, 0, 0, 0] ![2, 2, 58, 64, D] inb', z⟩] = pad5 w00 w01 w10 w11 := by
  rw [← View.read_writes_junk_eq_canon v]
  refine read_store5 v _ _ _ _ w00 w01 w10 w11 _ _ ?_
  rw [read_whole (s := Frm5 D) v (off := ![0, 0, 0, 0, 0]) (by funext a; fin_cases a <;> rfl) inb' z]
  exact hz

/-- The inside of a framed block is the block. -/
theorem ld_pad (inb) (w : FVec Ideal (Blk D) .f32) : View.ld (Val := Elt Ideal) (e' := .f32) (pad w) (Rect.unit (s := Frm D) ![1, 1, 0] ![56, 56, D] inb) = w := by
  funext j
  have b0 : (j 0).val < 56 := (j 0).isLt
  have b1 : (j 1).val < 56 := (j 1).isLt
  show pad w _ = _
  unfold pad
  have hi : Inside (((Rect.unit (s := Frm D) ![1, 1, 0] ![56, 56, D] inb).idx j) 0).val (((Rect.unit (s := Frm D) ![1, 1, 0] ![56, 56, D] inb).idx j) 1).val := by
    constructor
    · show 1 ≤ 1 + 1 * (j 0).val ∧ 1 + 1 * (j 0).val ≤ 56; omega
    · show 1 ≤ 1 + 1 * (j 1).val ∧ 1 + 1 * (j 1).val ≤ 56; omega
  rw [dif_pos hi]
  congr 1
  funext a
  fin_cases a
  · refine Fin.ext ?_; show 1 + 1 * (j 0).val - 1 = (j 0).val; omega
  · refine Fin.ext ?_; show 1 + 1 * (j 1).val - 1 = (j 1).val; omega
  · refine Fin.ext ?_; show 0 + 1 * (j 2).val = (j 2).val; omega

/-- The load of the inside just stored. -/
theorem readCov_inside (v : View sig κ sp (Frm D) .f32) (inb) (w : FVec Ideal (Blk D) .f32) (L) :
    v.readCov (Val := Elt Ideal) (⟨Rect.unit (s := Frm D) ![1, 1, 0] ![56, 56, D] inb, w⟩ :: L) (Rect.unit (s := Frm D) ![1, 1, 0] ![56, 56, D] inb).toLoadRect
      = View.ld (Val := Elt Ideal) (e' := .f32) (pad w) (Rect.unit (s := Frm D) ![1, 1, 0] ![56, 56, D] inb) := by
  rw [ld_pad inb w]
  exact View.readCov_cons_toLoadRect v (Rect.unit (s := Frm D) ![1, 1, 0] ![56, 56, D] inb) w L

end Cert.Proof.Frames
-- ==== Proof.EncRun.lean ====
/- What the encoder's body leaves at a grid point, as functions of the point's blocks: the scratch of the first two stages
   reads as each stage's block inside a frame of zeros, at the first point and at every later one. -/
module
public import proofs.«01_k».proof.Proof.Gen.EncoderIdeal.Frame
public import proofs.«01_k».proof.Proof.Frames
@[expose] public section
set_option maxRecDepth 16384
noncomputable section
open Idealize.ShloMosaic Idealize.ShloMosaic.TcCoe Idealize.SL.Sem
namespace Cert.Proof.EncRun
open Cert.EncoderIdeal Cert.EncoderIdeal.Gen Cert.Proof.Frames
variable (m : (ℓ : Loc nD τ sig) → Buf (Elt Ideal) ℓ)

theorem framed5 : Framed5 (D := 128) (k0_pay5 (F := Ideal)) := fun y _ => by pointwise [k0_pay5]
theorem framed6 : Framed (D := 128) (k0_pay6 (F := Ideal)) := fun y _ => by pointwise [k0_pay6]

/-- The first stage's first three taps. -/
def part1 (x : Vec Ideal S1x57x64x48 .f32) (w : Vec Ideal S4x48x512 .f32) : FVec Ideal S3136x512 .f32 :=
  (k0_pay8 (View.ld x (Rect.unit ![0, 0, 0, 0] ![1, 56, 56, 48] inb_S1x57x64x48_S1x56x56x48_0_0_0_0))
      (View.ld w (Rect.unit ![0, 0, 0] ![1, 48, 512] inb_S4x48x512_S1x48x512_0_0_0))
      (View.ld x (Rect.unit ![0, 0, 1, 0] ![1, 56, 56, 48] inb_S1x57x64x48_S1x56x56x48_0_0_1_0))
      (View.ld w (Rect.unit ![1, 0, 0] ![1, 48, 512] inb_S4x48x512_S1x48x512_1_0_0))
      (View.ld x (Rect.unit ![0, 1, 0, 0] ![1, 56, 56, 48] inb_S1x57x64x48_S1x56x56x48_0_1_0_0))
      (View.ld w (Rect.unit ![2, 0, 0] ![1, 48, 512] inb_S4x48x512_S1x48x512_2_0_0)))

/-- The first stage, all four planes side by side. -/
def conv1 (x : Vec Ideal S1x57x64x48 .f32) (w : Vec Ideal S4x48x512 .f32) (b : Vec Ideal S1x512 .f32) : FVec Ideal S3136x512 .f32 :=
  k0_pay10 (part1 x w) (k0_pay9 (View.ld x (Rect.unit ![0, 1, 1, 0] ![1, 56, 56, 48] inb_S1x57x64x48_S1x56x56x48_0_1_1_0)))
    (View.ld w (Rect.unit ![3, 0, 0] ![1, 48, 512] inb_S4x48x512_S1x48x512_3_0_0)) b

/-- The first stage's four planes in their frames. -/
def planes (x : Vec Ideal S1x57x64x48 .f32) (w : Vec Ideal S4x48x512 .f32) (b : Vec Ideal S1x512 .f32) : FVec Ideal S2x2x58x64x128 .f32 :=
  pad5 (D := 128)
   (k0_pay11 (part1 x w) (k0_pay9 (View.ld x (Rect.unit ![0, 1, 1, 0] ![1, 56, 56, 48] inb_S1x57x64x48_S1x56x56x48_0_1_1_0)))
    (View.ld w (Rect.unit ![3, 0, 0] ![1, 48, 512] inb_S4x48x512_S1x48x512_3_0_0)) b)
   (k0_pay12 (part1 x w) (k0_pay9 (View.ld x (Rect.unit ![0, 1, 1, 0] ![1, 56, 56, 48] inb_S1x57x64x48_S1x56x56x48_0_1_1_0)))
    (View.ld w (Rect.unit ![3, 0, 0] ![1, 48, 512] inb_S4x48x512_S1x48x512_3_0_0)) b)
   (k0_pay13 (part1 x w) (k0_pay9 (View.ld x (Rect.unit ![0, 1, 1, 0] ![1, 56, 56, 48] inb_S1x57x64x48_S1x56x56x48_0_1_1_0)))
    (View.ld w (Rect.unit ![3, 0, 0] ![1, 48, 512] inb_S4x48x512_S1x48x512_3_0_0)) b)
   (k0_pay15 (k0_pay14 (part1 x w) (k0_pay9 (View.ld x (Rect.unit ![0, 1, 1, 0] ![1, 56, 56, 48] inb_S1x57x64x48_S1x56x56x48_0_1_1_0)))
    (View.ld w (Rect.unit ![3, 0, 0] ![1, 48, 512] inb_S4x48x512_S1x48x512_3_0_0)) b))

/-- The second stage, from the four framed planes. -/
def conv2 (P : Vec Ideal S2x2x58x64x128 .f32) (w : Vec Ideal S16x128x128 .f32) (b : Vec Ideal S1x128 .f32) : FVec Ideal S56x56x128 .f32 :=
  k0_pay22
    (k0_pay20
      (k0_pay19
        (k0_pay18
          (k0_pay16 (View.ld P (Rect.unit ![1, 1, 0, 0, 0] ![1, 1, 56, 56, 128] inb_S2x2x58x64x128_S1x1x56x56x128_1_1_0_0_0)) (View.ld w (Rect.unit ![0, 0, 0] ![1, 128, 128] inb_S16x128x128_S1x128x128_0_0_0))
            (View.ld P (Rect.unit ![1, 1, 0, 1, 0] ![1, 1, 56, 56, 128] inb_S2x2x58x64x128_S1x1x56x56x128_1_1_0_1_0)) (View.ld w (Rect.unit ![1, 0, 0] ![1, 128, 128] inb_S16x128x128_S1x128x128_1_0_0))
            (View.ld P (Rect.unit ![1, 1, 1, 0, 0] ![1, 1, 56, 56, 128] inb_S2x2x58x64x128_S1x1x56x56x128_1_1_1_0_0)) (View.ld w (Rect.unit ![2, 0, 0] ![1, 128, 128] inb_S16x128x128_S1x128x128_2_0_0)))
          (k0_pay17 (View.ld P (Rect.unit ![1, 1, 1, 1, 0] ![1, 1, 56, 56, 128] inb_S2x2x58x64x128_S1x1x56x56x128_1_1_1_1_0))) (View.ld w (Rect.unit ![3, 0, 0] ![1, 128, 128] inb_S16x128x128_S1x128x128_3_0_0))
          (View.ld P (Rect.unit ![1, 0, 0, 1, 0] ![1, 1, 56, 56, 128] inb_S2x2x58x64x128_S1x1x56x56x128_1_0_0_1_0)) (View.ld w (Rect.unit ![4, 0, 0] ![1, 128, 128] inb_S16x128x128_S1x128x128_4_0_0))
          (View.ld P (Rect.unit ![1, 0, 0, 2, 0] ![1, 1, 56, 56, 128] inb_S2x2x58x64x128_S1x1x56x56x128_1_0_0_2_0)) (View.ld w (Rect.unit ![5, 0, 0] ![1, 128, 128] inb_S16x128x128_S1x128x128_5_0_0))
          (View.ld P (Rect.unit ![1, 0, 1, 1, 0] ![1, 1, 56, 56, 128] inb_S2x2x58x64x128_S1x1x56x56x128_1_0_1_1_0)) (View.ld w (Rect.unit ![6, 0, 0] ![1, 128, 128] inb_S16x128x128_S1x128x128_6_0_0)))
        (View.ld P (Rect.unit ![1, 0, 1, 2, 0] ![1, 1, 56, 56, 128] inb_S2x2x58x64x128_S1x1x56x56x128_1_0_1_2_0)) (View.ld w (Rect.unit ![7, 0, 0] ![1, 128, 128] inb_S16x128x128_S1x128x128_7_0_0))
        (View.ld P (Rect.unit ![0, 1, 1, 0, 0] ![1, 1, 56, 56, 128] inb_S2x2x58x64x128_S1x1x56x56x128_0_1_1_0_0)) (View.ld w (Rect.unit ![8, 0, 0] ![1, 128, 128] inb_S16x128x128_S1x128x128_8_0_0))
        (View.ld P (Rect.unit ![0, 1, 1, 1, 0] ![1, 1, 56, 56, 128] inb_S2x2x58x64x128_S1x1x56x56x128_0_1_1_1_0)) (View.ld w (Rect.unit ![9, 0, 0] ![1, 128, 128] inb_S16x128x128_S1x128x128_9_0_0))
        (View.ld P (Rect.unit ![0, 1, 2, 0, 0] ![1, 1, 56, 56, 128] inb_S2x2x58x64x128_S1x1x56x56x128_0_1_2_0_0)) (View.ld w (Rect.unit ![10, 0, 0] ![1, 128, 128] inb_S16x128x128_S1x128x128_10_0_0)))
      (View.ld P (Rect.unit ![0, 1, 2, 1, 0] ![1, 1, 56, 56, 128] inb_S2x2x58x64x128_S1x1x56x56x128_0_1_2_1_0)) (View.ld w (Rect.unit ![11, 0, 0] ![1, 128, 128] inb_S16x128x128_S1x128x128_11_0_0))
      (View.ld P (Rect.unit ![0, 0, 1, 1, 0] ![1, 1, 56, 56, 128] inb_S2x2x58x64x128_S1x1x56x56x128_0_0_1_1_0)) (View.ld w (Rect.unit ![12, 0, 0] ![1, 128, 128] inb_S16x128x128_S1x128x128_12_0_0))
      (View.ld P (Rect.unit ![0, 0, 1, 2, 0] ![1, 1, 56, 56, 128] inb_S2x2x58x64x128_S1x1x56x56x128_0_0_1_2_0)) (View.ld w (Rect.unit ![13, 0, 0] ![1, 128, 128] inb_S16x128x128_S1x128x128_13_0_0)))
    (k0_pay21 (View.ld P (Rect.unit ![0, 0, 2, 1, 0] ![1, 1, 56, 56, 128] inb_S2x2x58x64x128_S1x1x56x56x128_0_0_2_1_0))) (View.ld w (Rect.unit ![14, 0, 0] ![1, 128, 128] inb_S16x128x128_S1x128x128_14_0_0))
    (View.ld P (Rect.unit ![0, 0, 2, 2, 0] ![1, 1, 56, 56, 128] inb_S2x2x58x64x128_S1x1x56x56x128_0_0_2_2_0)) (View.ld w (Rect.unit ![15, 0, 0] ![1, 128, 128] inb_S16x128x128_S1x128x128_15_0_0)) b

/-- The third stage's first six taps. -/
def part3 (H : Vec Ideal S58x64x128 .f32) (w : Vec Ideal S9x128x32 .f32) : FVec Ideal S3136x32 .f32 :=
  k0_pay25 (k0_pay23 (View.ld H (Rect.unit ![0, 0, 0] ![56, 56, 128] inb_S58x64x128_S56x56x128_0_0_0)) (View.ld w (Rect.unit ![0, 0, 0] ![1, 128, 32] inb_S9x128x32_S1x128x32_0_0_0)))
    (k0_pay24 (View.ld H (Rect.unit ![0, 1, 0] ![56, 56, 128] inb_S58x64x128_S56x56x128_0_1_0))) (View.ld w (Rect.unit ![1, 0, 0] ![1, 128, 32] inb_S9x128x32_S1x128x32_1_0_0))
    (View.ld H (Rect.unit ![0, 2, 0] ![56, 56, 128] inb_S58x64x128_S56x56x128_0_2_0)) (View.ld w (Rect.unit ![2, 0, 0] ![1, 128, 32] inb_S9x128x32_S1x128x32_2_0_0))
    (View.ld H (Rect.unit ![1, 0, 0] ![56, 56, 128] inb_S58x64x128_S56x56x128_1_0_0)) (View.ld w (Rect.unit ![3, 0, 0] ![1, 128, 32] inb_S9x128x32_S1x128x32_3_0_0))
    (View.ld H (Rect.unit ![1, 1, 0] ![56, 56, 128] inb_S58x64x128_S56x56x128_1_1_0)) (View.ld w (Rect.unit ![4, 0, 0] ![1, 128, 32] inb_S9x128x32_S1x128x32_4_0_0))
    (View.ld H (Rect.unit ![1, 2, 0] ![56, 56, 128] inb_S58x64x128_S56x56x128_1_2_0)) (View.ld w (Rect.unit ![5, 0, 0] ![1, 128, 32] inb_S9x128x32_S1x128x32_5_0_0))

/-- The third stage, from the framed block. -/
def conv3 (H : Vec Ideal S58x64x128 .f32) (w : Vec Ideal S9x128x32 .f32) (b : Vec Ideal S1x32 .f32) : FVec Ideal S3136x32 .f32 :=
  k0_pay26 (part3 H w)
    (View.ld H (Rect.unit ![2, 0, 0] ![56, 56, 128] inb_S58x64x128_S56x56x128_2_0_0)) (View.ld w (Rect.unit ![6, 0, 0] ![1, 128, 32] inb_S9x128x32_S1x128x32_6_0_0))
    (View.ld H (Rect.unit ![2, 1, 0] ![56, 56, 128] inb_S58x64x128_S56x56x128_2_1_0)) (View.ld w (Rect.unit ![7, 0, 0] ![1, 128, 32] inb_S9x128x32_S1x128x32_7_0_0))
    (View.ld H (Rect.unit ![2, 2, 0] ![56, 56, 128] inb_S58x64x128_S56x56x128_2_2_0)) (View.ld w (Rect.unit ![8, 0, 0] ![1, 128, 32] inb_S9x128x32_S1x128x32_8_0_0)) b

variable (c : Dev nD) (t : Fin cfg0.N)

/-- The first stage's framed planes. -/
abbrev p1 : FVec Ideal S2x2x58x64x128 .f32 := planes (iblk m c 0 t) (iblk m c 1 t) (iblk m c 2 t)
/-- The second stage's framed block. -/
abbrev h2 : FVec Ideal S58x64x128 .f32 := pad (D := 128) (conv2 (p1 m c t) (iblk m c 3 t) (iblk m c 4 t))
/-- The third stage's block. -/
abbrev z : FVec Ideal S3136x32 .f32 := conv3 (h2 m c t) (iblk m c 5 t) (iblk m c 6 t)

theorem sc0_A (h0 : t.val % 16 = 0) : (outsAt0 m c t.val t.isLt).2.2.1 = p1 m c t := by
  rw [outsAt0_A m c t h0]
  frame_out
  simp only [readCov_ld, canon_store5 (D := 128) (View.whole cc0_scratch0) _ _ _ _ _ _ _ _ _ _ framed5]
  rfl

theorem sc1_A (h0 : t.val % 16 = 0) : (outsAt0 m c t.val t.isLt).2.2.2 = h2 m c t := by
  rw [outsAt0_A m c t h0]
  frame_out
  simp only [readCov_ld, canon_store5 (D := 128) (View.whole cc0_scratch0) _ _ _ _ _ _ _ _ _ _ framed5,
    canon_store (D := 128) (View.whole cc0_scratch1) _ _ _ _ framed6]
  rfl

/-- A scratch carried from the point before. -/
theorem carried (h0 : ¬t.val % 16 = 0) : t.val - 1 < cfg0.N := by have := t.isLt; omega

theorem read_carried {X : FVec Ideal S58x64x128 .f32} (hX : Framed (D := 128) X) (hw : (Memref.whole (sig := sig) (κ := .tc) cc0_scratch1).IsWhole) (inb) (w : FVec Ideal (Blk 128) .f32) :
    View.read (Elt Ideal) (View.whole cc0_scratch1) ((View.whole cc0_scratch1).writes (Elt Ideal) (hw.unread X)
      [⟨Rect.unit (s := Frm 128) ![1, 1, 0] ![56, 56, 128] inb, w⟩]) = pad (D := 128) w := by
  refine read_store (D := 128) (View.whole cc0_scratch1) inb w _ [] ?_
  rw [View.writes_nil]
  exact (read_unread_whole (Val := Elt Ideal) cc0_scratch1 hw X).symm ▸ hX

theorem read_carried5 {X : FVec Ideal S2x2x58x64x128 .f32} (hX : Framed5 (D := 128) X) (hw : (Memref.whole (sig := sig) (κ := .tc) cc0_scratch0).IsWhole)
    (i00 i01 i10 i11) (w00 w01 w10 w11 : FVec Ideal (Blk5 128) .f32) :
    View.read (Elt Ideal) (View.whole cc0_scratch0) ((View.whole cc0_scratch0).writes (Elt Ideal) (hw.unread X)
      [⟨Rect.unit (s := Frm5 128) ![1, 1, 1, 1, 0] ![1, 1, 56, 56, 128] i11, w11⟩,
       ⟨Rect.unit (s := Frm5 128) ![1, 0, 1, 1, 0] ![1, 1, 56, 56, 128] i10, w10⟩,
       ⟨Rect.unit (s := Frm5 128) ![0, 1, 1, 1, 0] ![1, 1, 56, 56, 128] i01, w01⟩,
       ⟨Rect.unit (s := Frm5 128) ![0, 0, 1, 1, 0] ![1, 1, 56, 56, 128] i00, w00⟩]) = pad5 (D := 128) w00 w01 w10 w11 := by
  refine read_store5 (D := 128) (View.whole cc0_scratch0) i00 i01 i10 i11 w00 w01 w10 w11 _ [] ?_
  rw [View.writes_nil]
  exact (read_unread_whole (Val := Elt Ideal) cc0_scratch0 hw X).symm ▸ hX

theorem sc0_B (h0 : ¬t.val % 16 = 0) (hX : Framed5 (D := 128) (outsAt0 m c (t.val - 1) (carried t h0)).2.2.1) :
    (outsAt0 m c t.val t.isLt).2.2.1 = p1 m c t := by
  rw [outsAt0_B m c t h0]
  frame_out
  exact read_carried5 hX _ _ _ _ _ _ _ _ _

theorem sc1_B (h0 : ¬t.val % 16 = 0) (hX : Framed5 (D := 128) (outsAt0 m c (t.val - 1) (carried t h0)).2.2.1)
    (hY : Framed (D := 128) (outsAt0 m c (t.val - 1) (carried t h0)).2.2.2) :
    (outsAt0 m c t.val t.isLt).2.2.2 = h2 m c t := by
  rw [outsAt0_B m c t h0]
  frame_out
  simp only [readCov_inside5 (D := 128), read_carried5 hX, read_carried hY]
  rfl

/-- After every point the two scratch buffers are zero off their insides. -/
theorem framed_all : ∀ (n : ℕ) (hn : n < cfg0.N), Framed5 (D := 128) (outsAt0 m c n hn).2.2.1 ∧ Framed (D := 128) (outsAt0 m c n hn).2.2.2 := by
  intro n
  induction n with
  | zero =>
    intro hn
    rw [sc0_A m c ⟨0, hn⟩ rfl, sc1_A m c ⟨0, hn⟩ rfl]
    exact ⟨framed_pad5 _ _ _ _, framed_pad _⟩
  | succ n ih =>
    intro hn
    have h0 : ¬(n + 1) % 16 = 0 := by have : n + 1 < 16 := hn; omega
    obtain ⟨hX, hY⟩ := ih (by omega)
    rw [sc0_B m c ⟨n + 1, hn⟩ h0 hX, sc1_B m c ⟨n + 1, hn⟩ h0 hX hY]
    exact ⟨framed_pad5 _ _ _ _, framed_pad _⟩

/-- The four chunks' results, one under another. -/
def idxOut (z : FVec Ideal S3136x32 .f32) (z0 : FVec Ideal S784x32 .f32) (cb : Vec Ideal S32x1024 .f32) : Vec Ideal S1x3136x1 .i32 :=
  View.canon (Val := Elt Ideal) (e := .i32) [⟨Rect.unit (s := S1x3136x1) ![0, 2352, 0] ![1, 784, 1] inb_S1x3136x1_S1x784x1_0_2352_0, k0_pay3 (k0_pay27 cb) (k0_pay43 z cb) k0_pay44⟩,
    ⟨Rect.unit (s := S1x3136x1) ![0, 1568, 0] ![1, 784, 1] inb_S1x3136x1_S1x784x1_0_1568_0, k0_pay42 z (k0_pay27 cb) cb⟩,
    ⟨Rect.unit (s := S1x3136x1) ![0, 784, 0] ![1, 784, 1] inb_S1x3136x1_S1x784x1_0_784_0, k0_pay38 (k0_pay36 z (k0_pay27 cb) cb)⟩,
    ⟨Rect.unit (s := S1x3136x1) ![0, 0, 0] ![1, 784, 1] inb_S1x3136x1_S1x784x1_0_0_0, k0_pay33 (k0_pay27 cb) z0 cb⟩]

/-- The third stage's sum of squares and its first 784 rows. -/
def zz (H : Vec Ideal S58x64x128 .f32) (w : Vec Ideal S9x128x32 .f32) (b : Vec Ideal S1x32 .f32) : FVec Ideal S1x1 .f32 :=
  k0_pay28 (part3 H w)
    (View.ld H (Rect.unit ![2, 0, 0] ![56, 56, 128] inb_S58x64x128_S56x56x128_2_0_0)) (View.ld w (Rect.unit ![6, 0, 0] ![1, 128, 32] inb_S9x128x32_S1x128x32_6_0_0))
    (View.ld H (Rect.unit ![2, 1, 0] ![56, 56, 128] inb_S58x64x128_S56x56x128_2_1_0)) (View.ld w (Rect.unit ![7, 0, 0] ![1, 128, 32] inb_S9x128x32_S1x128x32_7_0_0))
    (View.ld H (Rect.unit ![2, 2, 0] ![56, 56, 128] inb_S58x64x128_S56x56x128_2_2_0)) (View.ld w (Rect.unit ![8, 0, 0] ![1, 128, 32] inb_S9x128x32_S1x128x32_8_0_0)) b
def z0 (H : Vec Ideal S58x64x128 .f32) (w : Vec Ideal S9x128x32 .f32) (b : Vec Ideal S1x32 .f32) : FVec Ideal S784x32 .f32 :=
  k0_pay29 (part3 H w)
    (View.ld H (Rect.unit ![2, 0, 0] ![56, 56, 128] inb_S58x64x128_S56x56x128_2_0_0)) (View.ld w (Rect.unit ![6, 0, 0] ![1, 128, 32] inb_S9x128x32_S1x128x32_6_0_0))
    (View.ld H (Rect.unit ![2, 1, 0] ![56, 56, 128] inb_S58x64x128_S56x56x128_2_1_0)) (View.ld w (Rect.unit ![7, 0, 0] ![1, 128, 32] inb_S9x128x32_S1x128x32_7_0_0))
    (View.ld H (Rect.unit ![2, 2, 0] ![56, 56, 128] inb_S58x64x128_S56x56x128_2_2_0)) (View.ld w (Rect.unit ![8, 0, 0] ![1, 128, 32] inb_S9x128x32_S1x128x32_8_0_0)) b

/-- The point's loss, from the loss `l` so far. -/
def lossOut (z : FVec Ideal S3136x32 .f32) (q : FVec Ideal S1x1 .f32) (z0 : FVec Ideal S784x32 .f32) (cb : Vec Ideal S32x1024 .f32) (l : Vec Ideal S1x1 .f32) : FVec Ideal S1x1 .f32 :=
  k0_pay4 (k0_pay27 cb) (k0_pay41 z (k0_pay27 cb) (k0_pay32 (k0_pay27 cb) q z0 cb) (k0_pay37 z (k0_pay27 cb) cb) cb) (k0_pay43 z cb) k0_pay44 l

theorem idx_A (h0 : t.val % 16 = 0) : (outsAt0 m c t.val t.isLt).1 = idxOut (z m c t) (z0 (h2 m c t) (iblk m c 5 t) (iblk m c 6 t)) (iblk m c 7 t) := by
  rw [outsAt0_A m c t h0]
  frame_out
  simp only [readCov_ld, canon_store5 (D := 128) (View.whole cc0_scratch0) _ _ _ _ _ _ _ _ _ _ framed5,
    canon_store (D := 128) (View.whole cc0_scratch1) _ _ _ _ framed6]
  rfl

theorem loss_A (h0 : t.val % 16 = 0) : (outsAt0 m c t.val t.isLt).2.1
    = lossOut (z m c t) (zz (h2 m c t) (iblk m c 5 t) (iblk m c 6 t)) (z0 (h2 m c t) (iblk m c 5 t) (iblk m c 6 t)) (iblk m c 7 t) (k0_pay7 (F := Ideal)) := by
  rw [outsAt0_A m c t h0]
  frame_out
  simp only [readCov_ld, canon_store5 (D := 128) (View.whole cc0_scratch0) _ _ _ _ _ _ _ _ _ _ framed5,
    canon_store (D := 128) (View.whole cc0_scratch1) _ _ _ _ framed6]
  rfl

theorem idx_B (h0 : ¬t.val % 16 = 0) (hX : Framed5 (D := 128) (outsAt0 m c (t.val - 1) (carried t h0)).2.2.1)
    (hY : Framed (D := 128) (outsAt0 m c (t.val - 1) (carried t h0)).2.2.2) :
    (outsAt0 m c t.val t.isLt).1 = idxOut (z m c t) (z0 (h2 m c t) (iblk m c 5 t) (iblk m c 6 t)) (iblk m c 7 t) := by
  rw [outsAt0_B m c t h0]
  frame_out
  simp only [readCov_inside5 (D := 128), read_carried5 hX, readCov_inside (D := 128), read_carried hY]
  rfl

theorem loss_B (h0 : ¬t.val % 16 = 0) (hX : Framed5 (D := 128) (outsAt0 m c (t.val - 1) (carried t h0)).2.2.1)
    (hY : Framed (D := 128) (outsAt0 m c (t.val - 1) (carried t h0)).2.2.2) :
    (outsAt0 m c t.val t.isLt).2.1 = lossOut (z m c t) (zz (h2 m c t) (iblk m c 5 t) (iblk m c 6 t)) (z0 (h2 m c t) (iblk m c 5 t) (iblk m c 6 t))
      (iblk m c 7 t) (outsAt0 m c (t.val - 1) (carried t h0)).2.1 := by
  rw [outsAt0_B m c t h0]
  frame_out
  simp only [readCov_inside5 (D := 128), read_carried5 hX, readCov_inside (D := 128), read_carried hY]
  rfl

/-- What the body leaves in the row numbers' block at any point. -/
theorem idx_eq : (outsAt0 m c t.val t.isLt).1 = idxOut (z m c t) (z0 (h2 m c t) (iblk m c 5 t) (iblk m c 6 t)) (iblk m c 7 t) := by
  by_cases h0 : t.val % 16 = 0
  · exact idx_A m c t h0
  · obtain ⟨hX, hY⟩ := framed_all m c (t.val - 1) (carried t h0)
    exact idx_B m c t h0 hX hY

/-- The loss after a later point. -/
theorem loss_eq (h0 : ¬t.val % 16 = 0) : (outsAt0 m c t.val t.isLt).2.1
    = lossOut (z m c t) (zz (h2 m c t) (iblk m c 5 t) (iblk m c 6 t)) (z0 (h2 m c t) (iblk m c 5 t) (iblk m c 6 t))
      (iblk m c 7 t) (outsAt0 m c (t.val - 1) (carried t h0)).2.1 := by
  obtain ⟨hX, hY⟩ := framed_all m c (t.val - 1) (carried t h0)
  exact loss_B m c t h0 hX hY

end Cert.Proof.EncRun
-- ==== Proof.EncTap.lean ====
/- The encoder's first-stage weights, rearranged. -/
module
public import proofs.«01_k».proof.Proof.Gen.EncoderIdeal.Frame
public import Idealize.ShloMosaic.Lib.Pointwise
@[expose] public section
noncomputable section
open Idealize.ShloMosaic Idealize.ShloMosaic.TcCoe Idealize.SL.Sem
namespace Cert.Proof.EncW
open Cert.EncoderIdeal Cert.EncoderIdeal.Gen

/-- The first stage's weight seen by plane `j` at the tap `i`, the sub-row `a` and the sub-column `b`: zero off the 4 by 4 window. -/
def tap1 (W : Vec Ideal S128x3x4x4 .f32) (i j a b : ℕ) (e : Fin 3) (o : Fin 128) : EReal :=
  if h : (2 * (j / 2) ≤ 4 * (i / 2) + a ∧ 4 * (i / 2) + a - 2 * (j / 2) < 4) ∧ (2 * (j % 2) ≤ 4 * (i % 2) + b ∧ 4 * (i % 2) + b - 2 * (j % 2) < 4) then
    W (ix4 o e ⟨4 * (i / 2) + a - 2 * (j / 2), h.1.2⟩ ⟨4 * (i % 2) + b - 2 * (j % 2), h.2.2⟩)
  else 0

end Cert.Proof.EncW
-- ==== Proof.DecRef.lean ====
/- The reference decoder's three layers at a place: a sum over the taps of the window and the channels. -/
module
public import proofs.«01_k».proof.Proof.Gen.DecoderReferenceIdeal.Run
public import Idealize.ShloMosaic.Lib.Pointwise
@[expose] public section
set_option maxRecDepth 16384
noncomputable section
open Idealize.ShloMosaic Idealize.ShloMosaic.TcCoe Idealize.SL.Sem
namespace Cert.Proof.DecVal
open Cert.DecoderReferenceIdeal Cert.DecoderReferenceIdeal.Gen Cert.DecoderReferenceIdeal.Value

/-- Indices with equal coordinates. -/
theorem ix4_congr {n0 n1 n2 n3 : ℕ} {a a' : Fin n0} {b b' : Fin n1} {d d' : Fin n2} {e e' : Fin n3} (ha : a.val = a'.val) (hb : b.val = b'.val)
    (hd : d.val = d'.val) (he : e.val = e'.val) : ix4 a b d e = ix4 a' b' d' e' := by
  rw [Fin.ext ha, Fin.ext hb, Fin.ext hd, Fin.ext he]

/-- A sum over taps and channels, one after the other. -/
theorem sum_split {T C : ℕ} (f : Fin (T * C) → EReal) (hlt : ∀ (i : Fin T) (k : Fin C), C * i.val + k.val < T * C) :
    ∑ j, f j = ∑ i : Fin T, ∑ k : Fin C, f ⟨C * i.val + k.val, hlt i k⟩ := by
  rw [← finProdFinEquiv.sum_comp, Fintype.sum_prod_type]
  refine Finset.sum_congr rfl fun i _ => Finset.sum_congr rfl fun k _ => congrArg f (Fin.ext ?_)
  show k.val + C * i.val = C * i.val + k.val
  omega

/-- Nine slices side by side along the channels. -/
theorem wins9 (u0 u1 u2 u3 u4 u5 u6 u7 u8 : Vec Ideal S16x32x56x56 .f32) (h : Shape.Concatenates [S16x32x56x56, S16x32x56x56, S16x32x56x56, S16x32x56x56, S16x32x56x56, S16x32x56x56, S16x32x56x56, S16x32x56x56, S16x32x56x56] S16x288x56x56 1)
    (n : Fin 16) (i : Fin 9) (k : Fin 32) (y x : Fin 56) :
    concatenate S16x288x56x56 1 [⟨S16x32x56x56, u0⟩, ⟨S16x32x56x56, u1⟩, ⟨S16x32x56x56, u2⟩, ⟨S16x32x56x56, u3⟩, ⟨S16x32x56x56, u4⟩, ⟨S16x32x56x56, u5⟩, ⟨S16x32x56x56, u6⟩, ⟨S16x32x56x56, u7⟩, ⟨S16x32x56x56, u8⟩] h
      (ix4 n ⟨32 * i.val + k.val, by omega⟩ y x) = (![u0, u1, u2, u3, u4, u5, u6, u7, u8] : Fin 9 → Vec Ideal S16x32x56x56 .f32) i (ix4 n k y x) :=
  concatenate_ofFn_apply (t := S16x288x56x56) (s₁ := S16x32x56x56) 1 (![u0, u1, u2, u3, u4, u5, u6, u7, u8] : Fin 9 → Vec Ideal S16x32x56x56 .f32) h rfl 32 rfl
    (ix4 n ⟨32 * i.val + k.val, by omega⟩ y x) i (by show (32 * i.val + k.val) / 32 = i.val; omega) (ix4 n k y x)
    (by show k.val = (32 * i.val + k.val) % 32; omega)
    (fun b hb => by match b, hb with | ⟨0, _⟩, _ => rfl | ⟨1, _⟩, hb => exact absurd rfl hb | ⟨2, _⟩, _ => rfl | ⟨3, _⟩, _ => rfl)

/-- Sixteen slices side by side along the channels. -/
theorem wins16 {D : ℕ} (u0 u1 u2 u3 u4 u5 u6 u7 u8 u9 u10 u11 u12 u13 u14 u15 : Vec Ideal ⟨4, ![16, 128, D, D]⟩ .f32)
    (h : Shape.Concatenates [⟨4, ![16, 128, D, D]⟩, ⟨4, ![16, 128, D, D]⟩, ⟨4, ![16, 128, D, D]⟩, ⟨4, ![16, 128, D, D]⟩, ⟨4, ![16, 128, D, D]⟩, ⟨4, ![16, 128, D, D]⟩, ⟨4, ![16, 128, D, D]⟩, ⟨4, ![16, 128, D, D]⟩, ⟨4, ![16, 128, D, D]⟩, ⟨4, ![16, 128, D, D]⟩, ⟨4, ![16, 128, D, D]⟩, ⟨4, ![16, 128, D, D]⟩, ⟨4, ![16, 128, D, D]⟩, ⟨4, ![16, 128, D, D]⟩, ⟨4, ![16, 128, D, D]⟩, ⟨4, ![16, 128, D, D]⟩] ⟨4, ![16, 2048, D, D]⟩ 1)
    (n : Fin 16) (i : Fin 16) (k : Fin 128) (y x : Fin D) :
    concatenate ⟨4, ![16, 2048, D, D]⟩ 1 [⟨⟨4, ![16, 128, D, D]⟩, u0⟩, ⟨⟨4, ![16, 128, D, D]⟩, u1⟩, ⟨⟨4, ![16, 128, D, D]⟩, u2⟩, ⟨⟨4, ![16, 128, D, D]⟩, u3⟩, ⟨⟨4, ![16, 128, D, D]⟩, u4⟩, ⟨⟨4, ![16, 128, D, D]⟩, u5⟩, ⟨⟨4, ![16, 128, D, D]⟩, u6⟩, ⟨⟨4, ![16, 128, D, D]⟩, u7⟩, ⟨⟨4, ![16, 128, D, D]⟩, u8⟩, ⟨⟨4, ![16, 128, D, D]⟩, u9⟩, ⟨⟨4, ![16, 128, D, D]⟩, u10⟩, ⟨⟨4, ![16, 128, D, D]⟩, u11⟩, ⟨⟨4, ![16, 128, D, D]⟩, u12⟩, ⟨⟨4, ![16, 128, D, D]⟩, u13⟩, ⟨⟨4, ![16, 128, D, D]⟩, u14⟩, ⟨⟨4, ![16, 128, D, D]⟩, u15⟩] h
      (ix4 n ⟨128 * i.val + k.val, by omega⟩ y x)
      = (![u0, u1, u2, u3, u4, u5, u6, u7, u8, u9, u10, u11, u12, u13, u14, u15] : Fin 16 → Vec Ideal ⟨4, ![16, 128, D, D]⟩ .f32) i (ix4 n k y x) :=
  concatenate_ofFn_apply (t := ⟨4, ![16, 2048, D, D]⟩) (s₁ := ⟨4, ![16, 128, D, D]⟩) 1
    (![u0, u1, u2, u3, u4, u5, u6, u7, u8, u9, u10, u11, u12, u13, u14, u15] : Fin 16 → Vec Ideal ⟨4, ![16, 128, D, D]⟩ .f32) h rfl 128 rfl
    (ix4 n ⟨128 * i.val + k.val, by omega⟩ y x) i (by show (128 * i.val + k.val) / 128 = i.val; omega) (ix4 n k y x)
    (by show k.val = (128 * i.val + k.val) % 128; omega)
    (fun b hb => by match b, hb with | ⟨0, _⟩, _ => rfl | ⟨1, _⟩, hb => exact absurd rfl hb | ⟨2, _⟩, _ => rfl | ⟨3, _⟩, _ => rfl)

theorem sum9 (g : Fin 9 → EReal) : ∑ i, g i = g 0 + g 1 + g 2 + g 3 + g 4 + g 5 + g 6 + g 7 + g 8 := by
  simp only [Fin.sum_univ_castSucc]
  simp
theorem sum16 (g : Fin 16 → EReal) :
    ∑ i, g i = g 0 + g 1 + g 2 + g 3 + g 4 + g 5 + g 6 + g 7 + g 8 + g 9 + g 10 + g 11 + g 12 + g 13 + g 14 + g 15 := by
  simp only [Fin.sum_univ_castSucc]
  simp

theorem dot1 (w : Vec Ideal S128x288 .f32) (u : Vec Ideal S16x288x56x56 .f32) (n : Fin 16) (o : Fin 128) (y x : Fin 56) :
    (transpose S16x128x56x56 [1, 0, 2, 3] (Host.dotGeneral (F := Ideal) (φ₁ := .f32) (φ₂ := .f32) dot_S128x288_S16x288x56x56_S128x16x56x56_1_1_0_023_n_n none w u) transposes_S128x16x56x56_S16x128x56x56_1_0_2_3 : Vec Ideal S16x128x56x56 .f32) (ix4 n o y x)
      = ∑ j : Fin (9 * 32), @HMul.hMul EReal EReal EReal _ (u (ix4 n j y x)) (w (ix2 o j)) := by
  pointwise []
  exact Finset.sum_congr rfl fun j _ => mul_comm _ _

theorem dot2 (w : Vec Ideal S128x2048 .f32) (u : Vec Ideal S16x2048x112x112 .f32) (n : Fin 16) (o : Fin 128) (y x : Fin 112) :
    (transpose S16x128x112x112 [1, 0, 2, 3] (Host.dotGeneral (F := Ideal) (φ₁ := .f32) (φ₂ := .f32) dot_S128x2048_S16x2048x112x112_S128x16x112x112_1_1_0_023_n_n none w u) transposes_S128x16x112x112_S16x128x112x112_1_0_2_3 : Vec Ideal S16x128x112x112 .f32) (ix4 n o y x)
      = ∑ j : Fin (16 * 128), @HMul.hMul EReal EReal EReal _ (u (ix4 n j y x)) (w (ix2 o j)) := by
  pointwise []
  exact Finset.sum_congr rfl fun j _ => mul_comm _ _

theorem dot3 (w : Vec Ideal S3x2048 .f32) (u : Vec Ideal S16x2048x224x224 .f32) (n : Fin 16) (o : Fin 3) (y x : Fin 224) :
    (transpose S16x3x224x224 [1, 0, 2, 3] (Host.dotGeneral (F := Ideal) (φ₁ := .f32) (φ₂ := .f32) dot_S3x2048_S16x2048x224x224_S3x16x224x224_1_1_0_023_n_n none w u) transposes_S3x16x224x224_S16x3x224x224_1_0_2_3 : Vec Ideal S16x3x224x224 .f32) (ix4 n o y x)
      = ∑ j : Fin (16 * 128), @HMul.hMul EReal EReal EReal _ (u (ix4 n j y x)) (w (ix2 o j)) := by
  pointwise []
  exact Finset.sum_congr rfl fun j _ => mul_comm _ _

theorem flat1 (w : Vec Ideal S128x32x3x3 .f32) (o : Fin 128) (i : Fin 9) (k : Fin 32) (h : 32 * i.val + k.val < 288) :
    (shapeCast S128x288 (transpose S128x3x3x32 [0, 2, 3, 1] w transposes_S128x32x3x3_S128x3x3x32_0_2_3_1) shapeCasts_S128x3x3x32_S128x288 : Vec Ideal S128x288 .f32)
      (ix2 o ⟨32 * i.val + k.val, h⟩) = w (ix4 o k ⟨i.val / 3, by omega⟩ ⟨i.val % 3, by omega⟩) := by
  pointwise []
  refine congrArg w ?_
  refine ix4_congr ?_ ?_ ?_ ?_ <;> dsimp only <;> omega

theorem flat2 (w : Vec Ideal S128x128x4x4 .f32) (o : Fin 128) (i : Fin 16) (k : Fin 128) (h : 128 * i.val + k.val < 2048) :
    (shapeCast S128x2048 (transpose S128x4x4x128 [0, 2, 3, 1] (transpose S128x128x4x4 [1, 0, 2, 3] (Host.reverse [2, 3] w) transposes_S128x128x4x4_S128x128x4x4_1_0_2_3) transposes_S128x128x4x4_S128x4x4x128_0_2_3_1) shapeCasts_S128x4x4x128_S128x2048 : Vec Ideal S128x2048 .f32)
      (ix2 o ⟨128 * i.val + k.val, h⟩) = w (ix4 k o (⟨i.val / 4, by omega⟩ : Fin 4).rev (⟨i.val % 4, by omega⟩ : Fin 4).rev) := by
  pointwise []
  refine congrArg w ?_
  refine ix4_congr ?_ ?_ ?_ ?_ <;> (try simp [Fin.val_rev]) <;> (try omega)

theorem flat3 (w : Vec Ideal S128x3x4x4 .f32) (o : Fin 3) (i : Fin 16) (k : Fin 128) (h : 128 * i.val + k.val < 2048) :
    (shapeCast S3x2048 (transpose S3x4x4x128 [0, 2, 3, 1] (transpose S3x128x4x4 [1, 0, 2, 3] (Host.reverse [2, 3] w) transposes_S128x3x4x4_S3x128x4x4_1_0_2_3) transposes_S3x128x4x4_S3x4x4x128_0_2_3_1) shapeCasts_S3x4x4x128_S3x2048 : Vec Ideal S3x2048 .f32)
      (ix2 o ⟨128 * i.val + k.val, h⟩) = w (ix4 k o (⟨i.val / 4, by omega⟩ : Fin 4).rev (⟨i.val % 4, by omega⟩ : Fin 4).rev) := by
  pointwise []
  refine congrArg w ?_
  refine ix4_congr ?_ ?_ ?_ ?_ <;> (try simp [Fin.val_rev]) <;> (try omega)

/-- A dilated and bordered plane at an even row and column. -/
theorem dilate2 (u : Vec Ideal S16x128x56x56 .f32) (z : Vec Ideal S_ .f32) (h : S16x128x56x56.Pads ![0, 0, 2, 2] ![0, 0, 2, 2] ![0, 0, 1, 1] S16x128x115x115) (n : Fin 16) (o : Fin 128) (y x : Fin 56) :
    (pad S16x128x115x115 ![0, 0, 2, 2] ![0, 0, 2, 2] ![0, 0, 1, 1] u z h h_S_ : Vec Ideal S16x128x115x115 .f32)
      (ix4 n o ⟨2 * y.val + 2, by omega⟩ ⟨2 * x.val + 2, by omega⟩) = u (ix4 n o y x) := by
  pointwise []
  have e : ∀ z : ℕ, (2 * z + 2 - 2) / 2 = z := fun z => by omega
  refine (dif_pos (by omega)).trans ?_
  simp only [e]

theorem dilate3 (u : Vec Ideal S16x128x112x112 .f32) (z : Vec Ideal S_ .f32) (h : S16x128x112x112.Pads ![0, 0, 2, 2] ![0, 0, 2, 2] ![0, 0, 1, 1] S16x128x227x227) (n : Fin 16) (o : Fin 128) (y x : Fin 112) :
    (pad S16x128x227x227 ![0, 0, 2, 2] ![0, 0, 2, 2] ![0, 0, 1, 1] u z h h_S_ : Vec Ideal S16x128x227x227 .f32)
      (ix4 n o ⟨2 * y.val + 2, by omega⟩ ⟨2 * x.val + 2, by omega⟩) = u (ix4 n o y x) := by
  pointwise []
  have e : ∀ z : ℕ, (2 * z + 2 - 2) / 2 = z := fun z => by omega
  refine (dif_pos (by omega)).trans ?_
  simp only [e]

variable (V0 : Valuation τ sig (Elt Ideal))

/-- The first layer's term for a tap. -/
def ref1 (n : Fin 16) (o : Fin 128) (y x : Fin 56) (ky kx : Fin 3) : EReal :=
  ∑ k : Fin 32, @HMul.hMul EReal EReal EReal _ (res_main_v3 V0 (ix4 n k ⟨ky.val + y.val, by omega⟩ ⟨kx.val + x.val, by omega⟩))
    (V0 (Proc.tc.devRef main_arg1) (ix4 o k ky kx))

/-- The second layer's term for a tap, from the dilated first layer. -/
def ref2 (n : Fin 16) (o : Fin 128) (Y X : Fin 112) (ky kx : Fin 4) : EReal :=
  ∑ k : Fin 128, @HMul.hMul EReal EReal EReal _ (res_main_v23 V0 (ix4 n k ⟨ky.val + Y.val, by omega⟩ ⟨kx.val + X.val, by omega⟩))
    (V0 (Proc.tc.devRef main_arg3) (ix4 k o ky.rev kx.rev))

/-- The third layer's term for a tap, from the dilated second layer. -/
def ref3 (n : Fin 16) (o : Fin 3) (Y X : Fin 224) (ky kx : Fin 4) : EReal :=
  ∑ k : Fin 128, @HMul.hMul EReal EReal EReal _ (res_main_v52 V0 (ix4 n k ⟨ky.val + Y.val, by omega⟩ ⟨kx.val + X.val, by omega⟩))
    (V0 (Proc.tc.devRef main_arg5) (ix4 k o ky.rev kx.rev))

theorem v49_at (n : Fin 16) (o : Fin 128) (Y X : Fin 112) :
    (res_main_v49 V0 : Vec Ideal S16x128x112x112 .f32) (ix4 n o Y X)
      = ref2 V0 n o Y X 0 0 + ref2 V0 n o Y X 0 1 + ref2 V0 n o Y X 0 2 + ref2 V0 n o Y X 0 3
          + ref2 V0 n o Y X 1 0 + ref2 V0 n o Y X 1 1 + ref2 V0 n o Y X 1 2 + ref2 V0 n o Y X 1 3
          + ref2 V0 n o Y X 2 0 + ref2 V0 n o Y X 2 1 + ref2 V0 n o Y X 2 2 + ref2 V0 n o Y X 2 3
          + ref2 V0 n o Y X 3 0 + ref2 V0 n o Y X 3 1 + ref2 V0 n o Y X 3 2 + ref2 V0 n o Y X 3 3
          + V0 (Proc.tc.devRef main_arg4) (ix1 o) := by
  unfold res_main_v49
  refine congrArg₂ (@HAdd.hAdd EReal EReal EReal _) ((dot2 _ _ n o Y X).trans ((sum_split _ fun i k => by omega).trans ((Finset.sum_congr rfl fun i _ =>
    Finset.sum_congr rfl fun k _ => congrArg₂ (@HMul.hMul EReal EReal EReal _) (wins16 (D := 112) _ _ _ _ _ _ _ _ _ _ _ _ _ _ _ _ _ n i k Y X)
      (flat2 _ o i k (by omega))).trans ((sum16 _).trans ?_)))) (by pointwise [])
  pointwise [ref2]

theorem v23_at (n : Fin 16) (o : Fin 128) (y x : Fin 56) :
    (res_main_v23 V0 : Vec Ideal S16x128x115x115 .f32) (ix4 n o ⟨2 * y.val + 2, by omega⟩ ⟨2 * x.val + 2, by omega⟩)
      = max (ref1 V0 n o y x 0 0 + ref1 V0 n o y x 0 1 + ref1 V0 n o y x 0 2 + ref1 V0 n o y x 1 0 + ref1 V0 n o y x 1 1 + ref1 V0 n o y x 1 2
          + ref1 V0 n o y x 2 0 + ref1 V0 n o y x 2 1 + ref1 V0 n o y x 2 2 + V0 (Proc.tc.devRef main_arg2) (ix1 o)) (0 : EReal) := by
  unfold res_main_v23
  refine (dilate2 _ _ _ n o y x).trans ?_
  refine congrArg₂ (@max EReal _) ?_ (by pointwise [])
  refine congrArg₂ (@HAdd.hAdd EReal EReal EReal _) ((dot1 _ _ n o y x).trans ((sum_split _ fun i k => by omega).trans ((Finset.sum_congr rfl fun i _ =>
    Finset.sum_congr rfl fun k _ => congrArg₂ (@HMul.hMul EReal EReal EReal _) (wins9 _ _ _ _ _ _ _ _ _ _ n i k y x)
      (flat1 _ o i k (by omega))).trans ((sum9 _).trans ?_)))) (by pointwise [])
  pointwise [ref1]

theorem v52_at (n : Fin 16) (o : Fin 128) (Y X : Fin 112) :
    (res_main_v52 V0 : Vec Ideal S16x128x227x227 .f32) (ix4 n o ⟨2 * Y.val + 2, by omega⟩ ⟨2 * X.val + 2, by omega⟩)
      = max (ref2 V0 n o Y X 0 0 + ref2 V0 n o Y X 0 1 + ref2 V0 n o Y X 0 2 + ref2 V0 n o Y X 0 3
          + ref2 V0 n o Y X 1 0 + ref2 V0 n o Y X 1 1 + ref2 V0 n o Y X 1 2 + ref2 V0 n o Y X 1 3
          + ref2 V0 n o Y X 2 0 + ref2 V0 n o Y X 2 1 + ref2 V0 n o Y X 2 2 + ref2 V0 n o Y X 2 3
          + ref2 V0 n o Y X 3 0 + ref2 V0 n o Y X 3 1 + ref2 V0 n o Y X 3 2 + ref2 V0 n o Y X 3 3
          + V0 (Proc.tc.devRef main_arg4) (ix1 o)) (0 : EReal) := by
  unfold res_main_v52
  refine (dilate3 _ _ _ n o Y X).trans ?_
  exact congrArg₂ (@max EReal _) (v49_at V0 n o Y X) (by pointwise [])

/-- The reference's result before the bias. -/
def sum3 (n : Fin 16) (o : Fin 3) (Y X : Fin 224) : EReal :=
  ref3 V0 n o Y X 0 0 + ref3 V0 n o Y X 0 1 + ref3 V0 n o Y X 0 2 + ref3 V0 n o Y X 0 3
    + ref3 V0 n o Y X 1 0 + ref3 V0 n o Y X 1 1 + ref3 V0 n o Y X 1 2 + ref3 V0 n o Y X 1 3
    + ref3 V0 n o Y X 2 0 + ref3 V0 n o Y X 2 1 + ref3 V0 n o Y X 2 2 + ref3 V0 n o Y X 2 3
    + ref3 V0 n o Y X 3 0 + ref3 V0 n o Y X 3 1 + ref3 V0 n o Y X 3 2 + ref3 V0 n o Y X 3 3

/-- The reference's result. -/
def res3 : Vec Ideal S16x3x224x224 .f32 := fun i =>
  @HAdd.hAdd EReal EReal EReal _ (sum3 V0 (i 0) (i 1) (i 2) (i 3)) (V0 (Proc.tc.devRef main_arg6) (ix1 (i 1)))

theorem v78_at (n : Fin 16) (o : Fin 3) (Y X : Fin 224) :
    (res_main_v78 V0 : Vec Ideal S16x3x224x224 .f32) (ix4 n o Y X) = res3 V0 (ix4 n o Y X) := by
  unfold res_main_v78
  refine congrArg₂ (@HAdd.hAdd EReal EReal EReal _) ((dot3 _ _ n o Y X).trans ((sum_split _ fun i k => by omega).trans ((Finset.sum_congr rfl fun i _ =>
    Finset.sum_congr rfl fun k _ => congrArg₂ (@HMul.hMul EReal EReal EReal _) (wins16 (D := 224) _ _ _ _ _ _ _ _ _ _ _ _ _ _ _ _ _ n i k Y X)
      (flat3 _ o i k (by omega))).trans ((sum16 _).trans ?_)))) (by pointwise [])
  pointwise [sum3, ref3]
end Cert.Proof.DecVal
-- ==== Proof.EncRef.lean ====
/- The reference encoder's three layers at a place: a sum over the taps of the window and the channels. -/
module
public import proofs.«01_k».proof.Proof.Gen.EncoderReferenceIdeal.Run
public import proofs.«01_k».proof.Proof.DecRef
public import Idealize.ShloMosaic.Lib.Pointwise
@[expose] public section
set_option maxRecDepth 16384
noncomputable section
open Idealize.ShloMosaic Idealize.ShloMosaic.TcCoe Idealize.SL.Sem
namespace Cert.Proof.EncVal
open Cert.EncoderReferenceIdeal Cert.EncoderReferenceIdeal.Gen Cert.EncoderReferenceIdeal.Value
open Cert.Proof.DecVal (ix4_congr sum_split sum9 sum16)

/-- Sixteen slices of three channels side by side. -/
theorem wins16c3 (u0 u1 u2 u3 u4 u5 u6 u7 u8 u9 u10 u11 u12 u13 u14 u15 : Vec Ideal S16x3x112x112 .f32)
    (h : Shape.Concatenates [S16x3x112x112, S16x3x112x112, S16x3x112x112, S16x3x112x112, S16x3x112x112, S16x3x112x112, S16x3x112x112, S16x3x112x112, S16x3x112x112, S16x3x112x112, S16x3x112x112, S16x3x112x112, S16x3x112x112, S16x3x112x112, S16x3x112x112, S16x3x112x112] S16x48x112x112 1)
    (n : Fin 16) (i : Fin 16) (k : Fin 3) (y x : Fin 112) :
    concatenate S16x48x112x112 1 [⟨S16x3x112x112, u0⟩, ⟨S16x3x112x112, u1⟩, ⟨S16x3x112x112, u2⟩, ⟨S16x3x112x112, u3⟩, ⟨S16x3x112x112, u4⟩, ⟨S16x3x112x112, u5⟩, ⟨S16x3x112x112, u6⟩, ⟨S16x3x112x112, u7⟩, ⟨S16x3x112x112, u8⟩, ⟨S16x3x112x112, u9⟩, ⟨S16x3x112x112, u10⟩, ⟨S16x3x112x112, u11⟩, ⟨S16x3x112x112, u12⟩, ⟨S16x3x112x112, u13⟩, ⟨S16x3x112x112, u14⟩, ⟨S16x3x112x112, u15⟩] h
      (ix4 n ⟨3 * i.val + k.val, by omega⟩ y x)
      = (![u0, u1, u2, u3, u4, u5, u6, u7, u8, u9, u10, u11, u12, u13, u14, u15] : Fin 16 → Vec Ideal S16x3x112x112 .f32) i (ix4 n k y x) :=
  concatenate_ofFn_apply (t := S16x48x112x112) (s₁ := S16x3x112x112) 1
    (![u0, u1, u2, u3, u4, u5, u6, u7, u8, u9, u10, u11, u12, u13, u14, u15] : Fin 16 → Vec Ideal S16x3x112x112 .f32) h rfl 3 rfl
    (ix4 n ⟨3 * i.val + k.val, by omega⟩ y x) i (by show (3 * i.val + k.val) / 3 = i.val; omega) (ix4 n k y x)
    (by show k.val = (3 * i.val + k.val) % 3; omega)
    (fun b hb => by match b, hb with | ⟨0, _⟩, _ => rfl | ⟨1, _⟩, hb => exact absurd rfl hb | ⟨2, _⟩, _ => rfl | ⟨3, _⟩, _ => rfl)

/-- Nine slices of 128 channels side by side. -/
theorem wins9 (u0 u1 u2 u3 u4 u5 u6 u7 u8 : Vec Ideal S16x128x56x56 .f32) (h : Shape.Concatenates [S16x128x56x56, S16x128x56x56, S16x128x56x56, S16x128x56x56, S16x128x56x56, S16x128x56x56, S16x128x56x56, S16x128x56x56, S16x128x56x56] S16x1152x56x56 1)
    (n : Fin 16) (i : Fin 9) (k : Fin 128) (y x : Fin 56) :
    concatenate S16x1152x56x56 1 [⟨S16x128x56x56, u0⟩, ⟨S16x128x56x56, u1⟩, ⟨S16x128x56x56, u2⟩, ⟨S16x128x56x56, u3⟩, ⟨S16x128x56x56, u4⟩, ⟨S16x128x56x56, u5⟩, ⟨S16x128x56x56, u6⟩, ⟨S16x128x56x56, u7⟩, ⟨S16x128x56x56, u8⟩] h
      (ix4 n ⟨128 * i.val + k.val, by omega⟩ y x) = (![u0, u1, u2, u3, u4, u5, u6, u7, u8] : Fin 9 → Vec Ideal S16x128x56x56 .f32) i (ix4 n k y x) :=
  concatenate_ofFn_apply (t := S16x1152x56x56) (s₁ := S16x128x56x56) 1 (![u0, u1, u2, u3, u4, u5, u6, u7, u8] : Fin 9 → Vec Ideal S16x128x56x56 .f32) h rfl 128 rfl
    (ix4 n ⟨128 * i.val + k.val, by omega⟩ y x) i (by show (128 * i.val + k.val) / 128 = i.val; omega) (ix4 n k y x)
    (by show k.val = (128 * i.val + k.val) % 128; omega)
    (fun b hb => by match b, hb with | ⟨0, _⟩, _ => rfl | ⟨1, _⟩, hb => exact absurd rfl hb | ⟨2, _⟩, _ => rfl | ⟨3, _⟩, _ => rfl)

theorem dot1 (w : Vec Ideal S128x48 .f32) (u : Vec Ideal S16x48x112x112 .f32) (n : Fin 16) (o : Fin 128) (y x : Fin 112) :
    (transpose S16x128x112x112 [1, 0, 2, 3] (Host.dotGeneral (F := Ideal) (φ₁ := .f32) (φ₂ := .f32) dot_S128x48_S16x48x112x112_S128x16x112x112_1_1_0_023_n_n none w u) transposes_S128x16x112x112_S16x128x112x112_1_0_2_3 : Vec Ideal S16x128x112x112 .f32) (ix4 n o y x)
      = ∑ j : Fin (16 * 3), @HMul.hMul EReal EReal EReal _ (u (ix4 n j y x)) (w (ix2 o j)) := by
  pointwise []
  exact Finset.sum_congr rfl fun j _ => mul_comm _ _

theorem dot2 (w : Vec Ideal S128x2048 .f32) (u : Vec Ideal S16x2048x56x56 .f32) (n : Fin 16) (o : Fin 128) (y x : Fin 56) :
    (transpose S16x128x56x56 [1, 0, 2, 3] (Host.dotGeneral (F := Ideal) (φ₁ := .f32) (φ₂ := .f32) dot_S128x2048_S16x2048x56x56_S128x16x56x56_1_1_0_023_n_n none w u) transposes_S128x16x56x56_S16x128x56x56_1_0_2_3 : Vec Ideal S16x128x56x56 .f32) (ix4 n o y x)
      = ∑ j : Fin (16 * 128), @HMul.hMul EReal EReal EReal _ (u (ix4 n j y x)) (w (ix2 o j)) := by
  pointwise []
  exact Finset.sum_congr rfl fun j _ => mul_comm _ _

theorem dot3 (w : Vec Ideal S32x1152 .f32) (u : Vec Ideal S16x1152x56x56 .f32) (n : Fin 16) (o : Fin 32) (y x : Fin 56) :
    (transpose S16x32x56x56 [1, 0, 2, 3] (Host.dotGeneral (F := Ideal) (φ₁ := .f32) (φ₂ := .f32) dot_S32x1152_S16x1152x56x56_S32x16x56x56_1_1_0_023_n_n none w u) transposes_S32x16x56x56_S16x32x56x56_1_0_2_3 : Vec Ideal S16x32x56x56 .f32) (ix4 n o y x)
      = ∑ j : Fin (9 * 128), @HMul.hMul EReal EReal EReal _ (u (ix4 n j y x)) (w (ix2 o j)) := by
  pointwise []
  exact Finset.sum_congr rfl fun j _ => mul_comm _ _

theorem flat1 (w : Vec Ideal S128x3x4x4 .f32) (o : Fin 128) (i : Fin 16) (k : Fin 3) (h : 3 * i.val + k.val < 48) :
    (shapeCast S128x48 (transpose S128x4x4x3 [0, 2, 3, 1] w transposes_S128x3x4x4_S128x4x4x3_0_2_3_1) shapeCasts_S128x4x4x3_S128x48 : Vec Ideal S128x48 .f32)
      (ix2 o ⟨3 * i.val + k.val, h⟩) = w (ix4 o k ⟨i.val / 4, by omega⟩ ⟨i.val % 4, by omega⟩) := by
  pointwise []
  refine congrArg w ?_
  refine ix4_congr ?_ ?_ ?_ ?_ <;> dsimp only <;> omega

theorem flat2 (w : Vec Ideal S128x128x4x4 .f32) (o : Fin 128) (i : Fin 16) (k : Fin 128) (h : 128 * i.val + k.val < 2048) :
    (shapeCast S128x2048 (transpose S128x4x4x128 [0, 2, 3, 1] w transposes_S128x128x4x4_S128x4x4x128_0_2_3_1) shapeCasts_S128x4x4x128_S128x2048 : Vec Ideal S128x2048 .f32)
      (ix2 o ⟨128 * i.val + k.val, h⟩) = w (ix4 o k ⟨i.val / 4, by omega⟩ ⟨i.val % 4, by omega⟩) := by
  pointwise []
  refine congrArg w ?_
  refine ix4_congr ?_ ?_ ?_ ?_ <;> dsimp only <;> omega

theorem flat3 (w : Vec Ideal S32x128x3x3 .f32) (o : Fin 32) (i : Fin 9) (k : Fin 128) (h : 128 * i.val + k.val < 1152) :
    (shapeCast S32x1152 (transpose S32x3x3x128 [0, 2, 3, 1] w transposes_S32x128x3x3_S32x3x3x128_0_2_3_1) shapeCasts_S32x3x3x128_S32x1152 : Vec Ideal S32x1152 .f32)
      (ix2 o ⟨128 * i.val + k.val, h⟩) = w (ix4 o k ⟨i.val / 3, by omega⟩ ⟨i.val % 3, by omega⟩) := by
  pointwise []
  refine congrArg w ?_
  refine ix4_congr ?_ ?_ ?_ ?_ <;> dsimp only <;> omega

variable (V0 : Valuation τ sig (Elt Ideal))

/-- The sum over a 4 by 4 window. -/
def taps4 (g : Fin 4 → Fin 4 → EReal) : EReal :=
  g 0 0 + g 0 1 + g 0 2 + g 0 3 + g 1 0 + g 1 1 + g 1 2 + g 1 3 + g 2 0 + g 2 1 + g 2 2 + g 2 3 + g 3 0 + g 3 1 + g 3 2 + g 3 3

/-- The first layer's term for a tap. -/
def ref1 (n : Fin 16) (o : Fin 128) (Y X : Fin 112) (ky kx : Fin 4) : EReal :=
  ∑ k : Fin 3, @HMul.hMul EReal EReal EReal _ (res_main_v0 V0 (ix4 n k ⟨ky.val + 2 * Y.val, by omega⟩ ⟨kx.val + 2 * X.val, by omega⟩))
    (V0 (Proc.tc.devRef main_arg1) (ix4 o k ky kx))

/-- The second layer's term for a tap. -/
def ref2 (n : Fin 16) (o : Fin 128) (Y X : Fin 56) (ky kx : Fin 4) : EReal :=
  ∑ k : Fin 128, @HMul.hMul EReal EReal EReal _ (res_main_v27 V0 (ix4 n k ⟨ky.val + 2 * Y.val, by omega⟩ ⟨kx.val + 2 * X.val, by omega⟩))
    (V0 (Proc.tc.devRef main_arg3) (ix4 o k ky kx))

/-- The third layer's term for a tap. -/
def ref3 (n : Fin 16) (o : Fin 32) (Y X : Fin 56) (ky kx : Fin 3) : EReal :=
  ∑ k : Fin 128, @HMul.hMul EReal EReal EReal _ (res_main_v54 V0 (ix4 n k ⟨ky.val + Y.val, by omega⟩ ⟨kx.val + X.val, by omega⟩))
    (V0 (Proc.tc.devRef main_arg5) (ix4 o k ky kx))

theorem v26_at (n : Fin 16) (o : Fin 128) (Y X : Fin 112) :
    (res_main_v26 V0 : Vec Ideal S16x128x112x112 .f32) (ix4 n o Y X)
      = max (taps4 (ref1 V0 n o Y X) + V0 (Proc.tc.devRef main_arg2) (ix1 o)) (0 : EReal) := by
  unfold res_main_v26
  refine congrArg₂ (@max EReal _) ?_ (by pointwise [])
  refine congrArg₂ (@HAdd.hAdd EReal EReal EReal _) ((dot1 _ _ n o Y X).trans ((sum_split _ fun i k => by omega).trans ((Finset.sum_congr rfl fun i _ =>
    Finset.sum_congr rfl fun k _ => congrArg₂ (@HMul.hMul EReal EReal EReal _) (wins16c3 _ _ _ _ _ _ _ _ _ _ _ _ _ _ _ _ _ n i k Y X)
      (flat1 _ o i k (by omega))).trans ((sum16 _).trans ?_)))) (by pointwise [])
  pointwise [taps4, ref1]

theorem v51_at (n : Fin 16) (o : Fin 128) (Y X : Fin 56) :
    (res_main_v51 V0 : Vec Ideal S16x128x56x56 .f32) (ix4 n o Y X)
      = (taps4 (ref2 V0 n o Y X) + V0 (Proc.tc.devRef main_arg4) (ix1 o) : EReal) := by
  unfold res_main_v51
  refine congrArg₂ (@HAdd.hAdd EReal EReal EReal _) ((dot2 _ _ n o Y X).trans ((sum_split _ fun i k => by omega).trans ((Finset.sum_congr rfl fun i _ =>
    Finset.sum_congr rfl fun k _ => congrArg₂ (@HMul.hMul EReal EReal EReal _) (Cert.Proof.DecVal.wins16 (D := 56) _ _ _ _ _ _ _ _ _ _ _ _ _ _ _ _ _ n i k Y X)
      (flat2 _ o i k (by omega))).trans ((sum16 _).trans ?_)))) (by pointwise [])
  pointwise [taps4, ref2]

theorem rows_at (u : Vec Ideal S16x32x56x56 .f32) (n : Fin 16) (y x : Fin 56) (o : Fin 32) :
    (shapeCast S50176x32 (transpose S16x56x56x32 [0, 2, 3, 1] u transposes_S16x32x56x56_S16x56x56x32_0_2_3_1) shapeCasts_S16x56x56x32_S50176x32 : Vec Ideal S50176x32 .f32)
      (ix2 ⟨n.val * 3136 + y.val * 56 + x.val, by omega⟩ o) = u (ix4 n o y x) := by
  pointwise []

theorem v73_at (n : Fin 16) (o : Fin 32) (y x : Fin 56) :
    (res_main_v73 V0 : Vec Ideal S50176x32 .f32) (ix2 ⟨n.val * 3136 + y.val * 56 + x.val, by omega⟩ o)
      = (ref3 V0 n o y x 0 0 + ref3 V0 n o y x 0 1 + ref3 V0 n o y x 0 2 + ref3 V0 n o y x 1 0 + ref3 V0 n o y x 1 1 + ref3 V0 n o y x 1 2
          + ref3 V0 n o y x 2 0 + ref3 V0 n o y x 2 1 + ref3 V0 n o y x 2 2 + V0 (Proc.tc.devRef main_arg6) (ix1 o) : EReal) := by
  unfold res_main_v73
  refine (rows_at _ n y x o).trans ?_
  refine congrArg₂ (@HAdd.hAdd EReal EReal EReal _) ((dot3 _ _ n o y x).trans ((sum_split _ fun i k => by omega).trans ((Finset.sum_congr rfl fun i _ =>
    Finset.sum_congr rfl fun k _ => congrArg₂ (@HMul.hMul EReal EReal EReal _) (wins9 _ _ _ _ _ _ _ _ _ _ n i k y x)
      (flat3 _ o i k (by omega))).trans ((sum9 _).trans ?_)))) (by pointwise [])
  pointwise [ref3]

/-- A plane in a border of one place, at a place. -/
theorem border_at {C D E : ℕ} (u : FVec Ideal ⟨4, ![16, C, D, D]⟩ .f32) (z : FVec Ideal S_ .f32)
    (h : Shape.Pads ⟨4, ![16, C, D, D]⟩ ![0, 0, 1, 1] ![0, 0, 1, 1] ![0, 0, 0, 0] ⟨4, ![16, C, E, E]⟩) (n : Fin 16) (k : Fin C) (r s : Fin E) :
    pad ⟨4, ![16, C, E, E]⟩ ![0, 0, 1, 1] ![0, 0, 1, 1] ![0, 0, 0, 0] u z h h_S_ (ix4 n k r s)
      = if hh : (1 ≤ r.val ∧ r.val - 1 < D) ∧ (1 ≤ s.val ∧ s.val - 1 < D) then u (ix4 n k ⟨r.val - 1, hh.1.2⟩ ⟨s.val - 1, hh.2.2⟩) else z ix0 := by
  by_cases hh : (1 ≤ r.val ∧ r.val - 1 < D) ∧ (1 ≤ s.val ∧ s.val - 1 < D)
  · rw [dif_pos hh]
    refine (dif_pos fun a => ?_).trans (congrArg u (funext fun a => Fin.ext ?_))
    · match a with
      | ⟨0, _⟩ => exact ⟨Nat.zero_le _, Nat.mod_one _, by show (n.val - 0) / 1 < 16; omega⟩
      | ⟨1, _⟩ => exact ⟨Nat.zero_le _, Nat.mod_one _, by show (k.val - 0) / 1 < C; omega⟩
      | ⟨2, _⟩ => exact ⟨hh.1.1, Nat.mod_one _, by show (r.val - 1) / 1 < D; omega⟩
      | ⟨3, _⟩ => exact ⟨hh.2.1, Nat.mod_one _, by show (s.val - 1) / 1 < D; omega⟩
    · match a with
      | ⟨0, _⟩ => show (n.val - 0) / 1 = n.val; omega
      | ⟨1, _⟩ => show (k.val - 0) / 1 = k.val; omega
      | ⟨2, _⟩ => show (r.val - 1) / 1 = r.val - 1; omega
      | ⟨3, _⟩ => show (s.val - 1) / 1 = s.val - 1; omega
  · rw [dif_neg hh]
    refine (dif_neg fun ha => hh ?_).trans (congrArg z (Subsingleton.elim _ _))
    have h2 := ha 2
    have h3 := ha 3
    have a2 : 1 ≤ r.val ∧ (r.val - 1) % 1 = 0 ∧ (r.val - 1) / 1 < D := h2
    have a3 : 1 ≤ s.val ∧ (s.val - 1) % 1 = 0 ∧ (s.val - 1) / 1 < D := h3
    omega

theorem zero_word : (sitofp .f32 (constantI S_ 32 0#32) : FVec Ideal S_ .f32) ix0 = (0 : EReal) :=
  (by norm_num [FloatOps.sitofp] : FloatOps.sitofp (F := Ideal) FTy.f32 0#32 = (0 : EReal))

/-- The padded layers are zero in their borders, and the layers inside. -/
theorem v27_border (n : Fin 16) (k : Fin 128) (r s : ℕ) (hr : r < 114) (hs : s < 114) (h : r < 1 ∨ 112 < r ∨ s < 1 ∨ 112 < s) :
    res_main_v27 V0 (ix4 n k ⟨r, hr⟩ ⟨s, hs⟩) = (0 : EReal) :=
  (border_at (res_main_v26 V0) _ _ n k ⟨r, hr⟩ ⟨s, hs⟩).trans ((dif_neg (by dsimp only; omega)).trans zero_word)

theorem v27_inside (n : Fin 16) (k : Fin 128) (r s : Fin 112) (hr : r.val + 1 < 114) (hs : s.val + 1 < 114) :
    res_main_v27 V0 (ix4 n k ⟨r.val + 1, hr⟩ ⟨s.val + 1, hs⟩) = res_main_v26 V0 (ix4 n k r s) :=
  (border_at (res_main_v26 V0) _ _ n k ⟨r.val + 1, hr⟩ ⟨s.val + 1, hs⟩).trans (dif_pos (by dsimp only; omega))

theorem v54_border (n : Fin 16) (k : Fin 128) (r s : ℕ) (hr : r < 58) (hs : s < 58) (h : r < 1 ∨ 56 < r ∨ s < 1 ∨ 56 < s) :
    res_main_v54 V0 (ix4 n k ⟨r, hr⟩ ⟨s, hs⟩) = (0 : EReal) :=
  (border_at _ _ _ n k ⟨r, hr⟩ ⟨s, hs⟩).trans ((dif_neg (by dsimp only; omega)).trans zero_word)

theorem v54_inside (n : Fin 16) (k : Fin 128) (r s : Fin 56) (hr : r.val + 1 < 58) (hs : s.val + 1 < 58) :
    res_main_v54 V0 (ix4 n k ⟨r.val + 1, hr⟩ ⟨s.val + 1, hs⟩)
      = max (taps4 (ref2 V0 n k r s) + V0 (Proc.tc.devRef main_arg4) (ix1 k)) (0 : EReal) :=
  (border_at _ _ _ n k ⟨r.val + 1, hr⟩ ⟨s.val + 1, hs⟩).trans ((dif_pos (by dsimp only; omega)).trans
    (congrArg₂ (@max EReal _) (v51_at V0 n k r s) (by pointwise [])))

/-- The padded image at a place, from the argument. -/
theorem v0_at (n : Fin 16) (k : Fin 3) (r s : ℕ) (hr : r < 226) (hs : s < 226) :
    res_main_v0 V0 (ix4 n k ⟨r, hr⟩ ⟨s, hs⟩)
      = if h : (1 ≤ r ∧ r - 1 < 224) ∧ (1 ≤ s ∧ s - 1 < 224) then V0 (Proc.tc.devRef main_arg0) (ix4 n k ⟨r - 1, h.1.2⟩ ⟨s - 1, h.2.2⟩) else (0 : EReal) := by
  refine (border_at _ _ _ n k ⟨r, hr⟩ ⟨s, hs⟩).trans ?_
  rw [zero_word]
end Cert.Proof.EncVal
-- ==== Proof.EncSt1.lean ====
/- The encoder's first stage against the reference's, place by place. -/
module
public import proofs.«01_k».proof.Proof.EncRun
public import proofs.«01_k».proof.Proof.EncTap
public import proofs.«01_k».proof.Proof.EncRef
@[expose] public section
set_option maxRecDepth 16384
noncomputable section
open Idealize.ShloMosaic Idealize.ShloMosaic.TcCoe Idealize.SL.Sem
namespace Cert.Proof.EncVal
open Cert.EncoderIdeal Cert.EncoderIdeal.Gen Cert.Proof.Frames Cert.Proof.EncRun Cert.Proof.EncW
open Cert.EncoderReferenceIdeal.Value (res_main_v0 res_main_v26 res_main_v27 res_main_v54)
open Cert.Proof.DecVal (ix4_congr sum_split)
variable (V0 : Valuation Cert.EncoderReferenceIdeal.τ Cert.EncoderReferenceIdeal.sig (Elt Ideal))

/-- The image at a place counted from one, and zero off it. -/
def img (A : Vec Ideal S16x3x224x224 .f32) (n : Fin 16) (e : Fin 3) (r s : ℕ) : EReal :=
  if h : (1 ≤ r ∧ r - 1 < 224) ∧ (1 ≤ s ∧ s - 1 < 224) then A (ix4 n e ⟨r - 1, h.1.2⟩ ⟨s - 1, h.2.2⟩) else 0

/-- A window of four rows that starts two rows in, read as two groups of four rows. -/
theorem band (v : ℕ) (hv : v < 2) (g : ℕ → Fin 4 → EReal) :
    ∑ d : Fin 2, ∑ a : Fin 4, (if h : 2 * v ≤ 4 * d.val + a.val ∧ 4 * d.val + a.val - 2 * v < 4 then g (4 * d.val + a.val) ⟨4 * d.val + a.val - 2 * v, h.2⟩ else 0)
      = ∑ k : Fin 4, g (2 * v + k.val) k := by
  interval_cases v <;> simp [Fin.sum_univ_succ] <;> simp only [add_assoc]

/-- A row of 48 entries as a 4 by 4 by 3 array. -/
theorem sum48 (f : Fin 48 → EReal) : ∑ j, f j = ∑ a : Fin 4, ∑ b : Fin 4, ∑ e : Fin 3, f ⟨12 * a.val + 3 * b.val + e.val, by omega⟩ := by
  refine (sum_split (T := 16) (C := 3) f fun i k => by omega).trans ?_
  refine (sum_split (T := 4) (C := 4) (fun i : Fin (4 * 4) => ∑ k : Fin 3, f ⟨3 * i.val + k.val, by omega⟩) fun i k => by omega).trans ?_
  refine Finset.sum_congr rfl fun a _ => Finset.sum_congr rfl fun b _ => Finset.sum_congr rfl fun e _ => congrArg f (Fin.ext ?_)
  show 3 * (4 * a.val + b.val) + e.val = 12 * a.val + 3 * b.val + e.val
  omega

theorem taps4_sum (g : Fin 4 → Fin 4 → EReal) : taps4 g = ∑ a, ∑ b, g a b := by
  simp only [taps4, Fin.sum_univ_four]
  simp only [add_assoc]

theorem four_sum (g : Fin 2 → Fin 2 → EReal) : g 0 0 + g 0 1 + g 1 0 + g 1 1 = ∑ a, ∑ b, g a b := by
  simp only [Fin.sum_univ_two]
  simp only [add_assoc]

/-- The first stage's four products, one of each tap, are the sum over the window. -/
theorem merge (A : Vec Ideal S16x3x224x224 .f32) (W : Vec Ideal S128x3x4x4 .f32) (n : Fin 16) (o : Fin 128) (j : Fin 4) (r s : Fin 56) :
    (∑ d : Fin 2, ∑ d' : Fin 2, ∑ a : Fin 4, ∑ b : Fin 4, ∑ e : Fin 3,
      @HMul.hMul EReal EReal EReal _ (img A n e (4 * (r.val + d.val) + a.val) (4 * (s.val + d'.val) + b.val)) (tap1 W (2 * d.val + d'.val) j.val a.val b.val e o))
      = ∑ y : Fin 4, ∑ x : Fin 4, ∑ e : Fin 3,
        @HMul.hMul EReal EReal EReal _ (img A n e (y.val + 2 * (2 * r.val + j.val / 2)) (x.val + 2 * (2 * s.val + j.val % 2))) (W (ix4 o e y x)) := by
  refine Eq.trans ?_ ((band (j.val / 2) (by omega) fun R y => ∑ d' : Fin 2, ∑ b : Fin 4,
      (if h : 2 * (j.val % 2) ≤ 4 * d'.val + b.val ∧ 4 * d'.val + b.val - 2 * (j.val % 2) < 4 then
        ∑ e : Fin 3, @HMul.hMul EReal EReal EReal _ (img A n e (4 * r.val + R) (4 * s.val + (4 * d'.val + b.val))) (W (ix4 o e y ⟨4 * d'.val + b.val - 2 * (j.val % 2), h.2⟩))
      else 0)).trans (Finset.sum_congr rfl fun y _ => (band (j.val % 2) (by omega) fun C x =>
        ∑ e : Fin 3, @HMul.hMul EReal EReal EReal _ (img A n e (4 * r.val + (2 * (j.val / 2) + y.val)) (4 * s.val + C)) (W (ix4 o e y x))).trans
        (Finset.sum_congr rfl fun x _ => Finset.sum_congr rfl fun e _ => ?_)))
  · refine Finset.sum_congr rfl fun d _ => Finset.sum_comm.trans (Finset.sum_congr rfl fun a _ => ?_)
    by_cases h : 2 * (j.val / 2) ≤ 4 * d.val + a.val ∧ 4 * d.val + a.val - 2 * (j.val / 2) < 4
    · rw [dif_pos h]
      refine Finset.sum_congr rfl fun d' _ => Finset.sum_congr rfl fun b _ => ?_
      by_cases h' : 2 * (j.val % 2) ≤ 4 * d'.val + b.val ∧ 4 * d'.val + b.val - 2 * (j.val % 2) < 4
      · rw [dif_pos h']
        refine Finset.sum_congr rfl fun e _ => ?_
        have e1 : (2 * d.val + d'.val) / 2 = d.val := by omega
        have e2 : (2 * d.val + d'.val) % 2 = d'.val := by omega
        rw [tap1, dif_pos (by rw [e1, e2]; exact ⟨h, h'⟩)]
        simp only [e1, e2]
        rw [show 4 * (r.val + d.val) + a.val = 4 * r.val + (4 * d.val + a.val) by omega, show 4 * (s.val + d'.val) + b.val = 4 * s.val + (4 * d'.val + b.val) by omega]
      · rw [dif_neg h']
        refine Finset.sum_eq_zero fun e _ => ?_
        have e1 : (2 * d.val + d'.val) / 2 = d.val := by omega
        have e2 : (2 * d.val + d'.val) % 2 = d'.val := by omega
        rw [tap1, dif_neg (by rw [e1, e2]; exact fun hh => h' hh.2)]
        exact mul_zero _
    · rw [dif_neg h]
      refine Finset.sum_eq_zero fun d' _ => Finset.sum_eq_zero fun b _ => Finset.sum_eq_zero fun e _ => ?_
      have e1 : (2 * d.val + d'.val) / 2 = d.val := by omega
      rw [tap1, dif_neg (by rw [e1]; exact fun hh => h hh.1)]
      exact mul_zero _
  · rw [show 4 * r.val + (2 * (j.val / 2) + y.val) = y.val + 2 * (2 * r.val + j.val / 2) by omega, show 4 * s.val + (2 * (j.val % 2) + x.val) = x.val + 2 * (2 * s.val + j.val % 2) by omega]

/-- What the first stage's lemmas assume of its blocks. -/
structure In1 (x : Vec Ideal S1x57x64x48 .f32) (w : Vec Ideal S4x48x512 .f32) (b : Vec Ideal S1x512 .f32) (n : Fin 16) : Prop where
  hX : ∀ (r s : ℕ) (hr : r < 57) (hs : s < 57) (hs' : s < 64) (a c : Fin 4) (e : Fin 3),
    x (ix4 0 ⟨r, hr⟩ ⟨s, hs'⟩ ⟨12 * a.val + 3 * c.val + e.val, by omega⟩) = img (V0 (Proc.tc.devRef Cert.EncoderReferenceIdeal.main_arg0)) n e (4 * r + a.val) (4 * s + c.val)
  hW : ∀ (i j a c : Fin 4) (e : Fin 3) (o : Fin 128), w (ix3 i ⟨12 * a.val + 3 * c.val + e.val, by omega⟩ ⟨128 * j.val + o.val, by omega⟩)
    = tap1 (V0 (Proc.tc.devRef Cert.EncoderReferenceIdeal.main_arg1)) i.val j.val a.val c.val e o
  hB : ∀ (j : Fin 4) (o : Fin 128), b (ix2 0 ⟨128 * j.val + o.val, by omega⟩) = V0 (Proc.tc.devRef Cert.EncoderReferenceIdeal.main_arg2) (ix1 o)

/-- A product of a 48-entry row and a 48-entry column of the first stage. -/
theorem prod48 {x : Vec Ideal S1x57x64x48 .f32} {w : Vec Ideal S4x48x512 .f32} {b : Vec Ideal S1x512 .f32} {n : Fin 16} (H : In1 V0 x w b n)
    (d d' : Fin 2) (j : Fin 4) (o : Fin 128) (r s : Fin 56) (hr : d.val + r.val < 57) (hs : d'.val + s.val < 64) (i : Fin 4) (hi : i.val = 2 * d.val + d'.val) :
    (∑ k : Fin 48, @HMul.hMul EReal EReal EReal _ (x (ix4 0 ⟨d.val + r.val, hr⟩ ⟨d'.val + s.val, hs⟩ k)) (w (ix3 i k ⟨128 * j.val + o.val, by omega⟩)))
      = ∑ a : Fin 4, ∑ c : Fin 4, ∑ e : Fin 3, @HMul.hMul EReal EReal EReal _ (img (V0 (Proc.tc.devRef Cert.EncoderReferenceIdeal.main_arg0)) n e (4 * (r.val + d.val) + a.val) (4 * (s.val + d'.val) + c.val))
          (tap1 (V0 (Proc.tc.devRef Cert.EncoderReferenceIdeal.main_arg1)) (2 * d.val + d'.val) j.val a.val c.val e o) := by
  refine (sum48 _).trans (Finset.sum_congr rfl fun a _ => Finset.sum_congr rfl fun c _ => Finset.sum_congr rfl fun e _ => ?_)
  rw [H.hX _ _ hr (by omega) hs, H.hW, hi, add_comm d.val, add_comm d'.val]

theorem conv1_at {x : Vec Ideal S1x57x64x48 .f32} {w : Vec Ideal S4x48x512 .f32} {b : Vec Ideal S1x512 .f32} {n : Fin 16} (H : In1 V0 x w b n)
    (j : Fin 4) (o : Fin 128) (r s : Fin 56) :
    conv1 x w b (ix2 ⟨56 * r.val + s.val, by omega⟩ ⟨128 * j.val + o.val, by omega⟩)
      = res_main_v26 V0 (ix4 n o ⟨2 * r.val + j.val / 2, by omega⟩ ⟨2 * s.val + j.val % 2, by omega⟩) := by
  refine Eq.trans ?_ (v26_at V0 n o _ _).symm
  have p00 := prod48 V0 H 0 0 j o r s (by simp <;> omega) (by simp <;> omega) 0 rfl
  have p01 := prod48 V0 H 0 1 j o r s (by simp <;> omega) (by simp <;> omega) 1 rfl
  have p10 := prod48 V0 H 1 0 j o r s (by simp <;> omega) (by simp <;> omega) 2 rfl
  have p11 := prod48 V0 H 1 1 j o r s (by simp <;> omega) (by simp <;> omega) 3 rfl
  have hb := H.hB j o
  have hm := (four_sum _).trans (merge (V0 (Proc.tc.devRef Cert.EncoderReferenceIdeal.main_arg0)) (V0 (Proc.tc.devRef Cert.EncoderReferenceIdeal.main_arg1)) n o j r s)
  have ht : taps4 (ref1 V0 n o ⟨2 * r.val + j.val / 2, by omega⟩ ⟨2 * s.val + j.val % 2, by omega⟩) = _ := (taps4_sum _).trans (Eq.trans (Finset.sum_congr rfl fun y _ => Finset.sum_congr rfl fun z _ =>
    Finset.sum_congr rfl fun e _ => congrArg (fun u => @HMul.hMul EReal EReal EReal _ u (V0 (Proc.tc.devRef Cert.EncoderReferenceIdeal.main_arg1) (ix4 o e y z))) (v0_at V0 n e _ _ _ _)) hm.symm)
  rw [ht]
  pointwise [conv1, part1, k0_pay8, k0_pay9, k0_pay10]
  simp only [Fin.val_zero, Fin.val_one, zero_add, add_zero, mul_zero, mul_one, Nat.reduceAdd] at p00 p01 p10 p11
  rw [p00, p01, p10, p11, hb]
end Cert.Proof.EncVal
-- ==== Proof.EncSt2.lean ====
/- The encoder's second and third stages against the reference's, place by place. -/
module
public import proofs.«01_k».proof.Proof.EncRun
public import proofs.«01_k».proof.Proof.EncRef
@[expose] public section
set_option maxRecDepth 16384
noncomputable section
open Idealize.ShloMosaic Idealize.ShloMosaic.TcCoe Idealize.SL.Sem
namespace Cert.Proof.EncVal
open Cert.EncoderIdeal Cert.EncoderIdeal.Gen Cert.Proof.Frames Cert.Proof.EncRun
open Cert.EncoderReferenceIdeal.Value (res_main_v27 res_main_v54 res_main_v73)
variable (V0 : Valuation Cert.EncoderReferenceIdeal.τ Cert.EncoderReferenceIdeal.sig (Elt Ideal))

/-- The window's sum in the order of the kernel's taps: by parity, then by place. -/
theorem taps4_parity (g : Fin 4 → Fin 4 → EReal) : taps4 g = g 0 0 + g 0 2 + g 2 0 + g 2 2 + g 0 1 + g 0 3 + g 2 1 + g 2 3
    + g 1 0 + g 1 2 + g 3 0 + g 3 2 + g 1 1 + g 1 3 + g 3 1 + g 3 3 := by
  simp only [taps4]
  abel

/-- What the second stage assumes: the four planes are the reference's first layer in its border, at the even and the odd places. -/
structure In2 (P : Vec Ideal S2x2x58x64x128 .f32) (w : Vec Ideal S16x128x128 .f32) (b : Vec Ideal S1x128 .f32) (n : Fin 16) : Prop where
  p00 : ∀ (r s : ℕ) (hr : r < 57) (hs : s < 57) (hr' : r < 58) (hs' : s < 64) (k : Fin 128), P (ix5 1 1 ⟨r, hr'⟩ ⟨s, hs'⟩ k) = res_main_v27 V0 (ix4 n k ⟨2 * r, by omega⟩ ⟨2 * s, by omega⟩)
  p01 : ∀ (r s : ℕ) (hr : r < 57) (h1 : 1 ≤ s) (hs : s < 58) (hr' : r < 58) (hs' : s < 64) (k : Fin 128), P (ix5 1 0 ⟨r, hr'⟩ ⟨s, hs'⟩ k) = res_main_v27 V0 (ix4 n k ⟨2 * r, by omega⟩ ⟨2 * s - 1, by omega⟩)
  p10 : ∀ (r s : ℕ) (h1 : 1 ≤ r) (hs : s < 57) (hr' : r < 58) (hs' : s < 64) (k : Fin 128), P (ix5 0 1 ⟨r, hr'⟩ ⟨s, hs'⟩ k) = res_main_v27 V0 (ix4 n k ⟨2 * r - 1, by omega⟩ ⟨2 * s, by omega⟩)
  p11 : ∀ (r s : ℕ) (h1 : 1 ≤ r) (h2 : 1 ≤ s) (hs : s < 58) (hr' : r < 58) (hs' : s < 64) (k : Fin 128), P (ix5 0 0 ⟨r, hr'⟩ ⟨s, hs'⟩ k) = res_main_v27 V0 (ix4 n k ⟨2 * r - 1, by omega⟩ ⟨2 * s - 1, by omega⟩)
  hW : ∀ (i : Fin 16) (k o : Fin 128), w (ix3 i k o)
    = V0 (Proc.tc.devRef Cert.EncoderReferenceIdeal.main_arg3) (ix4 o k ⟨2 * (i.val / 2 % 2) + i.val / 8, by omega⟩ ⟨2 * (i.val % 2) + i.val / 4 % 2, by omega⟩)
  hB : ∀ o : Fin 128, b (ix2 0 o) = V0 (Proc.tc.devRef Cert.EncoderReferenceIdeal.main_arg4) (ix1 o)

theorem conv2_at {P : Vec Ideal S2x2x58x64x128 .f32} {w : Vec Ideal S16x128x128 .f32} {b : Vec Ideal S1x128 .f32} {n : Fin 16} (H : In2 V0 P w b n)
    (r s : Fin 56) (o : Fin 128) :
    conv2 P w b (ix3 r s o) = max (taps4 (ref2 V0 n o r s) + V0 (Proc.tc.devRef Cert.EncoderReferenceIdeal.main_arg4) (ix1 o)) (0 : EReal) := by
  rw [taps4_parity]
  simp only [ref2]
  pointwise [conv2, k0_pay16, k0_pay17, k0_pay18, k0_pay19, k0_pay20, k0_pay21, k0_pay22]
  have d0 : ∀ z : ℕ, 2 * (1 + z) = 2 + 2 * z := fun z => by omega
  have d1 : ∀ z : ℕ, 2 * (1 + z) - 1 = 1 + 2 * z := fun z => by omega
  have d2 : ∀ z : ℕ, 2 * (2 + z) - 1 = 3 + 2 * z := fun z => by omega
  have d3 : ∀ z : ℕ, 2 + 2 * z - 1 = 1 + 2 * z := fun z => by omega
  simp (disch := omega) only [H.hB, H.hW, H.p00, H.p01, H.p10, H.p11, d1, d2, d0, d3]
  rfl

/-- What the third stage assumes. -/
structure In3 (Q : Vec Ideal S58x64x128 .f32) (w : Vec Ideal S9x128x32 .f32) (b : Vec Ideal S1x32 .f32) (n : Fin 16) : Prop where
  hQ : ∀ (r s : ℕ) (hr : r < 58) (hs : s < 58) (hs' : s < 64) (k : Fin 128), Q (ix3 ⟨r, hr⟩ ⟨s, hs'⟩ k) = res_main_v54 V0 (ix4 n k ⟨r, hr⟩ ⟨s, hs⟩)
  hW : ∀ (ky kx : Fin 3) (k : Fin 128) (o : Fin 32), w (ix3 ⟨3 * ky.val + kx.val, by omega⟩ k o)
    = V0 (Proc.tc.devRef Cert.EncoderReferenceIdeal.main_arg5) (ix4 o k ky kx)
  hB : ∀ o : Fin 32, b (ix2 0 o) = V0 (Proc.tc.devRef Cert.EncoderReferenceIdeal.main_arg6) (ix1 o)

theorem conv3_at {Q : Vec Ideal S58x64x128 .f32} {w : Vec Ideal S9x128x32 .f32} {b : Vec Ideal S1x32 .f32} {n : Fin 16} (H : In3 V0 Q w b n)
    (r s : Fin 56) (o : Fin 32) :
    conv3 Q w b (ix2 ⟨56 * r.val + s.val, by omega⟩ o) = res_main_v73 V0 (ix2 ⟨n.val * 3136 + r.val * 56 + s.val, by omega⟩ o) := by
  have w0 : ∀ k : Fin 128, w (ix3 0 k o) = _ := fun k => H.hW 0 0 k o
  have w1 : ∀ k : Fin 128, w (ix3 1 k o) = _ := fun k => H.hW 0 1 k o
  have w2 : ∀ k : Fin 128, w (ix3 2 k o) = _ := fun k => H.hW 0 2 k o
  have w3 : ∀ k : Fin 128, w (ix3 3 k o) = _ := fun k => H.hW 1 0 k o
  have w4 : ∀ k : Fin 128, w (ix3 4 k o) = _ := fun k => H.hW 1 1 k o
  have w5 : ∀ k : Fin 128, w (ix3 5 k o) = _ := fun k => H.hW 1 2 k o
  have w6 : ∀ k : Fin 128, w (ix3 6 k o) = _ := fun k => H.hW 2 0 k o
  have w7 : ∀ k : Fin 128, w (ix3 7 k o) = _ := fun k => H.hW 2 1 k o
  have w8 : ∀ k : Fin 128, w (ix3 8 k o) = _ := fun k => H.hW 2 2 k o
  refine Eq.trans ?_ (v73_at V0 n o r s).symm
  simp only [ref3]
  pointwise [conv3, part3, k0_pay23, k0_pay24, k0_pay25, k0_pay26]
  simp only [H.hB, w0, w1, w2, w3, w4, w5, w6, w7, w8]
  simp (disch := omega) only [H.hQ]
end Cert.Proof.EncVal
-- ==== Proof.EncAll.lean ====
/- The encoder's three stages put together: from a grid point's blocks to the reference's rows. -/
module
public import proofs.«01_k».proof.Proof.EncSt1
public import proofs.«01_k».proof.Proof.EncSt2
@[expose] public section
set_option maxRecDepth 16384
noncomputable section
open Idealize.ShloMosaic Idealize.ShloMosaic.TcCoe Idealize.SL.Sem
namespace Cert.Proof.EncVal
open Cert.EncoderIdeal Cert.EncoderIdeal.Gen Cert.Proof.Frames Cert.Proof.EncRun
open Cert.Proof.DecVal (ix4_congr)
open Cert.EncoderReferenceIdeal.Value (res_main_v26 res_main_v27 res_main_v54 res_main_v73)
variable (V0 : Valuation Cert.EncoderReferenceIdeal.τ Cert.EncoderReferenceIdeal.sig (Elt Ideal))

/-- The four planes are the first stage's column groups. -/
theorem pay11_at (a : FVec Ideal S3136x512 .f32) (x : FVec Ideal S56x56x48 .f32) (w : Vec Ideal S1x48x512 .f32) (b : Vec Ideal S1x512 .f32) (r s : Fin 56) (k : Fin 128) :
    k0_pay11 a x w b (ix5 0 0 r s k) = k0_pay10 a x w b (ix2 ⟨56 * r.val + s.val, by omega⟩ ⟨128 * (0 : Fin 4).val + k.val, by simp; omega⟩) := by
  pointwise [k0_pay11, k0_pay10]
  simp only [Nat.mul_comm r.val 56]
theorem pay12_at (a : FVec Ideal S3136x512 .f32) (x : FVec Ideal S56x56x48 .f32) (w : Vec Ideal S1x48x512 .f32) (b : Vec Ideal S1x512 .f32) (r s : Fin 56) (k : Fin 128) :
    k0_pay12 a x w b (ix5 0 0 r s k) = k0_pay10 a x w b (ix2 ⟨56 * r.val + s.val, by omega⟩ ⟨128 * (1 : Fin 4).val + k.val, by simp; omega⟩) := by
  pointwise [k0_pay12, k0_pay10]
  simp only [Nat.mul_comm r.val 56]
theorem pay13_at (a : FVec Ideal S3136x512 .f32) (x : FVec Ideal S56x56x48 .f32) (w : Vec Ideal S1x48x512 .f32) (b : Vec Ideal S1x512 .f32) (r s : Fin 56) (k : Fin 128) :
    k0_pay13 a x w b (ix5 0 0 r s k) = k0_pay10 a x w b (ix2 ⟨56 * r.val + s.val, by omega⟩ ⟨128 * (2 : Fin 4).val + k.val, by simp; omega⟩) := by
  pointwise [k0_pay13, k0_pay10]
  simp only [Nat.mul_comm r.val 56]
theorem pay15_at (a : FVec Ideal S3136x512 .f32) (x : FVec Ideal S56x56x48 .f32) (w : Vec Ideal S1x48x512 .f32) (b : Vec Ideal S1x512 .f32) (r s : Fin 56) (k : Fin 128) :
    k0_pay15 (k0_pay14 a x w b) (ix5 0 0 r s k) = k0_pay10 a x w b (ix2 ⟨56 * r.val + s.val, by omega⟩ ⟨128 * (3 : Fin 4).val + k.val, by simp; omega⟩) := by
  pointwise [k0_pay15, k0_pay14, k0_pay10]
  simp only [Nat.mul_comm r.val 56]

/-- A place inside a plane's frame. -/
theorem pad5_in (w00 w01 w10 w11 : FVec Ideal (Blk5 128) .f32) (v u : Fin 2) (r s : ℕ) (hr : r < 58) (hs : s < 64) (k : Fin 128) (h : Inside r s) :
    pad5 (D := 128) w00 w01 w10 w11 (ix5 v u ⟨r, hr⟩ ⟨s, hs⟩ k)
      = (if v.val = 0 then (if u.val = 0 then w00 else w01) else (if u.val = 0 then w10 else w11)) (ix5 (0 : Fin 1) (0 : Fin 1) ⟨r - 1, by omega⟩ ⟨s - 1, by omega⟩ k) :=
  dif_pos h

/-- A plane in its frame is the padded layer's places of its parity. -/
theorem plane_at {x : Vec Ideal S1x57x64x48 .f32} {w : Vec Ideal S4x48x512 .f32} {b : Vec Ideal S1x512 .f32} {n : Fin 16} (H : In1 V0 x w b n)
    (v u : Fin 2) (r s : ℕ) (hr : r < 58) (hs : s < 64) (R S : ℕ) (hR : R < 114) (hS : S < 114) (k : Fin 128)
    (er : R + 1 = 2 * r + v.val ∨ (r = 0 ∧ R = 0)) (es : S + 1 = 2 * s + u.val ∨ (s = 0 ∧ S = 0)) :
    planes x w b (ix5 v u ⟨r, hr⟩ ⟨s, hs⟩ k) = res_main_v27 V0 (ix4 n k ⟨R, hR⟩ ⟨S, hS⟩) := by
  by_cases h : Inside r s
  · have e27 := v27_inside V0 n k ⟨2 * (r - 1) + v.val, by omega⟩ ⟨2 * (s - 1) + u.val, by omega⟩ (by dsimp only; omega) (by dsimp only; omega)
    have e' : res_main_v27 V0 (ix4 n k ⟨R, hR⟩ ⟨S, hS⟩) = res_main_v27 V0 (ix4 n k ⟨2 * (r - 1) + v.val + 1, by omega⟩ ⟨2 * (s - 1) + u.val + 1, by omega⟩) :=
      congrArg _ (ix4_congr rfl rfl (by dsimp only; omega) (by dsimp only; omega))
    have key : ∀ j : Fin 4, j.val / 2 = v.val → j.val % 2 = u.val →
        conv1 x w b (ix2 ⟨56 * (⟨r - 1, by omega⟩ : Fin 56).val + (⟨s - 1, by omega⟩ : Fin 56).val, by dsimp only; omega⟩ ⟨128 * j.val + k.val, by omega⟩)
          = res_main_v27 V0 (ix4 n k ⟨R, hR⟩ ⟨S, hS⟩) := fun j ev eu =>
      (conv1_at V0 H j k ⟨r - 1, by omega⟩ ⟨s - 1, by omega⟩).trans
        ((congrArg (res_main_v26 V0) (ix4_congr rfl rfl (by dsimp only; rw [ev]) (by dsimp only; rw [eu]))).trans (e'.trans e27).symm)
    refine (pad5_in _ _ _ _ v u r s hr hs k h).trans ?_
    match v, u, key with
    | ⟨0, _⟩, ⟨0, _⟩, key => exact (pay11_at _ _ _ _ ⟨r - 1, by omega⟩ ⟨s - 1, by omega⟩ k).trans (key 0 rfl rfl)
    | ⟨0, _⟩, ⟨1, _⟩, key => exact (pay12_at _ _ _ _ ⟨r - 1, by omega⟩ ⟨s - 1, by omega⟩ k).trans (key 1 rfl rfl)
    | ⟨1, _⟩, ⟨0, _⟩, key => exact (pay13_at _ _ _ _ ⟨r - 1, by omega⟩ ⟨s - 1, by omega⟩ k).trans (key 2 rfl rfl)
    | ⟨1, _⟩, ⟨1, _⟩, key => exact (pay15_at _ _ _ _ ⟨r - 1, by omega⟩ ⟨s - 1, by omega⟩ k).trans (key 3 rfl rfl)
  · exact (dif_neg h).trans (v27_border V0 n k _ _ _ _ (by omega)).symm

theorem in2 {x : Vec Ideal S1x57x64x48 .f32} {w : Vec Ideal S4x48x512 .f32} {b : Vec Ideal S1x512 .f32} {n : Fin 16} (H : In1 V0 x w b n)
    (w3 : Vec Ideal S16x128x128 .f32) (b4 : Vec Ideal S1x128 .f32)
    (hW : ∀ (i : Fin 16) (k o : Fin 128), w3 (ix3 i k o)
      = V0 (Proc.tc.devRef Cert.EncoderReferenceIdeal.main_arg3) (ix4 o k ⟨2 * (i.val / 2 % 2) + i.val / 8, by omega⟩ ⟨2 * (i.val % 2) + i.val / 4 % 2, by omega⟩))
    (hB : ∀ o : Fin 128, b4 (ix2 0 o) = V0 (Proc.tc.devRef Cert.EncoderReferenceIdeal.main_arg4) (ix1 o)) : In2 V0 (planes x w b) w3 b4 n where
  p00 := fun r s hr hs hr' hs' k => plane_at V0 H 1 1 r s hr' hs' _ _ _ _ k (.inl rfl) (.inl rfl)
  p01 := fun r s hr h1 hs hr' hs' k => plane_at V0 H 1 0 r s hr' hs' _ _ _ _ k (.inl rfl) (.inl (by simp; omega))
  p10 := fun r s h1 hs hr' hs' k => plane_at V0 H 0 1 r s hr' hs' _ _ _ _ k (.inl (by simp; omega)) (.inl rfl)
  p11 := fun r s h1 h2 hs hr' hs' k => plane_at V0 H 0 0 r s hr' hs' _ _ _ _ k (.inl (by simp; omega)) (.inl (by simp; omega))
  hW := hW
  hB := hB

theorem in3 {P : Vec Ideal S2x2x58x64x128 .f32} {w : Vec Ideal S16x128x128 .f32} {b : Vec Ideal S1x128 .f32} {n : Fin 16} (H : In2 V0 P w b n)
    (w5 : Vec Ideal S9x128x32 .f32) (b6 : Vec Ideal S1x32 .f32)
    (hW : ∀ (ky kx : Fin 3) (k : Fin 128) (o : Fin 32), w5 (ix3 ⟨3 * ky.val + kx.val, by omega⟩ k o)
      = V0 (Proc.tc.devRef Cert.EncoderReferenceIdeal.main_arg5) (ix4 o k ky kx))
    (hB : ∀ o : Fin 32, b6 (ix2 0 o) = V0 (Proc.tc.devRef Cert.EncoderReferenceIdeal.main_arg6) (ix1 o)) : In3 V0 (pad (D := 128) (conv2 P w b)) w5 b6 n where
  hQ := by
    intro r s hr hs hs' k
    by_cases h : Inside r s
    · have e54 := v54_inside V0 n k ⟨r - 1, by omega⟩ ⟨s - 1, by omega⟩ (by dsimp only; omega) (by dsimp only; omega)
      have e' : res_main_v54 V0 (ix4 n k ⟨r, hr⟩ ⟨s, hs⟩) = res_main_v54 V0 (ix4 n k ⟨r - 1 + 1, by omega⟩ ⟨s - 1 + 1, by omega⟩) :=
        congrArg _ (ix4_congr rfl rfl (by dsimp only; omega) (by dsimp only; omega))
      exact (dif_pos h).trans ((conv2_at V0 H ⟨r - 1, by omega⟩ ⟨s - 1, by omega⟩ k).trans (e'.trans e54).symm)
    · exact (dif_neg h).trans (v54_border V0 n k _ _ _ _ (by omega)).symm
  hW := hW
  hB := hB

end Cert.Proof.EncVal
-- ==== Proof.EncWin.lean ====
/- The encoder's blocks at a grid point, and the two arrays its launch leaves. -/
module
public import proofs.«01_k».proof.Proof.EncRun
public import Idealize.ShloMosaic.Lib.StableHlo.RunRead
public import Idealize.ShloMosaic.Lib.Pointwise
@[expose] public section
set_option maxRecDepth 16384
noncomputable section
open Idealize.ShloMosaic Idealize.ShloMosaic.TcCoe Idealize.SL.Sem
namespace Cert.Proof.EncWin
open Cert.EncoderIdeal Cert.EncoderIdeal.Gen
variable (m : (ℓ : Loc nD τ sig) → Buf (Elt Ideal) ℓ) (c : Dev nD) (t : Fin cfg0.N)

theorem idx : ∀ t : Fin cfg0.N, win0_0.index t = ![t.val, 0, 0, 0] ∧ win0_1.index t = ![0, 0, 0] ∧ win0_2.index t = ![0, 0]
    ∧ win0_3.index t = ![0, 0, 0] ∧ win0_4.index t = ![0, 0] ∧ win0_5.index t = ![0, 0, 0] ∧ win0_6.index t = ![0, 0]
    ∧ win0_7.index t = ![0, 0] ∧ win0_8.index t = ![t.val, 0, 0] ∧ win0_9.index t = ![0, 0] :=
  (by decide +kernel : ∀ t : Fin grid0.N, _)

theorem lt16 : t.val < 16 := Nat.lt_of_lt_of_eq t.isLt N_0

theorem blk0 (r : Fin 57) (s : Fin 64) (k : Fin 48) : (iblk m c 0 t : Vec Ideal S1x57x64x48 .f32) (ix4 0 r s k)
    = (V m c main_v489 : Vec Ideal S16x57x64x48 .f32) (ix4 ⟨t.val, lt16 t⟩ r s k) := by
  blk_ext [iblk, idx t]
theorem blk1 (i : Fin 4) (k : Fin 48) (o : Fin 512) : (iblk m c 1 t : Vec Ideal S4x48x512 .f32) (ix3 i k o)
    = (V m c main_v425 : Vec Ideal S4x48x512 .f32) (ix3 i k o) := by
  blk_ext [iblk, idx t]
theorem blk2 (i : Fin 1) (o : Fin 512) : (iblk m c 2 t : Vec Ideal S1x512 .f32) (ix2 i o)
    = (V m c main_v481 : Vec Ideal S1x512 .f32) (ix2 i o) := by
  blk_ext [iblk, idx t]
theorem blk3 (a : Fin 16) (k o : Fin 128) : (iblk m c 3 t : Vec Ideal S16x128x128 .f32) (ix3 a k o)
    = (V m c main_v475 : Vec Ideal S16x128x128 .f32) (ix3 a k o) := by
  blk_ext [iblk, idx t]
theorem blk4 (i : Fin 1) (o : Fin 128) : (iblk m c 4 t : Vec Ideal S1x128 .f32) (ix2 i o)
    = (V m c main_v482 : Vec Ideal S1x128 .f32) (ix2 i o) := by
  blk_ext [iblk, idx t]
theorem blk5 (a : Fin 9) (k : Fin 128) (o : Fin 32) : (iblk m c 5 t : Vec Ideal S9x128x32 .f32) (ix3 a k o)
    = (V m c main_v477 : Vec Ideal S9x128x32 .f32) (ix3 a k o) := by
  blk_ext [iblk, idx t]
theorem blk6 (i : Fin 1) (o : Fin 32) : (iblk m c 6 t : Vec Ideal S1x32 .f32) (ix2 i o)
    = (V m c main_v483 : Vec Ideal S1x32 .f32) (ix2 i o) := by
  blk_ext [iblk, idx t]
theorem blk7 (k : Fin 32) (j : Fin 1024) : (iblk m c 7 t : Vec Ideal S32x1024 .f32) (ix2 k j)
    = (V m c main_v490 : Vec Ideal S32x1024 .f32) (ix2 k j) := by
  blk_ext [iblk, idx t]

/-- The row numbers the launch leaves, from what each grid point leaves. -/
theorem final8 (G : Vec Ideal S16x3136x1 .i32)
    (hG : ∀ (t : Fin cfg0.N) (q : Fin 3136), ((outsAt0 m c t.val t.isLt).1 : Vec Ideal S1x3136x1 .i32) (ix3 0 q 0) = G (ix3 ⟨t.val, lt16 t⟩ q 0)) :
    (dats m 0 c).arrAt 8 cfg0.N = G := by
  refine (dats m 0 c).arrAt_eq_of_covers 8 _ (by decide +kernel) fun t _ y => ?_
  blk_simp
  rw [after0_8]
  obtain ⟨z, q, x, rfl⟩ : ∃ (z : Fin 1) (q : Fin 3136) (x : Fin 1), y = ix3 z q x := ⟨y 0, y 1, y 2, by funext a; fin_cases a <;> rfl⟩
  obtain rfl : z = 0 := Subsingleton.elim _ _
  obtain rfl : x = 0 := Subsingleton.elim _ _
  refine (hG t q).trans ?_
  blk_ext [idx t]

/-- The loss the launch leaves is the last point's. -/
theorem final9 (G : Vec Ideal S1x1 .f32)
    (hG : ∀ t : Fin cfg0.N, t.val = 15 → ((outsAt0 m c t.val t.isLt).2.1 : Vec Ideal S1x1 .f32) (ix2 0 0) = G (ix2 0 0)) :
    (dats m 0 c).arrAt 9 cfg0.N = G := by
  refine (dats m 0 c).arrAt_eq_of_covers 9 _ (by decide +kernel) fun t hf y => ?_
  blk_simp
  rw [after0_9]
  have h15 : t.val = 15 := by
    have := (Pipeline.Window.flush_const win0_9 rfl (fun _ _ => rfl) (n := 16) (by decide) rfl t).1 hf
    have := lt16 t
    omega
  obtain ⟨z, x, rfl⟩ : ∃ (z x : Fin 1), y = ix2 z x := ⟨y 0, y 1, by funext a; fin_cases a <;> rfl⟩
  obtain rfl : z = 0 := Subsingleton.elim _ _
  obtain rfl : x = 0 := Subsingleton.elim _ _
  refine (hG t h15).trans ?_
  blk_ext [idx t]

theorem tail8 : (Pipeline.afterTail₀ cfgs (dats m) 0 (V0 m) [hostOps1] c main_v492 : Vec Ideal S50176 .i32)
    = shapeCast S50176 ((dats m 0 c).arrAt 8 cfg0.N : Vec Ideal S16x3136x1 .i32) shapeCasts_S16x3136x1_S50176 := by
  unfold Pipeline.afterTail₀
  rw [List.flatten_cons, List.flatten_nil, List.append_nil]
  after_reads_simp
  rw [show (Pipeline.withArrays spec0 c (V0 m c) (fun w => (dats m 0 c).arrAt w cfg0.N) (Proc.tc.devRef main_v491_0) : Vec Ideal S16x3136x1 .i32) = (dats m 0 c).arrAt 8 cfg0.N from
    Pipeline.withArrays_arr spec0 (by decide) c (V0 m c) (fun w => (dats m 0 c).arrAt w cfg0.N) 8]
  rfl

theorem tail9 : (Pipeline.afterTail₀ cfgs (dats m) 0 (V0 m) [hostOps1] c main_v493 : Vec Ideal S_ .f32) ix0
    = ((dats m 0 c).arrAt 9 cfg0.N : Vec Ideal S1x1 .f32) (ix2 0 0) := by
  unfold Pipeline.afterTail₀
  rw [List.flatten_cons, List.flatten_nil, List.append_nil]
  after_reads_simp
  rw [show (Pipeline.withArrays spec0 c (V0 m c) (fun w => (dats m 0 c).arrAt w cfg0.N) (Proc.tc.devRef main_v491_1) : Vec Ideal S1x1 .f32) = (dats m 0 c).arrAt 9 cfg0.N from
    Pipeline.withArrays_arr spec0 (by decide) c (V0 m c) (fun w => (dats m 0 c).arrAt w cfg0.N) 9]
  pointwise []
end Cert.Proof.EncWin
-- ==== Proof.EncW.lean ====
/- What the encoder's launch finds in its windows: the arguments' entries, rearranged by the host lines before it. -/
module
public import proofs.«01_k».proof.Proof.EncRun
public import proofs.«01_k».proof.Proof.EncTap
public import Idealize.ShloMosaic.Lib.StableHlo.RunRead
public import Idealize.ShloMosaic.Lib.Routing.OpsSet
public import Idealize.ShloMosaic.Lib.Routing.OpsOne
@[expose] public section
set_option maxRecDepth 16384
noncomputable section
open Idealize.ShloMosaic Idealize.ShloMosaic.TcCoe Idealize.SL.Sem
namespace Cert.Proof.EncW
open Cert.EncoderIdeal Cert.EncoderIdeal.Gen
variable (m : (ℓ : Loc nD τ sig) → Buf (Elt Ideal) ℓ) (c : Dev nD)

/-- A store of a 3 by 128 table at a pair of index words, into a 4 by 4 array of such tables, read at an entry. -/
theorem scat (x0 : Vec Ideal S4x4x3x128 .f32) (idx : IVec S2 32) (upd : Vec Ideal S3x128 .f32) (a b : Fin 4) (e : Fin 3) (o : Fin 128) :
    (Host.scatter scatter_S4x4x3x128_S2_S3x128_01_01_01_0 (fun _ b => b) x0 idx upd : Vec Ideal S4x4x3x128 .f32) (ix4 a b e o)
      = if (idx (ix1 (0 : Fin 2))).toInt = a.val ∧ (idx (ix1 (1 : Fin 2))).toInt = b.val then upd (ix2 e o) else x0 (ix4 a b e o) := by
  have st : ∀ (k : S3x128.Idx), scatter_S4x4x3x128_S2_S3x128_01_01_01_0.start k idx 0 = (idx (ix1 (0 : Fin 2))).toInt
      ∧ scatter_S4x4x3x128_S2_S3x128_01_01_01_0.start k idx 1 = (idx (ix1 (1 : Fin 2))).toInt
      ∧ scatter_S4x4x3x128_S2_S3x128_01_01_01_0.start k idx 2 = 0 ∧ scatter_S4x4x3x128_S2_S3x128_01_01_01_0.start k idx 3 = 0 := by
    intro k
    refine ⟨?_, ?_, ?_, ?_⟩
    · refine (dif_pos (by decide)).trans (congrArg (fun t => (idx t).toInt) ?_)
      funext q; apply Fin.ext; match q with | ⟨0, _⟩ => rfl
    · refine (dif_pos (by decide)).trans (congrArg (fun t => (idx t).toInt) ?_)
      funext q; apply Fin.ext; match q with | ⟨0, _⟩ => rfl
    · exact dif_neg (by decide)
    · exact dif_neg (by decide)
  have wi : ∀ (k : S3x128.Idx), scatter_S4x4x3x128_S2_S3x128_01_01_01_0.window k 0 = 0
      ∧ scatter_S4x4x3x128_S2_S3x128_01_01_01_0.window k 1 = 0
      ∧ scatter_S4x4x3x128_S2_S3x128_01_01_01_0.window k 2 = (k 0).val ∧ scatter_S4x4x3x128_S2_S3x128_01_01_01_0.window k 3 = (k 1).val := by
    intro k
    refine ⟨?_, ?_, ?_, ?_⟩
    · exact dif_neg (by decide)
    · exact dif_neg (by decide)
    · exact (dif_pos (by decide)).trans rfl
    · exact (dif_pos (by decide)).trans rfl
  have lands : ∀ k : S3x128.Idx, scatter_S4x4x3x128_S2_S3x128_01_01_01_0.resultIdx? k idx = some (ix4 a b e o)
      ↔ ((idx (ix1 (0 : Fin 2))).toInt = a.val ∧ (idx (ix1 (1 : Fin 2))).toInt = b.val) ∧ (k 0).val = e.val ∧ (k 1).val = o.val := by
    intro k
    obtain ⟨s0, s1, s2, s3⟩ := st k
    obtain ⟨w0, w1, w2, w3⟩ := wi k
    rw [Routing.resultIdx?_eq_some]
    constructor
    · intro h
      have h0 := h 0; have h1 := h 1; have h2 := h 2; have h3 := h 3
      rw [s0, w0] at h0; rw [s1, w1] at h1; rw [s2, w2] at h2; rw [s3, w3] at h3
      have h0' : (idx (ix1 (0 : Fin 2))).toInt + ((0 : ℕ) : Int) = (a.val : Int) := h0
      have h1' : (idx (ix1 (1 : Fin 2))).toInt + ((0 : ℕ) : Int) = (b.val : Int) := h1
      have h2' : (0 : Int) + ((k 0).val : Int) = (e.val : Int) := h2
      have h3' : (0 : Int) + ((k 1).val : Int) = (o.val : Int) := h3
      omega
    · rintro ⟨⟨h0, h1⟩, h2, h3⟩ q
      match q with
      | ⟨0, _⟩ => show scatter_S4x4x3x128_S2_S3x128_01_01_01_0.start k idx 0 + _ = (a.val : Int); rw [s0]; erw [w0]; omega
      | ⟨1, _⟩ => show scatter_S4x4x3x128_S2_S3x128_01_01_01_0.start k idx 1 + _ = (b.val : Int); rw [s1]; erw [w1]; omega
      | ⟨2, _⟩ => show scatter_S4x4x3x128_S2_S3x128_01_01_01_0.start k idx 2 + _ = (e.val : Int); rw [s2]; erw [w2]; omega
      | ⟨3, _⟩ => show scatter_S4x4x3x128_S2_S3x128_01_01_01_0.start k idx 3 + _ = (o.val : Int); rw [s3]; erw [w3]; omega
  by_cases h : (idx (ix1 (0 : Fin 2))).toInt = a.val ∧ (idx (ix1 (1 : Fin 2))).toInt = b.val
  · rw [if_pos h]
    refine Routing.scatter_set_hit _ _ _ _ _ _ (fun k hk => ?_) (ix2 e o) ((lands _).2 ⟨h, rfl, rfl⟩)
    obtain ⟨-, h2, h3⟩ := (lands k).1 hk
    refine congrArg upd ?_
    funext q
    match q with
    | ⟨0, _⟩ => exact Fin.ext h2
    | ⟨1, _⟩ => exact Fin.ext h3
  · rw [if_neg h]
    exact Routing.scatter_set_miss _ _ _ _ _ fun k hk => h ((lands k).1 hk).1
/-- A pair of index words, read at its places. -/
theorem pair0 (p q : IVec S1 32) (h : Shape.Concatenates [S1, S1] S2 0) :
    (concatenate S2 0 [⟨S1, p⟩, ⟨S1, q⟩] h : IVec S2 32) (ix1 (0 : Fin 2)) = p (ix1 0) := by pointwise []
theorem pair1 (p q : IVec S1 32) (h : Shape.Concatenates [S1, S1] S2 0) :
    (concatenate S2 0 [⟨S1, p⟩, ⟨S1, q⟩] h : IVec S2 32) (ix1 (1 : Fin 2)) = q (ix1 0) := by pointwise []

/-- A 4 by 4 by 3 array laid out as 48 rows. -/
theorem block_at (w : Vec Ideal S4x4x3x128 .f32) (a b : Fin 4) (e : Fin 3) (o : Fin 128) :
    (shapeCast S48x128 w shapeCasts_S4x4x3x128_S48x128 : Vec Ideal S48x128 .f32) (ix2 ⟨12 * a.val + 3 * b.val + e.val, by omega⟩ o) = w (ix4 a b e o) := by
  pointwise []

/-- Four blocks of 128 columns side by side, read at column `128 j + o`: block `j` at column `o`. -/
theorem cols4 (u0 u1 u2 u3 : Vec Ideal S48x128 .f32) (h : Shape.Concatenates [S48x128, S48x128, S48x128, S48x128] S48x512 1) (k : Fin 48) (j : Fin 4) (o : Fin 128) :
    concatenate S48x512 1 [⟨S48x128, u0⟩, ⟨S48x128, u1⟩, ⟨S48x128, u2⟩, ⟨S48x128, u3⟩] h (ix2 k ⟨128 * j.val + o.val, by omega⟩)
    = (![u0, u1, u2, u3] : Fin 4 → Vec Ideal S48x128 .f32) j (ix2 k o) :=
  concatenate_ofFn_apply (t := S48x512) (s₁ := S48x128) 1 (![u0, u1, u2, u3] : Fin 4 → Vec Ideal S48x128 .f32)
    h rfl 128 rfl (ix2 k ⟨128 * j.val + o.val, by omega⟩) j (by show (128 * j.val + o.val) / 128 = j.val; omega) (ix2 k o)
    (by show o.val = (128 * j.val + o.val) % 128; omega) (fun b hb => by
      match b, hb with
      | ⟨0, _⟩, _ => rfl
      | ⟨1, _⟩, hb => exact absurd rfl hb)

/-- One store more, its index words, its table's entry and what was there before all read. -/
theorem step (x0 : Vec Ideal S4x4x3x128 .f32) (p q : IVec S1 32) (h : Shape.Concatenates [S1, S1] S2 0) (upd : Vec Ideal S3x128 .f32) (a b : Fin 4) (e : Fin 3) (o : Fin 128)
    {P Q : ℤ} {U X : EReal} (hp : (p (ix1 0)).toInt = P) (hq : (q (ix1 0)).toInt = Q) (hu : upd (ix2 e o) = U) (hx : x0 (ix4 a b e o) = X) :
    (Host.scatter scatter_S4x4x3x128_S2_S3x128_01_01_01_0 (fun _ b => b) x0 (concatenate S2 0 [⟨S1, p⟩, ⟨S1, q⟩] h) upd : Vec Ideal S4x4x3x128 .f32) (ix4 a b e o)
      = if P = a.val ∧ Q = b.val then U else X := by
  subst hp hq hu hx
  rw [scat, pair0, pair1]

set_option maxHeartbeats 20000000 in
theorem v425_at (i j a b : Fin 4) (e : Fin 3) (o : Fin 128) :
    (V m c main_v425 : Vec Ideal S4x48x512 .f32) (ix3 i ⟨12 * a.val + 3 * b.val + e.val, by omega⟩ ⟨128 * j.val + o.val, by omega⟩)
      = tap1 (m (c, Proc.tc.devRef main_arg1)) i.val j.val a.val b.val e o := by
  show StableHlo.after [hostOps0, hostOps0_1, hostOps0_2, hostOps0_3, hostOps0_4].flatten (fun b => m (c, b)) (Proc.tc.devRef main_v425) (ix3 i ⟨12 * a.val + 3 * b.val + e.val, by omega⟩ ⟨128 * j.val + o.val, by omega⟩) = _
  rw [List.flatten_cons, StableHlo.after_append]
  simp only [StableHlo.readAfter]
  simp only [StableHlo.nary_result']
  fin_cases i
  all_goals
    dsimp only [Fin.mk_zero, Fin.mk_one, Fin.reduceFinMk]
    pointwise
    simp only [StableHlo.readUpto, StableHlo.unary_result']
    pointwise
    rw [StableHlo.nary_result]
    refine (cols4 _ _ _ _ _ _ j o).trans ?_
    fin_cases j
  all_goals
    dsimp only [Fin.mk_zero, Fin.mk_one, Fin.reduceFinMk, Matrix.cons_val]
    after_reads_simp
    refine (block_at _ a b e o).trans ?_
    refine Eq.trans (b := ?_) ?_ ?_
    rotate_left
    · repeat
        refine step (P := ?_) (Q := ?_) (U := ?_) (X := ?_) _ _ _ _ _ a b e o ?_ ?_ ?_ ?_
        rotate_left 4
        · after_reads_simp; exact rfl
        · after_reads_simp; exact rfl
        · exact rfl
      exact rfl
    fin_cases a <;> fin_cases b
  all_goals
    repeat rw [if_neg (by decide)]
    first
      | (rw [if_pos (by decide)]; pointwise; rw [tap1, dif_pos (by decide)]; rfl)
      | (pointwise; rw [tap1, dif_neg (by decide)])

end Cert.Proof.EncW
-- ==== Proof.EncW2.lean ====
/- What the encoder's launch finds in its other windows. -/
module
public import proofs.«01_k».proof.Proof.EncRun
public import proofs.«01_k».proof.Proof.DecRef
public import Idealize.ShloMosaic.Lib.StableHlo.RunRead
public import Idealize.ShloMosaic.Lib.Pointwise
@[expose] public section
set_option maxRecDepth 16384
noncomputable section
open Idealize.ShloMosaic Idealize.ShloMosaic.TcCoe Idealize.SL.Sem
namespace Cert.Proof.EncW
open Cert.EncoderIdeal Cert.EncoderIdeal.Gen
variable (m : (ℓ : Loc nD τ sig) → Buf (Elt Ideal) ℓ) (c : Dev nD)

set_option maxHeartbeats 4000000 in
theorem v475_at (i : Fin 16) (k o : Fin 128) :
    (V m c main_v475 : Vec Ideal S16x128x128 .f32) (ix3 i k o)
      = (m (c, Proc.tc.devRef main_arg3) : Vec Ideal S128x128x4x4 .f32) (ix4 o k ⟨2 * (i.val / 2 % 2) + i.val / 8, by omega⟩ ⟨2 * (i.val % 2) + i.val / 4 % 2, by omega⟩) := by
  show StableHlo.after [hostOps0, hostOps0_1, hostOps0_2, hostOps0_3, hostOps0_4].flatten (fun b => m (c, b)) (Proc.tc.devRef main_v475) (ix3 i k o) = _
  rw [List.flatten_cons, StableHlo.after_append]
  simp only [StableHlo.readAfter]
  simp only [StableHlo.nary_result']
  fin_cases i
  all_goals
    dsimp only [Fin.mk_zero, Fin.mk_one, Fin.reduceFinMk]
    pointwise
    after_reads_simp
    pointwise
    try rfl

theorem v477_at (ky kx : Fin 3) (k : Fin 128) (o : Fin 32) :
    (V m c main_v477 : Vec Ideal S9x128x32 .f32) (ix3 ⟨3 * ky.val + kx.val, by omega⟩ k o)
      = (m (c, Proc.tc.devRef main_arg5) : Vec Ideal S32x128x3x3 .f32) (ix4 o k ky kx) := by
  rw [show (V m c main_v477 : Vec Ideal S9x128x32 .f32)
    = shapeCast S9x128x32 (transpose S3x3x128x32 [2, 3, 1, 0] (m (c, Proc.tc.devRef main_arg5)) transposes_S32x128x3x3_S3x3x128x32_2_3_1_0)
      shapeCasts_S3x3x128x32_S9x128x32 from by
    show StableHlo.after [hostOps0, hostOps0_1, hostOps0_2, hostOps0_3, hostOps0_4].flatten (fun b => m (c, b)) (Proc.tc.devRef main_v477) = _
    rw [List.flatten_cons, StableHlo.after_append]
    after_reads_simp
    rfl]
  fin_cases ky <;> fin_cases kx <;> (dsimp only [Fin.mk_zero, Fin.mk_one, Fin.reduceFinMk]; pointwise; try rfl)

theorem v481_at (j : Fin 4) (o : Fin 128) :
    (V m c main_v481 : Vec Ideal S1x512 .f32) (ix2 0 ⟨128 * j.val + o.val, by omega⟩) = (m (c, Proc.tc.devRef main_arg2) : Vec Ideal S128 .f32) (ix1 o) := by
  rw [show (V m c main_v481 : Vec Ideal S1x512 .f32)
    = shapeCast S1x512 (shapeCast S512 (broadcastInDim S4x128 ![0, 1] bcast_S1x128_S4x128_0_1
        (shapeCast S1x128 (m (c, Proc.tc.devRef main_arg2) : Vec Ideal S128 .f32) shapeCasts_S128_S1x128)) shapeCasts_S4x128_S512) shapeCasts_S512_S1x512 from by
    show StableHlo.after [hostOps0, hostOps0_1, hostOps0_2, hostOps0_3, hostOps0_4].flatten (fun b => m (c, b)) (Proc.tc.devRef main_v481) = _
    rw [List.flatten_cons, StableHlo.after_append]
    after_reads_simp
    rfl]
  pointwise

theorem v482_at (o : Fin 128) :
    (V m c main_v482 : Vec Ideal S1x128 .f32) (ix2 0 o) = (m (c, Proc.tc.devRef main_arg4) : Vec Ideal S128 .f32) (ix1 o) := by
  rw [show (V m c main_v482 : Vec Ideal S1x128 .f32)
    = shapeCast S1x128 (m (c, Proc.tc.devRef main_arg4) : Vec Ideal S128 .f32) shapeCasts_S128_S1x128 from by
    show StableHlo.after [hostOps0, hostOps0_1, hostOps0_2, hostOps0_3, hostOps0_4].flatten (fun b => m (c, b)) (Proc.tc.devRef main_v482) = _
    rw [List.flatten_cons, StableHlo.after_append]
    after_reads_simp
    rfl]
  pointwise

theorem v483_at (o : Fin 32) :
    (V m c main_v483 : Vec Ideal S1x32 .f32) (ix2 0 o) = (m (c, Proc.tc.devRef main_arg6) : Vec Ideal S32 .f32) (ix1 o) := by
  rw [show (V m c main_v483 : Vec Ideal S1x32 .f32)
    = shapeCast S1x32 (m (c, Proc.tc.devRef main_arg6) : Vec Ideal S32 .f32) shapeCasts_S32_S1x32 from by
    show StableHlo.after [hostOps0, hostOps0_1, hostOps0_2, hostOps0_3, hostOps0_4].flatten (fun b => m (c, b)) (Proc.tc.devRef main_v483) = _
    rw [List.flatten_cons, StableHlo.after_append]
    after_reads_simp
    rfl]
  pointwise

theorem v490_at (k : Fin 32) (j : Fin 1024) :
    (V m c main_v490 : Vec Ideal S32x1024 .f32) (ix2 k j) = (m (c, Proc.tc.devRef main_arg7) : Vec Ideal S1024x32 .f32) (ix2 j k) := by
  rw [show (V m c main_v490 : Vec Ideal S32x1024 .f32)
    = transpose S32x1024 [1, 0] (m (c, Proc.tc.devRef main_arg7) : Vec Ideal S1024x32 .f32) transposes_S1024x32_S32x1024_1_0 from by
    show StableHlo.after [hostOps0, hostOps0_1, hostOps0_2, hostOps0_3, hostOps0_4].flatten (fun b => m (c, b)) (Proc.tc.devRef main_v490) = _
    simp only [List.flatten_cons, List.flatten_nil, List.append_nil]
    after_reads_simp]
  pointwise

/-- The image with a border of one place before and three after, at a place of it. -/
theorem edge_at (u : FVec Ideal S16x224x224x3 .f32) (z : FVec Ideal S_ .f32)
    (h : Shape.Pads S16x224x224x3 ![0, 1, 1, 0] ![0, 3, 3, 0] ![0, 0, 0, 0] S16x228x228x3) (n : Fin 16) (r s : Fin 228) (e : Fin 3) :
    pad S16x228x228x3 ![0, 1, 1, 0] ![0, 3, 3, 0] ![0, 0, 0, 0] u z h h_S_ (ix4 n r s e)
      = if hh : (1 ≤ r.val ∧ r.val - 1 < 224) ∧ (1 ≤ s.val ∧ s.val - 1 < 224) then u (ix4 n ⟨r.val - 1, hh.1.2⟩ ⟨s.val - 1, hh.2.2⟩ e) else z ix0 := by
  by_cases hh : (1 ≤ r.val ∧ r.val - 1 < 224) ∧ (1 ≤ s.val ∧ s.val - 1 < 224)
  · rw [dif_pos hh]
    refine (dif_pos fun a => ?_).trans (congrArg u (funext fun a => Fin.ext ?_))
    · match a with
      | ⟨0, _⟩ => exact ⟨Nat.zero_le _, Nat.mod_one _, by show (n.val - 0) / 1 < 16; omega⟩
      | ⟨1, _⟩ => exact ⟨hh.1.1, Nat.mod_one _, by show (r.val - 1) / 1 < 224; omega⟩
      | ⟨2, _⟩ => exact ⟨hh.2.1, Nat.mod_one _, by show (s.val - 1) / 1 < 224; omega⟩
      | ⟨3, _⟩ => exact ⟨Nat.zero_le _, Nat.mod_one _, by show (e.val - 0) / 1 < 3; omega⟩
    · match a with
      | ⟨0, _⟩ => show (n.val - 0) / 1 = n.val; omega
      | ⟨1, _⟩ => show (r.val - 1) / 1 = r.val - 1; omega
      | ⟨2, _⟩ => show (s.val - 1) / 1 = s.val - 1; omega
      | ⟨3, _⟩ => show (e.val - 0) / 1 = e.val; omega
  · rw [dif_neg hh]
    refine (dif_neg fun ha => hh ?_).trans (congrArg z (Subsingleton.elim _ _))
    have h1 := ha 1
    have h2 := ha 2
    have a1 : 1 ≤ r.val ∧ (r.val - 1) % 1 = 0 ∧ (r.val - 1) / 1 < 224 := h1
    have a2 : 1 ≤ s.val ∧ (s.val - 1) % 1 = 0 ∧ (s.val - 1) / 1 < 224 := h2
    omega

/-- A width of 57 carried to 64, read at a place of the 57. -/
theorem wide_at (u : FVec Ideal S16x57x57x48 .f32) (z : FVec Ideal S_ .f32)
    (h : Shape.Pads S16x57x57x48 ![0, 0, 0, 0] ![0, 0, 7, 0] ![0, 0, 0, 0] S16x57x64x48) (n : Fin 16) (r : Fin 57) (s : Fin 64) (hs : s.val < 57) (k : Fin 48) :
    pad S16x57x64x48 ![0, 0, 0, 0] ![0, 0, 7, 0] ![0, 0, 0, 0] u z h h_S_ (ix4 n r s k) = u (ix4 n r ⟨s.val, hs⟩ k) := by
  refine (dif_pos fun a => ?_).trans (congrArg u (funext fun a => Fin.ext ?_))
  · match a with
    | ⟨0, _⟩ => exact ⟨Nat.zero_le _, Nat.mod_one _, by show (n.val - 0) / 1 < 16; omega⟩
    | ⟨1, _⟩ => exact ⟨Nat.zero_le _, Nat.mod_one _, by show (r.val - 0) / 1 < 57; omega⟩
    | ⟨2, _⟩ => exact ⟨Nat.zero_le _, Nat.mod_one _, by show (s.val - 0) / 1 < 57; omega⟩
    | ⟨3, _⟩ => exact ⟨Nat.zero_le _, Nat.mod_one _, by show (k.val - 0) / 1 < 48; omega⟩
  · match a with
    | ⟨0, _⟩ => show (n.val - 0) / 1 = n.val; omega
    | ⟨1, _⟩ => show (r.val - 0) / 1 = r.val; omega
    | ⟨2, _⟩ => show (s.val - 0) / 1 = s.val; omega
    | ⟨3, _⟩ => show (k.val - 0) / 1 = k.val; omega

/-- The image cut into blocks of 4 by 4 places, each laid out as 48 entries. -/
theorem fold_at (u : FVec Ideal S16x228x228x3 .f32) (n : Fin 16) (r s : Fin 57) (a b : Fin 4) (e : Fin 3) :
    (shapeCast S16x57x57x48 (transpose S16x57x57x4x4x3 [0, 1, 3, 2, 4, 5] (shapeCast S16x57x4x57x4x3 u shapeCasts_S16x228x228x3_S16x57x4x57x4x3)
      transposes_S16x57x4x57x4x3_S16x57x57x4x4x3_0_1_3_2_4_5) shapeCasts_S16x57x57x4x4x3_S16x57x57x48 : FVec Ideal S16x57x57x48 .f32)
      (ix4 n r s ⟨12 * a.val + 3 * b.val + e.val, by omega⟩) = u (ix4 n ⟨4 * r.val + a.val, by omega⟩ ⟨4 * s.val + b.val, by omega⟩ e) := by
  pointwise
  refine congrArg u (Cert.Proof.DecVal.ix4_congr rfl ?_ ?_ rfl) <;> (dsimp only; omega)

theorem zero_word : (sitofp .f32 (constantI S_ 32 0#32) : FVec Ideal S_ .f32) ix0 = (0 : EReal) :=
  (by norm_num [FloatOps.sitofp] : FloatOps.sitofp (F := Ideal) FTy.f32 0#32 = (0 : EReal))

theorem v489_at (n : Fin 16) (r s : ℕ) (hr : r < 57) (hs : s < 57) (hs' : s < 64) (a b : Fin 4) (e : Fin 3) :
    (V m c main_v489 : Vec Ideal S16x57x64x48 .f32) (ix4 n ⟨r, hr⟩ ⟨s, hs'⟩ ⟨12 * a.val + 3 * b.val + e.val, by omega⟩)
      = if h : (1 ≤ 4 * r + a.val ∧ 4 * r + a.val - 1 < 224) ∧ (1 ≤ 4 * s + b.val ∧ 4 * s + b.val - 1 < 224) then
          (m (c, Proc.tc.devRef main_arg0) : Vec Ideal S16x3x224x224 .f32) (ix4 n e ⟨4 * r + a.val - 1, h.1.2⟩ ⟨4 * s + b.val - 1, h.2.2⟩) else (0 : EReal) := by
  rw [show (V m c main_v489 : Vec Ideal S16x57x64x48 .f32)
    = pad S16x57x64x48 ![0, 0, 0, 0] ![0, 0, 7, 0] ![0, 0, 0, 0] (shapeCast S16x57x57x48 (transpose S16x57x57x4x4x3 [0, 1, 3, 2, 4, 5] (shapeCast S16x57x4x57x4x3
        (pad S16x228x228x3 ![0, 1, 1, 0] ![0, 3, 3, 0] ![0, 0, 0, 0] (transpose S16x224x224x3 [0, 2, 3, 1] (m (c, Proc.tc.devRef main_arg0) : Vec Ideal S16x3x224x224 .f32) transposes_S16x3x224x224_S16x224x224x3_0_2_3_1)
          (sitofp .f32 (constantI S_ 32 0#32) : FVec Ideal S_ .f32) pads_S16x224x224x3_S16x228x228x3_000_130_130_000 h_S_)
        shapeCasts_S16x228x228x3_S16x57x4x57x4x3) transposes_S16x57x4x57x4x3_S16x57x57x4x4x3_0_1_3_2_4_5) shapeCasts_S16x57x57x4x4x3_S16x57x57x48)
      (sitofp .f32 (constantI S_ 32 0#32) : FVec Ideal S_ .f32) pads_S16x57x57x48_S16x57x64x48_000_000_070_000 h_S_ from by
    show StableHlo.after [hostOps0, hostOps0_1, hostOps0_2, hostOps0_3, hostOps0_4].flatten (fun b => m (c, b)) (Proc.tc.devRef main_v489) = _
    simp only [List.flatten_cons, List.flatten_nil, List.append_nil]
    after_reads_simp
    rfl]
  refine (wide_at _ _ _ n ⟨r, hr⟩ ⟨s, hs'⟩ hs _).trans ((fold_at _ n ⟨r, hr⟩ ⟨s, hs⟩ a b e).trans ((edge_at _ _ _ n _ _ e).trans ?_))
  rw [zero_word]
  by_cases h : (1 ≤ 4 * r + a.val ∧ 4 * r + a.val - 1 < 224) ∧ (1 ≤ 4 * s + b.val ∧ 4 * s + b.val - 1 < 224)
  · rw [dif_pos h, dif_pos h]
    pointwise
  · rw [dif_neg h, dif_neg h]
end Cert.Proof.EncW
-- ==== Proof.EncMin.lean ====
/- The nearest row: the place of the least of 1024 values, as the encoder's chunks and the reference's rows take it. -/
module
public import proofs.«01_k».proof.Proof.EncRun
public import proofs.«01_k».proof.Proof.Gen.EncoderReferenceIdeal.Run
public import Idealize.ShloMosaic.Lib.Pointwise
@[expose] public section
set_option maxRecDepth 16384
noncomputable section
open Idealize.ShloMosaic Idealize.ShloMosaic.TcCoe Idealize.SL.Sem
namespace Cert.Proof.EncMin
open Cert.EncoderIdeal Cert.EncoderIdeal.Gen Cert.Proof.EncRun

/-- The least of 1024 values. -/
def least (s : Fin 1024 → EReal) : EReal := (Finset.univ : Finset (Fin 1024)).fold min ⊤ s
/-- The first place of the least of 1024 values, as a word. -/
def best (s : Fin 1024 → EReal) : BitVec 32 :=
  (Finset.univ : Finset (Fin 1024)).fold IntOp.minsi 2147483647#32 fun j => if s j = least s then BitVec.ofNat 32 j.val else 1024#32

/-- A chunk's row minima, and their places, from its scores. -/
def chunkMin (s : FVec Ideal S784x1024 .f32) : FVec Ideal S784x1 .f32 :=
  shapeCast S784x1 (multiReduction .minimumf [1] S784 s 0x7F800000#32 reduces_S784x1024_S784 (.inl rfl) rfl) shapeCasts_S784_S784x1
def chunkIdx (s : FVec Ideal S784x1024 .f32) : IVec S1x784x1 32 :=
  shapeCast S1x784x1 (shapeCast S784x1 (multiReductionI .minsi [1] S784
    (select (cmpf .oeq s (broadcastTo S784x1024 (chunkMin s) broadcasts_S784x1_S784x1024)) (iota .tc S784x1024 32 [1] iota_S784x1024_d1_w32) (broadcast S784x1024 1024#32))
    2147483647#32 reduces_S784x1024_S784 rfl) shapeCasts_S784_S784x1) shapeCasts_S784x1_S1x784x1

theorem chunkMin_at (s : FVec Ideal S784x1024 .f32) (q : Fin 784) : chunkMin s (ix2 q 0) = least fun j => s (ix2 q j) := by
  pointwise [chunkMin, least]
  rw [show Ideal.ofBits .f32 2139095040#32 = (⊤ : EReal) from by simp [Ideal.ofBits, Ideal.ieee]]

theorem chunkIdx_at (s : FVec Ideal S784x1024 .f32) (q : Fin 784) : chunkIdx s (ix3 0 q 0) = best fun j => s (ix2 q j) := by
  unfold chunkIdx best
  simp only [← chunkMin_at]
  pointwise []

theorem idxOut_eq (z : FVec Ideal S3136x32 .f32) (z0 : FVec Ideal S784x32 .f32) (cb : Vec Ideal S32x1024 .f32) :
    idxOut z z0 cb = View.canon (Val := Elt Ideal) (e := .i32) [⟨Rect.unit (s := S1x3136x1) ![0, 2352, 0] ![1, 784, 1] inb_S1x3136x1_S1x784x1_0_2352_0, chunkIdx (k0_pay1 (k0_pay27 cb) (k0_pay43 z cb) k0_pay44)⟩,
    ⟨Rect.unit (s := S1x3136x1) ![0, 1568, 0] ![1, 784, 1] inb_S1x3136x1_S1x784x1_0_1568_0, chunkIdx (k0_pay39 z (k0_pay27 cb) cb)⟩,
    ⟨Rect.unit (s := S1x3136x1) ![0, 784, 0] ![1, 784, 1] inb_S1x3136x1_S1x784x1_0_784_0, chunkIdx (k0_pay34 z (k0_pay27 cb) cb)⟩,
    ⟨Rect.unit (s := S1x3136x1) ![0, 0, 0] ![1, 784, 1] inb_S1x3136x1_S1x784x1_0_0_0, chunkIdx (k0_pay30 (k0_pay27 cb) z0 cb)⟩] := rfl

/-- A row's score against a column of the codebook. -/
def score (u : Fin 32 → EReal) (C : Fin 32 → EReal) : EReal := (∑ k, C k * C k) - Ideal.ofBits .f32 1073741824#32 * ∑ k, u k * C k

theorem score0 (z0 : FVec Ideal S784x32 .f32) (cb : Vec Ideal S32x1024 .f32) (q : Fin 784) (j : Fin 1024) :
    k0_pay30 (k0_pay27 cb) z0 cb (ix2 q j) = score (fun k => z0 (ix2 q k)) fun k => cb (ix2 k j) := by
  pointwise [k0_pay30, k0_pay27, score]
theorem score1 (z : FVec Ideal S3136x32 .f32) (cb : Vec Ideal S32x1024 .f32) (q : Fin 784) (j : Fin 1024) :
    k0_pay34 z (k0_pay27 cb) cb (ix2 q j) = score (fun k => z (ix2 ⟨784 + q.val, by omega⟩ k)) fun k => cb (ix2 k j) := by
  pointwise [k0_pay34, k0_pay27, score]
theorem score2 (z : FVec Ideal S3136x32 .f32) (cb : Vec Ideal S32x1024 .f32) (q : Fin 784) (j : Fin 1024) :
    k0_pay39 z (k0_pay27 cb) cb (ix2 q j) = score (fun k => z (ix2 ⟨1568 + q.val, by omega⟩ k)) fun k => cb (ix2 k j) := by
  pointwise [k0_pay39, k0_pay27, score]
theorem score3 (z : FVec Ideal S3136x32 .f32) (cb : Vec Ideal S32x1024 .f32) (q : Fin 784) (j : Fin 1024) :
    k0_pay1 (k0_pay27 cb) (k0_pay43 z cb) k0_pay44 (ix2 q j) = score (fun k => z (ix2 ⟨2352 + q.val, by omega⟩ k)) fun k => cb (ix2 k j) := by
  pointwise [k0_pay1, k0_pay43, k0_pay44, k0_pay27, score]

/-- The sum of a chunk's row minima, as the loss takes it. -/
def chunkSum (v : FVec Ideal S1x784x1 .f32) : FVec Ideal S1x1 .f32 :=
  broadcast S1x1 (extractAt ![0, 0, 0] (shapeCast S1x1x1 (multiReduction .add [1, 2] S1 v 0x00000000#32 reduces_S1x784x1_S1 (.inl rfl) rfl) shapeCasts_S1_S1x1x1) inpos_S1x1x1_p0_0_0)
theorem chunkSum_at (v : FVec Ideal S784x1 .f32) : chunkSum (shapeCast S1x784x1 v shapeCasts_S784x1_S1x784x1) (ix2 0 0) = ∑ q : Fin 784, v (ix2 q 0) := by
  pointwise [chunkSum]
  exact Finset.sum_congr rfl fun q _ => Fin.sum_univ_one _

def rowsSum (v : FVec Ideal S3136x32 .f32) : FVec Ideal S1x1 .f32 :=
  broadcast S1x1 (extractAt ![0, 0, 0] (shapeCast S1x1x1 (multiReduction .add [1, 2] S1 (shapeCast S1x3136x32 (mulf v v) shapeCasts_S3136x32_S1x3136x32) 0x00000000#32 reduces_S1x3136x32_S1 (.inl rfl) rfl) shapeCasts_S1_S1x1x1) inpos_S1x1x1_p0_0_0)
theorem rowsSum_at (v : FVec Ideal S3136x32 .f32) : rowsSum v (ix2 0 0) = ∑ p : Fin 3136, ∑ k : Fin 32, @HMul.hMul EReal EReal EReal _ (v (ix2 p k)) (v (ix2 p k)) := by
  pointwise [rowsSum]

end Cert.Proof.EncMin
-- ==== Proof.EncArg.lean ====
/- The first place of the least of 1024 values: it exists, and it depends on the values' order alone. -/
module
public import proofs.«01_k».proof.Proof.EncMin
@[expose] public section
set_option maxRecDepth 16384
noncomputable section
open Idealize.ShloMosaic Idealize.ShloMosaic.TcCoe Idealize.SL.Sem
namespace Cert.Proof.EncMin

theorem least_le (s : Fin 1024 → EReal) (j : Fin 1024) : least s ≤ s j :=
  (Finset.fold_min_le _).2 (.inr ⟨j, Finset.mem_univ _, le_rfl⟩)

theorem least_mem (s : Fin 1024 → EReal) : ∃ j, s j = least s := by
  rcases (Finset.fold_min_le _).1 (le_refl (least s)) with h | ⟨j, _, h⟩
  · exact ⟨0, le_antisymm (le_top.trans h) (least_le s 0)⟩
  · exact ⟨j, le_antisymm h (least_le s j)⟩

theorem eq_least_iff (s : Fin 1024 → EReal) (j : Fin 1024) : s j = least s ↔ ∀ i, s j ≤ s i := by
  constructor
  · intro h i; rw [h]; exact least_le s i
  · intro h
    obtain ⟨i, hi⟩ := least_mem s
    exact le_antisymm (hi ▸ h i) (least_le s j)

theorem best_congr {s s' : Fin 1024 → EReal} (h : ∀ i j, s i ≤ s j ↔ s' i ≤ s' j) : best s = best s' := by
  unfold best
  refine congrArg (fun f : Fin 1024 → BitVec 32 => Finset.fold IntOp.minsi 2147483647#32 f Finset.univ) (funext fun j => ?_)
  have e : (s j = least s) ↔ (s' j = least s') := by
    rw [eq_least_iff, eq_least_iff]; exact forall_congr' fun i => h j i
  by_cases hj : s j = least s
  · rw [if_pos hj, if_pos (e.1 hj)]
  · rw [if_neg hj, if_neg (fun hj' => hj (e.2 hj'))]

/-- A folded minimum is the start or a member, and at most every member. -/
theorem fold_minsi (f : Fin 1024 → BitVec 32) (A : Finset (Fin 1024)) :
    (A.fold IntOp.minsi 2147483647#32 f = 2147483647#32 ∨ ∃ j ∈ A, A.fold IntOp.minsi 2147483647#32 f = f j)
      ∧ ∀ j ∈ A, (A.fold IntOp.minsi 2147483647#32 f).toInt ≤ (f j).toInt := by
  induction A using Finset.induction_on with
  | empty => exact ⟨.inl (Finset.fold_empty), fun j hj => absurd hj (Finset.notMem_empty j)⟩
  | insert a A ha ih =>
    rw [Finset.fold_insert ha]
    unfold IntOp.minsi
    by_cases hlt : (f a).slt (A.fold IntOp.minsi 2147483647#32 f) = true
    · have hl : (f a).toInt < (A.fold IntOp.minsi 2147483647#32 f).toInt := by simpa [BitVec.slt] using hlt
      unfold IntOp.minsi at hlt hl ih
      rw [if_pos hlt]
      refine ⟨.inr ⟨a, Finset.mem_insert_self _ _, rfl⟩, fun j hj => ?_⟩
      rcases Finset.mem_insert.1 hj with rfl | hj
      · exact le_rfl
      · exact hl.le.trans (ih.2 j hj)
    · have hl : (A.fold IntOp.minsi 2147483647#32 f).toInt ≤ (f a).toInt := by
        simpa [BitVec.slt] using hlt
      unfold IntOp.minsi at hlt hl ih
      rw [if_neg hlt]
      refine ⟨ih.1.imp id fun ⟨j, hj, e⟩ => ⟨j, Finset.mem_insert_of_mem hj, e⟩, fun j hj => ?_⟩
      rcases Finset.mem_insert.1 hj with rfl | hj
      · exact hl
      · exact ih.2 j hj

theorem toInt_ofNat (j : Fin 1024) : (BitVec.ofNat 32 j.val).toInt = j.val := by
  rw [BitVec.toInt_eq_toNat_cond, BitVec.toNat_ofNat]
  have := j.isLt
  rw [Nat.mod_eq_of_lt (by omega), if_pos (by omega)]

/-- The chosen place holds the least value. -/
theorem best_spec (s : Fin 1024 → EReal) : ∃ j : Fin 1024, best s = BitVec.ofNat 32 j.val ∧ s j = least s := by
  obtain ⟨i, hi⟩ := least_mem s
  obtain ⟨h1, h2⟩ := fold_minsi (fun j => if s j = least s then BitVec.ofNat 32 j.val else 1024#32) Finset.univ
  have hb := h2 i (Finset.mem_univ _)
  rw [if_pos hi, toInt_ofNat] at hb
  have hi' := i.isLt
  change best s = _ ∨ _ at h1
  change (best s).toInt ≤ _ at hb
  rcases h1 with h1 | ⟨j, _, h1⟩
  · rw [h1] at hb
    have : (2147483647#32 : BitVec 32).toInt = 2147483647 := by decide
    omega
  · change best s = _ at h1
    by_cases hj : s j = least s
    · exact ⟨j, by rw [h1, if_pos hj], hj⟩
    · rw [h1, if_neg hj] at hb
      have : (1024#32 : BitVec 32).toInt = 1024 := by decide
      omega

end Cert.Proof.EncMin
-- ==== Proof.EncRow.lean ====
/- What a grid point of the encoder leaves, row by row: the nearest row's number, and the point's share of the loss. -/
module
public import proofs.«01_k».proof.Proof.EncArg
@[expose] public section
set_option maxRecDepth 16384
noncomputable section
open Idealize.ShloMosaic Idealize.ShloMosaic.TcCoe Idealize.SL.Sem
namespace Cert.Proof.EncMin
open Cert.EncoderIdeal Cert.EncoderIdeal.Gen Cert.Proof.EncRun

/-- A chunk's results at a row of the block. -/
theorem tile (o : ℕ) (ho : o + 784 ≤ 3136) (inb : ∀ a : Fin 3, (![0, o, 0] : Fin 3 → ℕ) a + (![1, 784, 1] : Fin 3 → ℕ) a ≤ S1x3136x1.size a)
    (s : FVec Ideal S784x1024 .f32) (z : FVec Ideal S3136x32 .f32) (cb : Vec Ideal S32x1024 .f32)
    (hs : ∀ (q : Fin 784) (j : Fin 1024), s (ix2 q j) = score (fun k => z (ix2 ⟨o + q.val, by omega⟩ k)) fun k => cb (ix2 k j)) (q : Fin 3136) :
    View.TileAt (Val := Elt Ideal) (e := .i32) (S := S1x3136x1) (ix3 0 q 0) ![0, o, 0] ![1, 784, 1] (chunkIdx s)
      (best fun j => score (fun k => z (ix2 q k)) fun k => cb (ix2 k j)) := by
  intro x hx
  obtain ⟨a, r, b, rfl⟩ : ∃ (a : Fin 1) (r : Fin 784) (b : Fin 1), x = ix3 a r b := ⟨x 0, x 1, x 2, by funext a; fin_cases a <;> rfl⟩
  obtain rfl : a = 0 := Subsingleton.elim _ _
  obtain rfl : b = 0 := Subsingleton.elim _ _
  have e : q.val = o + r.val := hx 1
  have e2 : (⟨o + r.val, by omega⟩ : Fin 3136) = q := Fin.ext e.symm
  refine (chunkIdx_at s r).trans (congrArg best (funext fun j => (hs r j).trans ?_))
  rw [e2]

theorem idxOut_at (z : FVec Ideal S3136x32 .f32) (z0 : FVec Ideal S784x32 .f32) (cb : Vec Ideal S32x1024 .f32)
    (h0 : ∀ (q : Fin 784) (k : Fin 32), z0 (ix2 q k) = z (ix2 ⟨q.val, by omega⟩ k)) (q : Fin 3136) :
    idxOut z z0 cb (ix3 0 q 0) = best fun j => score (fun k => z (ix2 q k)) fun k => cb (ix2 k j) := by
  rw [idxOut_eq]
  refine View.canon_eq_of_allAt _ _ _ (View.cover_of_tiled_head _ _ _ rfl _) ?_
  refine View.allAt_cons_unit _ _ _ _ _ (tile 2352 (by omega) inb_S1x3136x1_S1x784x1_0_2352_0 _ z cb (score3 z cb) q) ?_
  refine View.allAt_cons_unit _ _ _ _ _ (tile 1568 (by omega) inb_S1x3136x1_S1x784x1_0_1568_0 _ z cb (score2 z cb) q) ?_
  refine View.allAt_cons_unit _ _ _ _ _ (tile 784 (by omega) inb_S1x3136x1_S1x784x1_0_784_0 _ z cb (score1 z cb) q) ?_
  refine View.allAt_cons_unit _ _ _ _ _ (tile 0 (by omega) inb_S1x3136x1_S1x784x1_0_0_0 _ z cb (fun q j => ?_) q) (View.allAt_nil _ _)
  refine (score0 z0 cb q j).trans (congrArg (fun u => score u _) (funext fun k => (h0 q k).trans ?_))
  congr 2
  exact Fin.ext (by dsimp only; omega)

/-- The loss a point adds, from its chunks' scores. -/
theorem lossOut_eq (z : FVec Ideal S3136x32 .f32) (q : FVec Ideal S1x1 .f32) (z0 : FVec Ideal S784x32 .f32) (cb : Vec Ideal S32x1024 .f32) (l : Vec Ideal S1x1 .f32) :
    lossOut z q z0 cb l = addf (shapeCast S1x1 l shapeCasts_S1x1_S1x1) (mulf (broadcast S1x1 (Named.named κ "loss_scale" 0x3550FAC7#32))
      (addf (addf (addf (addf q (chunkSum (shapeCast S1x784x1 (chunkMin (k0_pay30 (k0_pay27 cb) z0 cb)) shapeCasts_S784x1_S1x784x1)))
        (chunkSum (shapeCast S1x784x1 (chunkMin (k0_pay34 z (k0_pay27 cb) cb)) shapeCasts_S784x1_S1x784x1)))
        (chunkSum (shapeCast S1x784x1 (chunkMin (k0_pay39 z (k0_pay27 cb) cb)) shapeCasts_S784x1_S1x784x1)))
        (chunkSum (shapeCast S1x784x1 (chunkMin (k0_pay1 (k0_pay27 cb) (k0_pay43 z cb) k0_pay44)) shapeCasts_S784x1_S1x784x1)))) := rfl

theorem scale_eq : (Named.named (F := Ideal) κ "loss_scale" (φ := .f32) 0x3550FAC7#32 : EReal) = ((5 / 6422528 : ℝ) : EReal) :=
  IdealRules.named_const.ideal_named_scalar _ _ _ _ rfl

/-- 3136 rows in four chunks of 784. -/
theorem four_chunks (f : ℕ → EReal) :
    (∑ q : Fin 784, f q.val) + (∑ q : Fin 784, f (784 + q.val)) + (∑ q : Fin 784, f (1568 + q.val)) + (∑ q : Fin 784, f (2352 + q.val)) = ∑ q : Fin 3136, f q.val := by
  rw [Fin.sum_univ_eq_sum_range (fun n => f n), Fin.sum_univ_eq_sum_range (fun n => f n), Fin.sum_univ_eq_sum_range (fun n => f (784 + n)),
    Fin.sum_univ_eq_sum_range (fun n => f (1568 + n)), Fin.sum_univ_eq_sum_range (fun n => f (2352 + n))]
  rw [← Finset.sum_range_add f 784 784, ← Finset.sum_range_add f 1568 784, ← Finset.sum_range_add f 2352 784]

theorem lossOut_at (z : FVec Ideal S3136x32 .f32) (q : FVec Ideal S1x1 .f32) (z0 : FVec Ideal S784x32 .f32) (cb : Vec Ideal S32x1024 .f32) (l : Vec Ideal S1x1 .f32)
    (h0 : ∀ (q : Fin 784) (k : Fin 32), z0 (ix2 q k) = z (ix2 ⟨q.val, by omega⟩ k)) (hq : q (ix2 0 0) = rowsSum z (ix2 0 0)) :
    (lossOut z q z0 cb l (ix2 0 0) : EReal) = l (ix2 0 0) + ((5 / 6422528 : ℝ) : EReal) *
      ((∑ p : Fin 3136, ∑ k : Fin 32, @HMul.hMul EReal EReal EReal _ (z (ix2 p k)) (z (ix2 p k)))
        + ∑ p : Fin 3136, least fun j => score (fun k => z (ix2 p k)) fun k => cb (ix2 k j)) := by
  rw [lossOut_eq]
  have e : ∀ (v w : FVec Ideal S1x1 .f32), addf v w (ix2 0 0) = (v (ix2 0 0) + w (ix2 0 0) : EReal) := fun _ _ => rfl
  have e' : ∀ (v w : FVec Ideal S1x1 .f32), mulf v w (ix2 0 0) = (v (ix2 0 0) * w (ix2 0 0) : EReal) := fun _ _ => rfl
  have el : shapeCast S1x1 l shapeCasts_S1x1_S1x1 (ix2 0 0) = l (ix2 0 0) := by pointwise []
  have eb : (broadcast S1x1 (Named.named (F := Ideal) κ "loss_scale" (φ := .f32) 0x3550FAC7#32)) (ix2 0 0) = ((5 / 6422528 : ℝ) : EReal) := scale_eq
  rw [e, e', e, e, e, e, chunkSum_at, chunkSum_at, chunkSum_at, chunkSum_at, el, eb, hq, rowsSum_at]
  refine congrArg (fun v : EReal => l (ix2 0 0) + ((5 / 6422528 : ℝ) : EReal) * v) ?_
  simp only [add_assoc]
  refine congrArg (fun v : EReal => (∑ p : Fin 3136, ∑ k : Fin 32, @HMul.hMul EReal EReal EReal _ (z (ix2 p k)) (z (ix2 p k))) + v) ?_
  simp only [chunkMin_at, score0, score1, score2, score3, h0]
  obtain ⟨G, hG⟩ : ∃ G : ℕ → EReal, ∀ p : Fin 3136, G p.val = least fun j => score (fun k => z (ix2 p k)) fun k => cb (ix2 k j) :=
    ⟨fun n => if h : n < 3136 then least fun j => score (fun k => z (ix2 ⟨n, h⟩ k)) fun k => cb (ix2 k j) else 0, fun p => dif_pos p.isLt⟩
  simp only [← hG]
  have key := four_chunks G
  simp only [add_assoc] at key
  exact key

theorem zz_at (H : Vec Ideal S58x64x128 .f32) (w : Vec Ideal S9x128x32 .f32) (b : Vec Ideal S1x32 .f32) : zz H w b (ix2 0 0) = rowsSum (conv3 H w b) (ix2 0 0) := rfl
theorem z0_at (H : Vec Ideal S58x64x128 .f32) (w : Vec Ideal S9x128x32 .f32) (b : Vec Ideal S1x32 .f32) (q : Fin 784) (k : Fin 32) :
    z0 H w b (ix2 q k) = conv3 H w b (ix2 ⟨q.val, by omega⟩ k) := by
  have e : z0 H w b = extractStridedSlice S784x32 ![0, 0] (conv3 H w b) slices_S3136x32_o0_0_S784x32 := rfl
  rw [e]
  generalize conv3 H w b = u
  pointwise []

end Cert.Proof.EncMin
-- ==== Proof.EncDist.lean ====
/- The reference's distances, its nearest rows and its two sums, from its rows and its codebook. -/
module
public import proofs.«01_k».proof.Proof.EncArg
public import proofs.«01_k».proof.Proof.Rows
@[expose] public section
set_option maxRecDepth 16384
noncomputable section
open Idealize.ShloMosaic Idealize.ShloMosaic.TcCoe Idealize.SL.Sem
namespace Cert.Proof.EncMin
open Cert.EncoderReferenceIdeal Cert.EncoderReferenceIdeal.Gen
open Cert.EncoderReferenceIdeal.Value

/-- The squared distance of a row and a column, expanded. -/
def dist (u C : Fin 32 → EReal) : EReal := ((∑ k, u k * u k) + ∑ k, C k * C k) - ∑ k, (Ideal.ofBits .f32 1073741824#32 * u k) * C k

def refDist (z : FVec Ideal S50176x32 .f32) (cb : FVec Ideal S1024x32 .f32) : FVec Ideal S50176x1024 .f32 :=
  subf (addf (broadcastInDim S50176x1024 ![0, 1] bcast_S50176x1_S50176x1024_0_1 (broadcastInDim S50176x1 ![0] bcast_S50176_S50176x1_0 (Host.reduceAdd (mulf z z) (constant S_ .f32 0x00000000#32) reducesTo_S50176x32_S50176_d1 h_S_))) (broadcastInDim S50176x1024 ![0, 1] bcast_S1x1024_S50176x1024_0_1 (broadcastInDim S1x1024 ![1] bcast_S1024_S1x1024_1 (Host.reduceAdd (mulf cb cb) (constant S_ .f32 0x00000000#32) reducesTo_S1024x32_S1024_d1 h_S_)))) (Host.dotGeneral dot_S50176x32_S32x1024_S50176x1024_1_0_0_1_n_n none (mulf (broadcastInDim S50176x32 ![] bcast_S_S50176x32 (constant S_ .f32 0x40000000#32)) z) (transpose S32x1024 [1, 0] cb transposes_S1024x32_S32x1024_1_0))

theorem refDist_at (z : FVec Ideal S50176x32 .f32) (cb : FVec Ideal S1024x32 .f32) (p : Fin 50176) (j : Fin 1024) :
    refDist z cb (ix2 p j) = dist (fun k => z (ix2 p k)) fun k => cb (ix2 j k) := by
  pointwise [refDist, dist]

def refMin (d : FVec Ideal S50176x1024 .f32) : FVec Ideal S50176x1 .f32 :=
  broadcastInDim S50176x1 ![0] bcast_S50176_S50176x1_0 (Host.reduce FloatOps.minimumf d (constant S_ .f32 0x7F800000#32) reducesTo_S50176x1024_S50176_d1 h_S_)

def refIdx (d : FVec Ideal S50176x1024 .f32) : IVec S50176 32 :=
  Host.reduce IntOp.minsi (select (cmpf .oeq d (broadcastInDim S50176x1024 ![0, 1] bcast_S50176x1_S50176x1024_0_1 (refMin d))) (broadcastInDim S50176x1024 ![1] bcast_S1024_S50176x1024_1 (iotaInDim S1024 32 0)) (broadcastInDim S50176x1024 ![] bcast_S_S50176x1024 (id (constantI S_ 32 1024#32)))) (constantI S_ 32 2147483647#32) reducesTo_S50176x1024_S50176_d1 h_S_

theorem refMin_at (d : FVec Ideal S50176x1024 .f32) (p : Fin 50176) : refMin d (ix2 p 0) = least fun j => d (ix2 p j) := by
  unfold refMin least
  pointwise []
  rw [show Ideal.ofBits .f32 2139095040#32 = (⊤ : EReal) from by simp [Ideal.ofBits, Ideal.ieee]]

theorem refIdx_at (d : FVec Ideal S50176x1024 .f32) (p : Fin 50176) : refIdx d (ix1 p) = best fun j => d (ix2 p j) := by
  unfold refIdx best
  rw [Host.reduce_eq_fold, Shape.ReducesTo.fold_fiber_r2_a1]
  simp only [← refMin_at]
  pointwise []
  rfl

/-- The row numbers as a column, a negative one counted from the codebook's end. -/
def cols (ix : IVec S50176 32) : IVec S50176x1 32 :=
  broadcastInDim S50176x1 ![0] bcast_S50176_S50176x1_0 (select (cmpi .slt ix (broadcastInDim S50176 ![] bcast_S_S50176 (constantI S_ 32 0#32))) (addi ix (broadcastInDim S50176 ![] bcast_S_S50176 (constantI S_ 32 1024#32))) ix)

/-- Which rows have a number in range. -/
def inRange (ix : IVec S50176 32) : IVec S50176 1 :=
  Host.reduce IntOp.andi (andi (cmpi .sge (cols ix) (broadcastInDim S50176x1 ![] bcast_S_S50176x1 (constantI S_ 32 0#32))) (cmpi .sle (cols ix) (broadcastInDim S50176x1 ![0, 1] bcast_S1x1_S50176x1_0_1 (broadcastInDim S1x1 ![1] bcast_S1_S1x1_1 (constantI S1 32 1023#32))))) (constantI S_ 1 1#1) reducesTo_S50176x1_S50176_d1 h_S_

/-- The codebook's rows less the reference's. -/
def refTake (cb : FVec Ideal S1024x32 .f32) (ix : IVec S50176 32) (z : FVec Ideal S50176x32 .f32) : FVec Ideal S50176x32 .f32 :=
  subf (select (broadcastInDim S50176x32 ![0] bcast_S50176_S50176x32_0 (inRange ix)) (Host.gather gather_S1024x32_S50176x1_S50176x32_1_0_n_n_0_1_132 cb (cols ix)) (broadcastInDim S50176x32 ![] bcast_S_S50176x32 (constant S_ .f32 0x7FC00000#32))) z

theorem cols_apply (ix : IVec S50176 32) (h : ∀ j, (ix j).toNat < 1024) (i : S50176x1.Idx) : cols ix i = ix (ix1 (i 0)) := by
  unfold cols
  pointwise
  have hj := h (ix1 (i 0))
  have hs : IntOp.cmpi .slt (ix (ix1 (i 0))) 0#32 = 0#1 := (BitVec.eq_zero_or_eq_one _).resolve_right fun e => by
    have e' : (ix (ix1 (i 0))).toInt < 0 := IntOp.cmpi_slt.1 e
    rw [Rows.toInt_small hj] at e'
    omega
  rw [hs]
  rfl

theorem inRange_apply (ix : IVec S50176 32) (h : ∀ j, (ix j).toNat < 1024) (j : S50176.Idx) : inRange ix j = 1#1 := by
  unfold inRange
  refine Host.reduce_andi_one _ _ _ _ _ rfl fun i => ?_
  have hj := h (ix1 (i 0))
  pointwise
  rw [cols_apply ix h]
  refine IntOp.andi_eq_one.2 ⟨IntOp.cmpi_sge.2 ?_, IntOp.cmpi_sle.2 ?_⟩
  · show (0 : ℤ) ≤ _
    rw [Rows.toInt_small hj]; omega
  · show _ ≤ (1023 : ℤ)
    rw [Rows.toInt_small hj]; omega

theorem refTake_at (cb : FVec Ideal S1024x32 .f32) (ix : IVec S50176 32) (z : FVec Ideal S50176x32 .f32) (h : ∀ j, (ix j).toNat < 1024)
    (p : Fin 50176) (k : Fin 32) (b : Fin 1024) (hb : ix (ix1 p) = BitVec.ofNat 32 b.val) :
    refTake cb ix z (ix2 p k) = (cb (ix2 b k) : EReal) - z (ix2 p k) := by
  unfold refTake
  pointwise
  simp only [inRange_apply ix h]
  have hg : ∀ y : S50176x32.Idx, y = ValueIdx.ix2 p k →
      Host.gather gather_S1024x32_S50176x1_S50176x32_1_0_n_n_0_1_132 cb (cols ix) y = cb (ValueIdx.ix2 b k) := by
    rintro _ rfl
    refine Routing.gather_row gather_S1024x32_S50176x1_S50176x32_1_0_n_n_0_1_132 rfl rfl rfl rfl rfl
      cb (cols ix) p k b ?_ (by decide)
    rw [cols_apply ix h]
    exact hb
  exact congrArg (fun v : EReal => v - z (ix2 p k)) ((hg _ (ix2_eq_valueIdx _ _)).trans (congrArg cb (ix2_eq_valueIdx _ _).symm))

/-- The mean of the squares, and that with a quarter of it. -/
def refMean (d : FVec Ideal S50176x32 .f32) : FVec Ideal S_ .f32 :=
  Host.divf (Host.reduceAdd (mulf d d) (constant S_ .f32 0x00000000#32) reducesTo_S50176x32_S_d0_1 h_S_) (constant S_ .f32 0x49C40000#32)
def refLoss (d : FVec Ideal S50176x32 .f32) : FVec Ideal S_ .f32 :=
  addf (refMean d) (mulf (constant S_ .f32 0x3E800000#32) (refMean d))

theorem refMean_at (d : FVec Ideal S50176x32 .f32) : refMean d ix0
    = (∑ p : Fin 50176, ∑ k : Fin 32, @HMul.hMul EReal EReal EReal _ (d (ix2 p k)) (d (ix2 p k))) * ((1 / 1605632 : ℝ) : EReal) := by
  pointwise [refMean]
  rw [show Ideal.ofBits .f32 1237581824#32 = ((1605632 : ℝ) : EReal) from by simp [Ideal.ofBits, Ideal.ieee, -EReal.coe_mul]; norm_num]
  exact Ideal.div_coe (by norm_num) _
theorem refLoss_at (d : FVec Ideal S50176x32 .f32) : refLoss d ix0 = refMean d ix0 + ((1 / 4 : ℝ) : EReal) * refMean d ix0 := by
  pointwise [refLoss]
  rw [show Ideal.ofBits .f32 1048576000#32 = ((1 / 4 : ℝ) : EReal) from by simp [Ideal.ofBits, Ideal.ieee, -EReal.coe_mul]; norm_num]

variable (V0 : Valuation Cert.EncoderReferenceIdeal.τ Cert.EncoderReferenceIdeal.sig (Elt Ideal))
theorem v87_eq : res_main_v87 V0 = refDist (res_main_v73 V0) (V0 (Proc.tc.devRef main_arg7)) := rfl
theorem v94_eq : res_main_v94 V0 = refIdx (res_main_v87 V0) := rfl
theorem v96_eq : res_main_v96 V0 = refTake (V0 (Proc.tc.devRef main_arg7)) (res_main_v94 V0) (res_main_v73 V0) := rfl
theorem v99_eq : res_main_v99 V0 = refMean (res_main_v96 V0) := rfl
end Cert.Proof.EncMin
-- ==== Proof.EncSum.lean ====
/- Of real rows, the kernel's scores and the reference's distances name the same codebook row, and the summed losses agree. -/
module
public import proofs.«01_k».proof.Proof.EncRow
public import proofs.«01_k».proof.Proof.EncDist
@[expose] public section
set_option maxRecDepth 16384
noncomputable section
open Idealize.ShloMosaic Idealize.ShloMosaic.TcCoe Idealize.SL.Sem
namespace Cert.Proof.EncMin

theorem coe_sum {n : ℕ} (f : Fin n → ℝ) : (∑ i, ((f i : ℝ) : EReal)) = ((∑ i, f i : ℝ) : EReal) := by
  induction n with
  | zero => simp
  | succ n ih => rw [Fin.sum_univ_succ, Fin.sum_univ_succ, ih fun i => f i.succ, EReal.coe_add]

theorem two_eq : (Ideal.ofBits .f32 1073741824#32 : EReal) = ((2 : ℝ) : EReal) := by
  simp [Ideal.ofBits, Ideal.ieee, -EReal.coe_mul]; norm_num

/-- The score of a real row against a real codebook row. -/
def scoreR (u C : Fin 32 → ℝ) : ℝ := (∑ k, C k * C k) - 2 * ∑ k, u k * C k

theorem score_coe (u C : Fin 32 → ℝ) : score (fun k => (u k : EReal)) (fun k => (C k : EReal)) = (scoreR u C : EReal) := by
  unfold score scoreR
  rw [two_eq]
  simp only [← EReal.coe_mul, coe_sum, ← EReal.coe_sub]

theorem dist_coe (u C : Fin 32 → ℝ) : dist (fun k => (u k : EReal)) (fun k => (C k : EReal)) = (((∑ k, u k * u k) + scoreR u C : ℝ) : EReal) := by
  unfold dist scoreR
  rw [two_eq]
  simp only [← EReal.coe_mul, coe_sum, ← EReal.coe_sub, ← EReal.coe_add]
  congr 1
  rw [Finset.mul_sum, add_sub_assoc]
  simp only [mul_assoc]

theorem square_sum (u C : Fin 32 → ℝ) : ∑ k, (C k - u k) * (C k - u k) = (∑ k, u k * u k) + scoreR u C := by
  unfold scoreR
  rw [Finset.mul_sum, ← Finset.sum_sub_distrib, ← Finset.sum_add_distrib]
  exact Finset.sum_congr rfl fun k _ => by ring

/-- The nearest codebook row by distance is the one of least score. -/
theorem best_dist (u : Fin 32 → ℝ) (C : Fin 1024 → Fin 32 → ℝ) :
    best (fun j => score (fun k => (u k : EReal)) fun k => (C j k : EReal)) = best (fun j => dist (fun k => (u k : EReal)) fun k => (C j k : EReal)) :=
  best_congr fun i j => by
    simp only [score_coe, dist_coe, EReal.coe_le_coe_iff, add_le_add_iff_left]

/-- The named row, and the least score as a real. -/
theorem best_real (u : Fin 32 → ℝ) (C : Fin 1024 → Fin 32 → ℝ) :
    ∃ j : Fin 1024, best (fun j => dist (fun k => (u k : EReal)) fun k => (C j k : EReal)) = BitVec.ofNat 32 j.val
      ∧ (least fun j => score (fun k => (u k : EReal)) fun k => (C j k : EReal)) = (scoreR u (C j) : EReal) := by
  obtain ⟨j, hj, hl⟩ := best_spec fun j => score (fun k => (u k : EReal)) fun k => (C j k : EReal)
  exact ⟨j, (best_dist u C).symm.trans hj, hl.symm.trans (score_coe u (C j))⟩

/-- A point's share of the loss, before scaling. -/
theorem share_coe (N : ℕ) (u : Fin N → Fin 32 → ℝ) (s : Fin N → ℝ) (l : EReal) (r : ℝ) (hl : l = (r : EReal)) :
    l + ((5 / 6422528 : ℝ) : EReal) * ((∑ p, ∑ k, @HMul.hMul EReal EReal EReal _ (u p k : EReal) (u p k : EReal)) + ∑ p, (s p : EReal))
      = ((r + 5 / 6422528 * ∑ p, ((∑ k, u p k * u p k) + s p) : ℝ) : EReal) := by
  rw [hl, Finset.sum_add_distrib]
  simp only [← EReal.coe_mul, coe_sum, ← EReal.coe_add]

/-- The reference's mean of squares, with a quarter of itself added. -/
theorem mean_coe (d : Fin 50176 → Fin 32 → ℝ) :
    (∑ p, ∑ k, @HMul.hMul EReal EReal EReal _ (d p k : EReal) (d p k : EReal)) * ((1 / 1605632 : ℝ) : EReal)
        + ((1 / 4 : ℝ) : EReal) * ((∑ p, ∑ k, @HMul.hMul EReal EReal EReal _ (d p k : EReal) (d p k : EReal)) * ((1 / 1605632 : ℝ) : EReal))
      = ((5 / 6422528 * ∑ p, ∑ k, d p k * d p k : ℝ) : EReal) := by
  simp only [← EReal.coe_mul, coe_sum, ← EReal.coe_add]
  congr 1
  ring

end Cert.Proof.EncMin
-- ==== Proof.EncFin.lean ====
/- Finite arguments leave the reference encoder's rows finite. -/
module
public import proofs.«01_k».proof.Proof.EncRef
public import proofs.«01_k».proof.Proof.Gen.Pre_all_finite
public import Idealize.ShloMosaic.Lib.ReduceAll
public import Idealize.ShloMosaic.Lib.KernelVsHost
@[expose] public section
set_option maxRecDepth 16384
noncomputable section
open Idealize.ShloMosaic Idealize.ShloMosaic.TcCoe Idealize.SL.Sem
namespace Cert.Proof.EncVal
open Cert.EncoderReferenceIdeal Cert.EncoderReferenceIdeal.Gen Cert.EncoderReferenceIdeal.Value

/-- A value is a real number. -/
def Re (x : EReal) : Prop := ∃ r : ℝ, x = (r : EReal)
theorem Re.zero : Re 0 := ⟨0, EReal.coe_zero.symm⟩
theorem Re.add {x y : EReal} : Re x → Re y → Re (x + y) := fun ⟨a, ha⟩ ⟨b, hb⟩ => ⟨a + b, by rw [ha, hb, EReal.coe_add]⟩
theorem Re.mul {x y : EReal} : Re x → Re y → Re (x * y) := fun ⟨a, ha⟩ ⟨b, hb⟩ => ⟨a * b, by rw [ha, hb, EReal.coe_mul]⟩
theorem Re.max {x y : EReal} (hx : Re x) (hy : Re y) : Re (Max.max x y) := by
  rcases max_choice x y with h | h <;> rw [h] <;> assumption
theorem Re.sum {n : ℕ} {f : Fin n → EReal} (h : ∀ i, Re (f i)) : Re (∑ i, f i) :=
  Finset.sum_induction f Re (fun _ _ => Re.add) Re.zero fun i _ => h i

/-- A magnitude under infinity is a real's. -/
theorem Re.of_cmp {x : EReal} (h : FloatOps.cmpf (F := Ideal) (φ := .f32) .olt (FloatOps.hostAbsf x) (FloatOps.ofBits (F := Ideal) .f32 0x7F800000#32) = 1#1) : Re x := by
  rw [← Ideal.xori_weird_eq_hostAbsf_olt_inf] at h
  have h' : IntOp.xori (BitVec.ofBool (decide ((x : EReal) = ⊤ ∨ (x : EReal) = ⊥))) 1#1 = 1#1 := h
  by_cases hx : x = ⊤ ∨ x = ⊥
  · rw [decide_eq_true hx] at h'
    exact absurd h' (by decide)
  · push Not at hx
    exact ⟨x.toReal, (EReal.coe_toReal hx.1 hx.2).symm⟩

theorem Re.all {s t u : Shape} {axes : List (Fin s.rank)} [Subsingleton t.Idx] (a b : FVec Ideal s .f32) (hb : ∀ i, b i = FloatOps.ofBits (F := Ideal) .f32 0x7F800000#32)
    (init : u.Idx → BitVec 1) (h : s.ReducesTo axes t) (hu : 0 < u.numel) (j : t.Idx)
    (e : Host.reduce IntOp.andi (cmpf .olt (Host.absf a) b) init h hu j = 1#1) (i : s.Idx) : Re (a i) := by
  have h1 := Host.reduce_andi_all _ _ _ _ _ e i
  refine Re.of_cmp ?_
  rw [← hb i]
  exact h1

/-- Every entry of every argument is a real number. -/
structure Finite (a0 : FVec Ideal S16x3x224x224 .f32) (a1 : FVec Ideal S128x3x4x4 .f32) (a2 : FVec Ideal S128 .f32) (a3 : FVec Ideal S128x128x4x4 .f32)
    (a4 : FVec Ideal S128 .f32) (a5 : FVec Ideal S32x128x3x3 .f32) (a6 : FVec Ideal S32 .f32) (a7 : FVec Ideal S1024x32 .f32) : Prop where
  f0 : ∀ i, Re (a0 i)
  f1 : ∀ i, Re (a1 i)
  f2 : ∀ i, Re (a2 i)
  f3 : ∀ i, Re (a3 i)
  f4 : ∀ i, Re (a4 i)
  f5 : ∀ i, Re (a5 i)
  f6 : ∀ i, Re (a6 i)
  f7 : ∀ i, Re (a7 i)

theorem finite_of_pre (a0 : FVec Ideal S16x3x224x224 .f32) (a1 : FVec Ideal S128x3x4x4 .f32) (a2 : FVec Ideal S128 .f32) (a3 : FVec Ideal S128x128x4x4 .f32)
    (a4 : FVec Ideal S128 .f32) (a5 : FVec Ideal S32x128x3x3 .f32) (a6 : FVec Ideal S32 .f32) (a7 : FVec Ideal S1024x32 .f32)
    (h : Cert.Pre_all_finite.fn (F := Ideal) a0 a1 a2 a3 a4 a5 a6 a7 = fun _ => 1#1) : Finite a0 a1 a2 a3 a4 a5 a6 a7 := by
  have h0 := congrFun h ValueIdx.ix0
  unfold Cert.Pre_all_finite.fn Cert.Pre_all_finite.fn_part1 Cert.Pre_all_finite.fn_part2 at h0
  have e7 := IntOp.andi_eq_one.1 h0
  have e6 := IntOp.andi_eq_one.1 e7.1
  have e5 := IntOp.andi_eq_one.1 e6.1
  have e4 := IntOp.andi_eq_one.1 e5.1
  have e3 := IntOp.andi_eq_one.1 e4.1
  have e2 := IntOp.andi_eq_one.1 e3.1
  have e1 := IntOp.andi_eq_one.1 e2.1
  exact ⟨Re.all a0 _ (fun _ => rfl) _ _ _ _ e1.1, Re.all a1 _ (fun _ => rfl) _ _ _ _ e1.2, Re.all a2 _ (fun _ => rfl) _ _ _ _ e2.2, Re.all a3 _ (fun _ => rfl) _ _ _ _ e3.2,
    Re.all a4 _ (fun _ => rfl) _ _ _ _ e4.2, Re.all a5 _ (fun _ => rfl) _ _ _ _ e5.2, Re.all a6 _ (fun _ => rfl) _ _ _ _ e6.2, Re.all a7 _ (fun _ => rfl) _ _ _ _ e7.2⟩

variable {V0 : Valuation τ sig (Elt Ideal)}

theorem Re.taps4 {g : Fin 4 → Fin 4 → EReal} (h : ∀ a b, Re (g a b)) : Re (taps4 g) :=
  ((((((((((((((((h 0 0).add (h 0 1)).add (h 0 2)).add (h 0 3)).add (h 1 0)).add (h 1 1)).add (h 1 2)).add (h 1 3)).add (h 2 0)).add (h 2 1)).add (h 2 2)).add (h 2 3)).add (h 3 0)).add (h 3 1)).add (h 3 2)).add (h 3 3))

/-- The reference's arguments are finite. -/
def FiniteArgs (V0 : Valuation τ sig (Elt Ideal)) : Prop :=
  Finite (V0 (Proc.tc.devRef main_arg0)) (V0 (Proc.tc.devRef main_arg1)) (V0 (Proc.tc.devRef main_arg2)) (V0 (Proc.tc.devRef main_arg3))
    (V0 (Proc.tc.devRef main_arg4)) (V0 (Proc.tc.devRef main_arg5)) (V0 (Proc.tc.devRef main_arg6)) (V0 (Proc.tc.devRef main_arg7))

variable (H : FiniteArgs V0)
include H

theorem re_v0 (n : Fin 16) (k : Fin 3) (r s : ℕ) (hr : r < 226) (hs : s < 226) : Re (res_main_v0 V0 (ix4 n k ⟨r, hr⟩ ⟨s, hs⟩)) := by
  rw [v0_at]
  split
  · exact H.f0 _
  · exact Re.zero

theorem re_v26 (n : Fin 16) (o : Fin 128) (Y X : Fin 112) : Re ((res_main_v26 V0 : Vec Ideal S16x128x112x112 .f32) (ix4 n o Y X)) := by
  rw [v26_at]
  exact ((Re.taps4 fun a b => Re.sum fun k => (re_v0 H n k _ _ _ _).mul (H.f1 _)).add (H.f2 _)).max Re.zero

theorem re_v27 (n : Fin 16) (k : Fin 128) (r s : ℕ) (hr : r < 114) (hs : s < 114) : Re (res_main_v27 V0 (ix4 n k ⟨r, hr⟩ ⟨s, hs⟩)) := by
  by_cases h : r < 1 ∨ 112 < r ∨ s < 1 ∨ 112 < s
  · rw [v27_border V0 n k r s hr hs h]; exact Re.zero
  · obtain ⟨r', rfl⟩ : ∃ r', r = r' + 1 := ⟨r - 1, by omega⟩
    obtain ⟨s', rfl⟩ : ∃ s', s = s' + 1 := ⟨s - 1, by omega⟩
    have e := v27_inside V0 n k ⟨r', by omega⟩ ⟨s', by omega⟩ hr hs
    exact e ▸ re_v26 H n k _ _

theorem re_v54 (n : Fin 16) (k : Fin 128) (r s : ℕ) (hr : r < 58) (hs : s < 58) : Re (res_main_v54 V0 (ix4 n k ⟨r, hr⟩ ⟨s, hs⟩)) := by
  by_cases h : r < 1 ∨ 56 < r ∨ s < 1 ∨ 56 < s
  · rw [v54_border V0 n k r s hr hs h]; exact Re.zero
  · obtain ⟨r', rfl⟩ : ∃ r', r = r' + 1 := ⟨r - 1, by omega⟩
    obtain ⟨s', rfl⟩ : ∃ s', s = s' + 1 := ⟨s - 1, by omega⟩
    have e := v54_inside V0 n k ⟨r', by omega⟩ ⟨s', by omega⟩ hr hs
    have e' : Re (max (taps4 (ref2 V0 n k ⟨r', by omega⟩ ⟨s', by omega⟩) + V0 (Proc.tc.devRef main_arg4) (ix1 k)) (0 : EReal)) :=
      ((Re.taps4 fun a b => Re.sum fun k => (re_v27 H n k _ _ _ _).mul (H.f3 _)).add (H.f4 _)).max Re.zero
    exact e ▸ e'

theorem re_ref3 (n : Fin 16) (o : Fin 32) (Y X : Fin 56) (ky kx : Fin 3) : Re (ref3 V0 n o Y X ky kx) :=
  Re.sum fun k => (re_v54 H n k _ _ _ _).mul (H.f5 _)

theorem re_v73 (p : Fin 50176) (o : Fin 32) : Re ((res_main_v73 V0 : Vec Ideal S50176x32 .f32) (ix2 p o)) := by
  have e : p = ⟨(⟨p.val / 3136, by omega⟩ : Fin 16).val * 3136 + (⟨p.val % 3136 / 56, by omega⟩ : Fin 56).val * 56 + (⟨p.val % 56, by omega⟩ : Fin 56).val, by dsimp only; omega⟩ :=
    Fin.ext (by dsimp only; omega)
  rw [e, v73_at]
  have h := re_ref3 H ⟨p.val / 3136, by omega⟩ o ⟨p.val % 3136 / 56, by omega⟩ ⟨p.val % 56, by omega⟩
  exact ((((((((((h 0 0).add (h 0 1)).add (h 0 2)).add (h 1 0)).add (h 1 1)).add (h 1 2)).add (h 2 0)).add (h 2 1)).add (h 2 2)).add (H.f6 _))

end Cert.Proof.EncVal
-- ==== Proof.EncPt.lean ====
/- The encoder's row numbers and loss are the reference's, for finite arguments. -/
module
public import proofs.«01_k».proof.Proof.EncAll
public import proofs.«01_k».proof.Proof.EncWin
public import proofs.«01_k».proof.Proof.EncW
public import proofs.«01_k».proof.Proof.EncW2
public import proofs.«01_k».proof.Proof.EncSum
public import proofs.«01_k».proof.Proof.EncFin
@[expose] public section
set_option maxRecDepth 16384
noncomputable section
open Idealize.ShloMosaic Idealize.ShloMosaic.TcCoe Idealize.SL.Sem
namespace Cert.Proof.EncPt
open Cert.EncoderIdeal Cert.EncoderIdeal.Gen Cert.Proof.EncVal Cert.Proof.EncWin Cert.Proof.EncW Cert.Proof.EncRun Cert.Proof.EncMin
open Cert.EncoderReferenceIdeal.Value
variable (V0 : Valuation Cert.EncoderReferenceIdeal.τ Cert.EncoderReferenceIdeal.sig (Elt Ideal))
variable (m : (ℓ : Loc nD τ sig) → Buf (Elt Ideal) ℓ) (c : Dev nD)

/-- Argument 0 is the kernel's. -/
def Same0 : Prop := (m (c, Proc.tc.devRef main_arg0) : Vec Ideal S16x3x224x224 .f32) = V0 (Proc.tc.devRef Cert.EncoderReferenceIdeal.main_arg0)
/-- Argument 1 is the kernel's. -/
def Same1 : Prop := (m (c, Proc.tc.devRef main_arg1) : Vec Ideal S128x3x4x4 .f32) = V0 (Proc.tc.devRef Cert.EncoderReferenceIdeal.main_arg1)
/-- Argument 2 is the kernel's. -/
def Same2 : Prop := (m (c, Proc.tc.devRef main_arg2) : Vec Ideal S128 .f32) = V0 (Proc.tc.devRef Cert.EncoderReferenceIdeal.main_arg2)
/-- Argument 3 is the kernel's. -/
def Same3 : Prop := (m (c, Proc.tc.devRef main_arg3) : Vec Ideal S128x128x4x4 .f32) = V0 (Proc.tc.devRef Cert.EncoderReferenceIdeal.main_arg3)
/-- Argument 4 is the kernel's. -/
def Same4 : Prop := (m (c, Proc.tc.devRef main_arg4) : Vec Ideal S128 .f32) = V0 (Proc.tc.devRef Cert.EncoderReferenceIdeal.main_arg4)
/-- Argument 5 is the kernel's. -/
def Same5 : Prop := (m (c, Proc.tc.devRef main_arg5) : Vec Ideal S32x128x3x3 .f32) = V0 (Proc.tc.devRef Cert.EncoderReferenceIdeal.main_arg5)
/-- Argument 6 is the kernel's. -/
def Same6 : Prop := (m (c, Proc.tc.devRef main_arg6) : Vec Ideal S32 .f32) = V0 (Proc.tc.devRef Cert.EncoderReferenceIdeal.main_arg6)
/-- Argument 7 is the kernel's. -/
def Same7 : Prop := (m (c, Proc.tc.devRef main_arg7) : Vec Ideal S1024x32 .f32) = V0 (Proc.tc.devRef Cert.EncoderReferenceIdeal.main_arg7)

/-- The reference's arguments are the kernel's. -/
structure Agree : Prop where
  a0 : Same0 V0 m c
  a1 : Same1 V0 m c
  a2 : Same2 V0 m c
  a3 : Same3 V0 m c
  a4 : Same4 V0 m c
  a5 : Same5 V0 m c
  a6 : Same6 V0 m c
  a7 : Same7 V0 m c

/-- The reference's rows and codebook as real numbers, with the nearest codebook row of each. -/
structure Reals (z : Fin 50176 → Fin 32 → ℝ) (C : Fin 1024 → Fin 32 → ℝ) (b : Fin 50176 → Fin 1024) : Prop where
  hz : ∀ p k, (res_main_v73 V0 : Vec Ideal Cert.EncoderReferenceIdeal.S50176x32 .f32) (ix2 p k) = (z p k : EReal)
  hC : ∀ j k, (V0 (Proc.tc.devRef Cert.EncoderReferenceIdeal.main_arg7) : Vec Ideal S1024x32 .f32) (ix2 j k) = (C j k : EReal)
  hb : ∀ p, best (fun j => dist (fun k => (z p k : EReal)) fun k => (C j k : EReal)) = BitVec.ofNat 32 (b p).val
  hl : ∀ p, (least fun j => score (fun k => (z p k : EReal)) fun k => (C j k : EReal)) = (scoreR (z p) (C (b p)) : EReal)

theorem reals_of_finite (H : FiniteArgs V0) : ∃ z C b, Reals V0 z C b := by
  choose z hz using fun (p : Fin 50176) (k : Fin 32) => re_v73 H p k
  choose C hC using fun (j : Fin 1024) (k : Fin 32) => H.f7 (ix2 j k)
  choose b hb using fun p : Fin 50176 => best_real (z p) C
  exact ⟨z, C, b, hz, hC, fun p => (hb p).1, fun p => (hb p).2⟩

variable {V0 m c} {zr : Fin 50176 → Fin 32 → ℝ} {Cr : Fin 1024 → Fin 32 → ℝ} {b : Fin 50176 → Fin 1024}

/-- A row's squared distance to its nearest codebook row. -/
def share (zr : Fin 50176 → Fin 32 → ℝ) (Cr : Fin 1024 → Fin 32 → ℝ) (b : Fin 50176 → Fin 1024) (p : Fin 50176) : ℝ :=
  (∑ k, zr p k * zr p k) + scoreR (zr p) (Cr (b p))

section Reference
variable (R : Reals V0 zr Cr b)
include R

theorem v94_best (p : Fin 50176) : (res_main_v94 V0 : IVec Cert.EncoderReferenceIdeal.S50176 32) (ix1 p) = best fun j => dist (fun k => (zr p k : EReal)) fun k => (Cr j k : EReal) := by
  rw [v94_eq, refIdx_at, v87_eq]
  refine congrArg best (funext fun j => (refDist_at _ _ p j).trans ?_)
  exact congrArg₂ dist (funext fun k => R.hz p k) (funext fun k => R.hC j k)

theorem v94_row (p : Fin 50176) : (res_main_v94 V0 : IVec Cert.EncoderReferenceIdeal.S50176 32) (ix1 p) = BitVec.ofNat 32 (b p).val := (v94_best R p).trans (R.hb p)

theorem v94_lt (j : Cert.EncoderReferenceIdeal.S50176.Idx) : ((res_main_v94 V0 : IVec Cert.EncoderReferenceIdeal.S50176 32) j).toNat < 1024 := by
  obtain ⟨p, rfl⟩ : ∃ p : Fin 50176, j = ix1 p := ⟨j 0, by funext a; fin_cases a; rfl⟩
  rw [v94_row R p, BitVec.toNat_ofNat]
  exact (Nat.mod_le _ _).trans_lt (b p).isLt

theorem v96_row (p : Fin 50176) (k : Fin 32) : (res_main_v96 V0 : Vec Ideal Cert.EncoderReferenceIdeal.S50176x32 .f32) (ix2 p k) = ((Cr (b p) k - zr p k : ℝ) : EReal) := by
  rw [v96_eq, refTake_at _ _ _ (v94_lt R) p k (b p) (v94_row R p), EReal.coe_sub]
  exact congrArg₂ (fun x y : EReal => x - y) (R.hC _ k) (R.hz p k)

/-- The reference's loss is the scaled sum of the rows' shares. -/
theorem ref_loss : (refLoss (res_main_v96 V0) : Vec Ideal S_ .f32) ix0 = ((5 / 6422528 * ∑ p, share zr Cr b p : ℝ) : EReal) := by
  rw [refLoss_at, refMean_at]
  simp only [v96_row R]
  refine (mean_coe fun p k => Cr (b p) k - zr p k).trans ?_
  simp only [square_sum, share]
end Reference

section Kernel
variable (h : Agree V0 m c)
include h

theorem stage1 (t : Fin cfg0.N) : In1 V0 (iblk m c 0 t) (iblk m c 1 t) (iblk m c 2 t) ⟨t.val, lt16 t⟩ where
  hX := fun r s hr hs hs' a b e => (blk0 m c t _ _ _).trans ((v489_at m c _ r s hr hs hs' a b e).trans (congrArg (fun A : Vec Ideal S16x3x224x224 .f32 => img A ⟨t.val, lt16 t⟩ e (4 * r + a.val) (4 * s + b.val)) h.a0))
  hW := fun i j a b e o => (blk1 m c t _ _ _).trans ((v425_at m c i j a b e o).trans (congrArg (fun A : Vec Ideal S128x3x4x4 .f32 => tap1 A i.val j.val a.val b.val e o) h.a1))
  hB := fun j o => (blk2 m c t 0 _).trans ((v481_at m c j o).trans (congrFun h.a2 _))

theorem stage3 (t : Fin cfg0.N) : In3 V0 (h2 m c t) (iblk m c 5 t) (iblk m c 6 t) ⟨t.val, lt16 t⟩ :=
  in3 V0 (in2 V0 (stage1 h t) (iblk m c 3 t) (iblk m c 4 t)
      (fun i k o => (blk3 m c t i k o).trans ((v475_at m c i k o).trans (congrFun h.a3 _)))
      (fun o => (blk4 m c t 0 o).trans ((v482_at m c o).trans (congrFun h.a4 _)))) _ _
    (fun ky kx k o => (blk5 m c t _ k o).trans ((v477_at m c ky kx k o).trans (congrFun h.a5 _)))
    (fun o => (blk6 m c t 0 o).trans ((v483_at m c o).trans (congrFun h.a6 _)))

/-- The row of a place of a grid point. -/
def rowOf (t : Fin cfg0.N) (q : Fin 3136) : Fin 50176 := ⟨3136 * t.val + q.val, by have := lt16 t; omega⟩

theorem z_row (t : Fin cfg0.N) (q : Fin 3136) (k : Fin 32) : z m c t (ix2 q k) = (res_main_v73 V0 : Vec Ideal Cert.EncoderReferenceIdeal.S50176x32 .f32) (ix2 (rowOf t q) k) := by
  have e := conv3_at V0 (stage3 h t) ⟨q.val / 56, by omega⟩ ⟨q.val % 56, by omega⟩ k
  have e1 : (⟨56 * (q.val / 56) + q.val % 56, by omega⟩ : Fin 3136) = q := Fin.ext (by dsimp only; omega)
  have e2 : (⟨t.val * 3136 + q.val / 56 * 56 + q.val % 56, by have := lt16 t; omega⟩ : Fin 50176) = rowOf t q := Fin.ext (by dsimp only [rowOf]; omega)
  refine (congrArg (fun q => z m c t (ix2 q k)) e1.symm).trans (e.trans (congrArg (fun p => (res_main_v73 V0 : Vec Ideal Cert.EncoderReferenceIdeal.S50176x32 .f32) (ix2 p k)) e2))

theorem cb_row (t : Fin cfg0.N) (k : Fin 32) (j : Fin 1024) : (iblk m c 7 t : Vec Ideal S32x1024 .f32) (ix2 k j)
    = (V0 (Proc.tc.devRef Cert.EncoderReferenceIdeal.main_arg7) : Vec Ideal S1024x32 .f32) (ix2 j k) :=
  (blk7 m c t k j).trans ((v490_at m c k j).trans (congrFun h.a7 _))

variable (R : Reals V0 zr Cr b)
include R

theorem score_row (t : Fin cfg0.N) (q : Fin 3136) (j : Fin 1024) :
    score (fun k => z m c t (ix2 q k)) (fun k => (iblk m c 7 t : Vec Ideal S32x1024 .f32) (ix2 k j))
      = score (fun k => (zr (rowOf t q) k : EReal)) fun k => (Cr j k : EReal) :=
  congrArg₂ score (funext fun k => (z_row h t q k).trans (R.hz _ k)) (funext fun k => (cb_row h t k j).trans (R.hC j k))

/-- A grid point's row numbers. -/
theorem idx_point (t : Fin cfg0.N) (q : Fin 3136) :
    ((outsAt0 m c t.val t.isLt).1 : Vec Ideal S1x3136x1 .i32) (ix3 0 q 0) = (res_main_v94 V0 : IVec Cert.EncoderReferenceIdeal.S50176 32) (ix1 (rowOf t q)) := by
  rw [idx_eq, idxOut_at _ _ _ fun q k => z0_at _ _ _ q k, v94_best R, ← best_dist]
  exact congrArg best (funext fun j => score_row h R t q j)

/-- A grid point adds the shares of its rows. -/
theorem loss_point (t : Fin cfg0.N) (l : Vec Ideal S1x1 .f32) (r : ℝ) (hl : l (ix2 0 0) = (r : EReal)) :
    (lossOut (z m c t) (zz (h2 m c t) (iblk m c 5 t) (iblk m c 6 t)) (z0 (h2 m c t) (iblk m c 5 t) (iblk m c 6 t)) (iblk m c 7 t) l (ix2 0 0) : EReal)
      = ((r + 5 / 6422528 * ∑ q : Fin 3136, share zr Cr b (rowOf t q) : ℝ) : EReal) := by
  rw [lossOut_at _ _ _ _ _ (fun q k => z0_at _ _ _ q k) (zz_at _ _ _)]
  refine Eq.trans ?_ (share_coe 3136 (fun q => zr (rowOf t q)) (fun q => scoreR (zr (rowOf t q)) (Cr (b (rowOf t q)))) (l (ix2 0 0)) r hl)
  refine congrArg (fun v : EReal => l (ix2 0 0) + ((5 / 6422528 : ℝ) : EReal) * v) (congrArg₂ (fun v w : EReal => v + w) ?_ ?_)
  · refine Finset.sum_congr rfl fun q _ => Finset.sum_congr rfl fun k _ => ?_
    have e : z m c t (ix2 q k) = (zr (rowOf t q) k : EReal) := (z_row h t q k).trans (R.hz _ k)
    exact congrArg₂ (fun x y : EReal => x * y) e e
  · refine Finset.sum_congr rfl fun q _ => (congrArg least (funext fun j => score_row h R t q j)).trans (R.hl _)

/-- The shares by row number. -/
def shareN (zr : Fin 50176 → Fin 32 → ℝ) (Cr : Fin 1024 → Fin 32 → ℝ) (b : Fin 50176 → Fin 1024) (i : ℕ) : ℝ :=
  if hi : i < 50176 then share zr Cr b ⟨i, hi⟩ else 0

omit h R in
theorem step_sum (t : Fin cfg0.N) : ∑ i ∈ Finset.range (3136 * (t.val + 1)), shareN zr Cr b i
    = (∑ i ∈ Finset.range (3136 * t.val), shareN zr Cr b i) + ∑ q : Fin 3136, share zr Cr b (rowOf t q) := by
  rw [Nat.mul_succ, Finset.sum_range_add, Finset.sum_range fun i => shareN zr Cr b (3136 * t.val + i)]
  refine congrArg (fun v : ℝ => _ + v) (Finset.sum_congr rfl fun q _ => ?_)
  exact dif_pos (rowOf t q).isLt

/-- The loss after each grid point. -/
theorem loss_upto : ∀ (n : ℕ) (hn : n < cfg0.N), ((outsAt0 m c n hn).2.1 : Vec Ideal S1x1 .f32) (ix2 0 0)
    = ((5 / 6422528 * ∑ i ∈ Finset.range (3136 * (n + 1)), shareN zr Cr b i : ℝ) : EReal) := by
  intro n
  induction n with
  | zero =>
    intro hn
    rw [step_sum ⟨0, hn⟩, loss_A m c ⟨0, hn⟩ rfl]
    refine (loss_point h R ⟨0, hn⟩ _ 0 ?_).trans ?_
    · pointwise [k0_pay7]
      exact EReal.coe_zero.symm
    · simp
  | succ n ih =>
    intro hn
    have h16 := lt16 (⟨n + 1, hn⟩ : Fin cfg0.N)
    rw [step_sum ⟨n + 1, hn⟩, loss_eq m c ⟨n + 1, hn⟩ (by dsimp only at h16 ⊢; omega)]
    refine (loss_point h R ⟨n + 1, hn⟩ _ _ (ih (by omega))).trans ?_
    exact congrArg Real.toEReal (mul_add _ _ _).symm

omit h R in
theorem all_sum : ∑ i ∈ Finset.range (3136 * (15 + 1)), shareN zr Cr b i = ∑ p, share zr Cr b p :=
  (Finset.sum_range fun i => shareN zr Cr b i).trans (Finset.sum_congr rfl fun p _ => dif_pos p.isLt)

end Kernel

/-- Row numbers by place, as the launch holds them. -/
def placed (u : IVec Cert.EncoderReferenceIdeal.S50176 32) : Vec Ideal S16x3136x1 .i32 := fun i =>
  u (ix1 ⟨3136 * (i 0).val + (i 1).val, by have := (i 0).isLt; have := (i 1).isLt; dsimp at *; omega⟩)

/-- Placed row numbers, flattened. -/
theorem placed_flat (u : IVec Cert.EncoderReferenceIdeal.S50176 32) : (shapeCast S50176 (placed u) shapeCasts_S16x3136x1_S50176 : Vec Ideal S50176 .i32) = u := by
  funext i
  obtain ⟨p, rfl⟩ : ∃ p : Fin 50176, i = ix1 p := ⟨i 0, by funext a; fin_cases a; rfl⟩
  pointwise [placed]
  refine congrArg (fun p => u (ix1 p)) (Fin.ext ?_)
  dsimp only
  omega

/-- The launch's row numbers. -/
theorem launch_idx (h : Agree V0 m c) (R : Reals V0 zr Cr b) : ((dats m 0 c).arrAt 8 cfg0.N : Vec Ideal S16x3136x1 .i32) = placed (res_main_v94 V0) :=
  final8 m c (placed (res_main_v94 V0)) fun t q => idx_point h R t q

/-- The row numbers the encoder leaves. -/
theorem result_idx (h : Agree V0 m c) (H : FiniteArgs V0) : (Pipeline.afterTail₀ cfgs (dats m) 0 (Cert.EncoderIdeal.Gen.V0 m) [hostOps1] c main_v492 : Vec Ideal S50176 .i32)
    = (res_main_v94 V0 : IVec Cert.EncoderReferenceIdeal.S50176 32) := by
  obtain ⟨zr, Cr, b, R⟩ := reals_of_finite V0 H
  refine (tail8 m c).trans ((congrArg (fun v : Vec Ideal S16x3136x1 .i32 => (shapeCast S50176 v shapeCasts_S16x3136x1_S50176 : Vec Ideal S50176 .i32)) (launch_idx h R)).trans ?_)
  exact placed_flat (res_main_v94 V0)

/-- The loss the encoder leaves. -/
theorem result_loss (h : Agree V0 m c) (H : FiniteArgs V0) : (Pipeline.afterTail₀ cfgs (dats m) 0 (Cert.EncoderIdeal.Gen.V0 m) [hostOps1] c main_v493 : Vec Ideal S_ .f32)
    = refLoss (res_main_v96 V0) := by
  obtain ⟨zr, Cr, b, R⟩ := reals_of_finite V0 H
  funext i
  obtain rfl : i = ix0 := funext fun a => a.elim0
  refine (tail9 m c).trans (Eq.trans ?_ (ref_loss R).symm)
  rw [final9 m c (fun _ => (refLoss (res_main_v96 V0) : Vec Ideal S_ .f32) ix0) fun t ht => ?_]
  · exact ref_loss R
  · refine (loss_upto h R t.val t.isLt).trans (Eq.trans ?_ (ref_loss R).symm)
    rw [ht, all_sum]

end Cert.Proof.EncPt
-- ==== Proof.EncClaims.lean ====
/- The claims about the encoder: its generated frames, and that its row numbers and loss are the reference's. -/
module
public import proofs.«01_k».proof.Defs
public import proofs.«01_k».proof.Proof.EncPt
public import proofs.«01_k».proof.Proof.Gen.Encoder.Frame
public import Idealize.ShloMosaic.Lib.Quiescent
@[expose] public section
set_option maxRecDepth 16384
noncomputable section
open Idealize.ShloMosaic Idealize.ShloMosaic.TcCoe Idealize.SL.Sem
namespace Cert.Proof.EncClaims
open Cert.EncoderIdeal Cert.EncoderIdeal.Gen Cert.Proof.EncPt Cert.Proof.EncVal
variable (m : (ℓ : Loc nD τ sig) → Buf (Elt Ideal) ℓ) (ρ : Dev nD → PrngReg)

/-- The encoder's run leaves what its closing host code makes of the launch's results. -/
theorem kernel_run : θ_run defs (onTc (τ := τ) (main (F := Ideal))) ⟨m, fun _ => 0, ρ⟩ fun r => ∀ c : Dev nD,
      r.2.mem ((c.tc : Thread nD τ).loc main_v492) = Pipeline.afterTail₀ cfgs (dats m) 0 (Cert.EncoderIdeal.Gen.V0 m) [hostOps1] c main_v492
      ∧ r.2.mem ((c.tc : Thread nD τ).loc main_v493) = Pipeline.afterTail₀ cfgs (dats m) 0 (Cert.EncoderIdeal.Gen.V0 m) [hostOps1] c main_v493 :=
  (θ_run defs _ _).mono (fun r h c => ⟨(h c).2 main_v492 (Pipeline.mem_restRefs_of main_v492 (by decide) (by decide)),
    (h c).2 main_v493 (Pipeline.mem_restRefs_of main_v493 (by decide) (by decide))⟩) (run_main m ρ)

theorem frame_p : Cert.quiescent_Encoder := fun m ρ _ => Cert.Encoder.Gen.frame m ρ
theorem frame_pi : Cert.quiescent_EncoderIdeal := fun m ρ _ => Cert.EncoderIdeal.Gen.frame m ρ
theorem frame_pi_pre : Cert.quiescent_EncoderIdeal_pre_all_finite := fun m ρ _ => Cert.EncoderIdeal.Gen.frame m ρ
theorem frame_ri : Cert.quiescent_EncoderReferenceIdeal := fun m ρ _ =>
  (θ_run Cert.EncoderReferenceIdeal.defs _ _).mono (fun r h => ⟨fun c => (h c).2.2, sem_eq_zero_of_no_sems (by decide) r.2⟩)
    (Cert.EncoderReferenceIdeal.Value.run (F := Ideal) m ρ)
theorem frame_ri_pre : Cert.quiescent_EncoderReferenceIdeal_pre_all_finite := fun m ρ _ => frame_ri m ρ trivial

theorem preserves : Cert.preserves_Encoder_EncoderIdeal :=
  IdealRules.named_const.statement Cert.EncoderIdeal.κ "loss_scale" .f32 0x3550FAC7#32 _ rfl

theorem algebraic : Cert.algebraic_EncoderIdeal_EncoderReferenceIdeal_pre_all_finite := by
  intro m ρ m' ρ' hpre hagree
  have ha : ∀ c, Agree (StableHlo.launchContents m' c) m c := fun c =>
    ⟨(hagree c).1.symm, (hagree c).2.1.symm, (hagree c).2.2.1.symm, (hagree c).2.2.2.1.symm, (hagree c).2.2.2.2.1.symm, (hagree c).2.2.2.2.2.1.symm,
      (hagree c).2.2.2.2.2.2.1.symm, (hagree c).2.2.2.2.2.2.2.symm⟩
  have hf : ∀ c, FiniteArgs (StableHlo.launchContents m' c) := fun c => by
    have H := finite_of_pre _ _ _ _ _ _ _ _ (hpre c)
    exact ⟨fun i => (congrFun (ha c).a0 i).symm ▸ H.f0 i, fun i => (congrFun (ha c).a1 i).symm ▸ H.f1 i, fun i => (congrFun (ha c).a2 i).symm ▸ H.f2 i,
      fun i => (congrFun (ha c).a3 i).symm ▸ H.f3 i, fun i => (congrFun (ha c).a4 i).symm ▸ H.f4 i, fun i => (congrFun (ha c).a5 i).symm ▸ H.f5 i,
      fun i => (congrFun (ha c).a6 i).symm ▸ H.f6 i, fun i => (congrFun (ha c).a7 i).symm ▸ H.f7 i⟩
  refine ⟨fun c => _, fun c => _, ?_, Cert.EncoderReferenceIdeal.Value.run (F := Ideal) m' ρ'⟩
  refine (θ_run defs _ _).mono (fun r hr c => ?_) (θ_run_and (kernel_run m ρ) (unchanged m ρ))
  exact ⟨(hr.1 c).1.trans (result_idx (ha c) (hf c)), (hr.1 c).2.trans (result_loss (ha c) (hf c)), hr.2 c⟩
end Cert.Proof.EncClaims
-- ==== Proof.DecRun.lean ====
/- What the decoder's body leaves at a grid point, as three functions of the point's blocks: the scratch of the first two
   stages reads as each stage's block inside a frame of zeros, at the first point and at every later one. -/
module
public import proofs.«01_k».proof.Proof.Gen.DecoderIdeal.Frame
public import proofs.«01_k».proof.Proof.Frames
@[expose] public section
set_option maxRecDepth 16384
noncomputable section
open Idealize.ShloMosaic Idealize.ShloMosaic.TcCoe Idealize.SL.Sem
open Idealize.ShloMosaic.Pipeline (Dat)
namespace Cert.Proof.DecRun
open Cert.DecoderIdeal Cert.DecoderIdeal.Gen Cert.Proof.Frames
variable (m : (ℓ : Loc nD τ sig) → Buf (Elt Ideal) ℓ)

theorem framed2 : Framed (D := 32) (k0_pay2 (F := Ideal)) := fun y _ => by pointwise [k0_pay2]
theorem framed3 : Framed (D := 128) (k0_pay3 (F := Ideal)) := fun y _ => by pointwise [k0_pay3]
theorem framed4 : Framed5 (D := 128) (k0_pay4 (F := Ideal)) := fun y _ => by pointwise [k0_pay4]

/-- The point's 32 lanes. -/
def lanes (x0 : Vec Ideal S1x56x56x128 .f32) : FVec Ideal S56x56x32 .f32 :=
  k0_pay5 (View.ld x0 (Rect.unit ![0, 0, 0, 0] ![1, 56, 56, 32] inb_S1x56x56x128_S1x56x56x32_0_0_0_0))

/-- The first stage, from the framed block `P`. -/
def conv1 (P : Vec Ideal S58x64x32 .f32) (x1 : Vec Ideal S9x32x128 .f32) (x2 : Vec Ideal S1x128 .f32) : FVec Ideal S56x56x128 .f32 :=
  k0_pay10
    (k0_pay8
      (k0_pay6
        (View.ld P (Rect.unit ![0, 0, 0] ![56, 56, 32] inb_S58x64x32_S56x56x32_0_0_0))
        (View.ld x1 (Rect.unit ![0, 0, 0] ![1, 32, 128] inb_S9x32x128_S1x32x128_0_0_0))
        (View.ld P (Rect.unit ![0, 1, 0] ![56, 56, 32] inb_S58x64x32_S56x56x32_0_1_0))
        (View.ld x1 (Rect.unit ![1, 0, 0] ![1, 32, 128] inb_S9x32x128_S1x32x128_1_0_0)))
      (k0_pay7
        (View.ld P (Rect.unit ![0, 2, 0] ![56, 56, 32] inb_S58x64x32_S56x56x32_0_2_0))
        (View.ld x1 (Rect.unit ![2, 0, 0] ![1, 32, 128] inb_S9x32x128_S1x32x128_2_0_0)))
      (View.ld P (Rect.unit ![1, 0, 0] ![56, 56, 32] inb_S58x64x32_S56x56x32_1_0_0))
      (View.ld x1 (Rect.unit ![3, 0, 0] ![1, 32, 128] inb_S9x32x128_S1x32x128_3_0_0))
      (View.ld P (Rect.unit ![1, 1, 0] ![56, 56, 32] inb_S58x64x32_S56x56x32_1_1_0))
      (View.ld x1 (Rect.unit ![4, 0, 0] ![1, 32, 128] inb_S9x32x128_S1x32x128_4_0_0))
      (View.ld P (Rect.unit ![1, 2, 0] ![56, 56, 32] inb_S58x64x32_S56x56x32_1_2_0))
      (View.ld x1 (Rect.unit ![5, 0, 0] ![1, 32, 128] inb_S9x32x128_S1x32x128_5_0_0))
      (View.ld P (Rect.unit ![2, 0, 0] ![56, 56, 32] inb_S58x64x32_S56x56x32_2_0_0))
      (View.ld x1 (Rect.unit ![6, 0, 0] ![1, 32, 128] inb_S9x32x128_S1x32x128_6_0_0)))
    (k0_pay9 (View.ld P (Rect.unit ![2, 1, 0] ![56, 56, 32] inb_S58x64x32_S56x56x32_2_1_0)))
    (View.ld x1 (Rect.unit ![7, 0, 0] ![1, 32, 128] inb_S9x32x128_S1x32x128_7_0_0))
    (View.ld P (Rect.unit ![2, 2, 0] ![56, 56, 32] inb_S58x64x32_S56x56x32_2_2_0))
    (View.ld x1 (Rect.unit ![8, 0, 0] ![1, 32, 128] inb_S9x32x128_S1x32x128_8_0_0)) x2

/-- The second stage's even rows, even columns. -/
def phase00 (H : Vec Ideal S58x64x128 .f32) (x3 : Vec Ideal S4x128x128 .f32) (x4 : Vec Ideal S4x128x256 .f32) (x5 : Vec Ideal S128x512 .f32) (x6 : Vec Ideal S1x128 .f32) : FVec Ideal S1x1x56x56x128 .f32 :=
  k0_pay27
    (k0_pay18
      (k0_pay14 (View.ld x3 (Rect.unit ![0, 0, 0] ![1, 128, 128] inb_S4x128x128_S1x128x128_0_0_0))
        (View.ld H (Rect.unit ![0, 0, 0] ![56, 56, 128] inb_S58x64x128_S56x56x128_0_0_0)))
      (View.ld x4 (Rect.unit ![0, 0, 0] ![1, 128, 256] inb_S4x128x256_S1x128x256_0_0_0))
      (View.ld H (Rect.unit ![0, 1, 0] ![56, 56, 128] inb_S58x64x128_S56x56x128_0_1_0))
      (View.ld x4 (Rect.unit ![1, 0, 0] ![1, 128, 256] inb_S4x128x256_S1x128x256_1_0_0))
      (View.ld H (Rect.unit ![1, 0, 0] ![56, 56, 128] inb_S58x64x128_S56x56x128_1_0_0)) x5
      (View.ld H (Rect.unit ![1, 1, 0] ![56, 56, 128] inb_S58x64x128_S56x56x128_1_1_0)))
    x6

/-- The second stage's even rows, odd columns. -/
def phase01 (H : Vec Ideal S58x64x128 .f32) (x3 : Vec Ideal S4x128x128 .f32) (x4 : Vec Ideal S4x128x256 .f32) (x5 : Vec Ideal S128x512 .f32) (x6 : Vec Ideal S1x128 .f32) : FVec Ideal S1x1x56x56x128 .f32 :=
  k0_pay28
    (k0_pay23
      (k0_pay19 k0_pay11
        (View.ld x4 (Rect.unit ![0, 0, 0] ![1, 128, 256] inb_S4x128x256_S1x128x256_0_0_0))
        (View.ld H (Rect.unit ![0, 1, 0] ![56, 56, 128] inb_S58x64x128_S56x56x128_0_1_0))
        (View.ld x3 (Rect.unit ![1, 0, 0] ![1, 128, 128] inb_S4x128x128_S1x128x128_1_0_0))
        (View.ld H (Rect.unit ![0, 2, 0] ![56, 56, 128] inb_S58x64x128_S56x56x128_0_2_0)) x5
        (View.ld H (Rect.unit ![1, 1, 0] ![56, 56, 128] inb_S58x64x128_S56x56x128_1_1_0)))
      (View.ld x4 (Rect.unit ![2, 0, 0] ![1, 128, 256] inb_S4x128x256_S1x128x256_2_0_0))
      (View.ld H (Rect.unit ![1, 2, 0] ![56, 56, 128] inb_S58x64x128_S56x56x128_1_2_0)))
    x6

/-- The second stage's odd rows, even columns. -/
def phase10 (H : Vec Ideal S58x64x128 .f32) (x3 : Vec Ideal S4x128x128 .f32) (x4 : Vec Ideal S4x128x256 .f32) (x5 : Vec Ideal S128x512 .f32) (x6 : Vec Ideal S1x128 .f32) : FVec Ideal S1x1x56x56x128 .f32 :=
  k0_pay29
    (k0_pay25
      (k0_pay20 k0_pay12
        (View.ld x4 (Rect.unit ![1, 0, 0] ![1, 128, 256] inb_S4x128x256_S1x128x256_1_0_0))
        (View.ld H (Rect.unit ![1, 0, 0] ![56, 56, 128] inb_S58x64x128_S56x56x128_1_0_0)) x5
        (View.ld H (Rect.unit ![1, 1, 0] ![56, 56, 128] inb_S58x64x128_S56x56x128_1_1_0)))
      (View.ld x3 (Rect.unit ![2, 0, 0] ![1, 128, 128] inb_S4x128x128_S1x128x128_2_0_0))
      (View.ld H (Rect.unit ![2, 0, 0] ![56, 56, 128] inb_S58x64x128_S56x56x128_2_0_0))
      (View.ld x4 (Rect.unit ![3, 0, 0] ![1, 128, 256] inb_S4x128x256_S1x128x256_3_0_0))
      (View.ld H (Rect.unit ![2, 1, 0] ![56, 56, 128] inb_S58x64x128_S56x56x128_2_1_0)))
    x6

/-- The second stage's odd rows, odd columns. -/
def phase11 (H : Vec Ideal S58x64x128 .f32) (x3 : Vec Ideal S4x128x128 .f32) (x4 : Vec Ideal S4x128x256 .f32) (x5 : Vec Ideal S128x512 .f32) (x6 : Vec Ideal S1x128 .f32) : FVec Ideal S1x1x56x56x128 .f32 :=
  k0_pay31
    (k0_pay26 k0_pay13
      (k0_pay21 x5 (View.ld H (Rect.unit ![1, 1, 0] ![56, 56, 128] inb_S58x64x128_S56x56x128_1_1_0)))
      (View.ld x4 (Rect.unit ![2, 0, 0] ![1, 128, 256] inb_S4x128x256_S1x128x256_2_0_0))
      (View.ld H (Rect.unit ![1, 2, 0] ![56, 56, 128] inb_S58x64x128_S56x56x128_1_2_0))
      (View.ld x4 (Rect.unit ![3, 0, 0] ![1, 128, 256] inb_S4x128x256_S1x128x256_3_0_0))
      (View.ld H (Rect.unit ![2, 1, 0] ![56, 56, 128] inb_S58x64x128_S56x56x128_2_1_0))
      (View.ld x3 (Rect.unit ![3, 0, 0] ![1, 128, 128] inb_S4x128x128_S1x128x128_3_0_0))
      (View.ld H (Rect.unit ![2, 2, 0] ![56, 56, 128] inb_S58x64x128_S56x56x128_2_2_0)))
    (k0_pay30 x6)

/-- The third stage, from the four framed planes. -/
def conv3 (H : Vec Ideal S2x2x58x64x128 .f32) (x7 : Vec Ideal S16x128x48 .f32) (x8 : Vec Ideal S1x48 .f32) : FVec Ideal S1x56x56x48 .f32 :=
  k0_pay1
      (k0_pay37
        (k0_pay36
          (k0_pay34
            (k0_pay32
              (View.ld H (Rect.unit ![1, 1, 0, 0, 0] ![1, 1, 56, 56, 128] inb_S2x2x58x64x128_S1x1x56x56x128_1_1_0_0_0))
              (View.ld x7 (Rect.unit ![0, 0, 0] ![1, 128, 48] inb_S16x128x48_S1x128x48_0_0_0))
              (View.ld H (Rect.unit ![1, 0, 0, 1, 0] ![1, 1, 56, 56, 128] inb_S2x2x58x64x128_S1x1x56x56x128_1_0_0_1_0))
              (View.ld x7 (Rect.unit ![1, 0, 0] ![1, 128, 48] inb_S16x128x48_S1x128x48_1_0_0)))
            (k0_pay33
              (View.ld H (Rect.unit ![1, 1, 0, 1, 0] ![1, 1, 56, 56, 128] inb_S2x2x58x64x128_S1x1x56x56x128_1_1_0_1_0)))
            (View.ld x7 (Rect.unit ![2, 0, 0] ![1, 128, 48] inb_S16x128x48_S1x128x48_2_0_0))
            (View.ld H (Rect.unit ![1, 0, 0, 2, 0] ![1, 1, 56, 56, 128] inb_S2x2x58x64x128_S1x1x56x56x128_1_0_0_2_0))
            (View.ld x7 (Rect.unit ![3, 0, 0] ![1, 128, 48] inb_S16x128x48_S1x128x48_3_0_0))
            (View.ld H (Rect.unit ![0, 1, 1, 0, 0] ![1, 1, 56, 56, 128] inb_S2x2x58x64x128_S1x1x56x56x128_0_1_1_0_0))
            (View.ld x7 (Rect.unit ![4, 0, 0] ![1, 128, 48] inb_S16x128x48_S1x128x48_4_0_0))
            (View.ld H (Rect.unit ![0, 0, 1, 1, 0] ![1, 1, 56, 56, 128] inb_S2x2x58x64x128_S1x1x56x56x128_0_0_1_1_0))
            (View.ld x7 (Rect.unit ![5, 0, 0] ![1, 128, 48] inb_S16x128x48_S1x128x48_5_0_0)))
          (k0_pay35
            (View.ld H (Rect.unit ![0, 1, 1, 1, 0] ![1, 1, 56, 56, 128] inb_S2x2x58x64x128_S1x1x56x56x128_0_1_1_1_0)))
          (View.ld x7 (Rect.unit ![6, 0, 0] ![1, 128, 48] inb_S16x128x48_S1x128x48_6_0_0))
          (View.ld H (Rect.unit ![0, 0, 1, 2, 0] ![1, 1, 56, 56, 128] inb_S2x2x58x64x128_S1x1x56x56x128_0_0_1_2_0))
          (View.ld x7 (Rect.unit ![7, 0, 0] ![1, 128, 48] inb_S16x128x48_S1x128x48_7_0_0))
          (View.ld H (Rect.unit ![1, 1, 1, 0, 0] ![1, 1, 56, 56, 128] inb_S2x2x58x64x128_S1x1x56x56x128_1_1_1_0_0))
          (View.ld x7 (Rect.unit ![8, 0, 0] ![1, 128, 48] inb_S16x128x48_S1x128x48_8_0_0))
          (View.ld H (Rect.unit ![1, 0, 1, 1, 0] ![1, 1, 56, 56, 128] inb_S2x2x58x64x128_S1x1x56x56x128_1_0_1_1_0))
          (View.ld x7 (Rect.unit ![9, 0, 0] ![1, 128, 48] inb_S16x128x48_S1x128x48_9_0_0)))
        (View.ld H (Rect.unit ![1, 1, 1, 1, 0] ![1, 1, 56, 56, 128] inb_S2x2x58x64x128_S1x1x56x56x128_1_1_1_1_0))
        (View.ld x7 (Rect.unit ![10, 0, 0] ![1, 128, 48] inb_S16x128x48_S1x128x48_10_0_0))
        (View.ld H (Rect.unit ![1, 0, 1, 2, 0] ![1, 1, 56, 56, 128] inb_S2x2x58x64x128_S1x1x56x56x128_1_0_1_2_0))
        (View.ld x7 (Rect.unit ![11, 0, 0] ![1, 128, 48] inb_S16x128x48_S1x128x48_11_0_0))
        (View.ld H (Rect.unit ![0, 1, 2, 0, 0] ![1, 1, 56, 56, 128] inb_S2x2x58x64x128_S1x1x56x56x128_0_1_2_0_0))
        (View.ld x7 (Rect.unit ![12, 0, 0] ![1, 128, 48] inb_S16x128x48_S1x128x48_12_0_0)))
      (k0_pay38
        (View.ld H (Rect.unit ![0, 0, 2, 1, 0] ![1, 1, 56, 56, 128] inb_S2x2x58x64x128_S1x1x56x56x128_0_0_2_1_0))
        (View.ld x7 (Rect.unit ![13, 0, 0] ![1, 128, 48] inb_S16x128x48_S1x128x48_13_0_0)))
      (View.ld H (Rect.unit ![0, 1, 2, 1, 0] ![1, 1, 56, 56, 128] inb_S2x2x58x64x128_S1x1x56x56x128_0_1_2_1_0))
      (View.ld x7 (Rect.unit ![14, 0, 0] ![1, 128, 48] inb_S16x128x48_S1x128x48_14_0_0))
      (View.ld H (Rect.unit ![0, 0, 2, 2, 0] ![1, 1, 56, 56, 128] inb_S2x2x58x64x128_S1x1x56x56x128_0_0_2_2_0))
      (View.ld x7 (Rect.unit ![15, 0, 0] ![1, 128, 48] inb_S16x128x48_S1x128x48_15_0_0)) x8

variable (c : Dev nD) (t : Fin cfg0.N)

/-- The block's lanes. -/
abbrev q : FVec Ideal S56x56x32 .f32 := lanes (iblk m c 0 t)
/-- The first stage's block. -/
abbrev h1 : FVec Ideal S56x56x128 .f32 := conv1 (pad (D := 32) (q m c t)) (iblk m c 1 t) (iblk m c 2 t)

theorem sc0_A (h0 : t.val % 16 = 0) : (outsAt0 m c t.val t.isLt).2.1 = pad (D := 32) (q m c t) := by
  rw [outsAt0_A m c t h0]
  frame_out
  exact canon_store (D := 32) (View.whole cc0_scratch0) _ _ _ _ framed2

theorem sc1_A (h0 : t.val % 16 = 0) : (outsAt0 m c t.val t.isLt).2.2.1 = pad (D := 128) (h1 m c t) := by
  rw [outsAt0_A m c t h0]
  frame_out
  simp only [readCov_ld, canon_store (D := 32) (View.whole cc0_scratch0) _ _ _ _ framed2,
    canon_store (D := 128) (View.whole cc0_scratch1) _ _ _ _ framed3]
  rfl

/-- A scratch carried from the point before. -/
theorem carried (h0 : ¬t.val % 16 = 0) : t.val - 1 < cfg0.N := by have := t.isLt; omega

theorem read_carried32 {X : FVec Ideal S58x64x32 .f32} (hX : Framed (D := 32) X) (hw : (Memref.whole (sig := sig) (κ := .tc) cc0_scratch0).IsWhole) (inb) (w : FVec Ideal (Blk 32) .f32) :
    View.read (Elt Ideal) (View.whole cc0_scratch0) ((View.whole cc0_scratch0).writes (Elt Ideal) (hw.unread X)
      [⟨Rect.unit (s := Frm 32) ![1, 1, 0] ![56, 56, 32] inb, w⟩]) = pad (D := 32) w := by
  refine read_store (D := 32) (View.whole cc0_scratch0) inb w _ [] ?_
  rw [View.writes_nil]
  exact (read_unread_whole (Val := Elt Ideal) cc0_scratch0 hw X).symm ▸ hX

theorem sc0_B (h0 : ¬t.val % 16 = 0) (hX : Framed (D := 32) (outsAt0 m c (t.val - 1) (carried t h0)).2.1) :
    (outsAt0 m c t.val t.isLt).2.1 = pad (D := 32) (q m c t) := by
  rw [outsAt0_B m c t h0]
  frame_out
  exact read_carried32 hX _ _ _

theorem read_carried128 {X : FVec Ideal S58x64x128 .f32} (hX : Framed (D := 128) X) (hw : (Memref.whole (sig := sig) (κ := .tc) cc0_scratch1).IsWhole) (inb) (w : FVec Ideal (Blk 128) .f32) :
    View.read (Elt Ideal) (View.whole cc0_scratch1) ((View.whole cc0_scratch1).writes (Elt Ideal) (hw.unread X)
      [⟨Rect.unit (s := Frm 128) ![1, 1, 0] ![56, 56, 128] inb, w⟩]) = pad (D := 128) w := by
  refine read_store (D := 128) (View.whole cc0_scratch1) inb w _ [] ?_
  rw [View.writes_nil]
  exact (read_unread_whole (Val := Elt Ideal) cc0_scratch1 hw X).symm ▸ hX

theorem sc1_B (h0 : ¬t.val % 16 = 0) (hX : Framed (D := 32) (outsAt0 m c (t.val - 1) (carried t h0)).2.1)
    (hY : Framed (D := 128) (outsAt0 m c (t.val - 1) (carried t h0)).2.2.1) :
    (outsAt0 m c t.val t.isLt).2.2.1 = pad (D := 128) (h1 m c t) := by
  rw [outsAt0_B m c t h0]
  frame_out
  simp only [readCov_inside (D := 32), read_carried32 hX, read_carried128 hY]
  rfl

/-- The second stage's four planes in their frames. -/
abbrev h2 : FVec Ideal S2x2x58x64x128 .f32 :=
  pad5 (D := 128) (phase00 (pad (D := 128) (h1 m c t)) (iblk m c 3 t) (iblk m c 4 t) (iblk m c 5 t) (iblk m c 6 t))
    (phase01 (pad (D := 128) (h1 m c t)) (iblk m c 3 t) (iblk m c 4 t) (iblk m c 5 t) (iblk m c 6 t))
    (phase10 (pad (D := 128) (h1 m c t)) (iblk m c 3 t) (iblk m c 4 t) (iblk m c 5 t) (iblk m c 6 t))
    (phase11 (pad (D := 128) (h1 m c t)) (iblk m c 3 t) (iblk m c 4 t) (iblk m c 5 t) (iblk m c 6 t))

theorem sc2_A (h0 : t.val % 16 = 0) : (outsAt0 m c t.val t.isLt).2.2.2 = h2 m c t := by
  rw [outsAt0_A m c t h0]
  frame_out
  simp only [readCov_ld, canon_store (D := 32) (View.whole cc0_scratch0) _ _ _ _ framed2,
    canon_store (D := 128) (View.whole cc0_scratch1) _ _ _ _ framed3, canon_store5 (D := 128) (View.whole cc0_scratch2) _ _ _ _ _ _ _ _ _ _ framed4]
  rfl

theorem read_carried5 {X : FVec Ideal S2x2x58x64x128 .f32} (hX : Framed5 (D := 128) X) (hw : (Memref.whole (sig := sig) (κ := .tc) cc0_scratch2).IsWhole)
    (i00 i01 i10 i11) (w00 w01 w10 w11 : FVec Ideal (Blk5 128) .f32) :
    View.read (Elt Ideal) (View.whole cc0_scratch2) ((View.whole cc0_scratch2).writes (Elt Ideal) (hw.unread X)
      [⟨Rect.unit (s := Frm5 128) ![1, 1, 1, 1, 0] ![1, 1, 56, 56, 128] i11, w11⟩,
       ⟨Rect.unit (s := Frm5 128) ![1, 0, 1, 1, 0] ![1, 1, 56, 56, 128] i10, w10⟩,
       ⟨Rect.unit (s := Frm5 128) ![0, 1, 1, 1, 0] ![1, 1, 56, 56, 128] i01, w01⟩,
       ⟨Rect.unit (s := Frm5 128) ![0, 0, 1, 1, 0] ![1, 1, 56, 56, 128] i00, w00⟩]) = pad5 (D := 128) w00 w01 w10 w11 := by
  refine read_store5 (D := 128) (View.whole cc0_scratch2) i00 i01 i10 i11 w00 w01 w10 w11 _ [] ?_
  rw [View.writes_nil]
  exact (read_unread_whole (Val := Elt Ideal) cc0_scratch2 hw X).symm ▸ hX

theorem sc2_B (h0 : ¬t.val % 16 = 0) (hX : Framed (D := 32) (outsAt0 m c (t.val - 1) (carried t h0)).2.1)
    (hY : Framed (D := 128) (outsAt0 m c (t.val - 1) (carried t h0)).2.2.1)
    (hZ : Framed5 (D := 128) (outsAt0 m c (t.val - 1) (carried t h0)).2.2.2) :
    (outsAt0 m c t.val t.isLt).2.2.2 = h2 m c t := by
  rw [outsAt0_B m c t h0]
  frame_out
  simp only [readCov_inside (D := 32), read_carried32 hX, readCov_inside (D := 128), read_carried128 hY, read_carried5 hZ]
  rfl

theorem out_A (h0 : t.val % 16 = 0) : (outsAt0 m c t.val t.isLt).1 = conv3 (h2 m c t) (iblk m c 7 t) (iblk m c 8 t) := by
  rw [outsAt0_A m c t h0]
  frame_out
  simp only [readCov_ld, canon_store (D := 32) (View.whole cc0_scratch0) _ _ _ _ framed2,
    canon_store (D := 128) (View.whole cc0_scratch1) _ _ _ _ framed3, canon_store5 (D := 128) (View.whole cc0_scratch2) _ _ _ _ _ _ _ _ _ _ framed4]
  rfl

theorem out_B (h0 : ¬t.val % 16 = 0) (hX : Framed (D := 32) (outsAt0 m c (t.val - 1) (carried t h0)).2.1)
    (hY : Framed (D := 128) (outsAt0 m c (t.val - 1) (carried t h0)).2.2.1)
    (hZ : Framed5 (D := 128) (outsAt0 m c (t.val - 1) (carried t h0)).2.2.2) :
    (outsAt0 m c t.val t.isLt).1 = conv3 (h2 m c t) (iblk m c 7 t) (iblk m c 8 t) := by
  rw [outsAt0_B m c t h0]
  frame_out
  simp only [readCov_inside (D := 32), read_carried32 hX, readCov_inside (D := 128), read_carried128 hY,
    readCov_inside5 (D := 128), read_carried5 hZ]
  rfl

/-- After every point the three scratch buffers are zero off their insides. -/
theorem framed_all : ∀ (n : ℕ) (hn : n < cfg0.N), Framed (D := 32) (outsAt0 m c n hn).2.1 ∧ Framed (D := 128) (outsAt0 m c n hn).2.2.1
    ∧ Framed5 (D := 128) (outsAt0 m c n hn).2.2.2 := by
  intro n
  induction n with
  | zero =>
    intro hn
    rw [sc0_A m c ⟨0, hn⟩ rfl, sc1_A m c ⟨0, hn⟩ rfl, sc2_A m c ⟨0, hn⟩ rfl]
    exact ⟨framed_pad _, framed_pad _, framed_pad5 _ _ _ _⟩
  | succ n ih =>
    intro hn
    have h0 : ¬(n + 1) % 16 = 0 := by have : n + 1 < 16 := hn; omega
    obtain ⟨hX, hY, hZ⟩ := ih (by omega)
    rw [sc0_B m c ⟨n + 1, hn⟩ h0 hX, sc1_B m c ⟨n + 1, hn⟩ h0 hX hY, sc2_B m c ⟨n + 1, hn⟩ h0 hX hY hZ]
    exact ⟨framed_pad _, framed_pad _, framed_pad5 _ _ _ _⟩

/-- What the body leaves in the output's block at any point. -/
theorem out_eq : (outsAt0 m c t.val t.isLt).1 = conv3 (h2 m c t) (iblk m c 7 t) (iblk m c 8 t) := by
  by_cases h0 : t.val % 16 = 0
  · exact out_A m c t h0
  · obtain ⟨hX, hY, hZ⟩ := framed_all m c (t.val - 1) (carried t h0)
    exact out_B m c t h0 hX hY hZ

end Cert.Proof.DecRun
-- ==== Proof.DecVal.lean ====
/- The decoder's stages against the reference's, place by place. -/
module
public import proofs.«01_k».proof.Proof.DecRun
public import proofs.«01_k».proof.Proof.DecRef
public import Idealize.ShloMosaic.Lib.Pointwise
@[expose] public section
set_option maxRecDepth 16384
noncomputable section
open Idealize.ShloMosaic Idealize.ShloMosaic.TcCoe Idealize.SL.Sem
namespace Cert.Proof.DecVal
open Cert.DecoderIdeal Cert.DecoderIdeal.Gen Cert.Proof.Frames Cert.Proof.DecRun
open Cert.DecoderReferenceIdeal.Value (res_main_v3 res_main_v23 res_main_v52)
variable (V0 : Valuation Cert.DecoderReferenceIdeal.τ Cert.DecoderReferenceIdeal.sig (Elt Ideal))

theorem stage1 (P : Vec Ideal S58x64x32 .f32) (x1 : Vec Ideal S9x32x128 .f32) (x2 : Vec Ideal S1x128 .f32) (n : Fin 16)
    (hP : ∀ (r : Fin 58) (s : Fin 64) (hs : s.val < 58) (k : Fin 32), P (ix3 r s k) = res_main_v3 V0 (ix4 n k r ⟨s.val, hs⟩))
    (hW : ∀ (ky kx : Fin 3) (k : Fin 32) (o : Fin 128), x1 (ix3 ⟨3 * ky.val + kx.val, by omega⟩ k o)
      = V0 (Proc.tc.devRef Cert.DecoderReferenceIdeal.main_arg1) (ix4 o k ky kx))
    (hB : ∀ o : Fin 128, x2 (ix2 0 o) = V0 (Proc.tc.devRef Cert.DecoderReferenceIdeal.main_arg2) (ix1 o))
    (y x : Fin 56) (o : Fin 128) :
    conv1 P x1 x2 (ix3 y x o) = res_main_v23 V0 (ix4 n o ⟨2 * y.val + 2, by omega⟩ ⟨2 * x.val + 2, by omega⟩) := by
  have w0 : ∀ k : Fin 32, x1 (ix3 0 k o) = _ := fun k => hW 0 0 k o
  have w1 : ∀ k : Fin 32, x1 (ix3 1 k o) = _ := fun k => hW 0 1 k o
  have w2 : ∀ k : Fin 32, x1 (ix3 2 k o) = _ := fun k => hW 0 2 k o
  have w3 : ∀ k : Fin 32, x1 (ix3 3 k o) = _ := fun k => hW 1 0 k o
  have w4 : ∀ k : Fin 32, x1 (ix3 4 k o) = _ := fun k => hW 1 1 k o
  have w5 : ∀ k : Fin 32, x1 (ix3 5 k o) = _ := fun k => hW 1 2 k o
  have w6 : ∀ k : Fin 32, x1 (ix3 6 k o) = _ := fun k => hW 2 0 k o
  have w7 : ∀ k : Fin 32, x1 (ix3 7 k o) = _ := fun k => hW 2 1 k o
  have w8 : ∀ k : Fin 32, x1 (ix3 8 k o) = _ := fun k => hW 2 2 k o
  refine Eq.trans ?_ (v23_at V0 n o y x).symm
  simp only [ref1]
  pointwise [conv1, k0_pay10, k0_pay9, k0_pay8, k0_pay7, k0_pay6]
  simp only [hB, w0, w1, w2, w3, w4, w5, w6, w7, w8]
  have hP' : ∀ (r s : ℕ) (hr : r < 58) (hs : s < 58) (hs' : s < 64) (k : Fin 32), P (ix3 ⟨r, hr⟩ ⟨s, hs'⟩ k) = res_main_v3 V0 (ix4 n k ⟨r, hr⟩ ⟨s, hs⟩) :=
    fun r s hr hs hs' k => hP ⟨r, hr⟩ ⟨s, hs'⟩ hs k
  simp (disch := omega) only [hP']

/-- The reference's dilated first stage is zero at an odd row or column. -/
theorem v23_odd (n : Fin 16) (k : Fin 128) (r s : ℕ) (hr : r < 115) (hs : s < 115) (h : r % 2 = 1 ∨ s % 2 = 1) :
    res_main_v23 V0 (ix4 n k ⟨r, hr⟩ ⟨s, hs⟩) = (0 : EReal) := by
  pointwise [res_main_v23]
  refine dif_neg fun hh => ?_
  omega

/-- And zero in its border. -/
theorem v23_border (n : Fin 16) (k : Fin 128) (r s : ℕ) (hr : r < 115) (hs : s < 115) (h : r < 2 ∨ 114 ≤ r ∨ s < 2 ∨ 114 ≤ s) :
    res_main_v23 V0 (ix4 n k ⟨r, hr⟩ ⟨s, hs⟩) = (0 : EReal) := by
  pointwise [res_main_v23]
  refine dif_neg fun hh => ?_
  omega

/-- The reference's dilated second stage is zero at an odd row or column. -/
theorem v52_odd (n : Fin 16) (k : Fin 128) (r s : ℕ) (hr : r < 227) (hs : s < 227) (h : r % 2 = 1 ∨ s % 2 = 1) :
    res_main_v52 V0 (ix4 n k ⟨r, hr⟩ ⟨s, hs⟩) = (0 : EReal) := by
  pointwise [res_main_v52]
  refine dif_neg fun hh => ?_
  have h2 := hh ⟨2, by decide⟩
  have h3 := hh ⟨3, by decide⟩
  have a2 : 2 ≤ r ∧ (r - 2) % (1 + 1) = 0 ∧ _ := h2
  have a3 : 2 ≤ s ∧ (s - 2) % (1 + 1) = 0 ∧ _ := h3
  omega

/-- And zero in its border. -/
theorem v52_border (n : Fin 16) (k : Fin 128) (r s : ℕ) (hr : r < 227) (hs : s < 227) (h : r < 2 ∨ 225 < r ∨ s < 2 ∨ 225 < s) :
    res_main_v52 V0 (ix4 n k ⟨r, hr⟩ ⟨s, hs⟩) = (0 : EReal) := by
  pointwise [res_main_v52]
  refine dif_neg fun hh => ?_
  have h2 := hh ⟨2, by decide⟩
  have h3 := hh ⟨3, by decide⟩
  have a2 : 2 ≤ r ∧ (r - 2) % (1 + 1) = 0 ∧ (r - 2) / (1 + 1) < 112 := h2
  have a3 : 2 ≤ s ∧ (s - 2) % (1 + 1) = 0 ∧ (s - 2) / (1 + 1) < 112 := h3
  omega

/-- The second stage's matrices are taps of the 4 by 4 window `W`. -/
structure Taps2 (x3 : Vec Ideal S4x128x128 .f32) (x4 : Vec Ideal S4x128x256 .f32) (x5 : Vec Ideal S128x512 .f32)
    (W : Vec Ideal S128x128x4x4 .f32) : Prop where
  c0 : ∀ k o : Fin 128, x3 (ix3 0 k o) = W (ix4 k o 3 3)
  c1 : ∀ k o : Fin 128, x3 (ix3 1 k o) = W (ix4 k o 3 0)
  c2 : ∀ k o : Fin 128, x3 (ix3 2 k o) = W (ix4 k o 0 3)
  c3 : ∀ k o : Fin 128, x3 (ix3 3 k o) = W (ix4 k o 0 0)
  e0 : ∀ (k o : Fin 128) (h : o.val < 256), x4 (ix3 0 k ⟨o.val, h⟩) = W (ix4 k o 3 1)
  e0' : ∀ (k o : Fin 128) (h : 128 + o.val < 256), x4 (ix3 0 k ⟨128 + o.val, h⟩) = W (ix4 k o 3 2)
  e1 : ∀ (k o : Fin 128) (h : o.val < 256), x4 (ix3 1 k ⟨o.val, h⟩) = W (ix4 k o 1 3)
  e1' : ∀ (k o : Fin 128) (h : 128 + o.val < 256), x4 (ix3 1 k ⟨128 + o.val, h⟩) = W (ix4 k o 2 3)
  e2 : ∀ (k o : Fin 128) (h : o.val < 256), x4 (ix3 2 k ⟨o.val, h⟩) = W (ix4 k o 1 0)
  e2' : ∀ (k o : Fin 128) (h : 128 + o.val < 256), x4 (ix3 2 k ⟨128 + o.val, h⟩) = W (ix4 k o 2 0)
  e3 : ∀ (k o : Fin 128) (h : o.val < 256), x4 (ix3 3 k ⟨o.val, h⟩) = W (ix4 k o 0 1)
  e3' : ∀ (k o : Fin 128) (h : 128 + o.val < 256), x4 (ix3 3 k ⟨128 + o.val, h⟩) = W (ix4 k o 0 2)
  m0 : ∀ (k o : Fin 128) (h : o.val < 512), x5 (ix2 k ⟨o.val, h⟩) = W (ix4 k o 1 1)
  m1 : ∀ (k o : Fin 128) (h : 128 + o.val < 512), x5 (ix2 k ⟨128 + o.val, h⟩) = W (ix4 k o 1 2)
  m2 : ∀ (k o : Fin 128) (h : 256 + o.val < 512), x5 (ix2 k ⟨256 + o.val, h⟩) = W (ix4 k o 2 1)
  m3 : ∀ (k o : Fin 128) (h : 384 + o.val < 512), x5 (ix2 k ⟨384 + o.val, h⟩) = W (ix4 k o 2 2)

/-- A tap at an odd row or column of the dilated first stage adds nothing. -/
theorem ref2_odd (n : Fin 16) (o : Fin 128) (Y X : Fin 112) (ky kx : Fin 4) (h : (ky.val + Y.val) % 2 = 1 ∨ (kx.val + X.val) % 2 = 1) :
    ref2 V0 n o Y X ky kx = 0 :=
  Finset.sum_eq_zero fun k _ => by rw [v23_odd V0 n k _ _ _ _ h]; exact zero_mul _

/-- What the second stage's lemmas assume: the framed first stage `H` is the reference's, read at the even places. -/
abbrev Reads2 (H : Vec Ideal S58x64x128 .f32) (n : Fin 16) : Prop :=
  ∀ (r s : ℕ) (hr : r < 58) (hs : s < 58) (hs' : s < 64) (k : Fin 128),
    H (ix3 ⟨r, hr⟩ ⟨s, hs'⟩ k) = res_main_v23 V0 (ix4 n k ⟨2 * r, by omega⟩ ⟨2 * s, by omega⟩)

theorem stage2_00 (H : Vec Ideal S58x64x128 .f32) (x3 : Vec Ideal S4x128x128 .f32) (x4 : Vec Ideal S4x128x256 .f32) (x5 : Vec Ideal S128x512 .f32)
    (x6 : Vec Ideal S1x128 .f32) (n : Fin 16) (hH : Reads2 V0 H n)
    (T : Taps2 x3 x4 x5 (V0 (Proc.tc.devRef Cert.DecoderReferenceIdeal.main_arg3)))
    (hB : ∀ o : Fin 128, x6 (ix2 0 o) = V0 (Proc.tc.devRef Cert.DecoderReferenceIdeal.main_arg4) (ix1 o))
    (y x : Fin 56) (o : Fin 128) :
    phase00 H x3 x4 x5 x6 (ix5 0 0 y x o) = res_main_v52 V0 (ix4 n o ⟨2 * (2 * y.val) + 2, by omega⟩ ⟨2 * (2 * x.val) + 2, by omega⟩) := by
  refine Eq.trans ?_ (v52_at V0 n o ⟨2 * y.val, by omega⟩ ⟨2 * x.val, by omega⟩).symm
  rw [ref2_odd V0 n o _ _ 0 1 (by simp <;> omega), ref2_odd V0 n o _ _ 0 3 (by simp <;> omega), ref2_odd V0 n o _ _ 1 0 (by simp <;> omega), ref2_odd V0 n o _ _ 1 1 (by simp <;> omega), ref2_odd V0 n o _ _ 1 2 (by simp <;> omega), ref2_odd V0 n o _ _ 1 3 (by simp <;> omega), ref2_odd V0 n o _ _ 2 1 (by simp <;> omega), ref2_odd V0 n o _ _ 2 3 (by simp <;> omega), ref2_odd V0 n o _ _ 3 0 (by simp <;> omega), ref2_odd V0 n o _ _ 3 1 (by simp <;> omega), ref2_odd V0 n o _ _ 3 2 (by simp <;> omega), ref2_odd V0 n o _ _ 3 3 (by simp <;> omega)]
  simp only [add_zero, zero_add, ref2]
  pointwise [phase00, k0_pay27, k0_pay18, k0_pay14, k0_pay15, k0_pay16, k0_pay17]
  have d1 : ∀ z : ℕ, 2 * (1 + z) = 2 + 2 * z := fun z => by omega
  have d2 : ∀ z : ℕ, 2 * (2 + z) = 4 + 2 * z := fun z => by omega
  have d3 : ∀ z : ℕ, 1 + (2 * z + 1) = 2 + 2 * z := fun z => by omega
  have d4 : ∀ z : ℕ, 3 + (2 * z + 1) = 4 + 2 * z := fun z => by omega
  simp (disch := omega) only [hB, T.c0, T.c1, T.c2, T.c3, T.e0, T.e0', T.e1, T.e1', T.e2, T.e2', T.e3, T.e3', T.m0, T.m1, T.m2, T.m3, hH _ _, d1, d2, d3, d4]

  rfl

theorem stage2_01 (H : Vec Ideal S58x64x128 .f32) (x3 : Vec Ideal S4x128x128 .f32) (x4 : Vec Ideal S4x128x256 .f32) (x5 : Vec Ideal S128x512 .f32)
    (x6 : Vec Ideal S1x128 .f32) (n : Fin 16) (hH : Reads2 V0 H n)
    (T : Taps2 x3 x4 x5 (V0 (Proc.tc.devRef Cert.DecoderReferenceIdeal.main_arg3)))
    (hB : ∀ o : Fin 128, x6 (ix2 0 o) = V0 (Proc.tc.devRef Cert.DecoderReferenceIdeal.main_arg4) (ix1 o))
    (y x : Fin 56) (o : Fin 128) :
    phase01 H x3 x4 x5 x6 (ix5 0 0 y x o) = res_main_v52 V0 (ix4 n o ⟨2 * (2 * y.val) + 2, by omega⟩ ⟨2 * (2 * x.val + 1) + 2, by omega⟩) := by
  refine Eq.trans ?_ (v52_at V0 n o ⟨2 * y.val, by omega⟩ ⟨2 * x.val + 1, by omega⟩).symm
  rw [ref2_odd V0 n o _ _ 0 0 (by simp <;> omega), ref2_odd V0 n o _ _ 0 2 (by simp <;> omega), ref2_odd V0 n o _ _ 1 0 (by simp <;> omega), ref2_odd V0 n o _ _ 1 1 (by simp <;> omega), ref2_odd V0 n o _ _ 1 2 (by simp <;> omega), ref2_odd V0 n o _ _ 1 3 (by simp <;> omega), ref2_odd V0 n o _ _ 2 0 (by simp <;> omega), ref2_odd V0 n o _ _ 2 2 (by simp <;> omega), ref2_odd V0 n o _ _ 3 0 (by simp <;> omega), ref2_odd V0 n o _ _ 3 1 (by simp <;> omega), ref2_odd V0 n o _ _ 3 2 (by simp <;> omega), ref2_odd V0 n o _ _ 3 3 (by simp <;> omega)]
  simp only [add_zero, zero_add, ref2]
  pointwise [phase01, k0_pay28, k0_pay23, k0_pay19, k0_pay11, k0_pay15, k0_pay17, k0_pay22]
  have d1 : ∀ z : ℕ, 2 * (1 + z) = 2 + 2 * z := fun z => by omega
  have d2 : ∀ z : ℕ, 2 * (2 + z) = 4 + 2 * z := fun z => by omega
  have d3 : ∀ z : ℕ, 1 + (2 * z + 1) = 2 + 2 * z := fun z => by omega
  have d4 : ∀ z : ℕ, 3 + (2 * z + 1) = 4 + 2 * z := fun z => by omega
  simp (disch := omega) only [hB, T.c0, T.c1, T.c2, T.c3, T.e0, T.e0', T.e1, T.e1', T.e2, T.e2', T.e3, T.e3', T.m0, T.m1, T.m2, T.m3, hH _ _, d1, d2, d3, d4]

  rfl

theorem stage2_10 (H : Vec Ideal S58x64x128 .f32) (x3 : Vec Ideal S4x128x128 .f32) (x4 : Vec Ideal S4x128x256 .f32) (x5 : Vec Ideal S128x512 .f32)
    (x6 : Vec Ideal S1x128 .f32) (n : Fin 16) (hH : Reads2 V0 H n)
    (T : Taps2 x3 x4 x5 (V0 (Proc.tc.devRef Cert.DecoderReferenceIdeal.main_arg3)))
    (hB : ∀ o : Fin 128, x6 (ix2 0 o) = V0 (Proc.tc.devRef Cert.DecoderReferenceIdeal.main_arg4) (ix1 o))
    (y x : Fin 56) (o : Fin 128) :
    phase10 H x3 x4 x5 x6 (ix5 0 0 y x o) = res_main_v52 V0 (ix4 n o ⟨2 * (2 * y.val + 1) + 2, by omega⟩ ⟨2 * (2 * x.val) + 2, by omega⟩) := by
  refine Eq.trans ?_ (v52_at V0 n o ⟨2 * y.val + 1, by omega⟩ ⟨2 * x.val, by omega⟩).symm
  rw [ref2_odd V0 n o _ _ 0 0 (by simp <;> omega), ref2_odd V0 n o _ _ 0 1 (by simp <;> omega), ref2_odd V0 n o _ _ 0 2 (by simp <;> omega), ref2_odd V0 n o _ _ 0 3 (by simp <;> omega), ref2_odd V0 n o _ _ 1 1 (by simp <;> omega), ref2_odd V0 n o _ _ 1 3 (by simp <;> omega), ref2_odd V0 n o _ _ 2 0 (by simp <;> omega), ref2_odd V0 n o _ _ 2 1 (by simp <;> omega), ref2_odd V0 n o _ _ 2 2 (by simp <;> omega), ref2_odd V0 n o _ _ 2 3 (by simp <;> omega), ref2_odd V0 n o _ _ 3 1 (by simp <;> omega), ref2_odd V0 n o _ _ 3 3 (by simp <;> omega)]
  simp only [add_zero, zero_add, ref2]
  pointwise [phase10, k0_pay29, k0_pay25, k0_pay20, k0_pay12, k0_pay16, k0_pay17, k0_pay24]
  have d1 : ∀ z : ℕ, 2 * (1 + z) = 2 + 2 * z := fun z => by omega
  have d2 : ∀ z : ℕ, 2 * (2 + z) = 4 + 2 * z := fun z => by omega
  have d3 : ∀ z : ℕ, 1 + (2 * z + 1) = 2 + 2 * z := fun z => by omega
  have d4 : ∀ z : ℕ, 3 + (2 * z + 1) = 4 + 2 * z := fun z => by omega
  simp (disch := omega) only [hB, T.c0, T.c1, T.c2, T.c3, T.e0, T.e0', T.e1, T.e1', T.e2, T.e2', T.e3, T.e3', T.m0, T.m1, T.m2, T.m3, hH _ _, d1, d2, d3, d4]

  rfl

theorem stage2_11 (H : Vec Ideal S58x64x128 .f32) (x3 : Vec Ideal S4x128x128 .f32) (x4 : Vec Ideal S4x128x256 .f32) (x5 : Vec Ideal S128x512 .f32)
    (x6 : Vec Ideal S1x128 .f32) (n : Fin 16) (hH : Reads2 V0 H n)
    (T : Taps2 x3 x4 x5 (V0 (Proc.tc.devRef Cert.DecoderReferenceIdeal.main_arg3)))
    (hB : ∀ o : Fin 128, x6 (ix2 0 o) = V0 (Proc.tc.devRef Cert.DecoderReferenceIdeal.main_arg4) (ix1 o))
    (y x : Fin 56) (o : Fin 128) :
    phase11 H x3 x4 x5 x6 (ix5 0 0 y x o) = res_main_v52 V0 (ix4 n o ⟨2 * (2 * y.val + 1) + 2, by omega⟩ ⟨2 * (2 * x.val + 1) + 2, by omega⟩) := by
  refine Eq.trans ?_ (v52_at V0 n o ⟨2 * y.val + 1, by omega⟩ ⟨2 * x.val + 1, by omega⟩).symm
  rw [ref2_odd V0 n o _ _ 0 0 (by simp <;> omega), ref2_odd V0 n o _ _ 0 1 (by simp <;> omega), ref2_odd V0 n o _ _ 0 2 (by simp <;> omega), ref2_odd V0 n o _ _ 0 3 (by simp <;> omega), ref2_odd V0 n o _ _ 1 0 (by simp <;> omega), ref2_odd V0 n o _ _ 1 2 (by simp <;> omega), ref2_odd V0 n o _ _ 2 0 (by simp <;> omega), ref2_odd V0 n o _ _ 2 1 (by simp <;> omega), ref2_odd V0 n o _ _ 2 2 (by simp <;> omega), ref2_odd V0 n o _ _ 2 3 (by simp <;> omega), ref2_odd V0 n o _ _ 3 0 (by simp <;> omega), ref2_odd V0 n o _ _ 3 2 (by simp <;> omega)]
  simp only [add_zero, zero_add, ref2]
  pointwise [phase11, k0_pay31, k0_pay30, k0_pay26, k0_pay21, k0_pay13, k0_pay17, k0_pay22, k0_pay24]
  have d1 : ∀ z : ℕ, 2 * (1 + z) = 2 + 2 * z := fun z => by omega
  have d2 : ∀ z : ℕ, 2 * (2 + z) = 4 + 2 * z := fun z => by omega
  have d3 : ∀ z : ℕ, 1 + (2 * z + 1) = 2 + 2 * z := fun z => by omega
  have d4 : ∀ z : ℕ, 3 + (2 * z + 1) = 4 + 2 * z := fun z => by omega
  simp (disch := omega) only [hB, T.c0, T.c1, T.c2, T.c3, T.e0, T.e0', T.e1, T.e1', T.e2, T.e2', T.e3, T.e3', T.m0, T.m1, T.m2, T.m3, hH _ _, d1, d2, d3, d4]

  rfl

end Cert.Proof.DecVal
-- ==== Proof.DecTap.lean ====
/- The decoder's third stage reads a 4 by 4 window of taps; which of them a block of three columns sees at a place. -/
module
public import proofs.«01_k».proof.Proof.Gen.DecoderIdeal.Frame
public import proofs.«01_k».proof.Proof.Frames
@[expose] public section
noncomputable section
open Idealize.ShloMosaic Idealize.ShloMosaic.TcCoe Idealize.SL.Sem
namespace Cert.Proof.DecW
open Cert.DecoderIdeal

/-- The third stage's matrix `i`, block `j`, from the argument: a tap of the 4 by 4 window, or zero where the block does not see that place. -/
def tap3 (w : Vec Ideal S128x3x4x4 .f32) (i j : ℕ) (k : Fin 128) (o : Fin 3) : EReal :=
  if h : (j / 8 ≤ i / 4 ∧ j / 2 % 2 ≤ i / 4 - j / 8 ∧ i / 4 - j / 8 ≤ 2 ∧ i / 4 - j / 8 ≤ j / 2 % 2 + 1)
      ∧ (j / 4 % 2 ≤ i % 4 ∧ j % 2 ≤ i % 4 - j / 4 % 2 ∧ i % 4 - j / 4 % 2 ≤ 2 ∧ i % 4 - j / 4 % 2 ≤ j % 2 + 1) then
    w (ix4 k o ⟨3 + j / 2 % 2 - 2 * (i / 4 - j / 8), by omega⟩ ⟨3 + j % 2 - 2 * (i % 4 - j / 4 % 2), by omega⟩)
  else 0

end Cert.Proof.DecW
-- ==== Proof.DecOut.lean ====
/- The decoder's last stage against the reference's result, place by place. -/
module
public import proofs.«01_k».proof.Proof.DecVal
public import proofs.«01_k».proof.Proof.DecTap
@[expose] public section
set_option maxRecDepth 16384
noncomputable section
open Idealize.ShloMosaic Idealize.ShloMosaic.TcCoe Idealize.SL.Sem
namespace Cert.Proof.DecVal
open Cert.DecoderIdeal Cert.DecoderIdeal.Gen Cert.Proof.Frames Cert.Proof.DecRun
open Cert.DecoderReferenceIdeal.Value (res_main_v3 res_main_v23 res_main_v52)
variable (V0 : Valuation Cert.DecoderReferenceIdeal.τ Cert.DecoderReferenceIdeal.sig (Elt Ideal))

/-- A tap at an odd row or column of the dilated second stage adds nothing. -/
theorem ref3_odd (n : Fin 16) (o : Fin 3) (Y X : Fin 224) (ky kx : Fin 4) (h : (ky.val + Y.val) % 2 = 1 ∨ (kx.val + X.val) % 2 = 1) :
    ref3 V0 n o Y X ky kx = 0 :=
  Finset.sum_eq_zero fun k _ => by rw [v52_odd V0 n k _ _ _ _ h]; exact zero_mul _

open Cert.Proof.DecW (tap3)

/-- The second stage's planes hold the reference's dilated second stage, every other row and column of it. -/
abbrev Reads3 (H : Vec Ideal S2x2x58x64x128 .f32) (n : Fin 16) : Prop :=
  ∀ (wy wx : Fin 2) (r s : ℕ) (hr : r < 58) (hs : s < 58) (hs' : s < 64) (k : Fin 128) (hy : 2 ≤ 4 * r + 2 * wy.val) (hx : 2 ≤ 4 * s + 2 * wx.val)
    (hy' : 4 * r + 2 * wy.val - 2 < 227) (hx' : 4 * s + 2 * wx.val - 2 < 227),
    H (ix5 wy wx ⟨r, hr⟩ ⟨s, hs'⟩ k) = res_main_v52 V0 (ix4 n k ⟨4 * r + 2 * wy.val - 2, hy'⟩ ⟨4 * s + 2 * wx.val - 2, hx'⟩)

/-- Place `i` of the third stage at block `j`. -/
def K (n : Fin 16) (y x : Fin 56) (o : Fin 3) (j i : Fin 16) : EReal :=
  ∑ k : Fin 128, @HMul.hMul EReal EReal EReal _ (res_main_v52 V0 (ix4 n k ⟨4 * y.val + 2 * (i.val / 4), by omega⟩ ⟨4 * x.val + 2 * (i.val % 4), by omega⟩))
    (tap3 (V0 (Proc.tc.devRef Cert.DecoderReferenceIdeal.main_arg5)) i.val j.val k o)

/-- Block `j` sees place `i`. -/
abbrev Sees (j i : ℕ) : Prop := (j / 8 ≤ i / 4 ∧ j / 2 % 2 ≤ i / 4 - j / 8 ∧ i / 4 - j / 8 ≤ 2 ∧ i / 4 - j / 8 ≤ j / 2 % 2 + 1)
      ∧ (j / 4 % 2 ≤ i % 4 ∧ j % 2 ≤ i % 4 - j / 4 % 2 ∧ i % 4 - j / 4 % 2 ≤ 2 ∧ i % 4 - j / 4 % 2 ≤ j % 2 + 1)

theorem K_zero (n : Fin 16) (y x : Fin 56) (o : Fin 3) (j i : Fin 16) (h : ¬Sees j.val i.val) : K V0 n y x o j i = 0 :=
  Finset.sum_eq_zero fun k _ => by rw [tap3, dif_neg h]; exact mul_zero _

/-- The row of the dilated second stage that a tap reads. -/
theorem tap_row (a t q ky Y y : ℕ) (h1 : t ≤ a) (h2 : q ≤ a - t) (hY : Y = 4 * y + 2 * t + q) (hk : ky = 2 * (a - t) - q) :
    4 * y + 2 * a = ky + Y := by omega

/-- The row of the weights that a tap reads. -/
theorem tap_weight (a t q ky : ℕ) (h2 : q ≤ a - t) (hk : ky = 2 * (a - t) - q) : 3 + q - 2 * (a - t) = 4 - (ky + 1) := by omega

theorem K_tap (n : Fin 16) (y x : Fin 56) (o : Fin 3) (j i : Fin 16) (h : Sees j.val i.val) (Y X : Fin 224)
    (hY : Y.val = 4 * y.val + 2 * (j.val / 8) + j.val / 2 % 2) (hX : X.val = 4 * x.val + 2 * (j.val / 4 % 2) + j.val % 2) (ky kx : Fin 4)
    (hky : ky.val = 2 * (i.val / 4 - j.val / 8) - j.val / 2 % 2) (hkx : kx.val = 2 * (i.val % 4 - j.val / 4 % 2) - j.val % 2) :
    K V0 n y x o j i = ref3 V0 n o Y X ky kx := by
  refine Finset.sum_congr rfl fun k _ => ?_
  rw [tap3, dif_pos h]
  exact congrArg₂ (@HMul.hMul EReal EReal EReal _)
    (congrArg₂ (fun r s => res_main_v52 V0 (ix4 n k r s)) (Fin.ext (tap_row _ _ _ _ _ _ h.1.1 h.1.2.1 hY hky)) (Fin.ext (tap_row _ _ _ _ _ _ h.2.1 h.2.2.1 hX hkx)))
    (congrArg₂ (fun r s => V0 (Proc.tc.devRef Cert.DecoderReferenceIdeal.main_arg5) (ix4 k o r s))
      (Fin.ext ((tap_weight _ _ _ _ h.1.2.1 hky).trans (Fin.val_rev ky).symm)) (Fin.ext ((tap_weight _ _ _ _ h.2.2.1 hkx).trans (Fin.val_rev kx).symm)))

/-- The places a block sees are the taps of even rows and columns; nothing else is added on either side. -/
theorem taps_sum (k : Fin 16 → EReal) (r : Fin 4 → Fin 4 → EReal) (j : Fin 16)
    (hz : ∀ i : Fin 16, ¬Sees j.val i.val → k i = 0)
    (ht : ∀ i : Fin 16, Sees j.val i.val → ∀ ky kx : Fin 4, ky.val = 2 * (i.val / 4 - j.val / 8) - j.val / 2 % 2 →
      kx.val = 2 * (i.val % 4 - j.val / 4 % 2) - j.val % 2 → k i = r ky kx)
    (ho : ∀ ky kx : Fin 4, (ky.val + j.val / 2 % 2) % 2 = 1 ∨ (kx.val + j.val % 2) % 2 = 1 → r ky kx = 0) :
    k 0 + k 1 + k 2 + k 3 + k 4 + k 5 + k 6 + k 7 + k 8 + k 9 + k 10 + k 11 + k 12 + k 13 + k 14 + k 15
      = r 0 0 + r 0 1 + r 0 2 + r 0 3 + r 1 0 + r 1 1 + r 1 2 + r 1 3 + r 2 0 + r 2 1 + r 2 2 + r 2 3 + r 3 0 + r 3 1 + r 3 2 + r 3 3 := by
  have hz' : ∀ i : Fin 16, decide (Sees j.val i.val) = false → k i = 0 := fun i h => hz i (by simpa only [decide_eq_false_iff_not] using h)
  have ht' : ∀ (i : Fin 16) (h : decide (Sees j.val i.val) = true),
      k i = r ⟨2 * (i.val / 4 - j.val / 8) - j.val / 2 % 2, by have := of_decide_eq_true h; omega⟩ ⟨2 * (i.val % 4 - j.val / 4 % 2) - j.val % 2, by have := of_decide_eq_true h; omega⟩ :=
    fun i h => ht i (of_decide_eq_true h) _ _ rfl rfl
  clear hz ht
  fin_cases j
  all_goals
    simp (disch := decide) only [hz', ho, add_zero, zero_add]
    exact congrArg₂ (· + ·) (congrArg₂ (· + ·) (congrArg₂ (· + ·) (ht' _ (by decide)) (ht' _ (by decide))) (ht' _ (by decide))) (ht' _ (by decide))

theorem stage3_sum (H : Vec Ideal S2x2x58x64x128 .f32) (x7 : Vec Ideal S16x128x48 .f32) (x8 : Vec Ideal S1x48 .f32) (n : Fin 16)
    (hH : Reads3 V0 H n)
    (hW : ∀ (i : Fin 16) (k : Fin 128) (j : Fin 16) (o : Fin 3),
      x7 (ix3 i k ⟨3 * j.val + o.val, by omega⟩) = tap3 (V0 (Proc.tc.devRef Cert.DecoderReferenceIdeal.main_arg5)) i.val j.val k o)
    (hB : ∀ (j : Fin 16) (o : Fin 3), x8 (ix2 0 ⟨3 * j.val + o.val, by omega⟩) = V0 (Proc.tc.devRef Cert.DecoderReferenceIdeal.main_arg6) (ix1 o))
    (y x : Fin 56) (j : Fin 16) (o : Fin 3) :
    conv3 H x7 x8 (ix4 0 y x ⟨3 * j.val + o.val, by omega⟩)
      = K V0 n y x o j 0 + K V0 n y x o j 1 + K V0 n y x o j 2 + K V0 n y x o j 3
        + K V0 n y x o j 4 + K V0 n y x o j 5 + K V0 n y x o j 6 + K V0 n y x o j 7
        + K V0 n y x o j 8 + K V0 n y x o j 9 + K V0 n y x o j 10 + K V0 n y x o j 11
        + K V0 n y x o j 12 + K V0 n y x o j 13 + K V0 n y x o j 14 + K V0 n y x o j 15
        + (V0 (Proc.tc.devRef Cert.DecoderReferenceIdeal.main_arg6) (ix1 o) : EReal) := by
  pointwise [conv3, k0_pay1, k0_pay32, k0_pay33, k0_pay34, k0_pay35, k0_pay36, k0_pay37, k0_pay38]
  have hh : ∀ (wy wx : Fin 2) (i : Fin 16) (r s : ℕ) (hr : r < 58) (hs : s < 58) (hs' : s < 64)
      (ey : 4 * r + 2 * wy.val - 2 = 4 * y.val + 2 * (i.val / 4)) (ex : 4 * s + 2 * wx.val - 2 = 4 * x.val + 2 * (i.val % 4))
      (gy : 2 ≤ 4 * r + 2 * wy.val) (gx : 2 ≤ 4 * s + 2 * wx.val),
      (∑ k, @HMul.hMul EReal EReal EReal _ (H (ix5 wy wx ⟨r, hr⟩ ⟨s, hs'⟩ k)) (x7 (ix3 i k ⟨3 * j.val + o.val, by omega⟩))) = K V0 n y x o j i := by
    intro wy wx i r s hr hs hs' ey ex gy gx
    refine Finset.sum_congr rfl fun k _ => ?_
    rw [hW, hH wy wx r s hr hs hs' k gy gx (by omega) (by omega)]
    congr 2
    congr 1 <;> exact Fin.ext (by dsimp only; omega)
  rw [hB]
  congr 1
  refine congrArg₂ (· + ·) (congrArg₂ (· + ·) (congrArg₂ (· + ·) (congrArg₂ (· + ·) (congrArg₂ (· + ·) (congrArg₂ (· + ·) (congrArg₂ (· + ·)
    (congrArg₂ (· + ·) (congrArg₂ (· + ·) (congrArg₂ (· + ·) (congrArg₂ (· + ·) (congrArg₂ (· + ·) (congrArg₂ (· + ·) (congrArg₂ (· + ·) (congrArg₂ (· + ·)
      ?_ ?_) ?_) ?_) ?_) ?_) ?_) ?_) ?_) ?_) ?_) ?_) ?_) ?_) ?_) ?_
  all_goals
    exact hh _ _ _ _ _ _ (by omega) _ (by simp <;> omega) (by simp <;> omega) (by simp <;> omega) (by simp <;> omega)

theorem stage3 (H : Vec Ideal S2x2x58x64x128 .f32) (x7 : Vec Ideal S16x128x48 .f32) (x8 : Vec Ideal S1x48 .f32) (n : Fin 16)
    (hH : Reads3 V0 H n)
    (hW : ∀ (i : Fin 16) (k : Fin 128) (j : Fin 16) (o : Fin 3),
      x7 (ix3 i k ⟨3 * j.val + o.val, by omega⟩) = tap3 (V0 (Proc.tc.devRef Cert.DecoderReferenceIdeal.main_arg5)) i.val j.val k o)
    (hB : ∀ (j : Fin 16) (o : Fin 3), x8 (ix2 0 ⟨3 * j.val + o.val, by omega⟩) = V0 (Proc.tc.devRef Cert.DecoderReferenceIdeal.main_arg6) (ix1 o))
    (y x : Fin 56) (j : Fin 16) (o : Fin 3) :
    conv3 H x7 x8 (ix4 0 y x ⟨3 * j.val + o.val, by omega⟩)
      = res3 V0 (ix4 n o ⟨4 * y.val + 2 * (j.val / 8) + j.val / 2 % 2, by omega⟩ ⟨4 * x.val + 2 * (j.val / 4 % 2) + j.val % 2, by omega⟩) := by
  rw [stage3_sum V0 H x7 x8 n hH hW hB y x j o]
  obtain ⟨Y, hY⟩ : ∃ Y : Fin 224, Y.val = 4 * y.val + 2 * (j.val / 8) + j.val / 2 % 2 := ⟨⟨_, by omega⟩, rfl⟩
  obtain ⟨X, hX⟩ : ∃ X : Fin 224, X.val = 4 * x.val + 2 * (j.val / 4 % 2) + j.val % 2 := ⟨⟨_, by omega⟩, rfl⟩
  have e : res3 V0 (ix4 n o ⟨4 * y.val + 2 * (j.val / 8) + j.val / 2 % 2, by omega⟩ ⟨4 * x.val + 2 * (j.val / 4 % 2) + j.val % 2, by omega⟩)
      = @HAdd.hAdd EReal EReal EReal _ (sum3 V0 n o Y X) (V0 (Proc.tc.devRef Cert.DecoderReferenceIdeal.main_arg6) (ix1 o)) := by
    rw [← show Y = ⟨4 * y.val + 2 * (j.val / 8) + j.val / 2 % 2, by omega⟩ from Fin.ext hY,
      ← show X = ⟨4 * x.val + 2 * (j.val / 4 % 2) + j.val % 2, by omega⟩ from Fin.ext hX]
    rfl
  rw [e]
  refine congrArg (fun z : EReal => z + _) ?_
  exact taps_sum (fun i => K V0 n y x o j i) (fun ky kx => ref3 V0 n o Y X ky kx) j (fun i h => K_zero V0 n y x o j i h)
    (fun i h ky kx hky hkx => K_tap V0 n y x o j i h Y X hY hX ky kx hky hkx) (fun ky kx h => ref3_odd V0 n o Y X ky kx (by omega))

end Cert.Proof.DecVal
-- ==== Proof.DecAll.lean ====
/- The decoder's three stages put together: from a grid point's blocks to the reference's result. -/
module
public import proofs.«01_k».proof.Proof.DecOut
@[expose] public section
set_option maxRecDepth 16384
noncomputable section
open Idealize.ShloMosaic Idealize.ShloMosaic.TcCoe Idealize.SL.Sem
namespace Cert.Proof.DecVal
open Cert.DecoderIdeal Cert.DecoderIdeal.Gen Cert.Proof.Frames Cert.Proof.DecRun
open Cert.Proof.DecW (tap3)
open Cert.DecoderReferenceIdeal.Value (res_main_v3 res_main_v23 res_main_v52)
variable (V0 : Valuation Cert.DecoderReferenceIdeal.τ Cert.DecoderReferenceIdeal.sig (Elt Ideal))

theorem stage0 (x0 : Vec Ideal S1x56x56x128 .f32) (n : Fin 16)
    (hX : ∀ (y x : Fin 56) (k : Fin 128), x0 (ix4 0 y x k)
      = V0 (Proc.tc.devRef Cert.DecoderReferenceIdeal.main_arg0) (ix2 ⟨n.val * 3136 + y.val * 56 + x.val, by omega⟩ k))
    (r : Fin 58) (s : Fin 64) (hs : s.val < 58) (k : Fin 32) :
    pad (D := 32) (lanes x0) (ix3 r s k) = res_main_v3 V0 (ix4 n k r ⟨s.val, hs⟩) := by
  by_cases h : Inside r.val s.val
  · refine (dif_pos h).trans ?_
    pointwise [res_main_v3, lanes, k0_pay5]
    rw [dif_pos (by omega)]
    rw [hX]
  · refine (dif_neg h).trans ?_
    pointwise [res_main_v3]
    rw [dif_neg (by omega)]
    exact (by norm_num [FloatOps.sitofp] : (0 : EReal) = FloatOps.sitofp (F := Ideal) FTy.f32 0#32)

theorem reads2 (P : Vec Ideal S58x64x32 .f32) (x1 : Vec Ideal S9x32x128 .f32) (x2 : Vec Ideal S1x128 .f32) (n : Fin 16)
    (hP : ∀ (r : Fin 58) (s : Fin 64) (hs : s.val < 58) (k : Fin 32), P (ix3 r s k) = res_main_v3 V0 (ix4 n k r ⟨s.val, hs⟩))
    (hW : ∀ (ky kx : Fin 3) (k : Fin 32) (o : Fin 128), x1 (ix3 ⟨3 * ky.val + kx.val, by omega⟩ k o)
      = V0 (Proc.tc.devRef Cert.DecoderReferenceIdeal.main_arg1) (ix4 o k ky kx))
    (hB : ∀ o : Fin 128, x2 (ix2 0 o) = V0 (Proc.tc.devRef Cert.DecoderReferenceIdeal.main_arg2) (ix1 o)) :
    Reads2 V0 (pad (D := 128) (conv1 P x1 x2)) n := by
  intro r s hr hs hs' k
  by_cases h : Inside r s
  · refine (dif_pos h).trans ((stage1 V0 P x1 x2 n hP hW hB ⟨r - 1, by omega⟩ ⟨s - 1, by omega⟩ k).trans ?_)
    congr 2 <;> exact Fin.ext (by dsimp only; omega)
  · exact (dif_neg h).trans (v23_border V0 n k _ _ _ _ (by omega)).symm

theorem reads3 (H : Vec Ideal S58x64x128 .f32) (x3 : Vec Ideal S4x128x128 .f32) (x4 : Vec Ideal S4x128x256 .f32) (x5 : Vec Ideal S128x512 .f32)
    (x6 : Vec Ideal S1x128 .f32) (n : Fin 16) (hH : Reads2 V0 H n)
    (T : Taps2 x3 x4 x5 (V0 (Proc.tc.devRef Cert.DecoderReferenceIdeal.main_arg3)))
    (hB : ∀ o : Fin 128, x6 (ix2 0 o) = V0 (Proc.tc.devRef Cert.DecoderReferenceIdeal.main_arg4) (ix1 o)) :
    Reads3 V0 (pad5 (D := 128) (phase00 H x3 x4 x5 x6) (phase01 H x3 x4 x5 x6) (phase10 H x3 x4 x5 x6) (phase11 H x3 x4 x5 x6)) n := by
  intro wy wx r s hr hs hs' k hy hx hy' hx'
  by_cases h : Inside r s
  · refine (dif_pos h).trans ?_
    match wy, wx with
    | ⟨0, _⟩, ⟨0, _⟩ =>
      refine (stage2_00 V0 H x3 x4 x5 x6 n hH T hB ⟨r - 1, by omega⟩ ⟨s - 1, by omega⟩ k).trans ?_
      congr 2 <;> exact Fin.ext (by dsimp only; omega)
    | ⟨0, _⟩, ⟨1, _⟩ =>
      refine (stage2_01 V0 H x3 x4 x5 x6 n hH T hB ⟨r - 1, by omega⟩ ⟨s - 1, by omega⟩ k).trans ?_
      congr 2 <;> exact Fin.ext (by dsimp only; omega)
    | ⟨1, _⟩, ⟨0, _⟩ =>
      refine (stage2_10 V0 H x3 x4 x5 x6 n hH T hB ⟨r - 1, by omega⟩ ⟨s - 1, by omega⟩ k).trans ?_
      congr 2 <;> exact Fin.ext (by dsimp only; omega)
    | ⟨1, _⟩, ⟨1, _⟩ =>
      refine (stage2_11 V0 H x3 x4 x5 x6 n hH T hB ⟨r - 1, by omega⟩ ⟨s - 1, by omega⟩ k).trans ?_
      congr 2 <;> exact Fin.ext (by dsimp only; omega)
  · exact (dif_neg h).trans (v52_border V0 n k _ _ _ _ (by omega)).symm
end Cert.Proof.DecVal
-- ==== Proof.DecRes.lean ====
/- The reference decoder's run leaves the plain sum of shifted products. -/
module
public import proofs.«01_k».proof.Proof.DecRef
@[expose] public section
set_option maxRecDepth 16384
noncomputable section
open Idealize.ShloMosaic Idealize.ShloMosaic.TcCoe Idealize.SL.Sem
namespace Cert.Proof.DecVal
theorem ref_run (m : (ℓ : Loc Cert.DecoderReferenceIdeal.nD Cert.DecoderReferenceIdeal.τ Cert.DecoderReferenceIdeal.sig) → Buf (Elt Ideal) ℓ)
    (ρ : Dev Cert.DecoderReferenceIdeal.nD → PrngReg) :
    θ_run Cert.DecoderReferenceIdeal.defs (onTc (τ := Cert.DecoderReferenceIdeal.τ) (Cert.DecoderReferenceIdeal.main (F := Ideal))) ⟨m, fun _ => 0, ρ⟩
      fun r => ∀ c : Dev Cert.DecoderReferenceIdeal.nD,
        r.2.mem ((c.tc : Thread Cert.DecoderReferenceIdeal.nD Cert.DecoderReferenceIdeal.τ).loc Cert.DecoderReferenceIdeal.main_v78)
          = res3 (StableHlo.launchContents m c)
          ∧ r.2.mem ((c.tc : Thread Cert.DecoderReferenceIdeal.nD Cert.DecoderReferenceIdeal.τ).loc Cert.DecoderReferenceIdeal.main_arg0) = m ((c.tc : Thread Cert.DecoderReferenceIdeal.nD Cert.DecoderReferenceIdeal.τ).loc Cert.DecoderReferenceIdeal.main_arg0)
          ∧ r.2.mem ((c.tc : Thread Cert.DecoderReferenceIdeal.nD Cert.DecoderReferenceIdeal.τ).loc Cert.DecoderReferenceIdeal.main_arg1) = m ((c.tc : Thread Cert.DecoderReferenceIdeal.nD Cert.DecoderReferenceIdeal.τ).loc Cert.DecoderReferenceIdeal.main_arg1)
          ∧ r.2.mem ((c.tc : Thread Cert.DecoderReferenceIdeal.nD Cert.DecoderReferenceIdeal.τ).loc Cert.DecoderReferenceIdeal.main_arg2) = m ((c.tc : Thread Cert.DecoderReferenceIdeal.nD Cert.DecoderReferenceIdeal.τ).loc Cert.DecoderReferenceIdeal.main_arg2)
          ∧ r.2.mem ((c.tc : Thread Cert.DecoderReferenceIdeal.nD Cert.DecoderReferenceIdeal.τ).loc Cert.DecoderReferenceIdeal.main_arg3) = m ((c.tc : Thread Cert.DecoderReferenceIdeal.nD Cert.DecoderReferenceIdeal.τ).loc Cert.DecoderReferenceIdeal.main_arg3)
          ∧ r.2.mem ((c.tc : Thread Cert.DecoderReferenceIdeal.nD Cert.DecoderReferenceIdeal.τ).loc Cert.DecoderReferenceIdeal.main_arg4) = m ((c.tc : Thread Cert.DecoderReferenceIdeal.nD Cert.DecoderReferenceIdeal.τ).loc Cert.DecoderReferenceIdeal.main_arg4)
          ∧ r.2.mem ((c.tc : Thread Cert.DecoderReferenceIdeal.nD Cert.DecoderReferenceIdeal.τ).loc Cert.DecoderReferenceIdeal.main_arg5) = m ((c.tc : Thread Cert.DecoderReferenceIdeal.nD Cert.DecoderReferenceIdeal.τ).loc Cert.DecoderReferenceIdeal.main_arg5)
          ∧ r.2.mem ((c.tc : Thread Cert.DecoderReferenceIdeal.nD Cert.DecoderReferenceIdeal.τ).loc Cert.DecoderReferenceIdeal.main_arg6) = m ((c.tc : Thread Cert.DecoderReferenceIdeal.nD Cert.DecoderReferenceIdeal.τ).loc Cert.DecoderReferenceIdeal.main_arg6) := by
  refine (θ_run _ _ _).mono (fun r h c => ?_) (Cert.DecoderReferenceIdeal.Value.run m ρ)
  refine ⟨(h c).1.trans ?_, (h c).2⟩
  funext i
  obtain ⟨n, o, Y, X, rfl⟩ : ∃ (n : Fin 16) (o : Fin 3) (Y X : Fin 224), i = ix4 n o Y X := ⟨i 0, i 1, i 2, i 3, by funext a; fin_cases a <;> rfl⟩
  exact v78_at _ n o Y X

end Cert.Proof.DecVal
-- ==== Proof.DecWin.lean ====
/- The decoder's blocks at a grid point: one image's rows, and the whole of every other array. -/
module
public import proofs.«01_k».proof.Proof.DecRun
public import Idealize.ShloMosaic.Lib.Pointwise
@[expose] public section
set_option maxRecDepth 16384
noncomputable section
open Idealize.ShloMosaic Idealize.ShloMosaic.TcCoe Idealize.SL.Sem
namespace Cert.Proof.DecWin
open Cert.DecoderIdeal Cert.DecoderIdeal.Gen
variable (m : (ℓ : Loc nD τ sig) → Buf (Elt Ideal) ℓ) (c : Dev nD) (t : Fin cfg0.N)

theorem idx : ∀ t : Fin cfg0.N, win0_0.index t = ![t.val, 0, 0, 0] ∧ win0_1.index t = ![0, 0, 0] ∧ win0_2.index t = ![0, 0]
    ∧ win0_3.index t = ![0, 0, 0] ∧ win0_4.index t = ![0, 0, 0] ∧ win0_5.index t = ![0, 0] ∧ win0_6.index t = ![0, 0]
    ∧ win0_7.index t = ![0, 0, 0] ∧ win0_8.index t = ![0, 0] ∧ win0_9.index t = ![t.val, 0, 0, 0] :=
  (by decide +kernel : ∀ t : Fin grid0.N, _)

theorem lt16 : t.val < 16 := Nat.lt_of_lt_of_eq t.isLt N_0

theorem blk0 (y x : Fin 56) (k : Fin 128) : (iblk m c 0 t : Vec Ideal S1x56x56x128 .f32) (ix4 0 y x k)
    = (V m c main_v217 : Vec Ideal S16x56x56x128 .f32) (ix4 ⟨t.val, lt16 t⟩ y x k) := by
  blk_ext [iblk, idx t]
theorem blk1 (i : Fin 9) (k : Fin 32) (o : Fin 128) : (iblk m c 1 t : Vec Ideal S9x32x128 .f32) (ix3 i k o)
    = (V m c main_v1 : Vec Ideal S9x32x128 .f32) (ix3 i k o) := by
  blk_ext [iblk, idx t]
theorem blk2 (i : Fin 1) (o : Fin 128) : (iblk m c 2 t : Vec Ideal S1x128 .f32) (ix2 i o)
    = (V m c main_v211 : Vec Ideal S1x128 .f32) (ix2 i o) := by
  blk_ext [iblk, idx t]
theorem blk3 (a : Fin 4) (k o : Fin 128) : (iblk m c 3 t : Vec Ideal S4x128x128 .f32) (ix3 a k o)
    = (V m c main_v43 : Vec Ideal S4x128x128 .f32) (ix3 a k o) := by
  blk_ext [iblk, idx t]
theorem blk4 (a : Fin 4) (k : Fin 128) (o : Fin 256) : (iblk m c 4 t : Vec Ideal S4x128x256 .f32) (ix3 a k o)
    = (V m c main_v48 : Vec Ideal S4x128x256 .f32) (ix3 a k o) := by
  blk_ext [iblk, idx t]
theorem blk5 (k : Fin 128) (o : Fin 512) : (iblk m c 5 t : Vec Ideal S128x512 .f32) (ix2 k o)
    = (V m c main_v24 : Vec Ideal S128x512 .f32) (ix2 k o) := by
  blk_ext [iblk, idx t]
theorem blk6 (i : Fin 1) (o : Fin 128) : (iblk m c 6 t : Vec Ideal S1x128 .f32) (ix2 i o)
    = (V m c main_v212 : Vec Ideal S1x128 .f32) (ix2 i o) := by
  blk_ext [iblk, idx t]
theorem blk7 (i : Fin 16) (k : Fin 128) (o : Fin 48) : (iblk m c 7 t : Vec Ideal S16x128x48 .f32) (ix3 i k o)
    = (V m c main_v210 : Vec Ideal S16x128x48 .f32) (ix3 i k o) := by
  blk_ext [iblk, idx t]
theorem blk8 (i : Fin 1) (o : Fin 48) : (iblk m c 8 t : Vec Ideal S1x48 .f32) (ix2 i o)
    = (V m c main_v216 : Vec Ideal S1x48 .f32) (ix2 i o) := by
  blk_ext [iblk, idx t]

/-- The array the launch leaves, from what each grid point leaves. -/
theorem final (G : Vec Ideal S16x56x56x48 .f32)
    (hG : ∀ (t : Fin cfg0.N) (y x : Fin 56) (l : Fin 48), ((outsAt0 m c t.val t.isLt).1 : Vec Ideal S1x56x56x48 .f32) (ix4 0 y x l) = G (ix4 ⟨t.val, lt16 t⟩ y x l)) :
    (dats m 0 c).arrAt 9 cfg0.N = G := by
  refine (dats m 0 c).arrAt_eq_of_covers 9 _ (by decide +kernel) fun t _ y => ?_
  blk_simp
  rw [after0_9]
  obtain ⟨z, y, x, l, rfl⟩ : ∃ (z : Fin 1) (y' x : Fin 56) (l : Fin 48), y = ix4 z y' x l := ⟨y 0, y 1, y 2, y 3, by funext a; fin_cases a <;> rfl⟩
  obtain rfl : z = 0 := Subsingleton.elim _ _
  refine (hG t y x l).trans ?_
  blk_ext [idx t]
end Cert.Proof.DecWin
-- ==== Proof.DecTail.lean ====
/- The host lines after the decoder's launch: the rows of 48 lanes laid out as the image. -/
module
public import proofs.«01_k».proof.Proof.DecRun
public import Idealize.ShloMosaic.Lib.StableHlo.RunRead
public import Idealize.ShloMosaic.Lib.Pointwise
@[expose] public section
set_option maxRecDepth 16384
noncomputable section
open Idealize.ShloMosaic Idealize.ShloMosaic.TcCoe Idealize.SL.Sem
namespace Cert.Proof.DecTail
open Cert.DecoderIdeal Cert.DecoderIdeal.Gen
variable (m : (ℓ : Loc nD τ sig) → Buf (Elt Ideal) ℓ) (c : Dev nD)

theorem layout (w : Vec Ideal S16x56x56x48 .f32) (n : Fin 16) (o : Fin 3) (Y X : Fin 224) :
    transpose S16x3x224x224 [0, 3, 1, 2] (shapeCast S16x224x224x3 (transpose S16x56x2x2x56x2x2x3 [0, 1, 3, 5, 2, 4, 6, 7]
      (shapeCast S16x56x56x2x2x2x2x3 w shapeCasts_S16x56x56x48_S16x56x56x2x2x2x2x3) transposes_S16x56x56x2x2x2x2x3_S16x56x2x2x56x2x2x3_0_1_3_5_2_4_6_7)
      shapeCasts_S16x56x2x2x56x2x2x3_S16x224x224x3) transposes_S16x224x224x3_S16x3x224x224_0_3_1_2 (ix4 n o Y X)
    = w (ix4 n ⟨Y.val / 4, by omega⟩ ⟨X.val / 4, by omega⟩
        ⟨3 * (8 * (Y.val % 4 / 2) + 4 * (X.val % 4 / 2) + 2 * (Y.val % 2) + X.val % 2) + o.val, by omega⟩) := by
  pointwise
  congr 2
  exact Fin.ext (by dsimp only; omega)

theorem tail_eq (n : Fin 16) (o : Fin 3) (Y X : Fin 224) :
    (Pipeline.afterTail₀ cfgs (dats m) 0 (V0 m) [hostOps1] c main_v222 : Vec Ideal S16x3x224x224 .f32) (ix4 n o Y X)
      = ((dats m 0 c).arrAt 9 cfg0.N : Vec Ideal S16x56x56x48 .f32) (ix4 n ⟨Y.val / 4, by omega⟩ ⟨X.val / 4, by omega⟩
        ⟨3 * (8 * (Y.val % 4 / 2) + 4 * (X.val % 4 / 2) + 2 * (Y.val % 2) + X.val % 2) + o.val, by omega⟩) := by
  unfold Pipeline.afterTail₀
  rw [List.flatten_cons, List.flatten_nil, List.append_nil]
  after_reads_simp
  refine (layout _ n o Y X).trans ?_
  exact congrFun (Pipeline.withArrays_arr spec0 (by decide) c (V0 m c) (fun w => (dats m 0 c).arrAt w cfg0.N) 9) _
end Cert.Proof.DecTail
-- ==== Proof.DecW.lean ====
/- What the decoder's launch finds in its windows: the arguments' entries, rearranged by the host lines before it. -/
module
public import proofs.«01_k».proof.Proof.DecRun
public import proofs.«01_k».proof.Proof.DecTap
public import Idealize.ShloMosaic.Lib.StableHlo.RunRead
@[expose] public section
set_option maxRecDepth 16384
noncomputable section
open Idealize.ShloMosaic Idealize.ShloMosaic.TcCoe Idealize.SL.Sem
namespace Cert.Proof.DecW
open Cert.DecoderIdeal Cert.DecoderIdeal.Gen
variable (m : (ℓ : Loc nD τ sig) → Buf (Elt Ideal) ℓ) (c : Dev nD)

/-- Sixteen blocks of three columns laid side by side, read at column `3 j + o`: block `j` at column `o`. -/
theorem cat16 (u0 u1 u2 u3 u4 u5 u6 u7 u8 u9 u10 u11 u12 u13 u14 u15 : Vec Ideal S128x3 .f32)
    (h : Shape.Concatenates [S128x3, S128x3, S128x3, S128x3, S128x3, S128x3, S128x3, S128x3, S128x3, S128x3, S128x3, S128x3, S128x3, S128x3, S128x3, S128x3] S128x48 1)
    (k : Fin 128) (j : Fin 16) (o : Fin 3) :
    concatenate S128x48 1 [⟨S128x3, u0⟩, ⟨S128x3, u1⟩, ⟨S128x3, u2⟩, ⟨S128x3, u3⟩, ⟨S128x3, u4⟩, ⟨S128x3, u5⟩, ⟨S128x3, u6⟩, ⟨S128x3, u7⟩,
      ⟨S128x3, u8⟩, ⟨S128x3, u9⟩, ⟨S128x3, u10⟩, ⟨S128x3, u11⟩, ⟨S128x3, u12⟩, ⟨S128x3, u13⟩, ⟨S128x3, u14⟩, ⟨S128x3, u15⟩] h
      (ix2 k ⟨3 * j.val + o.val, by omega⟩)
    = (![u0, u1, u2, u3, u4, u5, u6, u7, u8, u9, u10, u11, u12, u13, u14, u15] : Fin 16 → Vec Ideal S128x3 .f32) j (ix2 k o) :=
  concatenate_ofFn_apply (t := S128x48) (s₁ := S128x3) 1
    (![u0, u1, u2, u3, u4, u5, u6, u7, u8, u9, u10, u11, u12, u13, u14, u15] : Fin 16 → Vec Ideal S128x3 .f32)
    h rfl 3 rfl (ix2 k ⟨3 * j.val + o.val, by omega⟩) j (by show (3 * j.val + o.val) / 3 = j.val; omega) (ix2 k o)
    (by show o.val = (3 * j.val + o.val) % 3; omega) (fun b hb => by
      match b, hb with
      | ⟨0, _⟩, _ => rfl
      | ⟨1, _⟩, hb => exact absurd rfl hb)

set_option maxHeartbeats 20000000 in
theorem v210_at (i : Fin 16) (k : Fin 128) (j : Fin 16) (o : Fin 3) :
    (V m c main_v210 : Vec Ideal S16x128x48 .f32) (ix3 i k ⟨3 * j.val + o.val, by omega⟩) = tap3 (m (c, Proc.tc.devRef main_arg5)) i.val j.val k o := by
  show StableHlo.after [hostOps0].flatten (fun b => m (c, b)) (Proc.tc.devRef main_v210) (ix3 i k ⟨3 * j.val + o.val, by omega⟩) = _
  rw [List.flatten_cons, List.flatten_nil, List.append_nil]
  simp only [StableHlo.readAfter]
  simp only [StableHlo.nary_result']
  fin_cases i
  all_goals
    dsimp only [Fin.mk_zero, Fin.mk_one, Fin.reduceFinMk]
    pointwise
    simp only [StableHlo.readUpto, StableHlo.unary_result']
    pointwise
    rw [StableHlo.nary_result]
    refine (cat16 _ _ _ _ _ _ _ _ _ _ _ _ _ _ _ _ _ k j o).trans ?_
    fin_cases j
  all_goals
    dsimp only [Matrix.cons_val]
    after_reads_simp
    pointwise
    first
      | (rw [tap3, dif_neg (by decide)])
      | (rw [tap3, dif_pos (by decide)]; rfl)

theorem v43_at (a : Fin 4) (k o : Fin 128) :
    (V m c main_v43 : Vec Ideal S4x128x128 .f32) (ix3 a k o)
      = (m (c, Proc.tc.devRef main_arg3) : Vec Ideal S128x128x4x4 .f32) (ix4 k o ((![3, 3, 0, 0] : Fin 4 → Fin 4) a) ((![3, 0, 3, 0] : Fin 4 → Fin 4) a)) := by
  show StableHlo.after [hostOps0].flatten (fun b => m (c, b)) (Proc.tc.devRef main_v43) (ix3 a k o) = _
  rw [List.flatten_cons, List.flatten_nil, List.append_nil]
  simp only [StableHlo.readAfter]
  simp only [StableHlo.nary_result']
  fin_cases a
  all_goals
    dsimp only [Fin.mk_zero, Fin.mk_one, Fin.reduceFinMk]
    pointwise
    after_reads_simp
    pointwise
    try rfl

theorem v48_at (a : Fin 4) (k : Fin 128) (i : Fin 2) (o : Fin 128) :
    (V m c main_v48 : Vec Ideal S4x128x256 .f32) (ix3 a k ⟨128 * i.val + o.val, by omega⟩)
      = (m (c, Proc.tc.devRef main_arg3) : Vec Ideal S128x128x4x4 .f32) (ix4 k o ((![![3, 3], ![1, 2], ![1, 2], ![0, 0]] : Fin 4 → Fin 2 → Fin 4) a i)
        ((![![1, 2], ![3, 3], ![0, 0], ![1, 2]] : Fin 4 → Fin 2 → Fin 4) a i)) := by
  show StableHlo.after [hostOps0].flatten (fun b => m (c, b)) (Proc.tc.devRef main_v48) (ix3 a k ⟨128 * i.val + o.val, by omega⟩) = _
  rw [List.flatten_cons, List.flatten_nil, List.append_nil]
  simp only [StableHlo.readAfter]
  simp only [StableHlo.nary_result']
  fin_cases a
  all_goals
    fin_cases i
  all_goals
    dsimp only [Fin.mk_zero, Fin.mk_one, Fin.reduceFinMk]
    pointwise
    after_reads_simp
    pointwise
    after_reads_simp
    pointwise
    try rfl

theorem v24_at (k : Fin 128) (i : Fin 4) (o : Fin 128) :
    (V m c main_v24 : Vec Ideal S128x512 .f32) (ix2 k ⟨128 * i.val + o.val, by omega⟩)
      = (m (c, Proc.tc.devRef main_arg3) : Vec Ideal S128x128x4x4 .f32) (ix4 k o ((![1, 1, 2, 2] : Fin 4 → Fin 4) i) ((![1, 2, 1, 2] : Fin 4 → Fin 4) i)) := by
  show StableHlo.after [hostOps0].flatten (fun b => m (c, b)) (Proc.tc.devRef main_v24) (ix2 k ⟨128 * i.val + o.val, by omega⟩) = _
  rw [List.flatten_cons, List.flatten_nil, List.append_nil]
  simp only [StableHlo.readAfter]
  simp only [StableHlo.nary_result']
  fin_cases i
  all_goals
    dsimp only [Fin.mk_zero, Fin.mk_one, Fin.reduceFinMk]
    pointwise
    after_reads_simp
    pointwise
    all_goals
      repeat (first | rw [dif_neg (by omega)] | rw [dif_pos (by omega)])
      refine congrArg (fun z => (m (c, Proc.tc.devRef main_arg3) : Vec Ideal S128x128x4x4 .f32) (ix4 k z 2 _)) (Fin.ext ?_)
      dsimp only
      omega

theorem v1_at (ky kx : Fin 3) (k : Fin 32) (o : Fin 128) :
    (V m c main_v1 : Vec Ideal S9x32x128 .f32) (ix3 ⟨3 * ky.val + kx.val, by omega⟩ k o)
      = (m (c, Proc.tc.devRef main_arg1) : Vec Ideal S128x32x3x3 .f32) (ix4 o k ky kx) := by
  rw [show (V m c main_v1 : Vec Ideal S9x32x128 .f32)
    = shapeCast S9x32x128 (transpose S3x3x32x128 [2, 3, 1, 0] (m (c, Proc.tc.devRef main_arg1)) transposes_S128x32x3x3_S3x3x32x128_2_3_1_0)
      shapeCasts_S3x3x32x128_S9x32x128 from by
    show StableHlo.after [hostOps0].flatten (fun b => m (c, b)) (Proc.tc.devRef main_v1) = _
    rw [List.flatten_cons, List.flatten_nil, List.append_nil]
    after_reads_simp
    rfl]
  fin_cases ky <;> fin_cases kx <;> (dsimp only [Fin.mk_zero, Fin.mk_one, Fin.reduceFinMk]; pointwise; try rfl)

/-- The rows of a 16 by 56 by 56 grid, read at a place of it. -/
theorem cast_rows (w : Vec Ideal S50176x128 .f32) (n : Fin 16) (y x : Fin 56) (k : Fin 128) :
    shapeCast S16x56x56x128 w shapeCasts_S50176x128_S16x56x56x128 (ix4 n y x k) = w (ix2 ⟨n.val * 3136 + y.val * 56 + x.val, by omega⟩ k) := by
  pointwise

theorem v217_at (n : Fin 16) (y x : Fin 56) (k : Fin 128) :
    (V m c main_v217 : Vec Ideal S16x56x56x128 .f32) (ix4 n y x k)
      = (m (c, Proc.tc.devRef main_arg0) : Vec Ideal S50176x128 .f32) (ix2 ⟨n.val * 3136 + y.val * 56 + x.val, by omega⟩ k) := by
  rw [show (V m c main_v217 : Vec Ideal S16x56x56x128 .f32)
    = shapeCast S16x56x56x128 (m (c, Proc.tc.devRef main_arg0) : Vec Ideal S50176x128 .f32) shapeCasts_S50176x128_S16x56x56x128 from by
    show StableHlo.after [hostOps0].flatten (fun b => m (c, b)) (Proc.tc.devRef main_v217) = _
    rw [List.flatten_cons, List.flatten_nil, List.append_nil]
    after_reads_simp
    rfl]
  exact cast_rows _ n y x k

theorem v211_at (o : Fin 128) :
    (V m c main_v211 : Vec Ideal S1x128 .f32) (ix2 0 o) = (m (c, Proc.tc.devRef main_arg2) : Vec Ideal S128 .f32) (ix1 o) := by
  rw [show (V m c main_v211 : Vec Ideal S1x128 .f32)
    = shapeCast S1x128 (m (c, Proc.tc.devRef main_arg2) : Vec Ideal S128 .f32) shapeCasts_S128_S1x128 from by
    show StableHlo.after [hostOps0].flatten (fun b => m (c, b)) (Proc.tc.devRef main_v211) = _
    rw [List.flatten_cons, List.flatten_nil, List.append_nil]
    after_reads_simp
    rfl]
  pointwise

theorem v212_at (o : Fin 128) :
    (V m c main_v212 : Vec Ideal S1x128 .f32) (ix2 0 o) = (m (c, Proc.tc.devRef main_arg4) : Vec Ideal S128 .f32) (ix1 o) := by
  rw [show (V m c main_v212 : Vec Ideal S1x128 .f32)
    = shapeCast S1x128 (m (c, Proc.tc.devRef main_arg4) : Vec Ideal S128 .f32) shapeCasts_S128_S1x128 from by
    show StableHlo.after [hostOps0].flatten (fun b => m (c, b)) (Proc.tc.devRef main_v212) = _
    rw [List.flatten_cons, List.flatten_nil, List.append_nil]
    after_reads_simp
    rfl]
  pointwise

theorem v216_at (j : Fin 16) (o : Fin 3) :
    (V m c main_v216 : Vec Ideal S1x48 .f32) (ix2 0 ⟨3 * j.val + o.val, by omega⟩) = (m (c, Proc.tc.devRef main_arg6) : Vec Ideal S3 .f32) (ix1 o) := by
  rw [show (V m c main_v216 : Vec Ideal S1x48 .f32)
    = shapeCast S1x48 (shapeCast S48 (broadcastInDim S16x3 ![0, 1] bcast_S1x3_S16x3_0_1
        (shapeCast S1x3 (m (c, Proc.tc.devRef main_arg6) : Vec Ideal S3 .f32) shapeCasts_S3_S1x3)) shapeCasts_S16x3_S48) shapeCasts_S48_S1x48 from by
    show StableHlo.after [hostOps0].flatten (fun b => m (c, b)) (Proc.tc.devRef main_v216) = _
    rw [List.flatten_cons, List.flatten_nil, List.append_nil]
    after_reads_simp
    rfl]
  pointwise
end Cert.Proof.DecW
-- ==== Proof.DecClaims.lean ====
/- The claims about the decoder: its generated frames, and that its result is the reference's, place by place. -/
module
public import proofs.«01_k».proof.Defs
public import proofs.«01_k».proof.Proof.DecAll
public import proofs.«01_k».proof.Proof.DecRes
public import proofs.«01_k».proof.Proof.DecWin
public import proofs.«01_k».proof.Proof.DecTail
public import proofs.«01_k».proof.Proof.DecW
public import proofs.«01_k».proof.Proof.Gen.Decoder.Frame
public import Idealize.ShloMosaic.Lib.Quiescent
@[expose] public section
set_option maxRecDepth 16384
noncomputable section
open Idealize.ShloMosaic Idealize.ShloMosaic.TcCoe Idealize.SL.Sem
namespace Cert.Proof.DecClaims
open Cert.DecoderIdeal Cert.DecoderIdeal.Gen Cert.Proof.DecVal Cert.Proof.DecWin Cert.Proof.DecW Cert.Proof.DecRun
variable (V0 : Valuation Cert.DecoderReferenceIdeal.τ Cert.DecoderReferenceIdeal.sig (Elt Ideal))
variable (m : (ℓ : Loc nD τ sig) → Buf (Elt Ideal) ℓ) (c : Dev nD)

/-- The reference's arguments are the kernel's. -/
structure Agree : Prop where
  a0 : (m (c, Proc.tc.devRef main_arg0) : Vec Ideal S50176x128 .f32) = V0 (Proc.tc.devRef Cert.DecoderReferenceIdeal.main_arg0)
  a1 : (m (c, Proc.tc.devRef main_arg1) : Vec Ideal S128x32x3x3 .f32) = V0 (Proc.tc.devRef Cert.DecoderReferenceIdeal.main_arg1)
  a2 : (m (c, Proc.tc.devRef main_arg2) : Vec Ideal S128 .f32) = V0 (Proc.tc.devRef Cert.DecoderReferenceIdeal.main_arg2)
  a3 : (m (c, Proc.tc.devRef main_arg3) : Vec Ideal S128x128x4x4 .f32) = V0 (Proc.tc.devRef Cert.DecoderReferenceIdeal.main_arg3)
  a4 : (m (c, Proc.tc.devRef main_arg4) : Vec Ideal S128 .f32) = V0 (Proc.tc.devRef Cert.DecoderReferenceIdeal.main_arg4)
  a5 : (m (c, Proc.tc.devRef main_arg5) : Vec Ideal S128x3x4x4 .f32) = V0 (Proc.tc.devRef Cert.DecoderReferenceIdeal.main_arg5)
  a6 : (m (c, Proc.tc.devRef main_arg6) : Vec Ideal S3 .f32) = V0 (Proc.tc.devRef Cert.DecoderReferenceIdeal.main_arg6)

variable {V0 m c} (h : Agree V0 m c)
include h

theorem taps2 (t : Fin cfg0.N) : Taps2 (iblk m c 3 t) (iblk m c 4 t) (iblk m c 5 t) (V0 (Proc.tc.devRef Cert.DecoderReferenceIdeal.main_arg3)) := by
  have h3 : ∀ (a : Fin 4) (k o : Fin 128), (iblk m c 3 t : Vec Ideal S4x128x128 .f32) (ix3 a k o) = _ := fun a k o =>
    (blk3 m c t a k o).trans ((v43_at m c a k o).trans (congrFun h.a3 _))
  have h4 : ∀ (a : Fin 4) (k : Fin 128) (i : Fin 2) (o : Fin 128), (iblk m c 4 t : Vec Ideal S4x128x256 .f32) (ix3 a k ⟨128 * i.val + o.val, by omega⟩) = _ :=
    fun a k i o => (blk4 m c t a k _).trans ((v48_at m c a k i o).trans (congrFun h.a3 _))
  have h5 : ∀ (k : Fin 128) (i : Fin 4) (o : Fin 128), (iblk m c 5 t : Vec Ideal S128x512 .f32) (ix2 k ⟨128 * i.val + o.val, by omega⟩) = _ :=
    fun k i o => (blk5 m c t k _).trans ((v24_at m c k i o).trans (congrFun h.a3 _))
  have z : ∀ o : Fin 128, 128 * (0 : Fin 2).val + o.val = o.val := fun o => by simp
  have z' : ∀ o : Fin 128, 128 * (0 : Fin 4).val + o.val = o.val := fun o => by simp
  have e0 : ∀ (a : Fin 4) (k o : Fin 128) (hh : o.val < 256), (iblk m c 4 t : Vec Ideal S4x128x256 .f32) (ix3 a k ⟨o.val, hh⟩)
      = (iblk m c 4 t : Vec Ideal S4x128x256 .f32) (ix3 a k ⟨128 * (0 : Fin 2).val + o.val, by omega⟩) := fun a k o hh => by
    congr 2; exact Fin.ext (z o).symm
  have e5 : ∀ (k o : Fin 128) (hh : o.val < 512), (iblk m c 5 t : Vec Ideal S128x512 .f32) (ix2 k ⟨o.val, hh⟩)
      = (iblk m c 5 t : Vec Ideal S128x512 .f32) (ix2 k ⟨128 * (0 : Fin 4).val + o.val, by omega⟩) := fun k o hh => by
    congr 2; exact Fin.ext (z' o).symm
  exact
    { c0 := fun k o => h3 0 k o, c1 := fun k o => h3 1 k o, c2 := fun k o => h3 2 k o, c3 := fun k o => h3 3 k o
      e0 := fun k o hh => (e0 0 k o hh).trans (h4 0 k 0 o), e0' := fun k o hh => h4 0 k 1 o
      e1 := fun k o hh => (e0 1 k o hh).trans (h4 1 k 0 o), e1' := fun k o hh => h4 1 k 1 o
      e2 := fun k o hh => (e0 2 k o hh).trans (h4 2 k 0 o), e2' := fun k o hh => h4 2 k 1 o
      e3 := fun k o hh => (e0 3 k o hh).trans (h4 3 k 0 o), e3' := fun k o hh => h4 3 k 1 o
      m0 := fun k o hh => (e5 k o hh).trans (h5 k 0 o), m1 := fun k o hh => h5 k 1 o, m2 := fun k o hh => h5 k 2 o, m3 := fun k o hh => h5 k 3 o }

/-- What a grid point leaves is the reference's result, four by four places and three channels to a row of 48 lanes. -/
theorem point (t : Fin cfg0.N) (y x : Fin 56) (j : Fin 16) (o : Fin 3) :
    ((outsAt0 m c t.val t.isLt).1 : Vec Ideal S1x56x56x48 .f32) (ix4 0 y x ⟨3 * j.val + o.val, by omega⟩)
      = res3 V0 (ix4 ⟨t.val, lt16 t⟩ o ⟨4 * y.val + 2 * (j.val / 8) + j.val / 2 % 2, by omega⟩ ⟨4 * x.val + 2 * (j.val / 4 % 2) + j.val % 2, by omega⟩) := by
  rw [out_eq]
  refine stage3 V0 _ _ _ ⟨t.val, lt16 t⟩ (reads3 V0 _ _ _ _ _ _ (reads2 V0 _ _ _ _ (stage0 V0 _ _ ?_) ?_ ?_) (taps2 h t) ?_) ?_ ?_ y x j o
  · exact fun y x k => (blk0 m c t y x k).trans ((v217_at m c _ y x k).trans (congrFun h.a0 _))
  · exact fun ky kx k o => (blk1 m c t _ k o).trans ((v1_at m c ky kx k o).trans (congrFun h.a1 _))
  · exact fun o => (blk2 m c t 0 o).trans ((v211_at m c o).trans (congrFun h.a2 _))
  · exact fun o => (blk6 m c t 0 o).trans ((v212_at m c o).trans (congrFun h.a4 _))
  · exact fun i k j o => (blk7 m c t i k _).trans ((v210_at m c i k j o).trans (by rw [h.a5]))
  · exact fun j o => (blk8 m c t 0 _).trans ((v216_at m c j o).trans (congrFun h.a6 _))

theorem result : (Pipeline.afterTail₀ cfgs (dats m) 0 (Cert.DecoderIdeal.Gen.V0 m) [hostOps1] c main_v222 : Vec Ideal S16x3x224x224 .f32) = res3 V0 := by
  funext i
  obtain ⟨n, o, Y, X, rfl⟩ : ∃ (n : Fin 16) (o : Fin 3) (Y X : Fin 224), i = ix4 n o Y X := ⟨i 0, i 1, i 2, i 3, by funext a; fin_cases a <;> rfl⟩
  refine (DecTail.tail_eq m c n o Y X).trans ?_
  rw [final m c (fun i : S16x56x56x48.Idx => res3 V0 (ix4 (i 0) ⟨(i 3).val % 3, by omega⟩
    ⟨4 * (i 1).val + 2 * ((i 3).val / 3 / 8) + (i 3).val / 3 / 2 % 2, by have := (i 1).isLt; have := (i 3).isLt; dsimp at *; omega⟩
    ⟨4 * (i 2).val + 2 * ((i 3).val / 3 / 4 % 2) + (i 3).val / 3 % 2, by have := (i 2).isLt; dsimp at *; omega⟩)) fun t y x l => ?_]
  · refine congrArg (res3 V0) ?_
    refine ix4_congr rfl ?_ ?_ ?_ <;> dsimp only [ix4] <;> omega
  · have e : l = ⟨3 * (⟨l.val / 3, by omega⟩ : Fin 16).val + (⟨l.val % 3, by omega⟩ : Fin 3).val, by dsimp only; omega⟩ := Fin.ext (by dsimp only; omega)
    conv_lhs => rw [e]
    exact point h t y x ⟨l.val / 3, by omega⟩ ⟨l.val % 3, by omega⟩

omit h in
/-- A grid's run leaves the result and the arguments. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v222) = Pipeline.afterTail₀ cfgs (dats m) 0 (Cert.DecoderIdeal.Gen.V0 m) [hostOps1] c main_v222 :=
  (θ_run defs _ _).mono (fun r h c => (h c).2 main_v222 (Pipeline.mem_restRefs_of main_v222 (by decide) (by decide))) (run_main m ρ)

omit h in
theorem frame_p : Cert.quiescent_Decoder := fun m ρ _ => Cert.Decoder.Gen.frame m ρ
omit h in
theorem frame_pi : Cert.quiescent_DecoderIdeal := fun m ρ _ => Cert.DecoderIdeal.Gen.frame m ρ
omit h in
theorem frame_ri : Cert.quiescent_DecoderReferenceIdeal := fun m ρ _ =>
  (θ_run Cert.DecoderReferenceIdeal.defs _ _).mono (fun r h => ⟨fun c => (h c).2, sem_eq_zero_of_no_sems (by decide) r.2⟩)
    (Cert.DecoderReferenceIdeal.Value.run (F := Ideal) m ρ)

omit h in
theorem algebraic : Cert.algebraic_DecoderIdeal_DecoderReferenceIdeal := by
  intro m ρ m' ρ' hpre hagree
  have ha : ∀ c, Agree (StableHlo.launchContents m' c) m c := fun c =>
    ⟨(hagree c).1.symm, (hagree c).2.1.symm, (hagree c).2.2.1.symm, (hagree c).2.2.2.1.symm, (hagree c).2.2.2.2.1.symm, (hagree c).2.2.2.2.2.1.symm,
      (hagree c).2.2.2.2.2.2.symm⟩
  refine ⟨fun c => res3 (StableHlo.launchContents m' c), ?_, ref_run m' ρ'⟩
  refine (θ_run defs _ _).mono (fun r hr c => ?_) (θ_run_and (kernel_run m ρ) (unchanged m ρ))
  exact ⟨(hr.1 c).trans (result (ha c)), hr.2 c⟩
end Cert.Proof.DecClaims
-- ==== Proof.lean ====
/- The proof of the certificate's claim: the SparseCore gather's frames and value, the encoder's, and the
   decoder's. -/
module

public import proofs.«01_k».proof.Defs
public import proofs.«01_k».proof.Proof.GatherClaims
public import proofs.«01_k».proof.Proof.EncClaims
public import proofs.«01_k».proof.Proof.DecClaims
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.EncoderReferenceIdeal
public import proofs.«01_k».proof.Proof.Gen.EncoderReferenceIdeal.Run
public import proofs.«01_k».proof.Proof.Gen.Pre_all_finite
public import proofs.«01_k».proof.Proof.Gen.DecoderReferenceIdeal
public import proofs.«01_k».proof.Proof.Gen.DecoderReferenceIdeal.Run
public import proofs.«01_k».proof.Proof.Gen.Encoder
public import proofs.«01_k».proof.Proof.Gen.Encoder.Skeleton
public import proofs.«01_k».proof.Proof.Gen.Encoder.Launch
public import proofs.«01_k».proof.Proof.Gen.Encoder.Points
public import proofs.«01_k».proof.Proof.Gen.Encoder.Frame
public import proofs.«01_k».proof.Proof.Gen.EncoderIdeal
public import proofs.«01_k».proof.Proof.Gen.EncoderIdeal.Skeleton
public import proofs.«01_k».proof.Proof.Gen.EncoderIdeal.Launch
public import proofs.«01_k».proof.Proof.Gen.EncoderIdeal.Points
public import proofs.«01_k».proof.Proof.Gen.EncoderIdeal.Frame
public import proofs.«01_k».proof.Proof.Gen.Decoder
public import proofs.«01_k».proof.Proof.Gen.Decoder.Skeleton
public import proofs.«01_k».proof.Proof.Gen.Decoder.Launch
public import proofs.«01_k».proof.Proof.Gen.Decoder.Points
public import proofs.«01_k».proof.Proof.Gen.Decoder.Frame
public import proofs.«01_k».proof.Proof.Gen.DecoderIdeal
public import proofs.«01_k».proof.Proof.Gen.DecoderIdeal.Skeleton
public import proofs.«01_k».proof.Proof.Gen.DecoderIdeal.Launch
public import proofs.«01_k».proof.Proof.Gen.DecoderIdeal.Points
public import proofs.«01_k».proof.Proof.Gen.DecoderIdeal.Frame
public import proofs.«01_k».proof.Proof.Gen.Pre_idx_in_codebook
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Encoder.Gen.facts, Cert.EncoderIdeal.Gen.facts,
    Cert.EncoderReferenceIdeal.Gen.facts, Cert.Decoder.Gen.facts, Cert.DecoderIdeal.Gen.facts, Cert.DecoderReferenceIdeal.Gen.facts,
    Cert.Pre_idx_in_codebook.Gen.facts, Cert.Pre_all_finite.Gen.facts,
    GatherClaims.frame_p, GatherClaims.frame_pi, GatherClaims.frame_ri, GatherClaims.frame_ri_pre,
    EncClaims.frame_p, EncClaims.frame_pi, EncClaims.frame_pi_pre, EncClaims.frame_ri, EncClaims.frame_ri_pre,
    DecClaims.frame_p, DecClaims.frame_pi, DecClaims.frame_ri, trivial, GatherClaims.algebraic, EncClaims.preserves, EncClaims.algebraic,
    trivial, DecClaims.algebraic⟩

end Cert.Proof

end
